-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_args [hPre_finite_args : Cert.Pre_finite_args.Facts] (m : (ℓ : Loc Cert.KernelIdeal.nD Cert.KernelIdeal.τ Cert.KernelIdeal.sig) → Buf (Elt Ideal) ℓ) : Prop :=
  ∀ c : Dev Cert.KernelIdeal.nD,
    (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_finite_args.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_args [hPre_finite_args : Cert.Pre_finite_args.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_finite_args.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def Pre_Experts [hPre_experts_in_range : Cert.Pre_experts_in_range.Facts] (m : (ℓ : Loc Cert.Experts.nD Cert.Experts.τ Cert.Experts.sig) → Buf (Elt Bits) ℓ) : Prop :=
  ∀ c : Dev Cert.Experts.nD,
    (Cert.Pre_experts_in_range.fn (F := Bits) (m ((c.tc : Thread Cert.Experts.nD Cert.Experts.τ).loc Cert.Experts.main_arg0)) (m ((c.tc : Thread Cert.Experts.nD Cert.Experts.τ).loc Cert.Experts.main_arg1)) (m ((c.tc : Thread Cert.Experts.nD Cert.Experts.τ).loc Cert.Experts.main_arg2)) (m ((c.tc : Thread Cert.Experts.nD Cert.Experts.τ).loc Cert.Experts.main_arg3)) (m ((c.tc : Thread Cert.Experts.nD Cert.Experts.τ).loc Cert.Experts.main_arg4))) = (fun _ => 1#1)

def Pre_ExpertsIdeal [hPre_experts_in_range : Cert.Pre_experts_in_range.Facts] (m : (ℓ : Loc Cert.ExpertsIdeal.nD Cert.ExpertsIdeal.τ Cert.ExpertsIdeal.sig) → Buf (Elt Ideal) ℓ) : Prop :=
  ∀ c : Dev Cert.ExpertsIdeal.nD,
    (Cert.Pre_experts_in_range.fn (F := Ideal) (m ((c.tc : Thread Cert.ExpertsIdeal.nD Cert.ExpertsIdeal.τ).loc Cert.ExpertsIdeal.main_arg0)) (m ((c.tc : Thread Cert.ExpertsIdeal.nD Cert.ExpertsIdeal.τ).loc Cert.ExpertsIdeal.main_arg1)) (m ((c.tc : Thread Cert.ExpertsIdeal.nD Cert.ExpertsIdeal.τ).loc Cert.ExpertsIdeal.main_arg2)) (m ((c.tc : Thread Cert.ExpertsIdeal.nD Cert.ExpertsIdeal.τ).loc Cert.ExpertsIdeal.main_arg3)) (m ((c.tc : Thread Cert.ExpertsIdeal.nD Cert.ExpertsIdeal.τ).loc Cert.ExpertsIdeal.main_arg4))) = (fun _ => 1#1)

def Pre_ExpertsReferenceIdeal (m : (ℓ : Loc Cert.ExpertsReferenceIdeal.nD Cert.ExpertsReferenceIdeal.τ Cert.ExpertsReferenceIdeal.sig) → Buf (Elt Ideal) ℓ) : Prop :=
  True

def Pre_ExpertsReferenceIdeal_experts_in_range [hPre_experts_in_range : Cert.Pre_experts_in_range.Facts] (m : (ℓ : Loc Cert.ExpertsReferenceIdeal.nD Cert.ExpertsReferenceIdeal.τ Cert.ExpertsReferenceIdeal.sig) → Buf (Elt Ideal) ℓ) : Prop :=
  ∀ c : Dev Cert.ExpertsReferenceIdeal.nD,
    (Cert.Pre_experts_in_range.fn (F := Ideal) (m ((c.tc : Thread Cert.ExpertsReferenceIdeal.nD Cert.ExpertsReferenceIdeal.τ).loc Cert.ExpertsReferenceIdeal.main_arg0)) (m ((c.tc : Thread Cert.ExpertsReferenceIdeal.nD Cert.ExpertsReferenceIdeal.τ).loc Cert.ExpertsReferenceIdeal.main_arg1)) (m ((c.tc : Thread Cert.ExpertsReferenceIdeal.nD Cert.ExpertsReferenceIdeal.τ).loc Cert.ExpertsReferenceIdeal.main_arg2)) (m ((c.tc : Thread Cert.ExpertsReferenceIdeal.nD Cert.ExpertsReferenceIdeal.τ).loc Cert.ExpertsReferenceIdeal.main_arg3)) (m ((c.tc : Thread Cert.ExpertsReferenceIdeal.nD Cert.ExpertsReferenceIdeal.τ).loc Cert.ExpertsReferenceIdeal.main_arg4))) = (fun _ => 1#1)

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Dense (m : (ℓ : Loc Cert.Dense.nD Cert.Dense.τ Cert.Dense.sig) → Buf (Elt Bits) ℓ) : Prop :=
  True

def Pre_DenseIdeal (m : (ℓ : Loc Cert.DenseIdeal.nD Cert.DenseIdeal.τ Cert.DenseIdeal.sig) → Buf (Elt Ideal) ℓ) : Prop :=
  True

def Pre_DenseReferenceIdeal (m : (ℓ : Loc Cert.DenseReferenceIdeal.nD Cert.DenseReferenceIdeal.τ Cert.DenseReferenceIdeal.sig) → Buf (Elt Ideal) ℓ) : Prop :=
  True

def Pre_Project (m : (ℓ : Loc Cert.Project.nD Cert.Project.τ Cert.Project.sig) → Buf (Elt Bits) ℓ) : Prop :=
  True

def Pre_ProjectIdeal (m : (ℓ : Loc Cert.ProjectIdeal.nD Cert.ProjectIdeal.τ Cert.ProjectIdeal.sig) → Buf (Elt Ideal) ℓ) : Prop :=
  True

def Pre_ProjectReferenceIdeal (m : (ℓ : Loc Cert.ProjectReferenceIdeal.nD Cert.ProjectReferenceIdeal.τ Cert.ProjectReferenceIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineReferenceIdeal (m : (ℓ : Loc Cert.CombineReferenceIdeal.nD Cert.CombineReferenceIdeal.τ Cert.CombineReferenceIdeal.sig) → Buf (Elt Ideal) ℓ) : Prop :=
  True

def Pre_Gating (m : (ℓ : Loc Cert.Gating.nD Cert.Gating.τ Cert.Gating.sig) → Buf (Elt Bits) ℓ) : Prop :=
  True

def Pre_GatingIdeal (m : (ℓ : Loc Cert.GatingIdeal.nD Cert.GatingIdeal.τ Cert.GatingIdeal.sig) → Buf (Elt Ideal) ℓ) : Prop :=
  True

def Pre_GatingReferenceIdeal (m : (ℓ : Loc Cert.GatingReferenceIdeal.nD Cert.GatingReferenceIdeal.τ Cert.GatingReferenceIdeal.sig) → Buf (Elt Ideal) ℓ) : Prop :=
  True

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_RouterIdeal_finite_rows [hPre_finite_rows : Cert.Pre_finite_rows.Facts] (m : (ℓ : Loc Cert.RouterIdeal.nD Cert.RouterIdeal.τ Cert.RouterIdeal.sig) → Buf (Elt Ideal) ℓ) : Prop :=
  ∀ c : Dev Cert.RouterIdeal.nD,
    (Cert.Pre_finite_rows.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).1 = (fun _ => 1#1)
    ∧ (Cert.Pre_finite_rows.fn (F := Ideal) (m ((c.tc : Thread Cert.RouterIdeal.nD Cert.RouterIdeal.τ).loc Cert.RouterIdeal.main_arg0)) (m ((c.tc : Thread Cert.RouterIdeal.nD Cert.RouterIdeal.τ).loc Cert.RouterIdeal.main_arg1))).2 = (fun _ => 1#1)

def Pre_RouterReferenceIdeal (m : (ℓ : Loc Cert.RouterReferenceIdeal.nD Cert.RouterReferenceIdeal.τ Cert.RouterReferenceIdeal.sig) → Buf (Elt Ideal) ℓ) : Prop :=
  True

def Pre_RouterReferenceIdeal_finite_rows [hPre_finite_rows : Cert.Pre_finite_rows.Facts] (m : (ℓ : Loc Cert.RouterReferenceIdeal.nD Cert.RouterReferenceIdeal.τ Cert.RouterReferenceIdeal.sig) → Buf (Elt Ideal) ℓ) : Prop :=
  ∀ c : Dev Cert.RouterReferenceIdeal.nD,
    (Cert.Pre_finite_rows.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))).1 = (fun _ => 1#1)
    ∧ (Cert.Pre_finite_rows.fn (F := Ideal) (m ((c.tc : Thread Cert.RouterReferenceIdeal.nD Cert.RouterReferenceIdeal.τ).loc Cert.RouterReferenceIdeal.main_arg0)) (m ((c.tc : Thread Cert.RouterReferenceIdeal.nD Cert.RouterReferenceIdeal.τ).loc Cert.RouterReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_args [hKernelIdeal : Cert.KernelIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_args m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_args [hReferenceIdeal : Cert.ReferenceIdeal.Facts] [hPre_finite_args : Cert.Pre_finite_args.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_args m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Experts [hExperts : Cert.Experts.Facts] [hPre_experts_in_range : Cert.Pre_experts_in_range.Facts] : Prop :=
  ∀ (m : (ℓ : Loc Cert.Experts.nD Cert.Experts.τ Cert.Experts.sig) → Buf (Elt Bits) ℓ) (g : Dev Cert.Experts.nD → PrngReg), Pre_Experts m →
    θ_run (Cert.Experts.defs (F := Bits)) (onTc (τ := Cert.Experts.τ) (Cert.Experts.main (F := Bits))) ⟨m, fun _ => 0, g⟩ (fun r => (∀ c : Dev Cert.Experts.nD,
      r.2.mem ((c.tc : Thread Cert.Experts.nD Cert.Experts.τ).loc Cert.Experts.main_arg0) = m ((c.tc : Thread Cert.Experts.nD Cert.Experts.τ).loc Cert.Experts.main_arg0)
      ∧ r.2.mem ((c.tc : Thread Cert.Experts.nD Cert.Experts.τ).loc Cert.Experts.main_arg1) = m ((c.tc : Thread Cert.Experts.nD Cert.Experts.τ).loc Cert.Experts.main_arg1)
      ∧ r.2.mem ((c.tc : Thread Cert.Experts.nD Cert.Experts.τ).loc Cert.Experts.main_arg2) = m ((c.tc : Thread Cert.Experts.nD Cert.Experts.τ).loc Cert.Experts.main_arg2)
      ∧ r.2.mem ((c.tc : Thread Cert.Experts.nD Cert.Experts.τ).loc Cert.Experts.main_arg3) = m ((c.tc : Thread Cert.Experts.nD Cert.Experts.τ).loc Cert.Experts.main_arg3)
      ∧ r.2.mem ((c.tc : Thread Cert.Experts.nD Cert.Experts.τ).loc Cert.Experts.main_arg4) = m ((c.tc : Thread Cert.Experts.nD Cert.Experts.τ).loc Cert.Experts.main_arg4))
      ∧ r.2.sem = fun _ => 0)

def quiescent_ExpertsIdeal [hExpertsIdeal : Cert.ExpertsIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg), Pre_ExpertsIdeal m →
    θ_run (Cert.ExpertsIdeal.defs (F := Ideal)) (onTc (τ := Cert.ExpertsIdeal.τ) (Cert.ExpertsIdeal.main (F := Ideal))) ⟨m, fun _ => 0, g⟩ (fun r => (∀ c : Dev Cert.ExpertsIdeal.nD,
      r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ r.2.sem = fun _ => 0)

def quiescent_ExpertsReferenceIdeal [hExpertsReferenceIdeal : Cert.ExpertsReferenceIdeal.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_ExpertsReferenceIdeal_pre_experts_in_range [hExpertsReferenceIdeal : Cert.ExpertsReferenceIdeal.Facts] [hPre_experts_in_range : Cert.Pre_experts_in_range.Facts] : Prop :=
  ∀ (m : (ℓ : Loc Cert.ExpertsReferenceIdeal.nD Cert.ExpertsReferenceIdeal.τ Cert.ExpertsReferenceIdeal.sig) → Buf (Elt Ideal) ℓ) (g : Dev Cert.ExpertsReferenceIdeal.nD → PrngReg), Pre_ExpertsReferenceIdeal_experts_in_range m →
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5)
      ∧ r.2.mem ((c.tc : Thread Cert.Merge.nD Cert.Merge.τ).loc Cert.Merge.main_arg6) = m ((c.tc : Thread Cert.Merge.nD Cert.Merge.τ).loc Cert.Merge.main_arg6)
      ∧ r.2.mem ((c.tc : Thread Cert.Merge.nD Cert.Merge.τ).loc Cert.Merge.main_arg7) = m ((c.tc : Thread Cert.Merge.nD Cert.Merge.τ).loc Cert.Merge.main_arg7)
      ∧ r.2.mem ((c.tc : Thread Cert.Merge.nD Cert.Merge.τ).loc Cert.Merge.main_arg8) = m ((c.tc : Thread Cert.Merge.nD Cert.Merge.τ).loc Cert.Merge.main_arg8)
      ∧ r.2.mem ((c.tc : Thread Cert.Merge.nD Cert.Merge.τ).loc Cert.Merge.main_arg9) = m ((c.tc : Thread Cert.Merge.nD Cert.Merge.τ).loc Cert.Merge.main_arg9)
      ∧ r.2.mem ((c.tc : Thread Cert.Merge.nD Cert.Merge.τ).loc Cert.Merge.main_arg10) = m ((c.tc : Thread Cert.Merge.nD Cert.Merge.τ).loc Cert.Merge.main_arg10)
      ∧ r.2.mem ((c.tc : Thread Cert.Merge.nD Cert.Merge.τ).loc Cert.Merge.main_arg11) = m ((c.tc : Thread Cert.Merge.nD Cert.Merge.τ).loc Cert.Merge.main_arg11)
      ∧ r.2.mem ((c.tc : Thread Cert.Merge.nD Cert.Merge.τ).loc Cert.Merge.main_arg12) = m ((c.tc : Thread Cert.Merge.nD Cert.Merge.τ).loc Cert.Merge.main_arg12))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
      ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
      ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
      ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
      ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
      ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
      ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
      ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3)
      ∧ r.2.mem ((c.tc : Thread Cert.MergeReferenceIdeal.nD Cert.MergeReferenceIdeal.τ).loc Cert.MergeReferenceIdeal.main_arg4) = m ((c.tc : Thread Cert.MergeReferenceIdeal.nD Cert.MergeReferenceIdeal.τ).loc Cert.MergeReferenceIdeal.main_arg4)
      ∧ r.2.mem ((c.tc : Thread Cert.MergeReferenceIdeal.nD Cert.MergeReferenceIdeal.τ).loc Cert.MergeReferenceIdeal.main_arg5) = m ((c.tc : Thread Cert.MergeReferenceIdeal.nD Cert.MergeReferenceIdeal.τ).loc Cert.MergeReferenceIdeal.main_arg5)
      ∧ r.2.mem ((c.tc : Thread Cert.MergeReferenceIdeal.nD Cert.MergeReferenceIdeal.τ).loc Cert.MergeReferenceIdeal.main_arg6) = m ((c.tc : Thread Cert.MergeReferenceIdeal.nD Cert.MergeReferenceIdeal.τ).loc Cert.MergeReferenceIdeal.main_arg6)
      ∧ r.2.mem ((c.tc : Thread Cert.MergeReferenceIdeal.nD Cert.MergeReferenceIdeal.τ).loc Cert.MergeReferenceIdeal.main_arg7) = m ((c.tc : Thread Cert.MergeReferenceIdeal.nD Cert.MergeReferenceIdeal.τ).loc Cert.MergeReferenceIdeal.main_arg7)
      ∧ r.2.mem ((c.tc : Thread Cert.MergeReferenceIdeal.nD Cert.MergeReferenceIdeal.τ).loc Cert.MergeReferenceIdeal.main_arg8) = m ((c.tc : Thread Cert.MergeReferenceIdeal.nD Cert.MergeReferenceIdeal.τ).loc Cert.MergeReferenceIdeal.main_arg8)
      ∧ r.2.mem ((c.tc : Thread Cert.MergeReferenceIdeal.nD Cert.MergeReferenceIdeal.τ).loc Cert.MergeReferenceIdeal.main_arg9) = m ((c.tc : Thread Cert.MergeReferenceIdeal.nD Cert.MergeReferenceIdeal.τ).loc Cert.MergeReferenceIdeal.main_arg9)
      ∧ r.2.mem ((c.tc : Thread Cert.MergeReferenceIdeal.nD Cert.MergeReferenceIdeal.τ).loc Cert.MergeReferenceIdeal.main_arg10) = m ((c.tc : Thread Cert.MergeReferenceIdeal.nD Cert.MergeReferenceIdeal.τ).loc Cert.MergeReferenceIdeal.main_arg10)
      ∧ r.2.mem ((c.tc : Thread Cert.MergeReferenceIdeal.nD Cert.MergeReferenceIdeal.τ).loc Cert.MergeReferenceIdeal.main_arg11) = m ((c.tc : Thread Cert.MergeReferenceIdeal.nD Cert.MergeReferenceIdeal.τ).loc Cert.MergeReferenceIdeal.main_arg11)
      ∧ r.2.mem ((c.tc : Thread Cert.MergeReferenceIdeal.nD Cert.MergeReferenceIdeal.τ).loc Cert.MergeReferenceIdeal.main_arg12) = m ((c.tc : Thread Cert.MergeReferenceIdeal.nD Cert.MergeReferenceIdeal.τ).loc Cert.MergeReferenceIdeal.main_arg12))
      ∧ r.2.sem = fun _ => 0)

def quiescent_Dense [hDense : Cert.Dense.Facts] : Prop :=
  ∀ (m : (ℓ : Loc Cert.Dense.nD Cert.Dense.τ Cert.Dense.sig) → Buf (Elt Bits) ℓ) (g : Dev Cert.Dense.nD → PrngReg), Pre_Dense m →
    θ_run (Cert.Dense.defs (F := Bits)) (onTc (τ := Cert.Dense.τ) (Cert.Dense.main (F := Bits))) ⟨m, fun _ => 0, g⟩ (fun r => (∀ c : Dev Cert.Dense.nD,
      r.2.mem ((c.tc : Thread Cert.Dense.nD Cert.Dense.τ).loc Cert.Dense.main_arg0) = m ((c.tc : Thread Cert.Dense.nD Cert.Dense.τ).loc Cert.Dense.main_arg0)
      ∧ r.2.mem ((c.tc : Thread Cert.Dense.nD Cert.Dense.τ).loc Cert.Dense.main_arg1) = m ((c.tc : Thread Cert.Dense.nD Cert.Dense.τ).loc Cert.Dense.main_arg1)
      ∧ r.2.mem ((c.tc : Thread Cert.Dense.nD Cert.Dense.τ).loc Cert.Dense.main_arg2) = m ((c.tc : Thread Cert.Dense.nD Cert.Dense.τ).loc Cert.Dense.main_arg2)
      ∧ r.2.mem ((c.tc : Thread Cert.Dense.nD Cert.Dense.τ).loc Cert.Dense.main_arg3) = m ((c.tc : Thread Cert.Dense.nD Cert.Dense.τ).loc Cert.Dense.main_arg3)
      ∧ r.2.mem ((c.tc : Thread Cert.Dense.nD Cert.Dense.τ).loc Cert.Dense.main_arg4) = m ((c.tc : Thread Cert.Dense.nD Cert.Dense.τ).loc Cert.Dense.main_arg4)
      ∧ r.2.mem ((c.tc : Thread Cert.Dense.nD Cert.Dense.τ).loc Cert.Dense.main_arg5) = m ((c.tc : Thread Cert.Dense.nD Cert.Dense.τ).loc Cert.Dense.main_arg5)
      ∧ r.2.mem ((c.tc : Thread Cert.Dense.nD Cert.Dense.τ).loc Cert.Dense.main_arg6) = m ((c.tc : Thread Cert.Dense.nD Cert.Dense.τ).loc Cert.Dense.main_arg6)
      ∧ r.2.mem ((c.tc : Thread Cert.Dense.nD Cert.Dense.τ).loc Cert.Dense.main_arg7) = m ((c.tc : Thread Cert.Dense.nD Cert.Dense.τ).loc Cert.Dense.main_arg7)
      ∧ r.2.mem ((c.tc : Thread Cert.Dense.nD Cert.Dense.τ).loc Cert.Dense.main_arg8) = m ((c.tc : Thread Cert.Dense.nD Cert.Dense.τ).loc Cert.Dense.main_arg8))
      ∧ r.2.sem = fun _ => 0)

def quiescent_DenseIdeal [hDenseIdeal : Cert.DenseIdeal.Facts] : Prop :=
  ∀ (m : (ℓ : Loc Cert.DenseIdeal.nD Cert.DenseIdeal.τ Cert.DenseIdeal.sig) → Buf (Elt Ideal) ℓ) (g : Dev Cert.DenseIdeal.nD → PrngReg), Pre_DenseIdeal m →
    θ_run (Cert.DenseIdeal.defs (F := Ideal)) (onTc (τ := Cert.DenseIdeal.τ) (Cert.DenseIdeal.main (F := Ideal))) ⟨m, fun _ => 0, g⟩ (fun r => (∀ c : Dev Cert.DenseIdeal.nD,
      r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
      ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
      ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
      ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
      ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
      ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
      ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
      ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
      ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ r.2.sem = fun _ => 0)

def quiescent_DenseReferenceIdeal [hDenseReferenceIdeal : Cert.DenseReferenceIdeal.Facts] : Prop :=
  ∀ (m : (ℓ : Loc Cert.DenseReferenceIdeal.nD Cert.DenseReferenceIdeal.τ Cert.DenseReferenceIdeal.sig) → Buf (Elt Ideal) ℓ) (g : Dev Cert.DenseReferenceIdeal.nD → PrngReg), Pre_DenseReferenceIdeal m →
    θ_run (Cert.DenseReferenceIdeal.defs (F := Ideal)) (onTc (τ := Cert.DenseReferenceIdeal.τ) (Cert.DenseReferenceIdeal.main (F := Ideal))) ⟨m, fun _ => 0, g⟩ (fun r => (∀ c : Dev Cert.DenseReferenceIdeal.nD,
      r.2.mem ((c.tc : Thread Cert.DenseReferenceIdeal.nD Cert.DenseReferenceIdeal.τ).loc Cert.DenseReferenceIdeal.main_arg0) = m ((c.tc : Thread Cert.DenseReferenceIdeal.nD Cert.DenseReferenceIdeal.τ).loc Cert.DenseReferenceIdeal.main_arg0)
      ∧ r.2.mem ((c.tc : Thread Cert.DenseReferenceIdeal.nD Cert.DenseReferenceIdeal.τ).loc Cert.DenseReferenceIdeal.main_arg1) = m ((c.tc : Thread Cert.DenseReferenceIdeal.nD Cert.DenseReferenceIdeal.τ).loc Cert.DenseReferenceIdeal.main_arg1)
      ∧ r.2.mem ((c.tc : Thread Cert.DenseReferenceIdeal.nD Cert.DenseReferenceIdeal.τ).loc Cert.DenseReferenceIdeal.main_arg2) = m ((c.tc : Thread Cert.DenseReferenceIdeal.nD Cert.DenseReferenceIdeal.τ).loc Cert.DenseReferenceIdeal.main_arg2)
      ∧ r.2.mem ((c.tc : Thread Cert.DenseReferenceIdeal.nD Cert.DenseReferenceIdeal.τ).loc Cert.DenseReferenceIdeal.main_arg3) = m ((c.tc : Thread Cert.DenseReferenceIdeal.nD Cert.DenseReferenceIdeal.τ).loc Cert.DenseReferenceIdeal.main_arg3)
      ∧ r.2.mem ((c.tc : Thread Cert.DenseReferenceIdeal.nD Cert.DenseReferenceIdeal.τ).loc Cert.DenseReferenceIdeal.main_arg4) = m ((c.tc : Thread Cert.DenseReferenceIdeal.nD Cert.DenseReferenceIdeal.τ).loc Cert.DenseReferenceIdeal.main_arg4)
      ∧ r.2.mem ((c.tc : Thread Cert.DenseReferenceIdeal.nD Cert.DenseReferenceIdeal.τ).loc Cert.DenseReferenceIdeal.main_arg5) = m ((c.tc : Thread Cert.DenseReferenceIdeal.nD Cert.DenseReferenceIdeal.τ).loc Cert.DenseReferenceIdeal.main_arg5)
      ∧ r.2.mem ((c.tc : Thread Cert.DenseReferenceIdeal.nD Cert.DenseReferenceIdeal.τ).loc Cert.DenseReferenceIdeal.main_arg6) = m ((c.tc : Thread Cert.DenseReferenceIdeal.nD Cert.DenseReferenceIdeal.τ).loc Cert.DenseReferenceIdeal.main_arg6)
      ∧ r.2.mem ((c.tc : Thread Cert.DenseReferenceIdeal.nD Cert.DenseReferenceIdeal.τ).loc Cert.DenseReferenceIdeal.main_arg7) = m ((c.tc : Thread Cert.DenseReferenceIdeal.nD Cert.DenseReferenceIdeal.τ).loc Cert.DenseReferenceIdeal.main_arg7)
      ∧ r.2.mem ((c.tc : Thread Cert.DenseReferenceIdeal.nD Cert.DenseReferenceIdeal.τ).loc Cert.DenseReferenceIdeal.main_arg8) = m ((c.tc : Thread Cert.DenseReferenceIdeal.nD Cert.DenseReferenceIdeal.τ).loc Cert.DenseReferenceIdeal.main_arg8))
      ∧ r.2.sem = fun _ => 0)

def quiescent_Project [hProject : Cert.Project.Facts] : Prop :=
  ∀ (m : (ℓ : Loc Cert.Project.nD Cert.Project.τ Cert.Project.sig) → Buf (Elt Bits) ℓ) (g : Dev Cert.Project.nD → PrngReg), Pre_Project m →
    θ_run (Cert.Project.defs (F := Bits)) (onTc (τ := Cert.Project.τ) (Cert.Project.main (F := Bits))) ⟨m, fun _ => 0, g⟩ (fun r => (∀ c : Dev Cert.Project.nD,
      r.2.mem ((c.tc : Thread Cert.Project.nD Cert.Project.τ).loc Cert.Project.main_arg0) = m ((c.tc : Thread Cert.Project.nD Cert.Project.τ).loc Cert.Project.main_arg0)
      ∧ r.2.mem ((c.tc : Thread Cert.Project.nD Cert.Project.τ).loc Cert.Project.main_arg1) = m ((c.tc : Thread Cert.Project.nD Cert.Project.τ).loc Cert.Project.main_arg1))
      ∧ r.2.sem = fun _ => 0)

def quiescent_ProjectIdeal [hProjectIdeal : Cert.ProjectIdeal.Facts] : Prop :=
  ∀ (m : (ℓ : Loc Cert.ProjectIdeal.nD Cert.ProjectIdeal.τ Cert.ProjectIdeal.sig) → Buf (Elt Ideal) ℓ) (g : Dev Cert.ProjectIdeal.nD → PrngReg), Pre_ProjectIdeal m →
    θ_run (Cert.ProjectIdeal.defs (F := Ideal)) (onTc (τ := Cert.ProjectIdeal.τ) (Cert.ProjectIdeal.main (F := Ideal))) ⟨m, fun _ => 0, g⟩ (fun r => (∀ c : Dev Cert.ProjectIdeal.nD,
      r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
      ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ r.2.sem = fun _ => 0)

def quiescent_ProjectReferenceIdeal [hProjectReferenceIdeal : Cert.ProjectReferenceIdeal.Facts] : Prop :=
  ∀ (m : (ℓ : Loc Cert.ProjectReferenceIdeal.nD Cert.ProjectReferenceIdeal.τ Cert.ProjectReferenceIdeal.sig) → Buf (Elt Ideal) ℓ) (g : Dev Cert.ProjectReferenceIdeal.nD → PrngReg), Pre_ProjectReferenceIdeal m →
    θ_run (Cert.ProjectReferenceIdeal.defs (F := Ideal)) (onTc (τ := Cert.ProjectReferenceIdeal.τ) (Cert.ProjectReferenceIdeal.main (F := Ideal))) ⟨m, fun _ => 0, g⟩ (fun r => (∀ c : Dev Cert.ProjectReferenceIdeal.nD,
      r.2.mem ((c.tc : Thread Cert.ProjectReferenceIdeal.nD Cert.ProjectReferenceIdeal.τ).loc Cert.ProjectReferenceIdeal.main_arg0) = m ((c.tc : Thread Cert.ProjectReferenceIdeal.nD Cert.ProjectReferenceIdeal.τ).loc Cert.ProjectReferenceIdeal.main_arg0)
      ∧ r.2.mem ((c.tc : Thread Cert.ProjectReferenceIdeal.nD Cert.ProjectReferenceIdeal.τ).loc Cert.ProjectReferenceIdeal.main_arg1) = m ((c.tc : Thread Cert.ProjectReferenceIdeal.nD Cert.ProjectReferenceIdeal.τ).loc Cert.ProjectReferenceIdeal.main_arg1))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7)
      ∧ r.2.mem ((c.tc : Thread Cert.Combine.nD Cert.Combine.τ).loc Cert.Combine.main_arg8) = m ((c.tc : Thread Cert.Combine.nD Cert.Combine.τ).loc Cert.Combine.main_arg8))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
      ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ r.2.sem = fun _ => 0)

def quiescent_CombineReferenceIdeal [hCombineReferenceIdeal : Cert.CombineReferenceIdeal.Facts] : Prop :=
  ∀ (m : (ℓ : Loc Cert.CombineReferenceIdeal.nD Cert.CombineReferenceIdeal.τ Cert.CombineReferenceIdeal.sig) → Buf (Elt Ideal) ℓ) (g : Dev Cert.CombineReferenceIdeal.nD → PrngReg), Pre_CombineReferenceIdeal m →
    θ_run (Cert.CombineReferenceIdeal.defs (F := Ideal)) (onTc (τ := Cert.CombineReferenceIdeal.τ) (Cert.CombineReferenceIdeal.main (F := Ideal))) ⟨m, fun _ => 0, g⟩ (fun r => (∀ c : Dev Cert.CombineReferenceIdeal.nD,
      r.2.mem ((c.tc : Thread Cert.CombineReferenceIdeal.nD Cert.CombineReferenceIdeal.τ).loc Cert.CombineReferenceIdeal.main_arg0) = m ((c.tc : Thread Cert.CombineReferenceIdeal.nD Cert.CombineReferenceIdeal.τ).loc Cert.CombineReferenceIdeal.main_arg0)
      ∧ r.2.mem ((c.tc : Thread Cert.CombineReferenceIdeal.nD Cert.CombineReferenceIdeal.τ).loc Cert.CombineReferenceIdeal.main_arg1) = m ((c.tc : Thread Cert.CombineReferenceIdeal.nD Cert.CombineReferenceIdeal.τ).loc Cert.CombineReferenceIdeal.main_arg1)
      ∧ r.2.mem ((c.tc : Thread Cert.CombineReferenceIdeal.nD Cert.CombineReferenceIdeal.τ).loc Cert.CombineReferenceIdeal.main_arg2) = m ((c.tc : Thread Cert.CombineReferenceIdeal.nD Cert.CombineReferenceIdeal.τ).loc Cert.CombineReferenceIdeal.main_arg2)
      ∧ r.2.mem ((c.tc : Thread Cert.CombineReferenceIdeal.nD Cert.CombineReferenceIdeal.τ).loc Cert.CombineReferenceIdeal.main_arg3) = m ((c.tc : Thread Cert.CombineReferenceIdeal.nD Cert.CombineReferenceIdeal.τ).loc Cert.CombineReferenceIdeal.main_arg3)
      ∧ r.2.mem ((c.tc : Thread Cert.CombineReferenceIdeal.nD Cert.CombineReferenceIdeal.τ).loc Cert.CombineReferenceIdeal.main_arg4) = m ((c.tc : Thread Cert.CombineReferenceIdeal.nD Cert.CombineReferenceIdeal.τ).loc Cert.CombineReferenceIdeal.main_arg4)
      ∧ r.2.mem ((c.tc : Thread Cert.CombineReferenceIdeal.nD Cert.CombineReferenceIdeal.τ).loc Cert.CombineReferenceIdeal.main_arg5) = m ((c.tc : Thread Cert.CombineReferenceIdeal.nD Cert.CombineReferenceIdeal.τ).loc Cert.CombineReferenceIdeal.main_arg5)
      ∧ r.2.mem ((c.tc : Thread Cert.CombineReferenceIdeal.nD Cert.CombineReferenceIdeal.τ).loc Cert.CombineReferenceIdeal.main_arg6) = m ((c.tc : Thread Cert.CombineReferenceIdeal.nD Cert.CombineReferenceIdeal.τ).loc Cert.CombineReferenceIdeal.main_arg6)
      ∧ r.2.mem ((c.tc : Thread Cert.CombineReferenceIdeal.nD Cert.CombineReferenceIdeal.τ).loc Cert.CombineReferenceIdeal.main_arg7) = m ((c.tc : Thread Cert.CombineReferenceIdeal.nD Cert.CombineReferenceIdeal.τ).loc Cert.CombineReferenceIdeal.main_arg7)
      ∧ r.2.mem ((c.tc : Thread Cert.CombineReferenceIdeal.nD Cert.CombineReferenceIdeal.τ).loc Cert.CombineReferenceIdeal.main_arg8) = m ((c.tc : Thread Cert.CombineReferenceIdeal.nD Cert.CombineReferenceIdeal.τ).loc Cert.CombineReferenceIdeal.main_arg8))
      ∧ r.2.sem = fun _ => 0)

def quiescent_Gating [hGating : Cert.Gating.Facts] : Prop :=
  ∀ (m : (ℓ : Loc Cert.Gating.nD Cert.Gating.τ Cert.Gating.sig) → Buf (Elt Bits) ℓ) (g : Dev Cert.Gating.nD → PrngReg), Pre_Gating m →
    θ_run (Cert.Gating.defs (F := Bits)) (onTc (τ := Cert.Gating.τ) (Cert.Gating.main (F := Bits))) ⟨m, fun _ => 0, g⟩ (fun r => (∀ c : Dev Cert.Gating.nD,
      r.2.mem ((c.tc : Thread Cert.Gating.nD Cert.Gating.τ).loc Cert.Gating.main_arg0) = m ((c.tc : Thread Cert.Gating.nD Cert.Gating.τ).loc Cert.Gating.main_arg0)
      ∧ r.2.mem ((c.tc : Thread Cert.Gating.nD Cert.Gating.τ).loc Cert.Gating.main_arg1) = m ((c.tc : Thread Cert.Gating.nD Cert.Gating.τ).loc Cert.Gating.main_arg1)
      ∧ r.2.mem ((c.tc : Thread Cert.Gating.nD Cert.Gating.τ).loc Cert.Gating.main_arg2) = m ((c.tc : Thread Cert.Gating.nD Cert.Gating.τ).loc Cert.Gating.main_arg2)
      ∧ r.2.mem ((c.tc : Thread Cert.Gating.nD Cert.Gating.τ).loc Cert.Gating.main_arg3) = m ((c.tc : Thread Cert.Gating.nD Cert.Gating.τ).loc Cert.Gating.main_arg3)
      ∧ r.2.mem ((c.tc : Thread Cert.Gating.nD Cert.Gating.τ).loc Cert.Gating.main_arg4) = m ((c.tc : Thread Cert.Gating.nD Cert.Gating.τ).loc Cert.Gating.main_arg4))
      ∧ r.2.sem = fun _ => 0)

def quiescent_GatingIdeal [hGatingIdeal : Cert.GatingIdeal.Facts] : Prop :=
  ∀ (m : (ℓ : Loc Cert.GatingIdeal.nD Cert.GatingIdeal.τ Cert.GatingIdeal.sig) → Buf (Elt Ideal) ℓ) (g : Dev Cert.GatingIdeal.nD → PrngReg), Pre_GatingIdeal m →
    θ_run (Cert.GatingIdeal.defs (F := Ideal)) (onTc (τ := Cert.GatingIdeal.τ) (Cert.GatingIdeal.main (F := Ideal))) ⟨m, fun _ => 0, g⟩ (fun r => (∀ c : Dev Cert.GatingIdeal.nD,
      r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
      ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
      ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
      ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
      ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ r.2.sem = fun _ => 0)

def quiescent_GatingReferenceIdeal [hGatingReferenceIdeal : Cert.GatingReferenceIdeal.Facts] : Prop :=
  ∀ (m : (ℓ : Loc Cert.GatingReferenceIdeal.nD Cert.GatingReferenceIdeal.τ Cert.GatingReferenceIdeal.sig) → Buf (Elt Ideal) ℓ) (g : Dev Cert.GatingReferenceIdeal.nD → PrngReg), Pre_GatingReferenceIdeal m →
    θ_run (Cert.GatingReferenceIdeal.defs (F := Ideal)) (onTc (τ := Cert.GatingReferenceIdeal.τ) (Cert.GatingReferenceIdeal.main (F := Ideal))) ⟨m, fun _ => 0, g⟩ (fun r => (∀ c : Dev Cert.GatingReferenceIdeal.nD,
      r.2.mem ((c.tc : Thread Cert.GatingReferenceIdeal.nD Cert.GatingReferenceIdeal.τ).loc Cert.GatingReferenceIdeal.main_arg0) = m ((c.tc : Thread Cert.GatingReferenceIdeal.nD Cert.GatingReferenceIdeal.τ).loc Cert.GatingReferenceIdeal.main_arg0)
      ∧ r.2.mem ((c.tc : Thread Cert.GatingReferenceIdeal.nD Cert.GatingReferenceIdeal.τ).loc Cert.GatingReferenceIdeal.main_arg1) = m ((c.tc : Thread Cert.GatingReferenceIdeal.nD Cert.GatingReferenceIdeal.τ).loc Cert.GatingReferenceIdeal.main_arg1)
      ∧ r.2.mem ((c.tc : Thread Cert.GatingReferenceIdeal.nD Cert.GatingReferenceIdeal.τ).loc Cert.GatingReferenceIdeal.main_arg2) = m ((c.tc : Thread Cert.GatingReferenceIdeal.nD Cert.GatingReferenceIdeal.τ).loc Cert.GatingReferenceIdeal.main_arg2)
      ∧ r.2.mem ((c.tc : Thread Cert.GatingReferenceIdeal.nD Cert.GatingReferenceIdeal.τ).loc Cert.GatingReferenceIdeal.main_arg3) = m ((c.tc : Thread Cert.GatingReferenceIdeal.nD Cert.GatingReferenceIdeal.τ).loc Cert.GatingReferenceIdeal.main_arg3)
      ∧ r.2.mem ((c.tc : Thread Cert.GatingReferenceIdeal.nD Cert.GatingReferenceIdeal.τ).loc Cert.GatingReferenceIdeal.main_arg4) = m ((c.tc : Thread Cert.GatingReferenceIdeal.nD Cert.GatingReferenceIdeal.τ).loc Cert.GatingReferenceIdeal.main_arg4))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterIdeal_pre_finite_rows [hRouterIdeal : Cert.RouterIdeal.Facts] [hPre_finite_rows : Cert.Pre_finite_rows.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal_finite_rows m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ r.2.sem = fun _ => 0)

def quiescent_RouterReferenceIdeal [hRouterReferenceIdeal : Cert.RouterReferenceIdeal.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def quiescent_RouterReferenceIdeal_pre_finite_rows [hRouterReferenceIdeal : Cert.RouterReferenceIdeal.Facts] [hPre_finite_rows : Cert.Pre_finite_rows.Facts] : Prop :=
  ∀ (m : (ℓ : Loc Cert.RouterReferenceIdeal.nD Cert.RouterReferenceIdeal.τ Cert.RouterReferenceIdeal.sig) → Buf (Elt Ideal) ℓ) (g : Dev Cert.RouterReferenceIdeal.nD → PrngReg), Pre_RouterReferenceIdeal_finite_rows m →
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_args [hKernelIdeal : Cert.KernelIdeal.Facts] [hReferenceIdeal : Cert.ReferenceIdeal.Facts] [hPre_finite_args : Cert.Pre_finite_args.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_args m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v86) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Experts_ExpertsIdeal : Prop :=
  True

def algebraic_ExpertsIdeal_ExpertsReferenceIdeal [hExpertsIdeal : Cert.ExpertsIdeal.Facts] [hExpertsReferenceIdeal : Cert.ExpertsReferenceIdeal.Facts] [hPre_experts_in_range : Cert.Pre_experts_in_range.Facts] : Prop :=
  ∀ (m : (ℓ : Loc Cert.ExpertsIdeal.nD Cert.ExpertsIdeal.τ Cert.ExpertsIdeal.sig) → Buf (Elt Ideal) ℓ) (g : Dev Cert.ExpertsIdeal.nD → PrngReg)
    (m' : (ℓ : Loc Cert.ExpertsReferenceIdeal.nD Cert.ExpertsReferenceIdeal.τ Cert.ExpertsReferenceIdeal.sig) → Buf (Elt Ideal) ℓ) (g' : Dev Cert.ExpertsReferenceIdeal.nD → PrngReg), Pre_ExpertsIdeal m →
    (∀ c : Dev Cert.ExpertsIdeal.nD,
      m' ((c.tc : Thread Cert.ExpertsReferenceIdeal.nD Cert.ExpertsReferenceIdeal.τ).loc Cert.ExpertsReferenceIdeal.main_arg0) = m ((c.tc : Thread Cert.ExpertsIdeal.nD Cert.ExpertsIdeal.τ).loc Cert.ExpertsIdeal.main_arg0)
      ∧ m' ((c.tc : Thread Cert.ExpertsReferenceIdeal.nD Cert.ExpertsReferenceIdeal.τ).loc Cert.ExpertsReferenceIdeal.main_arg1) = m ((c.tc : Thread Cert.ExpertsIdeal.nD Cert.ExpertsIdeal.τ).loc Cert.ExpertsIdeal.main_arg1)
      ∧ m' ((c.tc : Thread Cert.ExpertsReferenceIdeal.nD Cert.ExpertsReferenceIdeal.τ).loc Cert.ExpertsReferenceIdeal.main_arg2) = m ((c.tc : Thread Cert.ExpertsIdeal.nD Cert.ExpertsIdeal.τ).loc Cert.ExpertsIdeal.main_arg2)
      ∧ m' ((c.tc : Thread Cert.ExpertsReferenceIdeal.nD Cert.ExpertsReferenceIdeal.τ).loc Cert.ExpertsReferenceIdeal.main_arg3) = m ((c.tc : Thread Cert.ExpertsIdeal.nD Cert.ExpertsIdeal.τ).loc Cert.ExpertsIdeal.main_arg3)
      ∧ m' ((c.tc : Thread Cert.ExpertsReferenceIdeal.nD Cert.ExpertsReferenceIdeal.τ).loc Cert.ExpertsReferenceIdeal.main_arg4) = m ((c.tc : Thread Cert.ExpertsIdeal.nD Cert.ExpertsIdeal.τ).loc Cert.ExpertsIdeal.main_arg4)) →
    ∃ (v0 : (c : Dev Cert.ExpertsIdeal.nD) → Buf (Elt Ideal) ((c.tc : Thread Cert.ExpertsIdeal.nD Cert.ExpertsIdeal.τ).loc Cert.ExpertsIdeal.main_v0)),
      θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
          r.2.mem ((c.tc : Thread Cert.ExpertsIdeal.nD Cert.ExpertsIdeal.τ).loc Cert.ExpertsIdeal.main_v0) = v0 c
          ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
          ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
          ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
          ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
          ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4))
      ∧ θ_run (Cert.ExpertsReferenceIdeal.defs (F := Ideal)) (onTc (τ := Cert.ExpertsReferenceIdeal.τ) (Cert.ExpertsReferenceIdeal.main (F := Ideal))) ⟨m', fun _ => 0, g'⟩ (fun r => ∀ c : Dev Cert.ExpertsReferenceIdeal.nD,
          r.2.mem ((c.tc : Thread Cert.ExpertsReferenceIdeal.nD Cert.ExpertsReferenceIdeal.τ).loc Cert.ExpertsReferenceIdeal.main_v239) = v0 c
          ∧ r.2.mem ((c.tc : Thread Cert.ExpertsReferenceIdeal.nD Cert.ExpertsReferenceIdeal.τ).loc Cert.ExpertsReferenceIdeal.main_arg0) = m' ((c.tc : Thread Cert.ExpertsReferenceIdeal.nD Cert.ExpertsReferenceIdeal.τ).loc Cert.ExpertsReferenceIdeal.main_arg0)
          ∧ r.2.mem ((c.tc : Thread Cert.ExpertsReferenceIdeal.nD Cert.ExpertsReferenceIdeal.τ).loc Cert.ExpertsReferenceIdeal.main_arg1) = m' ((c.tc : Thread Cert.ExpertsReferenceIdeal.nD Cert.ExpertsReferenceIdeal.τ).loc Cert.ExpertsReferenceIdeal.main_arg1)
          ∧ r.2.mem ((c.tc : Thread Cert.ExpertsReferenceIdeal.nD Cert.ExpertsReferenceIdeal.τ).loc Cert.ExpertsReferenceIdeal.main_arg2) = m' ((c.tc : Thread Cert.ExpertsReferenceIdeal.nD Cert.ExpertsReferenceIdeal.τ).loc Cert.ExpertsReferenceIdeal.main_arg2)
          ∧ r.2.mem ((c.tc : Thread Cert.ExpertsReferenceIdeal.nD Cert.ExpertsReferenceIdeal.τ).loc Cert.ExpertsReferenceIdeal.main_arg3) = m' ((c.tc : Thread Cert.ExpertsReferenceIdeal.nD Cert.ExpertsReferenceIdeal.τ).loc Cert.ExpertsReferenceIdeal.main_arg3)
          ∧ r.2.mem ((c.tc : Thread Cert.ExpertsReferenceIdeal.nD Cert.ExpertsReferenceIdeal.τ).loc Cert.ExpertsReferenceIdeal.main_arg4) = m' ((c.tc : Thread Cert.ExpertsReferenceIdeal.nD Cert.ExpertsReferenceIdeal.τ).loc Cert.ExpertsReferenceIdeal.main_arg4))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)
      ∧ m' ((c.tc : Thread Cert.MergeReferenceIdeal.nD Cert.MergeReferenceIdeal.τ).loc Cert.MergeReferenceIdeal.main_arg4) = m ((c.tc : Thread Cert.MergeIdeal.nD Cert.MergeIdeal.τ).loc Cert.MergeIdeal.main_arg4)
      ∧ m' ((c.tc : Thread Cert.MergeReferenceIdeal.nD Cert.MergeReferenceIdeal.τ).loc Cert.MergeReferenceIdeal.main_arg5) = m ((c.tc : Thread Cert.MergeIdeal.nD Cert.MergeIdeal.τ).loc Cert.MergeIdeal.main_arg5)
      ∧ m' ((c.tc : Thread Cert.MergeReferenceIdeal.nD Cert.MergeReferenceIdeal.τ).loc Cert.MergeReferenceIdeal.main_arg6) = m ((c.tc : Thread Cert.MergeIdeal.nD Cert.MergeIdeal.τ).loc Cert.MergeIdeal.main_arg6)
      ∧ m' ((c.tc : Thread Cert.MergeReferenceIdeal.nD Cert.MergeReferenceIdeal.τ).loc Cert.MergeReferenceIdeal.main_arg7) = m ((c.tc : Thread Cert.MergeIdeal.nD Cert.MergeIdeal.τ).loc Cert.MergeIdeal.main_arg7)
      ∧ m' ((c.tc : Thread Cert.MergeReferenceIdeal.nD Cert.MergeReferenceIdeal.τ).loc Cert.MergeReferenceIdeal.main_arg8) = m ((c.tc : Thread Cert.MergeIdeal.nD Cert.MergeIdeal.τ).loc Cert.MergeIdeal.main_arg8)
      ∧ m' ((c.tc : Thread Cert.MergeReferenceIdeal.nD Cert.MergeReferenceIdeal.τ).loc Cert.MergeReferenceIdeal.main_arg9) = m ((c.tc : Thread Cert.MergeIdeal.nD Cert.MergeIdeal.τ).loc Cert.MergeIdeal.main_arg9)
      ∧ m' ((c.tc : Thread Cert.MergeReferenceIdeal.nD Cert.MergeReferenceIdeal.τ).loc Cert.MergeReferenceIdeal.main_arg10) = m ((c.tc : Thread Cert.MergeIdeal.nD Cert.MergeIdeal.τ).loc Cert.MergeIdeal.main_arg10)
      ∧ m' ((c.tc : Thread Cert.MergeReferenceIdeal.nD Cert.MergeReferenceIdeal.τ).loc Cert.MergeReferenceIdeal.main_arg11) = m ((c.tc : Thread Cert.MergeIdeal.nD Cert.MergeIdeal.τ).loc Cert.MergeIdeal.main_arg11)
      ∧ m' ((c.tc : Thread Cert.MergeReferenceIdeal.nD Cert.MergeReferenceIdeal.τ).loc Cert.MergeReferenceIdeal.main_arg12) = m ((c.tc : Thread Cert.MergeIdeal.nD Cert.MergeIdeal.τ).loc Cert.MergeIdeal.main_arg12)) →
    ∃ (v0 : (c : Dev Cert.MergeIdeal.nD) → Buf (Elt Ideal) ((c.tc : Thread Cert.MergeIdeal.nD Cert.MergeIdeal.τ).loc Cert.MergeIdeal.main_v0)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5)
          ∧ r.2.mem ((c.tc : Thread Cert.MergeIdeal.nD Cert.MergeIdeal.τ).loc Cert.MergeIdeal.main_arg6) = m ((c.tc : Thread Cert.MergeIdeal.nD Cert.MergeIdeal.τ).loc Cert.MergeIdeal.main_arg6)
          ∧ r.2.mem ((c.tc : Thread Cert.MergeIdeal.nD Cert.MergeIdeal.τ).loc Cert.MergeIdeal.main_arg7) = m ((c.tc : Thread Cert.MergeIdeal.nD Cert.MergeIdeal.τ).loc Cert.MergeIdeal.main_arg7)
          ∧ r.2.mem ((c.tc : Thread Cert.MergeIdeal.nD Cert.MergeIdeal.τ).loc Cert.MergeIdeal.main_arg8) = m ((c.tc : Thread Cert.MergeIdeal.nD Cert.MergeIdeal.τ).loc Cert.MergeIdeal.main_arg8)
          ∧ r.2.mem ((c.tc : Thread Cert.MergeIdeal.nD Cert.MergeIdeal.τ).loc Cert.MergeIdeal.main_arg9) = m ((c.tc : Thread Cert.MergeIdeal.nD Cert.MergeIdeal.τ).loc Cert.MergeIdeal.main_arg9)
          ∧ r.2.mem ((c.tc : Thread Cert.MergeIdeal.nD Cert.MergeIdeal.τ).loc Cert.MergeIdeal.main_arg10) = m ((c.tc : Thread Cert.MergeIdeal.nD Cert.MergeIdeal.τ).loc Cert.MergeIdeal.main_arg10)
          ∧ r.2.mem ((c.tc : Thread Cert.MergeIdeal.nD Cert.MergeIdeal.τ).loc Cert.MergeIdeal.main_arg11) = m ((c.tc : Thread Cert.MergeIdeal.nD Cert.MergeIdeal.τ).loc Cert.MergeIdeal.main_arg11)
          ∧ r.2.mem ((c.tc : Thread Cert.MergeIdeal.nD Cert.MergeIdeal.τ).loc Cert.MergeIdeal.main_arg12) = m ((c.tc : Thread Cert.MergeIdeal.nD Cert.MergeIdeal.τ).loc Cert.MergeIdeal.main_arg12))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v62) = v0 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3)
          ∧ r.2.mem ((c.tc : Thread Cert.MergeReferenceIdeal.nD Cert.MergeReferenceIdeal.τ).loc Cert.MergeReferenceIdeal.main_arg4) = m' ((c.tc : Thread Cert.MergeReferenceIdeal.nD Cert.MergeReferenceIdeal.τ).loc Cert.MergeReferenceIdeal.main_arg4)
          ∧ r.2.mem ((c.tc : Thread Cert.MergeReferenceIdeal.nD Cert.MergeReferenceIdeal.τ).loc Cert.MergeReferenceIdeal.main_arg5) = m' ((c.tc : Thread Cert.MergeReferenceIdeal.nD Cert.MergeReferenceIdeal.τ).loc Cert.MergeReferenceIdeal.main_arg5)
          ∧ r.2.mem ((c.tc : Thread Cert.MergeReferenceIdeal.nD Cert.MergeReferenceIdeal.τ).loc Cert.MergeReferenceIdeal.main_arg6) = m' ((c.tc : Thread Cert.MergeReferenceIdeal.nD Cert.MergeReferenceIdeal.τ).loc Cert.MergeReferenceIdeal.main_arg6)
          ∧ r.2.mem ((c.tc : Thread Cert.MergeReferenceIdeal.nD Cert.MergeReferenceIdeal.τ).loc Cert.MergeReferenceIdeal.main_arg7) = m' ((c.tc : Thread Cert.MergeReferenceIdeal.nD Cert.MergeReferenceIdeal.τ).loc Cert.MergeReferenceIdeal.main_arg7)
          ∧ r.2.mem ((c.tc : Thread Cert.MergeReferenceIdeal.nD Cert.MergeReferenceIdeal.τ).loc Cert.MergeReferenceIdeal.main_arg8) = m' ((c.tc : Thread Cert.MergeReferenceIdeal.nD Cert.MergeReferenceIdeal.τ).loc Cert.MergeReferenceIdeal.main_arg8)
          ∧ r.2.mem ((c.tc : Thread Cert.MergeReferenceIdeal.nD Cert.MergeReferenceIdeal.τ).loc Cert.MergeReferenceIdeal.main_arg9) = m' ((c.tc : Thread Cert.MergeReferenceIdeal.nD Cert.MergeReferenceIdeal.τ).loc Cert.MergeReferenceIdeal.main_arg9)
          ∧ r.2.mem ((c.tc : Thread Cert.MergeReferenceIdeal.nD Cert.MergeReferenceIdeal.τ).loc Cert.MergeReferenceIdeal.main_arg10) = m' ((c.tc : Thread Cert.MergeReferenceIdeal.nD Cert.MergeReferenceIdeal.τ).loc Cert.MergeReferenceIdeal.main_arg10)
          ∧ r.2.mem ((c.tc : Thread Cert.MergeReferenceIdeal.nD Cert.MergeReferenceIdeal.τ).loc Cert.MergeReferenceIdeal.main_arg11) = m' ((c.tc : Thread Cert.MergeReferenceIdeal.nD Cert.MergeReferenceIdeal.τ).loc Cert.MergeReferenceIdeal.main_arg11)
          ∧ r.2.mem ((c.tc : Thread Cert.MergeReferenceIdeal.nD Cert.MergeReferenceIdeal.τ).loc Cert.MergeReferenceIdeal.main_arg12) = m' ((c.tc : Thread Cert.MergeReferenceIdeal.nD Cert.MergeReferenceIdeal.τ).loc Cert.MergeReferenceIdeal.main_arg12))

def preserves_Dense_DenseIdeal : Prop :=
  True

def algebraic_DenseIdeal_DenseReferenceIdeal [hDenseIdeal : Cert.DenseIdeal.Facts] [hDenseReferenceIdeal : Cert.DenseReferenceIdeal.Facts] : Prop :=
  ∀ (m : (ℓ : Loc Cert.DenseIdeal.nD Cert.DenseIdeal.τ Cert.DenseIdeal.sig) → Buf (Elt Ideal) ℓ) (g : Dev Cert.DenseIdeal.nD → PrngReg)
    (m' : (ℓ : Loc Cert.DenseReferenceIdeal.nD Cert.DenseReferenceIdeal.τ Cert.DenseReferenceIdeal.sig) → Buf (Elt Ideal) ℓ) (g' : Dev Cert.DenseReferenceIdeal.nD → PrngReg), Pre_DenseIdeal m →
    (∀ c : Dev Cert.DenseIdeal.nD,
      m' ((c.tc : Thread Cert.DenseReferenceIdeal.nD Cert.DenseReferenceIdeal.τ).loc Cert.DenseReferenceIdeal.main_arg0) = m ((c.tc : Thread Cert.DenseIdeal.nD Cert.DenseIdeal.τ).loc Cert.DenseIdeal.main_arg0)
      ∧ m' ((c.tc : Thread Cert.DenseReferenceIdeal.nD Cert.DenseReferenceIdeal.τ).loc Cert.DenseReferenceIdeal.main_arg1) = m ((c.tc : Thread Cert.DenseIdeal.nD Cert.DenseIdeal.τ).loc Cert.DenseIdeal.main_arg1)
      ∧ m' ((c.tc : Thread Cert.DenseReferenceIdeal.nD Cert.DenseReferenceIdeal.τ).loc Cert.DenseReferenceIdeal.main_arg2) = m ((c.tc : Thread Cert.DenseIdeal.nD Cert.DenseIdeal.τ).loc Cert.DenseIdeal.main_arg2)
      ∧ m' ((c.tc : Thread Cert.DenseReferenceIdeal.nD Cert.DenseReferenceIdeal.τ).loc Cert.DenseReferenceIdeal.main_arg3) = m ((c.tc : Thread Cert.DenseIdeal.nD Cert.DenseIdeal.τ).loc Cert.DenseIdeal.main_arg3)
      ∧ m' ((c.tc : Thread Cert.DenseReferenceIdeal.nD Cert.DenseReferenceIdeal.τ).loc Cert.DenseReferenceIdeal.main_arg4) = m ((c.tc : Thread Cert.DenseIdeal.nD Cert.DenseIdeal.τ).loc Cert.DenseIdeal.main_arg4)
      ∧ m' ((c.tc : Thread Cert.DenseReferenceIdeal.nD Cert.DenseReferenceIdeal.τ).loc Cert.DenseReferenceIdeal.main_arg5) = m ((c.tc : Thread Cert.DenseIdeal.nD Cert.DenseIdeal.τ).loc Cert.DenseIdeal.main_arg5)
      ∧ m' ((c.tc : Thread Cert.DenseReferenceIdeal.nD Cert.DenseReferenceIdeal.τ).loc Cert.DenseReferenceIdeal.main_arg6) = m ((c.tc : Thread Cert.DenseIdeal.nD Cert.DenseIdeal.τ).loc Cert.DenseIdeal.main_arg6)
      ∧ m' ((c.tc : Thread Cert.DenseReferenceIdeal.nD Cert.DenseReferenceIdeal.τ).loc Cert.DenseReferenceIdeal.main_arg7) = m ((c.tc : Thread Cert.DenseIdeal.nD Cert.DenseIdeal.τ).loc Cert.DenseIdeal.main_arg7)
      ∧ m' ((c.tc : Thread Cert.DenseReferenceIdeal.nD Cert.DenseReferenceIdeal.τ).loc Cert.DenseReferenceIdeal.main_arg8) = m ((c.tc : Thread Cert.DenseIdeal.nD Cert.DenseIdeal.τ).loc Cert.DenseIdeal.main_arg8)) →
    ∃ (v0 : (c : Dev Cert.DenseIdeal.nD) → Buf (Elt Ideal) ((c.tc : Thread Cert.DenseIdeal.nD Cert.DenseIdeal.τ).loc Cert.DenseIdeal.main_v0)),
      θ_run (Cert.DenseIdeal.defs (F := Ideal)) (onTc (τ := Cert.DenseIdeal.τ) (Cert.DenseIdeal.main (F := Ideal))) ⟨m, fun _ => 0, g⟩ (fun r => ∀ c : Dev Cert.DenseIdeal.nD,
          r.2.mem ((c.tc : Thread Cert.DenseIdeal.nD Cert.DenseIdeal.τ).loc Cert.DenseIdeal.main_v0) = v0 c
          ∧ r.2.mem ((c.tc : Thread Cert.DenseIdeal.nD Cert.DenseIdeal.τ).loc Cert.DenseIdeal.main_arg0) = m ((c.tc : Thread Cert.DenseIdeal.nD Cert.DenseIdeal.τ).loc Cert.DenseIdeal.main_arg0)
          ∧ r.2.mem ((c.tc : Thread Cert.DenseIdeal.nD Cert.DenseIdeal.τ).loc Cert.DenseIdeal.main_arg1) = m ((c.tc : Thread Cert.DenseIdeal.nD Cert.DenseIdeal.τ).loc Cert.DenseIdeal.main_arg1)
          ∧ r.2.mem ((c.tc : Thread Cert.DenseIdeal.nD Cert.DenseIdeal.τ).loc Cert.DenseIdeal.main_arg2) = m ((c.tc : Thread Cert.DenseIdeal.nD Cert.DenseIdeal.τ).loc Cert.DenseIdeal.main_arg2)
          ∧ r.2.mem ((c.tc : Thread Cert.DenseIdeal.nD Cert.DenseIdeal.τ).loc Cert.DenseIdeal.main_arg3) = m ((c.tc : Thread Cert.DenseIdeal.nD Cert.DenseIdeal.τ).loc Cert.DenseIdeal.main_arg3)
          ∧ r.2.mem ((c.tc : Thread Cert.DenseIdeal.nD Cert.DenseIdeal.τ).loc Cert.DenseIdeal.main_arg4) = m ((c.tc : Thread Cert.DenseIdeal.nD Cert.DenseIdeal.τ).loc Cert.DenseIdeal.main_arg4)
          ∧ r.2.mem ((c.tc : Thread Cert.DenseIdeal.nD Cert.DenseIdeal.τ).loc Cert.DenseIdeal.main_arg5) = m ((c.tc : Thread Cert.DenseIdeal.nD Cert.DenseIdeal.τ).loc Cert.DenseIdeal.main_arg5)
          ∧ r.2.mem ((c.tc : Thread Cert.DenseIdeal.nD Cert.DenseIdeal.τ).loc Cert.DenseIdeal.main_arg6) = m ((c.tc : Thread Cert.DenseIdeal.nD Cert.DenseIdeal.τ).loc Cert.DenseIdeal.main_arg6)
          ∧ r.2.mem ((c.tc : Thread Cert.DenseIdeal.nD Cert.DenseIdeal.τ).loc Cert.DenseIdeal.main_arg7) = m ((c.tc : Thread Cert.DenseIdeal.nD Cert.DenseIdeal.τ).loc Cert.DenseIdeal.main_arg7)
          ∧ r.2.mem ((c.tc : Thread Cert.DenseIdeal.nD Cert.DenseIdeal.τ).loc Cert.DenseIdeal.main_arg8) = m ((c.tc : Thread Cert.DenseIdeal.nD Cert.DenseIdeal.τ).loc Cert.DenseIdeal.main_arg8))
      ∧ θ_run (Cert.DenseReferenceIdeal.defs (F := Ideal)) (onTc (τ := Cert.DenseReferenceIdeal.τ) (Cert.DenseReferenceIdeal.main (F := Ideal))) ⟨m', fun _ => 0, g'⟩ (fun r => ∀ c : Dev Cert.DenseReferenceIdeal.nD,
          r.2.mem ((c.tc : Thread Cert.DenseReferenceIdeal.nD Cert.DenseReferenceIdeal.τ).loc Cert.DenseReferenceIdeal.main_v44) = v0 c
          ∧ r.2.mem ((c.tc : Thread Cert.DenseReferenceIdeal.nD Cert.DenseReferenceIdeal.τ).loc Cert.DenseReferenceIdeal.main_arg0) = m' ((c.tc : Thread Cert.DenseReferenceIdeal.nD Cert.DenseReferenceIdeal.τ).loc Cert.DenseReferenceIdeal.main_arg0)
          ∧ r.2.mem ((c.tc : Thread Cert.DenseReferenceIdeal.nD Cert.DenseReferenceIdeal.τ).loc Cert.DenseReferenceIdeal.main_arg1) = m' ((c.tc : Thread Cert.DenseReferenceIdeal.nD Cert.DenseReferenceIdeal.τ).loc Cert.DenseReferenceIdeal.main_arg1)
          ∧ r.2.mem ((c.tc : Thread Cert.DenseReferenceIdeal.nD Cert.DenseReferenceIdeal.τ).loc Cert.DenseReferenceIdeal.main_arg2) = m' ((c.tc : Thread Cert.DenseReferenceIdeal.nD Cert.DenseReferenceIdeal.τ).loc Cert.DenseReferenceIdeal.main_arg2)
          ∧ r.2.mem ((c.tc : Thread Cert.DenseReferenceIdeal.nD Cert.DenseReferenceIdeal.τ).loc Cert.DenseReferenceIdeal.main_arg3) = m' ((c.tc : Thread Cert.DenseReferenceIdeal.nD Cert.DenseReferenceIdeal.τ).loc Cert.DenseReferenceIdeal.main_arg3)
          ∧ r.2.mem ((c.tc : Thread Cert.DenseReferenceIdeal.nD Cert.DenseReferenceIdeal.τ).loc Cert.DenseReferenceIdeal.main_arg4) = m' ((c.tc : Thread Cert.DenseReferenceIdeal.nD Cert.DenseReferenceIdeal.τ).loc Cert.DenseReferenceIdeal.main_arg4)
          ∧ r.2.mem ((c.tc : Thread Cert.DenseReferenceIdeal.nD Cert.DenseReferenceIdeal.τ).loc Cert.DenseReferenceIdeal.main_arg5) = m' ((c.tc : Thread Cert.DenseReferenceIdeal.nD Cert.DenseReferenceIdeal.τ).loc Cert.DenseReferenceIdeal.main_arg5)
          ∧ r.2.mem ((c.tc : Thread Cert.DenseReferenceIdeal.nD Cert.DenseReferenceIdeal.τ).loc Cert.DenseReferenceIdeal.main_arg6) = m' ((c.tc : Thread Cert.DenseReferenceIdeal.nD Cert.DenseReferenceIdeal.τ).loc Cert.DenseReferenceIdeal.main_arg6)
          ∧ r.2.mem ((c.tc : Thread Cert.DenseReferenceIdeal.nD Cert.DenseReferenceIdeal.τ).loc Cert.DenseReferenceIdeal.main_arg7) = m' ((c.tc : Thread Cert.DenseReferenceIdeal.nD Cert.DenseReferenceIdeal.τ).loc Cert.DenseReferenceIdeal.main_arg7)
          ∧ r.2.mem ((c.tc : Thread Cert.DenseReferenceIdeal.nD Cert.DenseReferenceIdeal.τ).loc Cert.DenseReferenceIdeal.main_arg8) = m' ((c.tc : Thread Cert.DenseReferenceIdeal.nD Cert.DenseReferenceIdeal.τ).loc Cert.DenseReferenceIdeal.main_arg8))

def preserves_Project_ProjectIdeal : Prop :=
  True

def algebraic_ProjectIdeal_ProjectReferenceIdeal [hProjectIdeal : Cert.ProjectIdeal.Facts] [hProjectReferenceIdeal : Cert.ProjectReferenceIdeal.Facts] : Prop :=
  ∀ (m : (ℓ : Loc Cert.ProjectIdeal.nD Cert.ProjectIdeal.τ Cert.ProjectIdeal.sig) → Buf (Elt Ideal) ℓ) (g : Dev Cert.ProjectIdeal.nD → PrngReg)
    (m' : (ℓ : Loc Cert.ProjectReferenceIdeal.nD Cert.ProjectReferenceIdeal.τ Cert.ProjectReferenceIdeal.sig) → Buf (Elt Ideal) ℓ) (g' : Dev Cert.ProjectReferenceIdeal.nD → PrngReg), Pre_ProjectIdeal m →
    (∀ c : Dev Cert.ProjectIdeal.nD,
      m' ((c.tc : Thread Cert.ProjectReferenceIdeal.nD Cert.ProjectReferenceIdeal.τ).loc Cert.ProjectReferenceIdeal.main_arg0) = m ((c.tc : Thread Cert.ProjectIdeal.nD Cert.ProjectIdeal.τ).loc Cert.ProjectIdeal.main_arg0)
      ∧ m' ((c.tc : Thread Cert.ProjectReferenceIdeal.nD Cert.ProjectReferenceIdeal.τ).loc Cert.ProjectReferenceIdeal.main_arg1) = m ((c.tc : Thread Cert.ProjectIdeal.nD Cert.ProjectIdeal.τ).loc Cert.ProjectIdeal.main_arg1)) →
    ∃ (v0 : (c : Dev Cert.ProjectIdeal.nD) → Buf (Elt Ideal) ((c.tc : Thread Cert.ProjectIdeal.nD Cert.ProjectIdeal.τ).loc Cert.ProjectIdeal.main_v0)),
      θ_run (Cert.ProjectIdeal.defs (F := Ideal)) (onTc (τ := Cert.ProjectIdeal.τ) (Cert.ProjectIdeal.main (F := Ideal))) ⟨m, fun _ => 0, g⟩ (fun r => ∀ c : Dev Cert.ProjectIdeal.nD,
          r.2.mem ((c.tc : Thread Cert.ProjectIdeal.nD Cert.ProjectIdeal.τ).loc Cert.ProjectIdeal.main_v0) = v0 c
          ∧ r.2.mem ((c.tc : Thread Cert.ProjectIdeal.nD Cert.ProjectIdeal.τ).loc Cert.ProjectIdeal.main_arg0) = m ((c.tc : Thread Cert.ProjectIdeal.nD Cert.ProjectIdeal.τ).loc Cert.ProjectIdeal.main_arg0)
          ∧ r.2.mem ((c.tc : Thread Cert.ProjectIdeal.nD Cert.ProjectIdeal.τ).loc Cert.ProjectIdeal.main_arg1) = m ((c.tc : Thread Cert.ProjectIdeal.nD Cert.ProjectIdeal.τ).loc Cert.ProjectIdeal.main_arg1))
      ∧ θ_run (Cert.ProjectReferenceIdeal.defs (F := Ideal)) (onTc (τ := Cert.ProjectReferenceIdeal.τ) (Cert.ProjectReferenceIdeal.main (F := Ideal))) ⟨m', fun _ => 0, g'⟩ (fun r => ∀ c : Dev Cert.ProjectReferenceIdeal.nD,
          r.2.mem ((c.tc : Thread Cert.ProjectReferenceIdeal.nD Cert.ProjectReferenceIdeal.τ).loc Cert.ProjectReferenceIdeal.main_v2) = v0 c
          ∧ r.2.mem ((c.tc : Thread Cert.ProjectReferenceIdeal.nD Cert.ProjectReferenceIdeal.τ).loc Cert.ProjectReferenceIdeal.main_arg0) = m' ((c.tc : Thread Cert.ProjectReferenceIdeal.nD Cert.ProjectReferenceIdeal.τ).loc Cert.ProjectReferenceIdeal.main_arg0)
          ∧ r.2.mem ((c.tc : Thread Cert.ProjectReferenceIdeal.nD Cert.ProjectReferenceIdeal.τ).loc Cert.ProjectReferenceIdeal.main_arg1) = m' ((c.tc : Thread Cert.ProjectReferenceIdeal.nD Cert.ProjectReferenceIdeal.τ).loc Cert.ProjectReferenceIdeal.main_arg1))

def preserves_Combine_CombineIdeal : Prop :=
  True

def algebraic_CombineIdeal_CombineReferenceIdeal [hCombineIdeal : Cert.CombineIdeal.Facts] [hCombineReferenceIdeal : Cert.CombineReferenceIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineReferenceIdeal.nD Cert.CombineReferenceIdeal.τ Cert.CombineReferenceIdeal.sig) → Buf (Elt Ideal) ℓ) (g' : Dev Cert.CombineReferenceIdeal.nD → PrngReg), Pre_CombineIdeal m →
    (∀ c : Dev Cert.CombineIdeal.nD,
      m' ((c.tc : Thread Cert.CombineReferenceIdeal.nD Cert.CombineReferenceIdeal.τ).loc Cert.CombineReferenceIdeal.main_arg0) = m ((c.tc : Thread Cert.CombineIdeal.nD Cert.CombineIdeal.τ).loc Cert.CombineIdeal.main_arg0)
      ∧ m' ((c.tc : Thread Cert.CombineReferenceIdeal.nD Cert.CombineReferenceIdeal.τ).loc Cert.CombineReferenceIdeal.main_arg1) = m ((c.tc : Thread Cert.CombineIdeal.nD Cert.CombineIdeal.τ).loc Cert.CombineIdeal.main_arg1)
      ∧ m' ((c.tc : Thread Cert.CombineReferenceIdeal.nD Cert.CombineReferenceIdeal.τ).loc Cert.CombineReferenceIdeal.main_arg2) = m ((c.tc : Thread Cert.CombineIdeal.nD Cert.CombineIdeal.τ).loc Cert.CombineIdeal.main_arg2)
      ∧ m' ((c.tc : Thread Cert.CombineReferenceIdeal.nD Cert.CombineReferenceIdeal.τ).loc Cert.CombineReferenceIdeal.main_arg3) = m ((c.tc : Thread Cert.CombineIdeal.nD Cert.CombineIdeal.τ).loc Cert.CombineIdeal.main_arg3)
      ∧ m' ((c.tc : Thread Cert.CombineReferenceIdeal.nD Cert.CombineReferenceIdeal.τ).loc Cert.CombineReferenceIdeal.main_arg4) = m ((c.tc : Thread Cert.CombineIdeal.nD Cert.CombineIdeal.τ).loc Cert.CombineIdeal.main_arg4)
      ∧ m' ((c.tc : Thread Cert.CombineReferenceIdeal.nD Cert.CombineReferenceIdeal.τ).loc Cert.CombineReferenceIdeal.main_arg5) = m ((c.tc : Thread Cert.CombineIdeal.nD Cert.CombineIdeal.τ).loc Cert.CombineIdeal.main_arg5)
      ∧ m' ((c.tc : Thread Cert.CombineReferenceIdeal.nD Cert.CombineReferenceIdeal.τ).loc Cert.CombineReferenceIdeal.main_arg6) = m ((c.tc : Thread Cert.CombineIdeal.nD Cert.CombineIdeal.τ).loc Cert.CombineIdeal.main_arg6)
      ∧ m' ((c.tc : Thread Cert.CombineReferenceIdeal.nD Cert.CombineReferenceIdeal.τ).loc Cert.CombineReferenceIdeal.main_arg7) = m ((c.tc : Thread Cert.CombineIdeal.nD Cert.CombineIdeal.τ).loc Cert.CombineIdeal.main_arg7)
      ∧ m' ((c.tc : Thread Cert.CombineReferenceIdeal.nD Cert.CombineReferenceIdeal.τ).loc Cert.CombineReferenceIdeal.main_arg8) = m ((c.tc : Thread Cert.CombineIdeal.nD Cert.CombineIdeal.τ).loc Cert.CombineIdeal.main_arg8)) →
    ∃ (v0 : (c : Dev Cert.CombineIdeal.nD) → Buf (Elt Ideal) ((c.tc : Thread Cert.CombineIdeal.nD Cert.CombineIdeal.τ).loc Cert.CombineIdeal.main_v1)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v1) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7)
          ∧ r.2.mem ((c.tc : Thread Cert.CombineIdeal.nD Cert.CombineIdeal.τ).loc Cert.CombineIdeal.main_arg8) = m ((c.tc : Thread Cert.CombineIdeal.nD Cert.CombineIdeal.τ).loc Cert.CombineIdeal.main_arg8))
      ∧ θ_run (Cert.CombineReferenceIdeal.defs (F := Ideal)) (onTc (τ := Cert.CombineReferenceIdeal.τ) (Cert.CombineReferenceIdeal.main (F := Ideal))) ⟨m', fun _ => 0, g'⟩ (fun r => ∀ c : Dev Cert.CombineReferenceIdeal.nD,
          r.2.mem ((c.tc : Thread Cert.CombineReferenceIdeal.nD Cert.CombineReferenceIdeal.τ).loc Cert.CombineReferenceIdeal.main_v51) = v0 c
          ∧ r.2.mem ((c.tc : Thread Cert.CombineReferenceIdeal.nD Cert.CombineReferenceIdeal.τ).loc Cert.CombineReferenceIdeal.main_arg0) = m' ((c.tc : Thread Cert.CombineReferenceIdeal.nD Cert.CombineReferenceIdeal.τ).loc Cert.CombineReferenceIdeal.main_arg0)
          ∧ r.2.mem ((c.tc : Thread Cert.CombineReferenceIdeal.nD Cert.CombineReferenceIdeal.τ).loc Cert.CombineReferenceIdeal.main_arg1) = m' ((c.tc : Thread Cert.CombineReferenceIdeal.nD Cert.CombineReferenceIdeal.τ).loc Cert.CombineReferenceIdeal.main_arg1)
          ∧ r.2.mem ((c.tc : Thread Cert.CombineReferenceIdeal.nD Cert.CombineReferenceIdeal.τ).loc Cert.CombineReferenceIdeal.main_arg2) = m' ((c.tc : Thread Cert.CombineReferenceIdeal.nD Cert.CombineReferenceIdeal.τ).loc Cert.CombineReferenceIdeal.main_arg2)
          ∧ r.2.mem ((c.tc : Thread Cert.CombineReferenceIdeal.nD Cert.CombineReferenceIdeal.τ).loc Cert.CombineReferenceIdeal.main_arg3) = m' ((c.tc : Thread Cert.CombineReferenceIdeal.nD Cert.CombineReferenceIdeal.τ).loc Cert.CombineReferenceIdeal.main_arg3)
          ∧ r.2.mem ((c.tc : Thread Cert.CombineReferenceIdeal.nD Cert.CombineReferenceIdeal.τ).loc Cert.CombineReferenceIdeal.main_arg4) = m' ((c.tc : Thread Cert.CombineReferenceIdeal.nD Cert.CombineReferenceIdeal.τ).loc Cert.CombineReferenceIdeal.main_arg4)
          ∧ r.2.mem ((c.tc : Thread Cert.CombineReferenceIdeal.nD Cert.CombineReferenceIdeal.τ).loc Cert.CombineReferenceIdeal.main_arg5) = m' ((c.tc : Thread Cert.CombineReferenceIdeal.nD Cert.CombineReferenceIdeal.τ).loc Cert.CombineReferenceIdeal.main_arg5)
          ∧ r.2.mem ((c.tc : Thread Cert.CombineReferenceIdeal.nD Cert.CombineReferenceIdeal.τ).loc Cert.CombineReferenceIdeal.main_arg6) = m' ((c.tc : Thread Cert.CombineReferenceIdeal.nD Cert.CombineReferenceIdeal.τ).loc Cert.CombineReferenceIdeal.main_arg6)
          ∧ r.2.mem ((c.tc : Thread Cert.CombineReferenceIdeal.nD Cert.CombineReferenceIdeal.τ).loc Cert.CombineReferenceIdeal.main_arg7) = m' ((c.tc : Thread Cert.CombineReferenceIdeal.nD Cert.CombineReferenceIdeal.τ).loc Cert.CombineReferenceIdeal.main_arg7)
          ∧ r.2.mem ((c.tc : Thread Cert.CombineReferenceIdeal.nD Cert.CombineReferenceIdeal.τ).loc Cert.CombineReferenceIdeal.main_arg8) = m' ((c.tc : Thread Cert.CombineReferenceIdeal.nD Cert.CombineReferenceIdeal.τ).loc Cert.CombineReferenceIdeal.main_arg8))

def preserves_Gating_GatingIdeal : Prop :=
  True

def algebraic_GatingIdeal_GatingReferenceIdeal [hGatingIdeal : Cert.GatingIdeal.Facts] [hGatingReferenceIdeal : Cert.GatingReferenceIdeal.Facts] : Prop :=
  ∀ (m : (ℓ : Loc Cert.GatingIdeal.nD Cert.GatingIdeal.τ Cert.GatingIdeal.sig) → Buf (Elt Ideal) ℓ) (g : Dev Cert.GatingIdeal.nD → PrngReg)
    (m' : (ℓ : Loc Cert.GatingReferenceIdeal.nD Cert.GatingReferenceIdeal.τ Cert.GatingReferenceIdeal.sig) → Buf (Elt Ideal) ℓ) (g' : Dev Cert.GatingReferenceIdeal.nD → PrngReg), Pre_GatingIdeal m →
    (∀ c : Dev Cert.GatingIdeal.nD,
      m' ((c.tc : Thread Cert.GatingReferenceIdeal.nD Cert.GatingReferenceIdeal.τ).loc Cert.GatingReferenceIdeal.main_arg0) = m ((c.tc : Thread Cert.GatingIdeal.nD Cert.GatingIdeal.τ).loc Cert.GatingIdeal.main_arg0)
      ∧ m' ((c.tc : Thread Cert.GatingReferenceIdeal.nD Cert.GatingReferenceIdeal.τ).loc Cert.GatingReferenceIdeal.main_arg1) = m ((c.tc : Thread Cert.GatingIdeal.nD Cert.GatingIdeal.τ).loc Cert.GatingIdeal.main_arg1)
      ∧ m' ((c.tc : Thread Cert.GatingReferenceIdeal.nD Cert.GatingReferenceIdeal.τ).loc Cert.GatingReferenceIdeal.main_arg2) = m ((c.tc : Thread Cert.GatingIdeal.nD Cert.GatingIdeal.τ).loc Cert.GatingIdeal.main_arg2)
      ∧ m' ((c.tc : Thread Cert.GatingReferenceIdeal.nD Cert.GatingReferenceIdeal.τ).loc Cert.GatingReferenceIdeal.main_arg3) = m ((c.tc : Thread Cert.GatingIdeal.nD Cert.GatingIdeal.τ).loc Cert.GatingIdeal.main_arg3)
      ∧ m' ((c.tc : Thread Cert.GatingReferenceIdeal.nD Cert.GatingReferenceIdeal.τ).loc Cert.GatingReferenceIdeal.main_arg4) = m ((c.tc : Thread Cert.GatingIdeal.nD Cert.GatingIdeal.τ).loc Cert.GatingIdeal.main_arg4)) →
    ∃ (v0 : (c : Dev Cert.GatingIdeal.nD) → Buf (Elt Ideal) ((c.tc : Thread Cert.GatingIdeal.nD Cert.GatingIdeal.τ).loc Cert.GatingIdeal.main_v3)),
      θ_run (Cert.GatingIdeal.defs (F := Ideal)) (onTc (τ := Cert.GatingIdeal.τ) (Cert.GatingIdeal.main (F := Ideal))) ⟨m, fun _ => 0, g⟩ (fun r => ∀ c : Dev Cert.GatingIdeal.nD,
          r.2.mem ((c.tc : Thread Cert.GatingIdeal.nD Cert.GatingIdeal.τ).loc Cert.GatingIdeal.main_v3) = v0 c
          ∧ r.2.mem ((c.tc : Thread Cert.GatingIdeal.nD Cert.GatingIdeal.τ).loc Cert.GatingIdeal.main_arg0) = m ((c.tc : Thread Cert.GatingIdeal.nD Cert.GatingIdeal.τ).loc Cert.GatingIdeal.main_arg0)
          ∧ r.2.mem ((c.tc : Thread Cert.GatingIdeal.nD Cert.GatingIdeal.τ).loc Cert.GatingIdeal.main_arg1) = m ((c.tc : Thread Cert.GatingIdeal.nD Cert.GatingIdeal.τ).loc Cert.GatingIdeal.main_arg1)
          ∧ r.2.mem ((c.tc : Thread Cert.GatingIdeal.nD Cert.GatingIdeal.τ).loc Cert.GatingIdeal.main_arg2) = m ((c.tc : Thread Cert.GatingIdeal.nD Cert.GatingIdeal.τ).loc Cert.GatingIdeal.main_arg2)
          ∧ r.2.mem ((c.tc : Thread Cert.GatingIdeal.nD Cert.GatingIdeal.τ).loc Cert.GatingIdeal.main_arg3) = m ((c.tc : Thread Cert.GatingIdeal.nD Cert.GatingIdeal.τ).loc Cert.GatingIdeal.main_arg3)
          ∧ r.2.mem ((c.tc : Thread Cert.GatingIdeal.nD Cert.GatingIdeal.τ).loc Cert.GatingIdeal.main_arg4) = m ((c.tc : Thread Cert.GatingIdeal.nD Cert.GatingIdeal.τ).loc Cert.GatingIdeal.main_arg4))
      ∧ θ_run (Cert.GatingReferenceIdeal.defs (F := Ideal)) (onTc (τ := Cert.GatingReferenceIdeal.τ) (Cert.GatingReferenceIdeal.main (F := Ideal))) ⟨m', fun _ => 0, g'⟩ (fun r => ∀ c : Dev Cert.GatingReferenceIdeal.nD,
          r.2.mem ((c.tc : Thread Cert.GatingReferenceIdeal.nD Cert.GatingReferenceIdeal.τ).loc Cert.GatingReferenceIdeal.main_v53) = v0 c
          ∧ r.2.mem ((c.tc : Thread Cert.GatingReferenceIdeal.nD Cert.GatingReferenceIdeal.τ).loc Cert.GatingReferenceIdeal.main_arg0) = m' ((c.tc : Thread Cert.GatingReferenceIdeal.nD Cert.GatingReferenceIdeal.τ).loc Cert.GatingReferenceIdeal.main_arg0)
          ∧ r.2.mem ((c.tc : Thread Cert.GatingReferenceIdeal.nD Cert.GatingReferenceIdeal.τ).loc Cert.GatingReferenceIdeal.main_arg1) = m' ((c.tc : Thread Cert.GatingReferenceIdeal.nD Cert.GatingReferenceIdeal.τ).loc Cert.GatingReferenceIdeal.main_arg1)
          ∧ r.2.mem ((c.tc : Thread Cert.GatingReferenceIdeal.nD Cert.GatingReferenceIdeal.τ).loc Cert.GatingReferenceIdeal.main_arg2) = m' ((c.tc : Thread Cert.GatingReferenceIdeal.nD Cert.GatingReferenceIdeal.τ).loc Cert.GatingReferenceIdeal.main_arg2)
          ∧ r.2.mem ((c.tc : Thread Cert.GatingReferenceIdeal.nD Cert.GatingReferenceIdeal.τ).loc Cert.GatingReferenceIdeal.main_arg3) = m' ((c.tc : Thread Cert.GatingReferenceIdeal.nD Cert.GatingReferenceIdeal.τ).loc Cert.GatingReferenceIdeal.main_arg3)
          ∧ r.2.mem ((c.tc : Thread Cert.GatingReferenceIdeal.nD Cert.GatingReferenceIdeal.τ).loc Cert.GatingReferenceIdeal.main_arg4) = m' ((c.tc : Thread Cert.GatingReferenceIdeal.nD Cert.GatingReferenceIdeal.τ).loc Cert.GatingReferenceIdeal.main_arg4))

def preserves_Router_RouterIdeal : Prop :=
  True

def algebraic_RouterIdeal_RouterReferenceIdeal_pre_finite_rows [hRouterIdeal : Cert.RouterIdeal.Facts] [hRouterReferenceIdeal : Cert.RouterReferenceIdeal.Facts] [hPre_finite_rows : Cert.Pre_finite_rows.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.RouterReferenceIdeal.nD Cert.RouterReferenceIdeal.τ Cert.RouterReferenceIdeal.sig) → Buf (Elt Ideal) ℓ) (g' : Dev Cert.RouterReferenceIdeal.nD → PrngReg), Pre_RouterIdeal_finite_rows m →
    (∀ c : Dev Cert.RouterIdeal.nD,
      m' ((c.tc : Thread Cert.RouterReferenceIdeal.nD Cert.RouterReferenceIdeal.τ).loc Cert.RouterReferenceIdeal.main_arg0) = m ((c.tc : Thread Cert.RouterIdeal.nD Cert.RouterIdeal.τ).loc Cert.RouterIdeal.main_arg0)
      ∧ m' ((c.tc : Thread Cert.RouterReferenceIdeal.nD Cert.RouterReferenceIdeal.τ).loc Cert.RouterReferenceIdeal.main_arg1) = m ((c.tc : Thread Cert.RouterIdeal.nD Cert.RouterIdeal.τ).loc Cert.RouterIdeal.main_arg1)) →
    ∃ (v0 : (c : Dev Cert.RouterIdeal.nD) → Buf (Elt Ideal) ((c.tc : Thread Cert.RouterIdeal.nD Cert.RouterIdeal.τ).loc Cert.RouterIdeal.main_v1_0)) (v1 : (c : Dev Cert.RouterIdeal.nD) → Buf (Elt Ideal) ((c.tc : Thread Cert.RouterIdeal.nD Cert.RouterIdeal.τ).loc Cert.RouterIdeal.main_v1_1)) (v2 : (c : Dev Cert.RouterIdeal.nD) → Buf (Elt Ideal) ((c.tc : Thread Cert.RouterIdeal.nD Cert.RouterIdeal.τ).loc Cert.RouterIdeal.main_v1_2)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v1_0) = v0 c
          ∧ r.2.mem ((c.tc : Thread Cert.RouterIdeal.nD Cert.RouterIdeal.τ).loc Cert.RouterIdeal.main_v1_1) = v1 c
          ∧ r.2.mem ((c.tc : Thread Cert.RouterIdeal.nD Cert.RouterIdeal.τ).loc Cert.RouterIdeal.main_v1_2) = v2 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1))
      ∧ θ_run (Cert.RouterReferenceIdeal.defs (F := Ideal)) (onTc (τ := Cert.RouterReferenceIdeal.τ) (Cert.RouterReferenceIdeal.main (F := Ideal))) ⟨m', fun _ => 0, g'⟩ (fun r => ∀ c : Dev Cert.RouterReferenceIdeal.nD,
          r.2.mem ((c.tc : Thread Cert.RouterReferenceIdeal.nD Cert.RouterReferenceIdeal.τ).loc Cert.RouterReferenceIdeal.main_v25) = v0 c
          ∧ r.2.mem ((c.tc : Thread Cert.RouterReferenceIdeal.nD Cert.RouterReferenceIdeal.τ).loc Cert.RouterReferenceIdeal.main_v24) = v1 c
          ∧ r.2.mem ((c.tc : Thread Cert.RouterReferenceIdeal.nD Cert.RouterReferenceIdeal.τ).loc Cert.RouterReferenceIdeal.main_v26) = v2 c
          ∧ r.2.mem ((c.tc : Thread Cert.RouterReferenceIdeal.nD Cert.RouterReferenceIdeal.τ).loc Cert.RouterReferenceIdeal.main_arg0) = m' ((c.tc : Thread Cert.RouterReferenceIdeal.nD Cert.RouterReferenceIdeal.τ).loc Cert.RouterReferenceIdeal.main_arg0)
          ∧ r.2.mem ((c.tc : Thread Cert.RouterReferenceIdeal.nD Cert.RouterReferenceIdeal.τ).loc Cert.RouterReferenceIdeal.main_arg1) = m' ((c.tc : Thread Cert.RouterReferenceIdeal.nD Cert.RouterReferenceIdeal.τ).loc Cert.RouterReferenceIdeal.main_arg1))

def Claim : Prop :=
  ∃ (hKernel : Cert.Kernel.Facts) (hKernelIdeal : Cert.KernelIdeal.Facts) (hReferenceIdeal : Cert.ReferenceIdeal.Facts) (hExperts : Cert.Experts.Facts) (hExpertsIdeal : Cert.ExpertsIdeal.Facts) (hExpertsReferenceIdeal : Cert.ExpertsReferenceIdeal.Facts) (hMerge : Cert.Merge.Facts) (hMergeIdeal : Cert.MergeIdeal.Facts) (hMergeReferenceIdeal : Cert.MergeReferenceIdeal.Facts) (hDense : Cert.Dense.Facts) (hDenseIdeal : Cert.DenseIdeal.Facts) (hDenseReferenceIdeal : Cert.DenseReferenceIdeal.Facts) (hProject : Cert.Project.Facts) (hProjectIdeal : Cert.ProjectIdeal.Facts) (hProjectReferenceIdeal : Cert.ProjectReferenceIdeal.Facts) (hCombine : Cert.Combine.Facts) (hCombineIdeal : Cert.CombineIdeal.Facts) (hCombineReferenceIdeal : Cert.CombineReferenceIdeal.Facts) (hGating : Cert.Gating.Facts) (hGatingIdeal : Cert.GatingIdeal.Facts) (hGatingReferenceIdeal : Cert.GatingReferenceIdeal.Facts) (hRouter : Cert.Router.Facts) (hRouterIdeal : Cert.RouterIdeal.Facts) (hRouterReferenceIdeal : Cert.RouterReferenceIdeal.Facts) (hPre_finite_args : Cert.Pre_finite_args.Facts) (hPre_experts_in_range : Cert.Pre_experts_in_range.Facts) (hPre_finite_rows : Cert.Pre_finite_rows.Facts),
    quiescent_Kernel (hKernel := hKernel)
    ∧ quiescent_KernelIdeal (hKernelIdeal := hKernelIdeal)
    ∧ quiescent_KernelIdeal_pre_finite_args (hKernelIdeal := hKernelIdeal) (hPre_finite_args := hPre_finite_args)
    ∧ quiescent_ReferenceIdeal (hReferenceIdeal := hReferenceIdeal)
    ∧ quiescent_ReferenceIdeal_pre_finite_args (hReferenceIdeal := hReferenceIdeal) (hPre_finite_args := hPre_finite_args)
    ∧ quiescent_Experts (hExperts := hExperts) (hPre_experts_in_range := hPre_experts_in_range)
    ∧ quiescent_ExpertsIdeal (hExpertsIdeal := hExpertsIdeal) (hPre_experts_in_range := hPre_experts_in_range)
    ∧ quiescent_ExpertsReferenceIdeal (hExpertsReferenceIdeal := hExpertsReferenceIdeal)
    ∧ quiescent_ExpertsReferenceIdeal_pre_experts_in_range (hExpertsReferenceIdeal := hExpertsReferenceIdeal) (hPre_experts_in_range := hPre_experts_in_range)
    ∧ quiescent_Merge (hMerge := hMerge)
    ∧ quiescent_MergeIdeal (hMergeIdeal := hMergeIdeal)
    ∧ quiescent_MergeReferenceIdeal (hMergeReferenceIdeal := hMergeReferenceIdeal)
    ∧ quiescent_Dense (hDense := hDense)
    ∧ quiescent_DenseIdeal (hDenseIdeal := hDenseIdeal)
    ∧ quiescent_DenseReferenceIdeal (hDenseReferenceIdeal := hDenseReferenceIdeal)
    ∧ quiescent_Project (hProject := hProject)
    ∧ quiescent_ProjectIdeal (hProjectIdeal := hProjectIdeal)
    ∧ quiescent_ProjectReferenceIdeal (hProjectReferenceIdeal := hProjectReferenceIdeal)
    ∧ quiescent_Combine (hCombine := hCombine)
    ∧ quiescent_CombineIdeal (hCombineIdeal := hCombineIdeal)
    ∧ quiescent_CombineReferenceIdeal (hCombineReferenceIdeal := hCombineReferenceIdeal)
    ∧ quiescent_Gating (hGating := hGating)
    ∧ quiescent_GatingIdeal (hGatingIdeal := hGatingIdeal)
    ∧ quiescent_GatingReferenceIdeal (hGatingReferenceIdeal := hGatingReferenceIdeal)
    ∧ quiescent_Router (hRouter := hRouter)
    ∧ quiescent_RouterIdeal (hRouterIdeal := hRouterIdeal)
    ∧ quiescent_RouterIdeal_pre_finite_rows (hRouterIdeal := hRouterIdeal) (hPre_finite_rows := hPre_finite_rows)
    ∧ quiescent_RouterReferenceIdeal (hRouterReferenceIdeal := hRouterReferenceIdeal)
    ∧ quiescent_RouterReferenceIdeal_pre_finite_rows (hRouterReferenceIdeal := hRouterReferenceIdeal) (hPre_finite_rows := hPre_finite_rows)
    ∧ preserves_Kernel_KernelIdeal
    ∧ algebraic_KernelIdeal_ReferenceIdeal_pre_finite_args (hKernelIdeal := hKernelIdeal) (hReferenceIdeal := hReferenceIdeal) (hPre_finite_args := hPre_finite_args)
    ∧ preserves_Experts_ExpertsIdeal
    ∧ algebraic_ExpertsIdeal_ExpertsReferenceIdeal (hExpertsIdeal := hExpertsIdeal) (hExpertsReferenceIdeal := hExpertsReferenceIdeal) (hPre_experts_in_range := hPre_experts_in_range)
    ∧ preserves_Merge_MergeIdeal
    ∧ algebraic_MergeIdeal_MergeReferenceIdeal (hMergeIdeal := hMergeIdeal) (hMergeReferenceIdeal := hMergeReferenceIdeal)
    ∧ preserves_Dense_DenseIdeal
    ∧ algebraic_DenseIdeal_DenseReferenceIdeal (hDenseIdeal := hDenseIdeal) (hDenseReferenceIdeal := hDenseReferenceIdeal)
    ∧ preserves_Project_ProjectIdeal
    ∧ algebraic_ProjectIdeal_ProjectReferenceIdeal (hProjectIdeal := hProjectIdeal) (hProjectReferenceIdeal := hProjectReferenceIdeal)
    ∧ preserves_Combine_CombineIdeal
    ∧ algebraic_CombineIdeal_CombineReferenceIdeal (hCombineIdeal := hCombineIdeal) (hCombineReferenceIdeal := hCombineReferenceIdeal)
    ∧ preserves_Gating_GatingIdeal
    ∧ algebraic_GatingIdeal_GatingReferenceIdeal (hGatingIdeal := hGatingIdeal) (hGatingReferenceIdeal := hGatingReferenceIdeal)
    ∧ preserves_Router_RouterIdeal
    ∧ algebraic_RouterIdeal_RouterReferenceIdeal_pre_finite_rows (hRouterIdeal := hRouterIdeal) (hRouterReferenceIdeal := hRouterReferenceIdeal) (hPre_finite_rows := hPre_finite_rows)
-- ==== Pre_experts_in_range.lean ====
abbrev S273 : Shape := ⟨1, ![273]⟩
abbrev S139264x8x128 : Shape := ⟨3, ![139264, 8, 128]⟩
abbrev S8x1024x3584 : Shape := ⟨3, ![8, 1024, 3584]⟩
abbrev S8x3584x1024 : Shape := ⟨3, ![8, 3584, 1024]⟩
abbrev S136 : Shape := ⟨1, ![136]⟩
abbrev S_ : Shape := ⟨0, ![]⟩

class Facts : Prop where
  slices_S273_S136_0 : S273.Slices ![0] S136
  bcast_S_S136 : S_.BroadcastsInDim S136 (![] : Fin 0 → Fin S136.rank)
  reducesTo_S136_S_d0 : S136.ReducesTo [0] S_
  h_S_ : 0 < S_.numel

variable [Facts]

def fn {F : FTy → Type} [FloatOps F] (main_arg0 : IVec S273 32) (main_arg1 : FVec F S139264x8x128 .f32) (main_arg2 : FVec F S8x1024x3584 .bf16) (main_arg3 : FVec F S8x1024x3584 .bf16) (main_arg4 : FVec F S8x3584x1024 .bf16) : IVec S_ 1 :=
  let main_v0 : IVec S136 32 := (extractStridedSlice S136 ![0] · slices_S273_S136_0) main_arg0
  let main_c : IVec S_ 32 := constantI S_ 32 0#32
  let main_v1 : IVec S136 32 := broadcastInDim S136 ![] bcast_S_S136 main_c
  let main_v2 : IVec S136 1 := cmpi .sge main_v0 main_v1
  let main_v3 : IVec S136 32 := (extractStridedSlice S136 ![0] · slices_S273_S136_0) main_arg0
  let main_c_0 : IVec S_ 32 := constantI S_ 32 8#32
  let main_v4 : IVec S136 32 := broadcastInDim S136 ![] bcast_S_S136 main_c_0
  let main_v5 : IVec S136 1 := cmpi .slt main_v3 main_v4
  let main_v6 : IVec S136 1 := andi main_v2 main_v5
  let main_c_1 : IVec S_ 1 := constantI S_ 1 1#1
  let main_v7 : IVec S_ 1 := (fun x v => Host.reduce IntOp.andi x v reducesTo_S136_S_d0 h_S_) main_v6 main_c_1
  main_v7
-- ==== Pre_finite_args.lean ====
abbrev S65536x3584 : Shape := ⟨2, ![65536, 3584]⟩
abbrev S4x320 : Shape := ⟨2, ![4, 320]⟩
abbrev S65536x512 : Shape := ⟨2, ![65536, 512]⟩
abbrev S_ : Shape := ⟨0, ![]⟩

class Facts : Prop where
  slices_S65536x3584_S65536x512_0_1280 : S65536x3584.Slices ![0, 1280] S65536x512
  bitsLt_bf16_f32 : FTy.bits .bf16 < FTy.bits .f32
  bcast_S_S65536x512 : S_.BroadcastsInDim S65536x512 (![] : Fin 0 → Fin S65536x512.rank)
  bcast_S_S4x320 : S_.BroadcastsInDim S4x320 (![] : Fin 0 → Fin S4x320.rank)

variable [Facts]

def fn {F : FTy → Type} [FloatOps F] (main_arg0 : FVec F S65536x3584 .bf16) (main_arg1 : FVec F S4x320 .f32) : IVec S65536x512 1 × IVec S4x320 1 :=
  let main_v0 : FVec F S65536x512 .bf16 := (extractStridedSlice S65536x512 ![0, 1280] · slices_S65536x3584_S65536x512_0_1280) main_arg0
  let main_v1 : FVec F S65536x512 .f32 := (extf .f32 · bitsLt_bf16_f32) main_v0
  let main_v2 : FVec F S65536x512 .f32 := Host.absf main_v1
  let main_cst : FVec F S_ .f32 := constant S_ .f32 0x7F800000#32
  let main_v3 : FVec F S65536x512 .f32 := broadcastInDim S65536x512 ![] bcast_S_S65536x512 main_cst
  let main_v4 : IVec S65536x512 1 := cmpf .olt main_v2 main_v3
  let main_v5 : FVec F S4x320 .f32 := Host.absf main_arg1
  let main_cst_0 : FVec F S_ .f32 := constant S_ .f32 0x7F800000#32
  let main_v6 : FVec F S4x320 .f32 := broadcastInDim S4x320 ![] bcast_S_S4x320 main_cst_0
  let main_v7 : IVec S4x320 1 := cmpf .olt main_v5 main_v6
  (main_v4, main_v7)
-- ==== Pre_finite_rows.lean ====
abbrev S65536x1024 : Shape := ⟨2, ![65536, 1024]⟩
abbrev S1024x8 : Shape := ⟨2, ![1024, 8]⟩
abbrev S_ : Shape := ⟨0, ![]⟩

class Facts : Prop where
  bcast_S_S65536x1024 : S_.BroadcastsInDim S65536x1024 (![] : Fin 0 → Fin S65536x1024.rank)
  bcast_S_S1024x8 : S_.BroadcastsInDim S1024x8 (![] : Fin 0 → Fin S1024x8.rank)

variable [Facts]

def fn {F : FTy → Type} [FloatOps F] (main_arg0 : FVec F S65536x1024 .f32) (main_arg1 : FVec F S1024x8 .f32) : IVec S65536x1024 1 × IVec S1024x8 1 :=
  let main_v0 : FVec F S65536x1024 .f32 := Host.absf main_arg0
  let main_cst : FVec F S_ .f32 := constant S_ .f32 0x7F800000#32
  let main_v1 : FVec F S65536x1024 .f32 := broadcastInDim S65536x1024 ![] bcast_S_S65536x1024 main_cst
  let main_v2 : IVec S65536x1024 1 := cmpf .olt main_v0 main_v1
  let main_v3 : FVec F S1024x8 .f32 := Host.absf main_arg1
  let main_cst_0 : FVec F S_ .f32 := constant S_ .f32 0x7F800000#32
  let main_v4 : FVec F S1024x8 .f32 := broadcastInDim S1024x8 ![] bcast_S_S1024x8 main_cst_0
  let main_v5 : IVec S1024x8 1 := cmpf .olt main_v3 main_v4
  (main_v2, main_v5)
-- ==== Kernel.lean ====
abbrev S65536x3584 : Shape := ⟨2, ![65536, 3584]⟩
abbrev S4x320 : Shape := ⟨2, ![4, 320]⟩
abbrev S1024 : Shape := ⟨1, ![1024]⟩
abbrev S_ : Shape := ⟨0, ![]⟩
abbrev S1024x1 : Shape := ⟨2, ![1024, 1]⟩
abbrev S4x1024 : Shape := ⟨2, ![4, 1024]⟩
abbrev S1x4x1x1024 : Shape := ⟨4, ![1, 4, 1, 1024]⟩
abbrev S1x4x256x1024 : Shape := ⟨4, ![1, 4, 256, 1024]⟩
abbrev S4x262144 : Shape := ⟨2, ![4, 262144]⟩
abbrev S4x261888 : Shape := ⟨2, ![4, 261888]⟩
abbrev S4x256x1023 : Shape := ⟨3, ![4, 256, 1023]⟩
abbrev S4x256x768 : Shape := ⟨3, ![4, 256, 768]⟩
abbrev S256 : Shape := ⟨1, ![256]⟩
abbrev S256x1 : Shape := ⟨2, ![256, 1]⟩
abbrev S768 : Shape := ⟨1, ![768]⟩
abbrev S1x768 : Shape := ⟨2, ![1, 768]⟩
abbrev S256x768 : Shape := ⟨2, ![256, 768]⟩
abbrev S1x256x768 : Shape := ⟨3, ![1, 256, 768]⟩
abbrev S65536x256 : Shape := ⟨2, ![65536, 256]⟩
abbrev S256x256 : Shape := ⟨2, ![256, 256]⟩
abbrev S1x256 : Shape := ⟨2, ![1, 256]⟩
abbrev S768x256 : Shape := ⟨2, ![768, 256]⟩

abbrev nBuf : Space → Nat
  | .hbm => 99
  | .vmem => 17
  | .smem => 0
  | _ => 0

abbrev bufTy : (tb : Table) → Fin (tcTables nBuf tb) → BufTy
  | .hbm, ⟨0, _⟩ => ⟨S65536x3584, .bf16⟩
  | .hbm, ⟨1, _⟩ => ⟨S4x320, .f32⟩
  | .hbm, ⟨2, _⟩ => ⟨S1024, .i32⟩
  | .hbm, ⟨3, _⟩ => ⟨S_, .i32⟩
  | .hbm, ⟨4, _⟩ => ⟨S1024, .i32⟩
  | .hbm, ⟨5, _⟩ => ⟨S1024, .i1⟩
  | .hbm, ⟨6, _⟩ => ⟨S_, .i32⟩
  | .hbm, ⟨7, _⟩ => ⟨S1024, .i32⟩
  | .hbm, ⟨8, _⟩ => ⟨S1024, .i32⟩
  | .hbm, ⟨9, _⟩ => ⟨S_, .i32⟩
  | .hbm, ⟨10, _⟩ => ⟨S1024, .i32⟩
  | .hbm, ⟨11, _⟩ => ⟨S1024, .i32⟩
  | .hbm, ⟨12, _⟩ => ⟨S1024, .i32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S1024, .i32⟩
  | .hbm, ⟨17, _⟩ => ⟨S1024, .i32⟩
  | .hbm, ⟨18, _⟩ => ⟨S_, .i32⟩
  | .hbm, ⟨19, _⟩ => ⟨S1024, .i32⟩
  | .hbm, ⟨20, _⟩ => ⟨S1024, .i32⟩
  | .hbm, ⟨21, _⟩ => ⟨S_, .i32⟩
  | .hbm, ⟨22, _⟩ => ⟨S1024, .i32⟩
  | .hbm, ⟨23, _⟩ => ⟨S1024, .i32⟩
  | .hbm, ⟨24, _⟩ => ⟨S_, .i32⟩
  | .hbm, ⟨25, _⟩ => ⟨S1024, .i32⟩
  | .hbm, ⟨26, _⟩ => ⟨S1024, .i1⟩
  | .hbm, ⟨27, _⟩ => ⟨S_, .i32⟩
  | .hbm, ⟨28, _⟩ => ⟨S1024, .i32⟩
  | .hbm, ⟨29, _⟩ => ⟨S1024, .i32⟩
  | .hbm, ⟨30, _⟩ => ⟨S1024, .i32⟩
  | .hbm, ⟨31, _⟩ => ⟨S1024x1, .i32⟩
  | .hbm, ⟨32, _⟩ => ⟨S4x1024, .f32⟩
  | .hbm, ⟨33, _⟩ => ⟨S1x4x1x1024, .f32⟩
  | .hbm, ⟨34, _⟩ => ⟨S1x4x256x1024, .f32⟩
  | .hbm, ⟨35, _⟩ => ⟨S4x262144, .f32⟩
  | .hbm, ⟨36, _⟩ => ⟨S4x261888, .f32⟩
  | .hbm, ⟨37, _⟩ => ⟨S4x256x1023, .f32⟩
  | .hbm, ⟨38, _⟩ => ⟨S4x256x768, .f32⟩
  | .hbm, ⟨39, _⟩ => ⟨S256, .i32⟩
  | .hbm, ⟨40, _⟩ => ⟨S256x1, .i32⟩
  | .hbm, ⟨41, _⟩ => ⟨S_, .i32⟩
  | .hbm, ⟨42, _⟩ => ⟨S256x1, .i32⟩
  | .hbm, ⟨43, _⟩ => ⟨S256x1, .i32⟩
  | .hbm, ⟨44, _⟩ => ⟨S_, .i32⟩
  | .hbm, ⟨45, _⟩ => ⟨S_, .i32⟩
  | .hbm, ⟨46, _⟩ => ⟨S256x1, .i32⟩
  | .hbm, ⟨47, _⟩ => ⟨S256x1, .i32⟩
  | .hbm, ⟨48, _⟩ => ⟨S256x1, .i32⟩
  | .hbm, ⟨49, _⟩ => ⟨S_, .i32⟩
  | .hbm, ⟨50, _⟩ => ⟨S256x1, .i32⟩
  | .hbm, ⟨51, _⟩ => ⟨S256x1, .i1⟩
  | .hbm, ⟨52, _⟩ => ⟨S256x1, .i32⟩
  | .hbm, ⟨53, _⟩ => ⟨S256x1, .i32⟩
  | .hbm, ⟨54, _⟩ => ⟨S_, .i32⟩
  | .hbm, ⟨55, _⟩ => ⟨S256x1, .i32⟩
  | .hbm, ⟨56, _⟩ => ⟨S256x1, .i1⟩
  | .hbm, ⟨57, _⟩ => ⟨S256x1, .i1⟩
  | .hbm, ⟨58, _⟩ => ⟨S_, .i32⟩
  | .hbm, ⟨59, _⟩ => ⟨S256x1, .i32⟩
  | .hbm, ⟨60, _⟩ => ⟨S256x1, .i32⟩
  | .hbm, ⟨61, _⟩ => ⟨S256x1, .i32⟩
  | .hbm, ⟨62, _⟩ => ⟨S768, .i32⟩
  | .hbm, ⟨63, _⟩ => ⟨S1x768, .i32⟩
  | .hbm, ⟨64, _⟩ => ⟨S_, .i32⟩
  | .hbm, ⟨65, _⟩ => ⟨S_, .i32⟩
  | .hbm, ⟨66, _⟩ => ⟨S1x768, .i32⟩
  | .hbm, ⟨67, _⟩ => ⟨S1x768, .i32⟩
  | .hbm, ⟨68, _⟩ => ⟨S1x768, .i32⟩
  | .hbm, ⟨69, _⟩ => ⟨S_, .i32⟩
  | .hbm, ⟨70, _⟩ => ⟨S1x768, .i32⟩
  | .hbm, ⟨71, _⟩ => ⟨S1x768, .i1⟩
  | .hbm, ⟨72, _⟩ => ⟨S1x768, .i32⟩
  | .hbm, ⟨73, _⟩ => ⟨S1x768, .i32⟩
  | .hbm, ⟨74, _⟩ => ⟨S_, .i32⟩
  | .hbm, ⟨75, _⟩ => ⟨S1x768, .i32⟩
  | .hbm, ⟨76, _⟩ => ⟨S1x768, .i1⟩
  | .hbm, ⟨77, _⟩ => ⟨S1x768, .i1⟩
  | .hbm, ⟨78, _⟩ => ⟨S_, .i32⟩
  | .hbm, ⟨79, _⟩ => ⟨S1x768, .i32⟩
  | .hbm, ⟨80, _⟩ => ⟨S1x768, .i32⟩
  | .hbm, ⟨81, _⟩ => ⟨S1x768, .i32⟩
  | .hbm, ⟨82, _⟩ => ⟨S256x768, .i32⟩
  | .hbm, ⟨83, _⟩ => ⟨S256x768, .i32⟩
  | .hbm, ⟨84, _⟩ => ⟨S256x768, .i1⟩
  | .hbm, ⟨85, _⟩ => ⟨S_, .i32⟩
  | .hbm, ⟨86, _⟩ => ⟨S256x1, .i32⟩
  | .hbm, ⟨87, _⟩ => ⟨S256x1, .i32⟩
  | .hbm, ⟨88, _⟩ => ⟨S256x768, .i32⟩
  | .hbm, ⟨89, _⟩ => ⟨S256x768, .i32⟩
  | .hbm, ⟨90, _⟩ => ⟨S256x768, .i1⟩
  | .hbm, ⟨91, _⟩ => ⟨S256x768, .i1⟩
  | .hbm, ⟨92, _⟩ => ⟨S1x256x768, .i1⟩
  | .hbm, ⟨93, _⟩ => ⟨S_, .f32⟩
  | .hbm, ⟨94, _⟩ => ⟨S_, .f32⟩
  | .hbm, ⟨95, _⟩ => ⟨S4x256x768, .i1⟩
  | .hbm, ⟨96, _⟩ => ⟨S4x256x768, .f32⟩
  | .hbm, ⟨97, _⟩ => ⟨S4x256x768, .f32⟩
  | .hbm, ⟨98, _⟩ => ⟨S65536x256, .bf16⟩
  | .local _ .vmem, ⟨0, _⟩ => ⟨S256x256, .bf16⟩
  | .local _ .vmem, ⟨1, _⟩ => ⟨S256x256, .bf16⟩
  | .local _ .vmem, ⟨2, _⟩ => ⟨S256x256, .bf16⟩
  | .local _ .vmem, ⟨3, _⟩ => ⟨S256x256, .bf16⟩
  | .local _ .vmem, ⟨4, _⟩ => ⟨S256x256, .bf16⟩
  | .local _ .vmem, ⟨5, _⟩ => ⟨S256x256, .bf16⟩
  | .local _ .vmem, ⟨6, _⟩ => ⟨S256x256, .bf16⟩
  | .local _ .vmem, ⟨7, _⟩ => ⟨S256x256, .bf16⟩
  | .local _ .vmem, ⟨8, _⟩ => ⟨S256x256, .bf16⟩
  | .local _ .vmem, ⟨9, _⟩ => ⟨S256x256, .bf16⟩
  | .local _ .vmem, ⟨10, _⟩ => ⟨S256x256, .bf16⟩
  | .local _ .vmem, ⟨11, _⟩ => ⟨S256x256, .bf16⟩
  | .local _ .vmem, ⟨12, _⟩ => ⟨S256x256, .bf16⟩
  | .local _ .vmem, ⟨13, _⟩ => ⟨S256x256, .bf16⟩
  | .local _ .vmem, ⟨14, _⟩ => ⟨S4x256x768, .f32⟩
  | .local _ .vmem, ⟨15, _⟩ => ⟨S256x256, .bf16⟩
  | .local _ .vmem, ⟨16, _⟩ => ⟨S256x256, .bf16⟩
  | _, _ => ⟨S65536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_c_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c_2 : Ref sig .tc := ⟨.hbm, 13, rfl⟩
abbrev main_c_3 : Ref sig .tc := ⟨.hbm, 14, rfl⟩
abbrev main_call1_v0 : Ref sig .tc := ⟨.hbm, 15, rfl⟩
abbrev main_call1_v1 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_v8 : Ref sig .tc := ⟨.hbm, 20, rfl⟩
abbrev main_c_4 : Ref sig .tc := ⟨.hbm, 21, rfl⟩
abbrev main_v9 : Ref sig .tc := ⟨.hbm, 22, rfl⟩
abbrev main_v10 : Ref sig .tc := ⟨.hbm, 23, rfl⟩
abbrev main_c_5 : Ref sig .tc := ⟨.hbm, 24, rfl⟩
abbrev main_v11 : Ref sig .tc := ⟨.hbm, 25, rfl⟩
abbrev main_v12 : Ref sig .tc := ⟨.hbm, 26, rfl⟩
abbrev main_c_6 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_c_7 : Ref sig .tc := ⟨.hbm, 41, rfl⟩
abbrev main_v26 : Ref sig .tc := ⟨.hbm, 42, rfl⟩
abbrev main_v27 : Ref sig .tc := ⟨.hbm, 43, rfl⟩
abbrev main_c_8 : Ref sig .tc := ⟨.hbm, 44, rfl⟩
abbrev main_call2_v0 : Ref sig .tc := ⟨.hbm, 45, rfl⟩
abbrev main_call2_v1 : Ref sig .tc := ⟨.hbm, 46, rfl⟩
abbrev main_call2_v2 : Ref sig .tc := ⟨.hbm, 47, rfl⟩
abbrev main_call2_v3 : Ref sig .tc := ⟨.hbm, 48, rfl⟩
abbrev main_call2_v4 : Ref sig .tc := ⟨.hbm, 49, rfl⟩
abbrev main_call2_v5 : Ref sig .tc := ⟨.hbm, 50, rfl⟩
abbrev main_call2_v6 : Ref sig .tc := ⟨.hbm, 51, rfl⟩
abbrev main_call2_v7 : Ref sig .tc := ⟨.hbm, 52, rfl⟩
abbrev main_call2_v8 : Ref sig .tc := ⟨.hbm, 53, rfl⟩
abbrev main_call2_c : Ref sig .tc := ⟨.hbm, 54, rfl⟩
abbrev main_call2_v9 : Ref sig .tc := ⟨.hbm, 55, rfl⟩
abbrev main_call2_v10 : Ref sig .tc := ⟨.hbm, 56, rfl⟩
abbrev main_call2_v11 : Ref sig .tc := ⟨.hbm, 57, rfl⟩
abbrev main_call2_c_0 : Ref sig .tc := ⟨.hbm, 58, rfl⟩
abbrev main_call2_v12 : Ref sig .tc := ⟨.hbm, 59, rfl⟩
abbrev main_call2_v13 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_c_9 : Ref sig .tc := ⟨.hbm, 64, rfl⟩
abbrev main_call3_v0 : Ref sig .tc := ⟨.hbm, 65, rfl⟩
abbrev main_call3_v1 : Ref sig .tc := ⟨.hbm, 66, rfl⟩
abbrev main_call3_v2 : Ref sig .tc := ⟨.hbm, 67, rfl⟩
abbrev main_call3_v3 : Ref sig .tc := ⟨.hbm, 68, rfl⟩
abbrev main_call3_v4 : Ref sig .tc := ⟨.hbm, 69, rfl⟩
abbrev main_call3_v5 : Ref sig .tc := ⟨.hbm, 70, rfl⟩
abbrev main_call3_v6 : Ref sig .tc := ⟨.hbm, 71, rfl⟩
abbrev main_call3_v7 : Ref sig .tc := ⟨.hbm, 72, rfl⟩
abbrev main_call3_v8 : Ref sig .tc := ⟨.hbm, 73, rfl⟩
abbrev main_call3_c : Ref sig .tc := ⟨.hbm, 74, rfl⟩
abbrev main_call3_v9 : Ref sig .tc := ⟨.hbm, 75, rfl⟩
abbrev main_call3_v10 : Ref sig .tc := ⟨.hbm, 76, rfl⟩
abbrev main_call3_v11 : Ref sig .tc := ⟨.hbm, 77, rfl⟩
abbrev main_call3_c_0 : Ref sig .tc := ⟨.hbm, 78, rfl⟩
abbrev main_call3_v12 : Ref sig .tc := ⟨.hbm, 79, rfl⟩
abbrev main_call3_v13 : Ref sig .tc := ⟨.hbm, 80, rfl⟩
abbrev main_v31 : Ref sig .tc := ⟨.hbm, 81, rfl⟩
abbrev main_v32 : Ref sig .tc := ⟨.hbm, 82, rfl⟩
abbrev main_v33 : Ref sig .tc := ⟨.hbm, 83, rfl⟩
abbrev main_v34 : Ref sig .tc := ⟨.hbm, 84, rfl⟩
abbrev main_c_10 : Ref sig .tc := ⟨.hbm, 85, rfl⟩
abbrev main_v35 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_v41 : Ref sig .tc := ⟨.hbm, 92, rfl⟩
abbrev main_cst : Ref sig .tc := ⟨.hbm, 93, rfl⟩
abbrev main_call4_v0 : Ref sig .tc := ⟨.hbm, 94, rfl⟩
abbrev main_call4_v1 : Ref sig .tc := ⟨.hbm, 95, rfl⟩
abbrev main_call4_v2 : Ref sig .tc := ⟨.hbm, 96, rfl⟩
abbrev main_v42 : Ref sig .tc := ⟨.hbm, 97, rfl⟩
abbrev main_v43 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![256], ![false]⟩

def cc0_transform_0 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.minsi v9 c0_i32_3
  let v11 : BitVec 32 := Scalar.subi arg0 v10
  let c5_i32 : BitVec 32 := 5#32
  let c0_i32_4 : BitVec 32 := 0#32
  ![v11.toNat, c5_i32.toNat]

def cc0_transform_1 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.minsi v9 c2_i32
  let v11 : BitVec 32 := Scalar.subi arg0 v10
  let c6_i32 : BitVec 32 := 6#32
  let c0_i32_3 : BitVec 32 := 0#32
  ![v11.toNat, c6_i32.toNat]

def cc0_transform_2 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.minsi v9 c1_i32_3
  let v11 : BitVec 32 := Scalar.subi arg0 v10
  let c6_i32 : BitVec 32 := 6#32
  let c0_i32_4 : BitVec 32 := 0#32
  ![v11.toNat, c6_i32.toNat]

def cc0_transform_3 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.minsi v9 c0_i32_3
  let v11 : BitVec 32 := Scalar.subi arg0 v10
  let c6_i32 : BitVec 32 := 6#32
  let c0_i32_4 : BitVec 32 := 0#32
  ![v11.toNat, c6_i32.toNat]

def cc0_transform_4 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c2_i32 : BitVec 32 := 2#32
  let v10 : BitVec 32 := Scalar.minsi v9 c2_i32
  let v11 : BitVec 32 := Scalar.subi arg0 v10
  let c7_i32 : BitVec 32 := 7#32
  let c0_i32_3 : BitVec 32 := 0#32
  ![v11.toNat, c7_i32.toNat]

def cc0_transform_5 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c1_i32_3 : BitVec 32 := 1#32
  let v10 : BitVec 32 := Scalar.minsi v9 c1_i32_3
  let v11 : BitVec 32 := Scalar.subi arg0 v10
  let c7_i32 : BitVec 32 := 7#32
  let c0_i32_4 : BitVec 32 := 0#32
  ![v11.toNat, c7_i32.toNat]

def cc0_transform_6 (i : grid0.Coords) : Fin 2 → Nat :=
  let arg0 : BitVec 32 := BitVec.ofNat 32 (i 0).val
  let c32_i32 : BitVec 32 := 32#32
  let c0_i32 : BitVec 32 := 0#32
  let v0 : BitVec 1 := Scalar.cmpi .eq c32_i32 c0_i32
  let c1_i32 : BitVec 32 := 1#32
  let v1 : BitVec 32 := Scalar.select v0 c1_i32 c32_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let v10 : BitVec 32 := Scalar.minsi v9 c0_i32_3
  let v11 : BitVec 32 := Scalar.subi arg0 v10
  let c7_i32 : BitVec 32 := 7#32
  let c0_i32_4 : BitVec 32 := 0#32
  ![v11.toNat, c7_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S4x256x768 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S65536x3584 : Shape := ⟨2, ![65536, 3584]⟩
abbrev S4x320 : Shape := ⟨2, ![4, 320]⟩
abbrev S65536x768 : Shape := ⟨2, ![65536, 768]⟩
abbrev S8x128x64x3x4x64 : Shape := ⟨6, ![8, 128, 64, 3, 4, 64]⟩
abbrev S8x128x64x1x4x64 : Shape := ⟨6, ![8, 128, 64, 1, 4, 64]⟩
abbrev S8x128x64x4x64 : Shape := ⟨5, ![8, 128, 64, 4, 64]⟩
abbrev S_ : Shape := ⟨0, ![]⟩
abbrev S8x136x64x4x64 : Shape := ⟨5, ![8, 136, 64, 4, 64]⟩
abbrev S128 : Shape := ⟨1, ![128]⟩
abbrev S128x1 : Shape := ⟨2, ![128, 1]⟩
abbrev S9 : Shape := ⟨1, ![9]⟩
abbrev S1x9 : Shape := ⟨2, ![1, 9]⟩
abbrev S128x9 : Shape := ⟨2, ![128, 9]⟩
abbrev S128x9x1 : Shape := ⟨3, ![128, 9, 1]⟩
abbrev S8x128x9x64x4x64 : Shape := ⟨6, ![8, 128, 9, 64, 4, 64]⟩
abbrev S8x128x576x4x64 : Shape := ⟨5, ![8, 128, 576, 4, 64]⟩
abbrev S8x128x4x64x576 : Shape := ⟨5, ![8, 128, 4, 64, 576]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S4x64x576 : Shape := ⟨3, ![4, 64, 576]⟩
abbrev S128x576 : Shape := ⟨2, ![128, 576]⟩
abbrev S1x128x1x1x576 : Shape := ⟨5, ![1, 128, 1, 1, 576]⟩
abbrev S1x1x4x64x576 : Shape := ⟨5, ![1, 1, 4, 64, 576]⟩
abbrev S8x128x4x64 : Shape := ⟨4, ![8, 128, 4, 64]⟩
abbrev S8x128x4x64x1 : Shape := ⟨5, ![8, 128, 4, 64, 1]⟩
abbrev S8x128x4x64x64 : Shape := ⟨5, ![8, 128, 4, 64, 64]⟩
abbrev S65536x256 : Shape := ⟨2, ![65536, 256]⟩

abbrev nBuf : Space → Nat
  | .hbm => 118
  | .vmem => 0
  | .smem => 0
  | _ => 0

abbrev bufTy : (tb : Table) → Fin (tcTables nBuf tb) → BufTy
  | .hbm, ⟨0, _⟩ => ⟨S65536x3584, .bf16⟩
  | .hbm, ⟨1, _⟩ => ⟨S4x320, .f32⟩
  | .hbm, ⟨2, _⟩ => ⟨S65536x768, .bf16⟩
  | .hbm, ⟨3, _⟩ => ⟨S65536x768, .f32⟩
  | .hbm, ⟨4, _⟩ => ⟨S8x128x64x3x4x64, .f32⟩
  | .hbm, ⟨5, _⟩ => ⟨S8x128x64x1x4x64, .f32⟩
  | .hbm, ⟨6, _⟩ => ⟨S8x128x64x4x64, .f32⟩
  | .hbm, ⟨7, _⟩ => ⟨S8x128x64x1x4x64, .f32⟩
  | .hbm, ⟨8, _⟩ => ⟨S8x128x64x4x64, .f32⟩
  | .hbm, ⟨9, _⟩ => ⟨S8x128x64x1x4x64, .f32⟩
  | .hbm, ⟨10, _⟩ => ⟨S8x128x64x4x64, .f32⟩
  | .hbm, ⟨11, _⟩ => ⟨S_, .i32⟩
  | .hbm, ⟨12, _⟩ => ⟨S_, .f32⟩
  | .hbm, ⟨13, _⟩ => ⟨S8x136x64x4x64, .f32⟩
  | .hbm, ⟨14, _⟩ => ⟨S_, .i32⟩
  | .hbm, ⟨15, _⟩ => ⟨S_, .f32⟩
  | .hbm, ⟨16, _⟩ => ⟨S8x136x64x4x64, .f32⟩
  | .hbm, ⟨17, _⟩ => ⟨S128, .i32⟩
  | .hbm, ⟨18, _⟩ => ⟨S128x1, .i32⟩
  | .hbm, ⟨19, _⟩ => ⟨S9, .i32⟩
  | .hbm, ⟨20, _⟩ => ⟨S1x9, .i32⟩
  | .hbm, ⟨21, _⟩ => ⟨S128x9, .i32⟩
  | .hbm, ⟨22, _⟩ => ⟨S128x9, .i32⟩
  | .hbm, ⟨23, _⟩ => ⟨S128x9, .i32⟩
  | .hbm, ⟨24, _⟩ => ⟨S_, .i32⟩
  | .hbm, ⟨25, _⟩ => ⟨S128x9, .i32⟩
  | .hbm, ⟨26, _⟩ => ⟨S128x9, .i1⟩
  | .hbm, ⟨27, _⟩ => ⟨S_, .i32⟩
  | .hbm, ⟨28, _⟩ => ⟨S128x9, .i32⟩
  | .hbm, ⟨29, _⟩ => ⟨S128x9, .i32⟩
  | .hbm, ⟨30, _⟩ => ⟨S128x9, .i32⟩
  | .hbm, ⟨31, _⟩ => ⟨S128x9x1, .i32⟩
  | .hbm, ⟨32, _⟩ => ⟨S8x128x9x64x4x64, .f32⟩
  | .hbm, ⟨33, _⟩ => ⟨S8x128x576x4x64, .f32⟩
  | .hbm, ⟨34, _⟩ => ⟨S_, .i32⟩
  | .hbm, ⟨35, _⟩ => ⟨S128x9, .i32⟩
  | .hbm, ⟨36, _⟩ => ⟨S128x9, .i1⟩
  | .hbm, ⟨37, _⟩ => ⟨S_, .i32⟩
  | .hbm, ⟨38, _⟩ => ⟨S128x9, .i32⟩
  | .hbm, ⟨39, _⟩ => ⟨S128x9, .i32⟩
  | .hbm, ⟨40, _⟩ => ⟨S128x9, .i32⟩
  | .hbm, ⟨41, _⟩ => ⟨S128x9x1, .i32⟩
  | .hbm, ⟨42, _⟩ => ⟨S8x128x9x64x4x64, .f32⟩
  | .hbm, ⟨43, _⟩ => ⟨S8x128x576x4x64, .f32⟩
  | .hbm, ⟨44, _⟩ => ⟨S8x128x4x64x576, .f32⟩
  | .hbm, ⟨45, _⟩ => ⟨S64, .i32⟩
  | .hbm, ⟨46, _⟩ => ⟨S64x1, .i32⟩
  | .hbm, ⟨47, _⟩ => ⟨S576, .i32⟩
  | .hbm, ⟨48, _⟩ => ⟨S1x576, .i32⟩
  | .hbm, ⟨49, _⟩ => ⟨S_, .i32⟩
  | .hbm, ⟨50, _⟩ => ⟨S64x1, .i32⟩
  | .hbm, ⟨51, _⟩ => ⟨S64x1, .i32⟩
  | .hbm, ⟨52, _⟩ => ⟨S64x576, .i32⟩
  | .hbm, ⟨53, _⟩ => ⟨S64x576, .i32⟩
  | .hbm, ⟨54, _⟩ => ⟨S64x576, .i32⟩
  | .hbm, ⟨55, _⟩ => ⟨S_, .i32⟩
  | .hbm, ⟨56, _⟩ => ⟨S_, .i32⟩
  | .hbm, ⟨57, _⟩ => ⟨S_, .i32⟩
  | .hbm, ⟨58, _⟩ => ⟨S64x576, .i32⟩
  | .hbm, ⟨59, _⟩ => ⟨S64x576, .i32⟩
  | .hbm, ⟨60, _⟩ => ⟨S_, .i32⟩
  | .hbm, ⟨61, _⟩ => ⟨S64x576, .i32⟩
  | .hbm, ⟨62, _⟩ => ⟨S64x576, .i32⟩
  | .hbm, ⟨63, _⟩ => ⟨S_, .i32⟩
  | .hbm, ⟨64, _⟩ => ⟨S64x576, .i32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i1⟩
  | .hbm, ⟨69, _⟩ => ⟨S_, .i32⟩
  | .hbm, ⟨70, _⟩ => ⟨S64x576, .i32⟩
  | .hbm, ⟨71, _⟩ => ⟨S64x576, .i32⟩
  | .hbm, ⟨72, _⟩ => ⟨S64x576, .i32⟩
  | .hbm, ⟨73, _⟩ => ⟨S64x576x1, .i32⟩
  | .hbm, ⟨74, _⟩ => ⟨S4x64x576, .f32⟩
  | .hbm, ⟨75, _⟩ => ⟨S128, .i32⟩
  | .hbm, ⟨76, _⟩ => ⟨S128x1, .i32⟩
  | .hbm, ⟨77, _⟩ => ⟨S_, .i32⟩
  | .hbm, ⟨78, _⟩ => ⟨S128x1, .i32⟩
  | .hbm, ⟨79, _⟩ => ⟨S128x1, .i32⟩
  | .hbm, ⟨80, _⟩ => ⟨S_, .i32⟩
  | .hbm, ⟨81, _⟩ => ⟨S128x1, .i32⟩
  | .hbm, ⟨82, _⟩ => ⟨S128x1, .i32⟩
  | .hbm, ⟨83, _⟩ => ⟨S576, .i32⟩
  | .hbm, ⟨84, _⟩ => ⟨S1x576, .i32⟩
  | .hbm, ⟨85, _⟩ => ⟨S128x576, .i32⟩
  | .hbm, ⟨86, _⟩ => ⟨S128x576, .i32⟩
  | .hbm, ⟨87, _⟩ => ⟨S128x576, .i32⟩
  | .hbm, ⟨88, _⟩ => ⟨S_, .i32⟩
  | .hbm, ⟨89, _⟩ => ⟨S128x576, .i32⟩
  | .hbm, ⟨90, _⟩ => ⟨S128x576, .i1⟩
  | .hbm, ⟨91, _⟩ => ⟨S1x128x1x1x576, .i1⟩
  | .hbm, ⟨92, _⟩ => ⟨S1x1x4x64x576, .f32⟩
  | .hbm, ⟨93, _⟩ => ⟨S8x128x4x64x576, .f32⟩
  | .hbm, ⟨94, _⟩ => ⟨S8x128x4x64x576, .f32⟩
  | .hbm, ⟨95, _⟩ => ⟨S_, .f32⟩
  | .hbm, ⟨96, _⟩ => ⟨S_, .f32⟩
  | .hbm, ⟨97, _⟩ => ⟨S8x128x4x64x576, .i1⟩
  | .hbm, ⟨98, _⟩ => ⟨S8x128x4x64x576, .f32⟩
  | .hbm, ⟨99, _⟩ => ⟨S8x128x4x64x576, .f32⟩
  | .hbm, ⟨100, _⟩ => ⟨S_, .f32⟩
  | .hbm, ⟨101, _⟩ => ⟨S8x128x4x64, .f32⟩
  | .hbm, ⟨102, _⟩ => ⟨S_, .f32⟩
  | .hbm, ⟨103, _⟩ => ⟨S8x128x4x64, .f32⟩
  | .hbm, ⟨104, _⟩ => ⟨S8x128x4x64, .f32⟩
  | .hbm, ⟨105, _⟩ => ⟨S8x128x4x64x1, .f32⟩
  | .hbm, ⟨106, _⟩ => ⟨S8x128x4x64x576, .f32⟩
  | .hbm, ⟨107, _⟩ => ⟨S8x128x4x64x576, .f32⟩
  | .hbm, ⟨108, _⟩ => ⟨S8x128x4x64x576, .f32⟩
  | .hbm, ⟨109, _⟩ => ⟨S_, .f32⟩
  | .hbm, ⟨110, _⟩ => ⟨S8x128x4x64, .f32⟩
  | .hbm, ⟨111, _⟩ => ⟨S8x128x4x64x1, .f32⟩
  | .hbm, ⟨112, _⟩ => ⟨S8x128x4x64x576, .f32⟩
  | .hbm, ⟨113, _⟩ => ⟨S8x128x4x64x576, .f32⟩
  | .hbm, ⟨114, _⟩ => ⟨S8x128x4x64x64, .f32⟩
  | .hbm, ⟨115, _⟩ => ⟨S8x128x64x4x64, .f32⟩
  | .hbm, ⟨116, _⟩ => ⟨S65536x256, .f32⟩
  | .hbm, ⟨117, _⟩ => ⟨S65536x256, .bf16⟩
  | _, _ => ⟨S65536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_c : Ref sig .tc := ⟨.hbm, 11, rfl⟩
abbrev main_call0_v0 : Ref sig .tc := ⟨.hbm, 12, rfl⟩
abbrev main_v9 : Ref sig .tc := ⟨.hbm, 13, rfl⟩
abbrev main_c_0 : Ref sig .tc := ⟨.hbm, 14, rfl⟩
abbrev main_call1_v0 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_c_1 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_3 : Ref sig .tc := ⟨.hbm, 34, rfl⟩
abbrev main_v26 : Ref sig .tc := ⟨.hbm, 35, rfl⟩
abbrev main_v27 : Ref sig .tc := ⟨.hbm, 36, rfl⟩
abbrev main_c_4 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_c_5 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_c_6 : Ref sig .tc := ⟨.hbm, 55, rfl⟩
abbrev main_c_7 : Ref sig .tc := ⟨.hbm, 56, rfl⟩
abbrev main_call2_v0 : Ref sig .tc := ⟨.hbm, 57, rfl⟩
abbrev main_call2_v1 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_v44 : Ref sig .tc := ⟨.hbm, 62, rfl⟩
abbrev main_c_8 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_c_11 : Ref sig .tc := ⟨.hbm, 77, rfl⟩
abbrev main_v56 : Ref sig .tc := ⟨.hbm, 78, rfl⟩
abbrev main_v57 : Ref sig .tc := ⟨.hbm, 79, rfl⟩
abbrev main_c_12 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_c_13 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_cst : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v71 : Ref sig .tc := ⟨.hbm, 99, rfl⟩
abbrev main_cst_14 : Ref sig .tc := ⟨.hbm, 100, rfl⟩
abbrev main_v72 : Ref sig .tc := ⟨.hbm, 101, rfl⟩
abbrev main_cst_15 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_cst_16 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩

abbrev nD : Nat := 1
abbrev τ : Topo := Topo.v7x

variable {F : FTy → Type} [FloatOps F]
-- ==== Experts.lean ====
abbrev S273 : Shape := ⟨1, ![273]⟩
abbrev S139264x8x128 : Shape := ⟨3, ![139264, 8, 128]⟩
abbrev S8x1024x3584 : Shape := ⟨3, ![8, 1024, 3584]⟩
abbrev S8x3584x1024 : Shape := ⟨3, ![8, 3584, 1024]⟩
abbrev S1024x8x128 : Shape := ⟨3, ![1024, 8, 128]⟩
abbrev S1x1024x1792 : Shape := ⟨3, ![1, 1024, 1792]⟩
abbrev S1 : Shape := ⟨1, ![1]⟩
abbrev S1x1792x1024 : Shape := ⟨3, ![1, 1792, 1024]⟩
abbrev S1024x1024 : Shape := ⟨2, ![1024, 1024]⟩
abbrev S1024x1 : Shape := ⟨2, ![1024, 1]⟩
abbrev S1024x1792 : Shape := ⟨2, ![1024, 1792]⟩
abbrev S1792x1024 : Shape := ⟨2, ![1792, 1024]⟩

abbrev nBuf : Space → Nat
  | .hbm => 5
  | .vmem => 12
  | .smem => 1
  | _ => 0

abbrev bufTy : (tb : Table) → Fin (tcTables nBuf tb) → BufTy
  | .hbm, ⟨0, _⟩ => ⟨S139264x8x128, .f32⟩
  | .hbm, ⟨1, _⟩ => ⟨S8x1024x3584, .bf16⟩
  | .hbm, ⟨2, _⟩ => ⟨S8x1024x3584, .bf16⟩
  | .hbm, ⟨3, _⟩ => ⟨S8x3584x1024, .bf16⟩
  | .hbm, ⟨4, _⟩ => ⟨S139264x8x128, .f32⟩
  | .local _ .vmem, ⟨0, _⟩ => ⟨S1024x8x128, .f32⟩
  | .local _ .vmem, ⟨1, _⟩ => ⟨S1024x8x128, .f32⟩
  | .local _ .vmem, ⟨2, _⟩ => ⟨S1x1024x1792, .bf16⟩
  | .local _ .vmem, ⟨3, _⟩ => ⟨S1x1024x1792, .bf16⟩
  | .local _ .vmem, ⟨4, _⟩ => ⟨S1x1024x1792, .bf16⟩
  | .local _ .vmem, ⟨5, _⟩ => ⟨S1x1024x1792, .bf16⟩
  | .local _ .vmem, ⟨6, _⟩ => ⟨S1x1792x1024, .bf16⟩
  | .local _ .vmem, ⟨7, _⟩ => ⟨S1x1792x1024, .bf16⟩
  | .local _ .vmem, ⟨8, _⟩ => ⟨S1024x8x128, .f32⟩
  | .local _ .vmem, ⟨9, _⟩ => ⟨S1024x8x128, .f32⟩
  | .local _ .vmem, ⟨10, _⟩ => ⟨S1024x1024, .f32⟩
  | .local _ .vmem, ⟨11, _⟩ => ⟨S1024x1024, .bf16⟩
  | .local _ .smem, ⟨0, _⟩ => ⟨S273, .i32⟩
  | _, _ => ⟨S139264x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![136, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off2 (i : grid0.Coords) : Fin 1 → Nat :=
  let c137_i32 : BitVec 32 := 137#32
  let arg0 : BitVec 32 := BitVec.ofNat 32 (i 0).val
  let v15 : BitVec 32 := Scalar.addi c137_i32 arg0
  let v16 : Index := Scalar.indexCast v15
  ![v16.toNat]
def k0_cond3 (i : grid0.Coords) : BitVec 1 :=
  let arg1 : BitVec 32 := BitVec.ofNat 32 (i 1).val
  let c1_i32 : BitVec 32 := 1#32
  let v7 : BitVec 1 := Scalar.cmpi .eq arg1 c1_i32
  let v8 : BitVec 32 := Scalar.extui v7
  let c0_i32_2 : BitVec 32 := 0#32
  let v9 : BitVec 1 := Scalar.cmpi .ne v8 c0_i32_2
  v9

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (k0_off1_inb : ∀ i : grid0.Coords, ∀ a, (k0_off1 i) a + S1.size a ≤ S273.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S273) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S273.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S273) ![v0.toNat] S1.size (k0_off1_inb i)) numel1_S1
  let c0_i32 : BitVec 32 := 0#32
  let c0_i32_0 : BitVec 32 := 0#32
  ![v1.toNat, c0_i32.toNat, arg1.toNat]

def cc0_transform_3 (k0_off1_inb : ∀ i : grid0.Coords, ∀ a, (k0_off1 i) a + S1.size a ≤ S273.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S273) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1792 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1792 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1792x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ExpertsReferenceIdeal.lean ====
abbrev S273 : Shape := ⟨1, ![273]⟩
abbrev S139264x8x128 : Shape := ⟨3, ![139264, 8, 128]⟩
abbrev S8x1024x3584 : Shape := ⟨3, ![8, 1024, 3584]⟩
abbrev S8x3584x1024 : Shape := ⟨3, ![8, 3584, 1024]⟩
abbrev S139264x1024 : Shape := ⟨2, ![139264, 1024]⟩
abbrev S136 : Shape := ⟨1, ![136]⟩
abbrev S136x1 : Shape := ⟨2, ![136, 1]⟩
abbrev S1 : Shape := ⟨1, ![1]⟩
abbrev S_ : Shape := ⟨0, ![]⟩
abbrev S1024 : Shape := ⟨1, ![1024]⟩
abbrev S1x1024 : Shape := ⟨2, ![1, 1024]⟩
abbrev S136x1024 : Shape := ⟨2, ![136, 1024]⟩
abbrev S139264x1 : Shape := ⟨2, ![139264, 1]⟩
abbrev S1x1024x3584 : Shape := ⟨3, ![1, 1024, 3584]⟩
abbrev S1024x3584 : Shape := ⟨2, ![1024, 3584]⟩
abbrev S1x3584x1024 : Shape := ⟨3, ![1, 3584, 1024]⟩
abbrev S3584x1024 : Shape := ⟨2, ![3584, 1024]⟩
abbrev S139264x3584 : Shape := ⟨2, ![139264, 3584]⟩

abbrev nBuf : Space → Nat
  | .hbm => 350
  | .vmem => 0
  | .smem => 0
  | _ => 0

abbrev hbmTy0_0 (i : Nat) : BufTy := match i % 128 with
  | 0 => ⟨S273, .i32⟩
  | 1 => ⟨S139264x8x128, .f32⟩
  | 2 => ⟨S8x1024x3584, .bf16⟩
  | 3 => ⟨S8x1024x3584, .bf16⟩
  | 4 => ⟨S8x3584x1024, .bf16⟩
  | 5 => ⟨S139264x1024, .f32⟩
  | 6 => ⟨S136, .i32⟩
  | 7 => ⟨S136x1, .i32⟩
  | 8 => ⟨S1, .i32⟩
  | 9 => ⟨S_, .i32⟩
  | 10 => ⟨S136x1, .i32⟩
  | 11 => ⟨S136x1, .i1⟩
  | 12 => ⟨S1024, .i32⟩
  | 13 => ⟨S1x1024, .i32⟩
  | 14 => ⟨S136, .i32⟩
  | 15 => ⟨S136x1, .i32⟩
  | 16 => ⟨S136x1024, .i32⟩
  | 17 => ⟨S136x1024, .i32⟩
  | 18 => ⟨S136x1024, .i1⟩
  | 19 => ⟨S_, .f32⟩
  | 20 => ⟨S139264x1024, .f32⟩
  | 21 => ⟨S136, .i32⟩
  | 22 => ⟨S_, .i32⟩
  | 23 => ⟨S136, .i32⟩
  | 24 => ⟨S136, .i1⟩
  | 25 => ⟨S136x1, .i1⟩
  | 26 => ⟨S136x1024, .i1⟩
  | 27 => ⟨S136x1024, .i1⟩
  | 28 => ⟨S136x1024, .i1⟩
  | 29 => ⟨S136x1024, .i1⟩
  | 30 => ⟨S_, .f32⟩
  | 31 => ⟨S_, .f32⟩
  | 32 => ⟨S136x1024, .f32⟩
  | 33 => ⟨S136x1024, .f32⟩
  | 34 => ⟨S136x1024, .f32⟩
  | 35 => ⟨S139264x1, .f32⟩
  | 36 => ⟨S1x1024x3584, .bf16⟩
  | 37 => ⟨S1024x3584, .bf16⟩
  | 38 => ⟨S1024x3584, .f32⟩
  | 39 => ⟨S1x1024x3584, .bf16⟩
  | 40 => ⟨S1024x3584, .bf16⟩
  | 41 => ⟨S1024x3584, .f32⟩
  | 42 => ⟨S1x3584x1024, .bf16⟩
  | 43 => ⟨S3584x1024, .bf16⟩
  | 44 => ⟨S3584x1024, .f32⟩
  | 45 => ⟨S139264x3584, .f32⟩
  | 46 => ⟨S139264x3584, .f32⟩
  | 47 => ⟨S139264x3584, .f32⟩
  | 48 => ⟨S_, .f32⟩
  | 49 => ⟨S139264x3584, .f32⟩
  | 50 => ⟨S139264x3584, .f32⟩
  | 51 => ⟨S_, .f32⟩
  | 52 => ⟨S139264x3584, .f32⟩
  | 53 => ⟨S139264x3584, .f32⟩
  | 54 => ⟨S139264x3584, .f32⟩
  | 55 => ⟨S139264x3584, .f32⟩
  | 56 => ⟨S139264x3584, .f32⟩
  | 57 => ⟨S139264x1024, .f32⟩
  | 58 => ⟨S139264x1, .f32⟩
  | 59 => ⟨S139264x1024, .f32⟩
  | 60 => ⟨S139264x1024, .f32⟩
  | 61 => ⟨S139264x1024, .f32⟩
  | 62 => ⟨S136, .i32⟩
  | 63 => ⟨S_, .i32⟩
  | 64 => ⟨S136, .i32⟩
  | 65 => ⟨S136, .i1⟩
  | 66 => ⟨S136x1, .i1⟩
  | 67 => ⟨S136x1024, .i1⟩
  | 68 => ⟨S136x1024, .i1⟩
  | 69 => ⟨S136x1024, .i1⟩
  | 70 => ⟨S136x1024, .i1⟩
  | 71 => ⟨S_, .f32⟩
  | 72 => ⟨S_, .f32⟩
  | 73 => ⟨S136x1024, .f32⟩
  | 74 => ⟨S136x1024, .f32⟩
  | 75 => ⟨S136x1024, .f32⟩
  | 76 => ⟨S139264x1, .f32⟩
  | 77 => ⟨S1x1024x3584, .bf16⟩
  | 78 => ⟨S1024x3584, .bf16⟩
  | 79 => ⟨S1024x3584, .f32⟩
  | 80 => ⟨S1x1024x3584, .bf16⟩
  | 81 => ⟨S1024x3584, .bf16⟩
  | 82 => ⟨S1024x3584, .f32⟩
  | 83 => ⟨S1x3584x1024, .bf16⟩
  | 84 => ⟨S3584x1024, .bf16⟩
  | 85 => ⟨S3584x1024, .f32⟩
  | 86 => ⟨S139264x3584, .f32⟩
  | 87 => ⟨S139264x3584, .f32⟩
  | 88 => ⟨S139264x3584, .f32⟩
  | 89 => ⟨S_, .f32⟩
  | 90 => ⟨S139264x3584, .f32⟩
  | 91 => ⟨S139264x3584, .f32⟩
  | 92 => ⟨S_, .f32⟩
  | 93 => ⟨S139264x3584, .f32⟩
  | 94 => ⟨S139264x3584, .f32⟩
  | 95 => ⟨S139264x3584, .f32⟩
  | 96 => ⟨S139264x3584, .f32⟩
  | 97 => ⟨S139264x3584, .f32⟩
  | 98 => ⟨S139264x1024, .f32⟩
  | 99 => ⟨S139264x1, .f32⟩
  | 100 => ⟨S139264x1024, .f32⟩
  | 101 => ⟨S139264x1024, .f32⟩
  | 102 => ⟨S139264x1024, .f32⟩
  | 103 => ⟨S136, .i32⟩
  | 104 => ⟨S_, .i32⟩
  | 105 => ⟨S136, .i32⟩
  | 106 => ⟨S136, .i1⟩
  | 107 => ⟨S136x1, .i1⟩
  | 108 => ⟨S136x1024, .i1⟩
  | 109 => ⟨S136x1024, .i1⟩
  | 110 => ⟨S136x1024, .i1⟩
  | 111 => ⟨S136x1024, .i1⟩
  | 112 => ⟨S_, .f32⟩
  | 113 => ⟨S_, .f32⟩
  | 114 => ⟨S136x1024, .f32⟩
  | 115 => ⟨S136x1024, .f32⟩
  | 116 => ⟨S136x1024, .f32⟩
  | 117 => ⟨S139264x1, .f32⟩
  | 118 => ⟨S1x1024x3584, .bf16⟩
  | 119 => ⟨S1024x3584, .bf16⟩
  | 120 => ⟨S1024x3584, .f32⟩
  | 121 => ⟨S1x1024x3584, .bf16⟩
  | 122 => ⟨S1024x3584, .bf16⟩
  | 123 => ⟨S1024x3584, .f32⟩
  | 124 => ⟨S1x3584x1024, .bf16⟩
  | 125 => ⟨S3584x1024, .bf16⟩
  | 126 => ⟨S3584x1024, .f32⟩
  | 127 => ⟨S139264x3584, .f32⟩
  | _ => ⟨S273, .i32⟩

abbrev hbmTy0_1 (i : Nat) : BufTy := match i % 128 with
  | 0 => ⟨S139264x3584, .f32⟩
  | 1 => ⟨S139264x3584, .f32⟩
  | 2 => ⟨S_, .f32⟩
  | 3 => ⟨S139264x3584, .f32⟩
  | 4 => ⟨S139264x3584, .f32⟩
  | 5 => ⟨S_, .f32⟩
  | 6 => ⟨S139264x3584, .f32⟩
  | 7 => ⟨S139264x3584, .f32⟩
  | 8 => ⟨S139264x3584, .f32⟩
  | 9 => ⟨S139264x3584, .f32⟩
  | 10 => ⟨S139264x3584, .f32⟩
  | 11 => ⟨S139264x1024, .f32⟩
  | 12 => ⟨S139264x1, .f32⟩
  | 13 => ⟨S139264x1024, .f32⟩
  | 14 => ⟨S139264x1024, .f32⟩
  | 15 => ⟨S139264x1024, .f32⟩
  | 16 => ⟨S136, .i32⟩
  | 17 => ⟨S_, .i32⟩
  | 18 => ⟨S136, .i32⟩
  | 19 => ⟨S136, .i1⟩
  | 20 => ⟨S136x1, .i1⟩
  | 21 => ⟨S136x1024, .i1⟩
  | 22 => ⟨S136x1024, .i1⟩
  | 23 => ⟨S136x1024, .i1⟩
  | 24 => ⟨S136x1024, .i1⟩
  | 25 => ⟨S_, .f32⟩
  | 26 => ⟨S_, .f32⟩
  | 27 => ⟨S136x1024, .f32⟩
  | 28 => ⟨S136x1024, .f32⟩
  | 29 => ⟨S136x1024, .f32⟩
  | 30 => ⟨S139264x1, .f32⟩
  | 31 => ⟨S1x1024x3584, .bf16⟩
  | 32 => ⟨S1024x3584, .bf16⟩
  | 33 => ⟨S1024x3584, .f32⟩
  | 34 => ⟨S1x1024x3584, .bf16⟩
  | 35 => ⟨S1024x3584, .bf16⟩
  | 36 => ⟨S1024x3584, .f32⟩
  | 37 => ⟨S1x3584x1024, .bf16⟩
  | 38 => ⟨S3584x1024, .bf16⟩
  | 39 => ⟨S3584x1024, .f32⟩
  | 40 => ⟨S139264x3584, .f32⟩
  | 41 => ⟨S139264x3584, .f32⟩
  | 42 => ⟨S139264x3584, .f32⟩
  | 43 => ⟨S_, .f32⟩
  | 44 => ⟨S139264x3584, .f32⟩
  | 45 => ⟨S139264x3584, .f32⟩
  | 46 => ⟨S_, .f32⟩
  | 47 => ⟨S139264x3584, .f32⟩
  | 48 => ⟨S139264x3584, .f32⟩
  | 49 => ⟨S139264x3584, .f32⟩
  | 50 => ⟨S139264x3584, .f32⟩
  | 51 => ⟨S139264x3584, .f32⟩
  | 52 => ⟨S139264x1024, .f32⟩
  | 53 => ⟨S139264x1, .f32⟩
  | 54 => ⟨S139264x1024, .f32⟩
  | 55 => ⟨S139264x1024, .f32⟩
  | 56 => ⟨S139264x1024, .f32⟩
  | 57 => ⟨S136, .i32⟩
  | 58 => ⟨S_, .i32⟩
  | 59 => ⟨S136, .i32⟩
  | 60 => ⟨S136, .i1⟩
  | 61 => ⟨S136x1, .i1⟩
  | 62 => ⟨S136x1024, .i1⟩
  | 63 => ⟨S136x1024, .i1⟩
  | 64 => ⟨S136x1024, .i1⟩
  | 65 => ⟨S136x1024, .i1⟩
  | 66 => ⟨S_, .f32⟩
  | 67 => ⟨S_, .f32⟩
  | 68 => ⟨S136x1024, .f32⟩
  | 69 => ⟨S136x1024, .f32⟩
  | 70 => ⟨S136x1024, .f32⟩
  | 71 => ⟨S139264x1, .f32⟩
  | 72 => ⟨S1x1024x3584, .bf16⟩
  | 73 => ⟨S1024x3584, .bf16⟩
  | 74 => ⟨S1024x3584, .f32⟩
  | 75 => ⟨S1x1024x3584, .bf16⟩
  | 76 => ⟨S1024x3584, .bf16⟩
  | 77 => ⟨S1024x3584, .f32⟩
  | 78 => ⟨S1x3584x1024, .bf16⟩
  | 79 => ⟨S3584x1024, .bf16⟩
  | 80 => ⟨S3584x1024, .f32⟩
  | 81 => ⟨S139264x3584, .f32⟩
  | 82 => ⟨S139264x3584, .f32⟩
  | 83 => ⟨S139264x3584, .f32⟩
  | 84 => ⟨S_, .f32⟩
  | 85 => ⟨S139264x3584, .f32⟩
  | 86 => ⟨S139264x3584, .f32⟩
  | 87 => ⟨S_, .f32⟩
  | 88 => ⟨S139264x3584, .f32⟩
  | 89 => ⟨S139264x3584, .f32⟩
  | 90 => ⟨S139264x3584, .f32⟩
  | 91 => ⟨S139264x3584, .f32⟩
  | 92 => ⟨S139264x3584, .f32⟩
  | 93 => ⟨S139264x1024, .f32⟩
  | 94 => ⟨S139264x1, .f32⟩
  | 95 => ⟨S139264x1024, .f32⟩
  | 96 => ⟨S139264x1024, .f32⟩
  | 97 => ⟨S139264x1024, .f32⟩
  | 98 => ⟨S136, .i32⟩
  | 99 => ⟨S_, .i32⟩
  | 100 => ⟨S136, .i32⟩
  | 101 => ⟨S136, .i1⟩
  | 102 => ⟨S136x1, .i1⟩
  | 103 => ⟨S136x1024, .i1⟩
  | 104 => ⟨S136x1024, .i1⟩
  | 105 => ⟨S136x1024, .i1⟩
  | 106 => ⟨S136x1024, .i1⟩
  | 107 => ⟨S_, .f32⟩
  | 108 => ⟨S_, .f32⟩
  | 109 => ⟨S136x1024, .f32⟩
  | 110 => ⟨S136x1024, .f32⟩
  | 111 => ⟨S136x1024, .f32⟩
  | 112 => ⟨S139264x1, .f32⟩
  | 113 => ⟨S1x1024x3584, .bf16⟩
  | 114 => ⟨S1024x3584, .bf16⟩
  | 115 => ⟨S1024x3584, .f32⟩
  | 116 => ⟨S1x1024x3584, .bf16⟩
  | 117 => ⟨S1024x3584, .bf16⟩
  | 118 => ⟨S1024x3584, .f32⟩
  | 119 => ⟨S1x3584x1024, .bf16⟩
  | 120 => ⟨S3584x1024, .bf16⟩
  | 121 => ⟨S3584x1024, .f32⟩
  | 122 => ⟨S139264x3584, .f32⟩
  | 123 => ⟨S139264x3584, .f32⟩
  | 124 => ⟨S139264x3584, .f32⟩
  | 125 => ⟨S_, .f32⟩
  | 126 => ⟨S139264x3584, .f32⟩
  | 127 => ⟨S139264x3584, .f32⟩
  | _ => ⟨S273, .i32⟩

abbrev hbmTy0_2 (i : Nat) : BufTy := match i % 128 with
  | 0 => ⟨S_, .f32⟩
  | 1 => ⟨S139264x3584, .f32⟩
  | 2 => ⟨S139264x3584, .f32⟩
  | 3 => ⟨S139264x3584, .f32⟩
  | 4 => ⟨S139264x3584, .f32⟩
  | 5 => ⟨S139264x3584, .f32⟩
  | 6 => ⟨S139264x1024, .f32⟩
  | 7 => ⟨S139264x1, .f32⟩
  | 8 => ⟨S139264x1024, .f32⟩
  | 9 => ⟨S139264x1024, .f32⟩
  | 10 => ⟨S139264x1024, .f32⟩
  | 11 => ⟨S136, .i32⟩
  | 12 => ⟨S_, .i32⟩
  | 13 => ⟨S136, .i32⟩
  | 14 => ⟨S136, .i1⟩
  | 15 => ⟨S136x1, .i1⟩
  | 16 => ⟨S136x1024, .i1⟩
  | 17 => ⟨S136x1024, .i1⟩
  | 18 => ⟨S136x1024, .i1⟩
  | 19 => ⟨S136x1024, .i1⟩
  | 20 => ⟨S_, .f32⟩
  | 21 => ⟨S_, .f32⟩
  | 22 => ⟨S136x1024, .f32⟩
  | 23 => ⟨S136x1024, .f32⟩
  | 24 => ⟨S136x1024, .f32⟩
  | 25 => ⟨S139264x1, .f32⟩
  | 26 => ⟨S1x1024x3584, .bf16⟩
  | 27 => ⟨S1024x3584, .bf16⟩
  | 28 => ⟨S1024x3584, .f32⟩
  | 29 => ⟨S1x1024x3584, .bf16⟩
  | 30 => ⟨S1024x3584, .bf16⟩
  | 31 => ⟨S1024x3584, .f32⟩
  | 32 => ⟨S1x3584x1024, .bf16⟩
  | 33 => ⟨S3584x1024, .bf16⟩
  | 34 => ⟨S3584x1024, .f32⟩
  | 35 => ⟨S139264x3584, .f32⟩
  | 36 => ⟨S139264x3584, .f32⟩
  | 37 => ⟨S139264x3584, .f32⟩
  | 38 => ⟨S_, .f32⟩
  | 39 => ⟨S139264x3584, .f32⟩
  | 40 => ⟨S139264x3584, .f32⟩
  | 41 => ⟨S_, .f32⟩
  | 42 => ⟨S139264x3584, .f32⟩
  | 43 => ⟨S139264x3584, .f32⟩
  | 44 => ⟨S139264x3584, .f32⟩
  | 45 => ⟨S139264x3584, .f32⟩
  | 46 => ⟨S139264x3584, .f32⟩
  | 47 => ⟨S139264x1024, .f32⟩
  | 48 => ⟨S139264x1, .f32⟩
  | 49 => ⟨S139264x1024, .f32⟩
  | 50 => ⟨S139264x1024, .f32⟩
  | 51 => ⟨S139264x1024, .f32⟩
  | 52 => ⟨S136, .i32⟩
  | 53 => ⟨S_, .i32⟩
  | 54 => ⟨S136, .i32⟩
  | 55 => ⟨S136, .i1⟩
  | 56 => ⟨S136x1, .i1⟩
  | 57 => ⟨S136x1024, .i1⟩
  | 58 => ⟨S136x1024, .i1⟩
  | 59 => ⟨S136x1024, .i1⟩
  | 60 => ⟨S136x1024, .i1⟩
  | 61 => ⟨S_, .f32⟩
  | 62 => ⟨S_, .f32⟩
  | 63 => ⟨S136x1024, .f32⟩
  | 64 => ⟨S136x1024, .f32⟩
  | 65 => ⟨S136x1024, .f32⟩
  | 66 => ⟨S139264x1, .f32⟩
  | 67 => ⟨S1x1024x3584, .bf16⟩
  | 68 => ⟨S1024x3584, .bf16⟩
  | 69 => ⟨S1024x3584, .f32⟩
  | 70 => ⟨S1x1024x3584, .bf16⟩
  | 71 => ⟨S1024x3584, .bf16⟩
  | 72 => ⟨S1024x3584, .f32⟩
  | 73 => ⟨S1x3584x1024, .bf16⟩
  | 74 => ⟨S3584x1024, .bf16⟩
  | 75 => ⟨S3584x1024, .f32⟩
  | 76 => ⟨S139264x3584, .f32⟩
  | 77 => ⟨S139264x3584, .f32⟩
  | 78 => ⟨S139264x3584, .f32⟩
  | 79 => ⟨S_, .f32⟩
  | 80 => ⟨S139264x3584, .f32⟩
  | 81 => ⟨S139264x3584, .f32⟩
  | 82 => ⟨S_, .f32⟩
  | 83 => ⟨S139264x3584, .f32⟩
  | 84 => ⟨S139264x3584, .f32⟩
  | 85 => ⟨S139264x3584, .f32⟩
  | 86 => ⟨S139264x3584, .f32⟩
  | 87 => ⟨S139264x3584, .f32⟩
  | 88 => ⟨S139264x1024, .f32⟩
  | 89 => ⟨S139264x1, .f32⟩
  | 90 => ⟨S139264x1024, .f32⟩
  | 91 => ⟨S139264x1024, .f32⟩
  | 92 => ⟨S139264x1024, .f32⟩
  | 93 => ⟨S139264x8x128, .f32⟩
  | _ => ⟨S273, .i32⟩

abbrev hbmTy (i : Nat) : BufTy := match i / 128 with
  | 0 => hbmTy0_0 i
  | 1 => hbmTy0_1 i
  | 2 => hbmTy0_2 i
  | _ => ⟨S273, .i32⟩

abbrev bufTy : (tb : Table) → Fin (tcTables nBuf tb) → BufTy
  | .hbm, ⟨i, _⟩ => hbmTy i
  | _, _ => ⟨S273, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_c : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_0 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_call1_v0 : Ref sig .tc := ⟨.hbm, 46, rfl⟩
abbrev main_call1_v1 : Ref sig .tc := ⟨.hbm, 47, rfl⟩
abbrev main_call1_cst : Ref sig .tc := ⟨.hbm, 48, rfl⟩
abbrev main_call1_v2 : Ref sig .tc := ⟨.hbm, 49, rfl⟩
abbrev main_call1_v3 : Ref sig .tc := ⟨.hbm, 50, rfl⟩
abbrev main_call1_cst_0 : Ref sig .tc := ⟨.hbm, 51, rfl⟩
abbrev main_call1_v4 : Ref sig .tc := ⟨.hbm, 52, rfl⟩
abbrev main_call1_v5 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_c_2 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_3 : Ref sig .tc := ⟨.hbm, 71, rfl⟩
abbrev main_cst_4 : Ref sig .tc := ⟨.hbm, 72, rfl⟩
abbrev main_call2_v0 : Ref sig .tc := ⟨.hbm, 73, rfl⟩
abbrev main_call2_v1 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_call3_v0 : Ref sig .tc := ⟨.hbm, 87, rfl⟩
abbrev main_call3_v1 : Ref sig .tc := ⟨.hbm, 88, rfl⟩
abbrev main_call3_cst : Ref sig .tc := ⟨.hbm, 89, rfl⟩
abbrev main_call3_v2 : Ref sig .tc := ⟨.hbm, 90, rfl⟩
abbrev main_call3_v3 : Ref sig .tc := ⟨.hbm, 91, rfl⟩
abbrev main_call3_cst_0 : Ref sig .tc := ⟨.hbm, 92, rfl⟩
abbrev main_call3_v4 : Ref sig .tc := ⟨.hbm, 93, rfl⟩
abbrev main_call3_v5 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_c_5 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_cst_6 : Ref sig .tc := ⟨.hbm, 112, rfl⟩
abbrev main_cst_7 : Ref sig .tc := ⟨.hbm, 113, rfl⟩
abbrev main_call4_v0 : Ref sig .tc := ⟨.hbm, 114, rfl⟩
abbrev main_call4_v1 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_call5_v0 : Ref sig .tc := ⟨.hbm, 128, rfl⟩
abbrev main_call5_v1 : Ref sig .tc := ⟨.hbm, 129, rfl⟩
abbrev main_call5_cst : Ref sig .tc := ⟨.hbm, 130, rfl⟩
abbrev main_call5_v2 : Ref sig .tc := ⟨.hbm, 131, rfl⟩
abbrev main_call5_v3 : Ref sig .tc := ⟨.hbm, 132, rfl⟩
abbrev main_call5_cst_0 : Ref sig .tc := ⟨.hbm, 133, rfl⟩
abbrev main_call5_v4 : Ref sig .tc := ⟨.hbm, 134, rfl⟩
abbrev main_call5_v5 : Ref sig .tc := ⟨.hbm, 135, rfl⟩
abbrev main_v91 : Ref sig .tc := ⟨.hbm, 136, rfl⟩
abbrev main_v92 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_8 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_cst_9 : Ref sig .tc := ⟨.hbm, 153, rfl⟩
abbrev main_cst_10 : Ref sig .tc := ⟨.hbm, 154, rfl⟩
abbrev main_call6_v0 : Ref sig .tc := ⟨.hbm, 155, rfl⟩
abbrev main_call6_v1 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_call7_v0 : Ref sig .tc := ⟨.hbm, 169, rfl⟩
abbrev main_call7_v1 : Ref sig .tc := ⟨.hbm, 170, rfl⟩
abbrev main_call7_cst : Ref sig .tc := ⟨.hbm, 171, rfl⟩
abbrev main_call7_v2 : Ref sig .tc := ⟨.hbm, 172, rfl⟩
abbrev main_call7_v3 : Ref sig .tc := ⟨.hbm, 173, rfl⟩
abbrev main_call7_cst_0 : Ref sig .tc := ⟨.hbm, 174, rfl⟩
abbrev main_call7_v4 : Ref sig .tc := ⟨.hbm, 175, rfl⟩
abbrev main_call7_v5 : Ref sig .tc := ⟨.hbm, 176, rfl⟩
abbrev main_v119 : Ref sig .tc := ⟨.hbm, 177, rfl⟩
abbrev main_v120 : Ref sig .tc := ⟨.hbm, 178, rfl⟩
abbrev main_v121 : Ref sig .tc := ⟨.hbm, 179, rfl⟩
abbrev main_v122 : Ref sig .tc := ⟨.hbm, 180, rfl⟩
abbrev main_v123 : Ref sig .tc := ⟨.hbm, 181, rfl⟩
abbrev main_v124 : Ref sig .tc := ⟨.hbm, 182, rfl⟩
abbrev main_v125 : Ref sig .tc := ⟨.hbm, 183, rfl⟩
abbrev main_v126 : Ref sig .tc := ⟨.hbm, 184, rfl⟩
abbrev main_v127 : Ref sig .tc := ⟨.hbm, 185, rfl⟩
abbrev main_c_11 : Ref sig .tc := ⟨.hbm, 186, rfl⟩
abbrev main_v128 : Ref sig .tc := ⟨.hbm, 187, rfl⟩
abbrev main_v129 : Ref sig .tc := ⟨.hbm, 188, rfl⟩
abbrev main_v130 : Ref sig .tc := ⟨.hbm, 189, rfl⟩
abbrev main_v131 : Ref sig .tc := ⟨.hbm, 190, rfl⟩
abbrev main_v132 : Ref sig .tc := ⟨.hbm, 191, rfl⟩
abbrev main_v133 : Ref sig .tc := ⟨.hbm, 192, rfl⟩
abbrev main_v134 : Ref sig .tc := ⟨.hbm, 193, rfl⟩
abbrev main_cst_12 : Ref sig .tc := ⟨.hbm, 194, rfl⟩
abbrev main_cst_13 : Ref sig .tc := ⟨.hbm, 195, rfl⟩
abbrev main_call8_v0 : Ref sig .tc := ⟨.hbm, 196, rfl⟩
abbrev main_call8_v1 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_call9_v0 : Ref sig .tc := ⟨.hbm, 210, rfl⟩
abbrev main_call9_v1 : Ref sig .tc := ⟨.hbm, 211, rfl⟩
abbrev main_call9_cst : Ref sig .tc := ⟨.hbm, 212, rfl⟩
abbrev main_call9_v2 : Ref sig .tc := ⟨.hbm, 213, rfl⟩
abbrev main_call9_v3 : Ref sig .tc := ⟨.hbm, 214, rfl⟩
abbrev main_call9_cst_0 : Ref sig .tc := ⟨.hbm, 215, rfl⟩
abbrev main_call9_v4 : Ref sig .tc := ⟨.hbm, 216, rfl⟩
abbrev main_call9_v5 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_v153 : Ref sig .tc := ⟨.hbm, 224, rfl⟩
abbrev main_v154 : Ref sig .tc := ⟨.hbm, 225, rfl⟩
abbrev main_v155 : Ref sig .tc := ⟨.hbm, 226, rfl⟩
abbrev main_c_14 : Ref sig .tc := ⟨.hbm, 227, rfl⟩
abbrev main_v156 : Ref sig .tc := ⟨.hbm, 228, rfl⟩
abbrev main_v157 : Ref sig .tc := ⟨.hbm, 229, rfl⟩
abbrev main_v158 : Ref sig .tc := ⟨.hbm, 230, rfl⟩
abbrev main_v159 : Ref sig .tc := ⟨.hbm, 231, rfl⟩
abbrev main_v160 : Ref sig .tc := ⟨.hbm, 232, rfl⟩
abbrev main_v161 : Ref sig .tc := ⟨.hbm, 233, rfl⟩
abbrev main_v162 : Ref sig .tc := ⟨.hbm, 234, rfl⟩
abbrev main_cst_15 : Ref sig .tc := ⟨.hbm, 235, rfl⟩
abbrev main_cst_16 : Ref sig .tc := ⟨.hbm, 236, rfl⟩
abbrev main_call10_v0 : Ref sig .tc := ⟨.hbm, 237, rfl⟩
abbrev main_call10_v1 : Ref sig .tc := ⟨.hbm, 238, rfl⟩
abbrev main_v163 : Ref sig .tc := ⟨.hbm, 239, rfl⟩
abbrev main_v164 : Ref sig .tc := ⟨.hbm, 240, rfl⟩
abbrev main_v165 : Ref sig .tc := ⟨.hbm, 241, rfl⟩
abbrev main_v166 : Ref sig .tc := ⟨.hbm, 242, rfl⟩
abbrev main_v167 : Ref sig .tc := ⟨.hbm, 243, rfl⟩
abbrev main_v168 : Ref sig .tc := ⟨.hbm, 244, rfl⟩
abbrev main_v169 : Ref sig .tc := ⟨.hbm, 245, rfl⟩
abbrev main_v170 : Ref sig .tc := ⟨.hbm, 246, rfl⟩
abbrev main_v171 : Ref sig .tc := ⟨.hbm, 247, rfl⟩
abbrev main_v172 : Ref sig .tc := ⟨.hbm, 248, rfl⟩
abbrev main_v173 : Ref sig .tc := ⟨.hbm, 249, rfl⟩
abbrev main_v174 : Ref sig .tc := ⟨.hbm, 250, rfl⟩
abbrev main_call11_v0 : Ref sig .tc := ⟨.hbm, 251, rfl⟩
abbrev main_call11_v1 : Ref sig .tc := ⟨.hbm, 252, rfl⟩
abbrev main_call11_cst : Ref sig .tc := ⟨.hbm, 253, rfl⟩
abbrev main_call11_v2 : Ref sig .tc := ⟨.hbm, 254, rfl⟩
abbrev main_call11_v3 : Ref sig .tc := ⟨.hbm, 255, rfl⟩
abbrev main_call11_cst_0 : Ref sig .tc := ⟨.hbm, 256, rfl⟩
abbrev main_call11_v4 : Ref sig .tc := ⟨.hbm, 257, rfl⟩
abbrev main_call11_v5 : Ref sig .tc := ⟨.hbm, 258, rfl⟩
abbrev main_v175 : Ref sig .tc := ⟨.hbm, 259, rfl⟩
abbrev main_v176 : Ref sig .tc := ⟨.hbm, 260, rfl⟩
abbrev main_v177 : Ref sig .tc := ⟨.hbm, 261, rfl⟩
abbrev main_v178 : Ref sig .tc := ⟨.hbm, 262, rfl⟩
abbrev main_v179 : Ref sig .tc := ⟨.hbm, 263, rfl⟩
abbrev main_v180 : Ref sig .tc := ⟨.hbm, 264, rfl⟩
abbrev main_v181 : Ref sig .tc := ⟨.hbm, 265, rfl⟩
abbrev main_v182 : Ref sig .tc := ⟨.hbm, 266, rfl⟩
abbrev main_v183 : Ref sig .tc := ⟨.hbm, 267, rfl⟩
abbrev main_c_17 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_cst_18 : Ref sig .tc := ⟨.hbm, 276, rfl⟩
abbrev main_cst_19 : Ref sig .tc := ⟨.hbm, 277, rfl⟩
abbrev main_call12_v0 : Ref sig .tc := ⟨.hbm, 278, rfl⟩
abbrev main_call12_v1 : Ref sig .tc := ⟨.hbm, 279, rfl⟩
abbrev main_v191 : Ref sig .tc := ⟨.hbm, 280, rfl⟩
abbrev main_v192 : Ref sig .tc := ⟨.hbm, 281, rfl⟩
abbrev main_v193 : Ref sig .tc := ⟨.hbm, 282, rfl⟩
abbrev main_v194 : Ref sig .tc := ⟨.hbm, 283, rfl⟩
abbrev main_v195 : Ref sig .tc := ⟨.hbm, 284, rfl⟩
abbrev main_v196 : Ref sig .tc := ⟨.hbm, 285, rfl⟩
abbrev main_v197 : Ref sig .tc := ⟨.hbm, 286, rfl⟩
abbrev main_v198 : Ref sig .tc := ⟨.hbm, 287, rfl⟩
abbrev main_v199 : Ref sig .tc := ⟨.hbm, 288, rfl⟩
abbrev main_v200 : Ref sig .tc := ⟨.hbm, 289, rfl⟩
abbrev main_v201 : Ref sig .tc := ⟨.hbm, 290, rfl⟩
abbrev main_v202 : Ref sig .tc := ⟨.hbm, 291, rfl⟩
abbrev main_call13_v0 : Ref sig .tc := ⟨.hbm, 292, rfl⟩
abbrev main_call13_v1 : Ref sig .tc := ⟨.hbm, 293, rfl⟩
abbrev main_call13_cst : Ref sig .tc := ⟨.hbm, 294, rfl⟩
abbrev main_call13_v2 : Ref sig .tc := ⟨.hbm, 295, rfl⟩
abbrev main_call13_v3 : Ref sig .tc := ⟨.hbm, 296, rfl⟩
abbrev main_call13_cst_0 : Ref sig .tc := ⟨.hbm, 297, rfl⟩
abbrev main_call13_v4 : Ref sig .tc := ⟨.hbm, 298, rfl⟩
abbrev main_call13_v5 : Ref sig .tc := ⟨.hbm, 299, rfl⟩
abbrev main_v203 : Ref sig .tc := ⟨.hbm, 300, rfl⟩
abbrev main_v204 : Ref sig .tc := ⟨.hbm, 301, rfl⟩
abbrev main_v205 : Ref sig .tc := ⟨.hbm, 302, rfl⟩
abbrev main_v206 : Ref sig .tc := ⟨.hbm, 303, rfl⟩
abbrev main_v207 : Ref sig .tc := ⟨.hbm, 304, rfl⟩
abbrev main_v208 : Ref sig .tc := ⟨.hbm, 305, rfl⟩
abbrev main_v209 : Ref sig .tc := ⟨.hbm, 306, rfl⟩
abbrev main_v210 : Ref sig .tc := ⟨.hbm, 307, rfl⟩
abbrev main_v211 : Ref sig .tc := ⟨.hbm, 308, rfl⟩
abbrev main_c_20 : Ref sig .tc := ⟨.hbm, 309, rfl⟩
abbrev main_v212 : Ref sig .tc := ⟨.hbm, 310, rfl⟩
abbrev main_v213 : Ref sig .tc := ⟨.hbm, 311, rfl⟩
abbrev main_v214 : Ref sig .tc := ⟨.hbm, 312, rfl⟩
abbrev main_v215 : Ref sig .tc := ⟨.hbm, 313, rfl⟩
abbrev main_v216 : Ref sig .tc := ⟨.hbm, 314, rfl⟩
abbrev main_v217 : Ref sig .tc := ⟨.hbm, 315, rfl⟩
abbrev main_v218 : Ref sig .tc := ⟨.hbm, 316, rfl⟩
abbrev main_cst_21 : Ref sig .tc := ⟨.hbm, 317, rfl⟩
abbrev main_cst_22 : Ref sig .tc := ⟨.hbm, 318, rfl⟩
abbrev main_call14_v0 : Ref sig .tc := ⟨.hbm, 319, rfl⟩
abbrev main_call14_v1 : Ref sig .tc := ⟨.hbm, 320, rfl⟩
abbrev main_v219 : Ref sig .tc := ⟨.hbm, 321, rfl⟩
abbrev main_v220 : Ref sig .tc := ⟨.hbm, 322, rfl⟩
abbrev main_v221 : Ref sig .tc := ⟨.hbm, 323, rfl⟩
abbrev main_v222 : Ref sig .tc := ⟨.hbm, 324, rfl⟩
abbrev main_v223 : Ref sig .tc := ⟨.hbm, 325, rfl⟩
abbrev main_v224 : Ref sig .tc := ⟨.hbm, 326, rfl⟩
abbrev main_v225 : Ref sig .tc := ⟨.hbm, 327, rfl⟩
abbrev main_v226 : Ref sig .tc := ⟨.hbm, 328, rfl⟩
abbrev main_v227 : Ref sig .tc := ⟨.hbm, 329, rfl⟩
abbrev main_v228 : Ref sig .tc := ⟨.hbm, 330, rfl⟩
abbrev main_v229 : Ref sig .tc := ⟨.hbm, 331, rfl⟩
abbrev main_v230 : Ref sig .tc := ⟨.hbm, 332, rfl⟩
abbrev main_call15_v0 : Ref sig .tc := ⟨.hbm, 333, rfl⟩
abbrev main_call15_v1 : Ref sig .tc := ⟨.hbm, 334, rfl⟩
abbrev main_call15_cst : Ref sig .tc := ⟨.hbm, 335, rfl⟩
abbrev main_call15_v2 : Ref sig .tc := ⟨.hbm, 336, rfl⟩
abbrev main_call15_v3 : Ref sig .tc := ⟨.hbm, 337, rfl⟩
abbrev main_call15_cst_0 : Ref sig .tc := ⟨.hbm, 338, rfl⟩
abbrev main_call15_v4 : Ref sig .tc := ⟨.hbm, 339, rfl⟩
abbrev main_call15_v5 : Ref sig .tc := ⟨.hbm, 340, rfl⟩
abbrev main_v231 : Ref sig .tc := ⟨.hbm, 341, rfl⟩
abbrev main_v232 : Ref sig .tc := ⟨.hbm, 342, rfl⟩
abbrev main_v233 : Ref sig .tc := ⟨.hbm, 343, rfl⟩
abbrev main_v234 : Ref sig .tc := ⟨.hbm, 344, rfl⟩
abbrev main_v235 : Ref sig .tc := ⟨.hbm, 345, rfl⟩
abbrev main_v236 : Ref sig .tc := ⟨.hbm, 346, rfl⟩
abbrev main_v237 : Ref sig .tc := ⟨.hbm, 347, rfl⟩
abbrev main_v238 : Ref sig .tc := ⟨.hbm, 348, rfl⟩
abbrev main_v239 : Ref sig .tc := ⟨.hbm, 349, rfl⟩

abbrev nD : Nat := 1
abbrev τ : Topo := Topo.v7x

variable {F : FTy → Type} [FloatOps F]
-- ==== Merge.lean ====
abbrev S65536x1024 : Shape := ⟨2, ![65536, 1024]⟩
abbrev S1024x4096 : Shape := ⟨2, ![1024, 4096]⟩
abbrev S65536x256 : Shape := ⟨2, ![65536, 256]⟩
abbrev S65536x512 : Shape := ⟨2, ![65536, 512]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S1024x256 : Shape := ⟨2, ![1024, 256]⟩
abbrev S1024x512 : Shape := ⟨2, ![1024, 512]⟩
abbrev S1024 : Shape := ⟨1, ![1024]⟩
abbrev S1024x1 : Shape := ⟨2, ![1024, 1]⟩

abbrev nBuf : Space → Nat
  | .hbm => 14
  | .vmem => 20
  | .smem => 0
  | _ => 0

abbrev bufTy : (tb : Table) → Fin (tcTables nBuf tb) → BufTy
  | .hbm, ⟨0, _⟩ => ⟨S65536x1024, .f32⟩
  | .hbm, ⟨1, _⟩ => ⟨S1024x4096, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S65536x512, .bf16⟩
  | .hbm, ⟨6, _⟩ => ⟨S256x1024, .bf16⟩
  | .hbm, ⟨7, _⟩ => ⟨S256x1024, .bf16⟩
  | .hbm, ⟨8, _⟩ => ⟨S256x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S1024x256, .bf16⟩
  | .local _ .vmem, ⟨7, _⟩ => ⟨S1024x256, .bf16⟩
  | .local _ .vmem, ⟨8, _⟩ => ⟨S1024x256, .bf16⟩
  | .local _ .vmem, ⟨9, _⟩ => ⟨S1024x512, .bf16⟩
  | .local _ .vmem, ⟨10, _⟩ => ⟨S1024x512, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S512x1024, .bf16⟩
  | .local _ .vmem, ⟨15, _⟩ => ⟨S1024x1024, .bf16⟩
  | .local _ .vmem, ⟨16, _⟩ => ⟨S1x1024, .f32⟩
  | .local _ .vmem, ⟨17, _⟩ => ⟨S1x1024, .f32⟩
  | .local _ .vmem, ⟨18, _⟩ => ⟨S1024x1024, .f32⟩
  | .local _ .vmem, ⟨19, _⟩ => ⟨S1024x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 2 → Memref sig .tc .vmem S1024x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S65536x1024 : Shape := ⟨2, ![65536, 1024]⟩
abbrev S1024x4096 : Shape := ⟨2, ![1024, 4096]⟩
abbrev S65536x256 : Shape := ⟨2, ![65536, 256]⟩
abbrev S65536x512 : Shape := ⟨2, ![65536, 512]⟩
abbrev S256x1024 : Shape := ⟨2, ![256, 1024]⟩
abbrev S512x1024 : Shape := ⟨2, ![512, 1024]⟩
abbrev S1024x1024 : Shape := ⟨2, ![1024, 1024]⟩
abbrev S1x1024 : Shape := ⟨2, ![1, 1024]⟩
abbrev S65536x4096 : Shape := ⟨2, ![65536, 4096]⟩
abbrev S65536x4x1024 : Shape := ⟨3, ![65536, 4, 1024]⟩
abbrev S_ : Shape := ⟨0, ![]⟩
abbrev S65536x1x1024 : Shape := ⟨3, ![65536, 1, 1024]⟩
abbrev S65536 : Shape := ⟨1, ![65536]⟩
abbrev S65536x1 : Shape := ⟨2, ![65536, 1]⟩

abbrev nBuf : Space → Nat
  | .hbm => 84
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x4096, .bf16⟩
  | .hbm, ⟨2, _⟩ => ⟨S65536x256, .bf16⟩
  | .hbm, ⟨3, _⟩ => ⟨S65536x256, .bf16⟩
  | .hbm, ⟨4, _⟩ => ⟨S65536x256, .bf16⟩
  | .hbm, ⟨5, _⟩ => ⟨S65536x512, .bf16⟩
  | .hbm, ⟨6, _⟩ => ⟨S256x1024, .bf16⟩
  | .hbm, ⟨7, _⟩ => ⟨S256x1024, .bf16⟩
  | .hbm, ⟨8, _⟩ => ⟨S256x1024, .bf16⟩
  | .hbm, ⟨9, _⟩ => ⟨S512x1024, .bf16⟩
  | .hbm, ⟨10, _⟩ => ⟨S1024x1024, .bf16⟩
  | .hbm, ⟨11, _⟩ => ⟨S1x1024, .f32⟩
  | .hbm, ⟨12, _⟩ => ⟨S1x1024, .f32⟩
  | .hbm, ⟨13, _⟩ => ⟨S1024x4096, .f32⟩
  | .hbm, ⟨14, _⟩ => ⟨S65536x4096, .f32⟩
  | .hbm, ⟨15, _⟩ => ⟨S65536x4x1024, .f32⟩
  | .hbm, ⟨16, _⟩ => ⟨S65536x4x1024, .f32⟩
  | .hbm, ⟨17, _⟩ => ⟨S65536x4x1024, .f32⟩
  | .hbm, ⟨18, _⟩ => ⟨S_, .f32⟩
  | .hbm, ⟨19, _⟩ => ⟨S65536x4x1024, .f32⟩
  | .hbm, ⟨20, _⟩ => ⟨S65536x4x1024, .f32⟩
  | .hbm, ⟨21, _⟩ => ⟨S_, .f32⟩
  | .hbm, ⟨22, _⟩ => ⟨S65536x4x1024, .f32⟩
  | .hbm, ⟨23, _⟩ => ⟨S65536x4x1024, .f32⟩
  | .hbm, ⟨24, _⟩ => ⟨S65536x1x1024, .f32⟩
  | .hbm, ⟨25, _⟩ => ⟨S65536x1024, .f32⟩
  | .hbm, ⟨26, _⟩ => ⟨S65536x256, .f32⟩
  | .hbm, ⟨27, _⟩ => ⟨S256x1024, .f32⟩
  | .hbm, ⟨28, _⟩ => ⟨S65536x1024, .f32⟩
  | .hbm, ⟨29, _⟩ => ⟨S65536x1024, .f32⟩
  | .hbm, ⟨30, _⟩ => ⟨S65536x1x1024, .f32⟩
  | .hbm, ⟨31, _⟩ => ⟨S65536x1024, .f32⟩
  | .hbm, ⟨32, _⟩ => ⟨S65536x256, .f32⟩
  | .hbm, ⟨33, _⟩ => ⟨S256x1024, .f32⟩
  | .hbm, ⟨34, _⟩ => ⟨S65536x1024, .f32⟩
  | .hbm, ⟨35, _⟩ => ⟨S65536x1024, .f32⟩
  | .hbm, ⟨36, _⟩ => ⟨S65536x1024, .f32⟩
  | .hbm, ⟨37, _⟩ => ⟨S65536x1x1024, .f32⟩
  | .hbm, ⟨38, _⟩ => ⟨S65536x1024, .f32⟩
  | .hbm, ⟨39, _⟩ => ⟨S65536x256, .f32⟩
  | .hbm, ⟨40, _⟩ => ⟨S256x1024, .f32⟩
  | .hbm, ⟨41, _⟩ => ⟨S65536x1024, .f32⟩
  | .hbm, ⟨42, _⟩ => ⟨S65536x1024, .f32⟩
  | .hbm, ⟨43, _⟩ => ⟨S65536x1024, .f32⟩
  | .hbm, ⟨44, _⟩ => ⟨S65536x1x1024, .f32⟩
  | .hbm, ⟨45, _⟩ => ⟨S65536x1024, .f32⟩
  | .hbm, ⟨46, _⟩ => ⟨S65536x512, .f32⟩
  | .hbm, ⟨47, _⟩ => ⟨S512x1024, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536x1024, .f32⟩
  | .hbm, ⟨53, _⟩ => ⟨S65536x1024, .f32⟩
  | .hbm, ⟨54, _⟩ => ⟨S1024x1024, .f32⟩
  | .hbm, ⟨55, _⟩ => ⟨S65536x1024, .f32⟩
  | .hbm, ⟨56, _⟩ => ⟨S65536x1024, .f32⟩
  | .hbm, ⟨57, _⟩ => ⟨S_, .f32⟩
  | .hbm, ⟨58, _⟩ => ⟨S65536, .f32⟩
  | .hbm, ⟨59, _⟩ => ⟨S65536x1, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S_, .f32⟩
  | .hbm, ⟨67, _⟩ => ⟨S65536, .f32⟩
  | .hbm, ⟨68, _⟩ => ⟨S65536x1, .f32⟩
  | .hbm, ⟨69, _⟩ => ⟨S_, .f32⟩
  | .hbm, ⟨70, _⟩ => ⟨S65536x1, .f32⟩
  | .hbm, ⟨71, _⟩ => ⟨S65536x1, .f32⟩
  | .hbm, ⟨72, _⟩ => ⟨S65536x1024, .f32⟩
  | .hbm, ⟨73, _⟩ => ⟨S65536x1024, .f32⟩
  | .hbm, ⟨74, _⟩ => ⟨S_, .f32⟩
  | .hbm, ⟨75, _⟩ => ⟨S65536x1, .f32⟩
  | .hbm, ⟨76, _⟩ => ⟨S65536x1, .f32⟩
  | .hbm, ⟨77, _⟩ => ⟨S65536x1, .f32⟩
  | .hbm, ⟨78, _⟩ => ⟨S65536x1024, .f32⟩
  | .hbm, ⟨79, _⟩ => ⟨S65536x1024, .f32⟩
  | .hbm, ⟨80, _⟩ => ⟨S65536x1024, .f32⟩
  | .hbm, ⟨81, _⟩ => ⟨S65536x1024, .f32⟩
  | .hbm, ⟨82, _⟩ => ⟨S65536x1024, .f32⟩
  | .hbm, ⟨83, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_cst_1 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_2 : Ref sig .tc := ⟨.hbm, 57, rfl⟩
abbrev main_v41 : Ref sig .tc := ⟨.hbm, 58, rfl⟩
abbrev main_v42 : Ref sig .tc := ⟨.hbm, 59, rfl⟩
abbrev main_cst_3 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_4 : Ref sig .tc := ⟨.hbm, 66, rfl⟩
abbrev main_v48 : Ref sig .tc := ⟨.hbm, 67, rfl⟩
abbrev main_v49 : Ref sig .tc := ⟨.hbm, 68, rfl⟩
abbrev main_cst_5 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_6 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]
-- ==== Dense.lean ====
abbrev S65536x1024 : Shape := ⟨2, ![65536, 1024]⟩
abbrev S1024x2816 : Shape := ⟨2, ![1024, 2816]⟩
abbrev S2816x1024 : Shape := ⟨2, ![2816, 1024]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512x2816 : Shape := ⟨2, ![512, 2816]⟩
abbrev S512 : Shape := ⟨1, ![512]⟩
abbrev S512x1 : Shape := ⟨2, ![512, 1]⟩

abbrev nBuf : Space → Nat
  | .hbm => 10
  | .vmem => 15
  | .smem => 0
  | _ => 0

abbrev bufTy : (tb : Table) → Fin (tcTables nBuf tb) → BufTy
  | .hbm, ⟨0, _⟩ => ⟨S65536x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S65536x256, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S512x256, .f32⟩
  | .local _ .vmem, ⟨6, _⟩ => ⟨S512x256, .f32⟩
  | .local _ .vmem, ⟨7, _⟩ => ⟨S1024x1024, .bf16⟩
  | .local _ .vmem, ⟨8, _⟩ => ⟨S256x1024, .bf16⟩
  | .local _ .vmem, ⟨9, _⟩ => ⟨S1x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_scratch0 : Ref sig .tc := ⟨.vmem, 13, rfl⟩
abbrev cc0_scratch1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨2, ![128, 1], ![false, false]⟩

def k0_cond2 (i : grid0.Coords) : BitVec 1 :=
  let arg1 : BitVec 32 := BitVec.ofNat 32 (i 1).val
  let c0_i32_14 : BitVec 32 := 0#32
  let v19 : BitVec 1 := Scalar.cmpi .eq arg1 c0_i32_14
  let v20 : BitVec 32 := Scalar.extui v19
  let c0_i32_15 : BitVec 32 := 0#32
  let v21 : BitVec 1 := Scalar.cmpi .ne v20 c0_i32_15
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 1 → Memref sig .tc .vmem S1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== DenseReferenceIdeal.lean ====
abbrev S65536x1024 : Shape := ⟨2, ![65536, 1024]⟩
abbrev S1024x2816 : Shape := ⟨2, ![1024, 2816]⟩
abbrev S2816x1024 : Shape := ⟨2, ![2816, 1024]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S65536x2816 : Shape := ⟨2, ![65536, 2816]⟩
abbrev S_ : Shape := ⟨0, ![]⟩
abbrev S65536 : Shape := ⟨1, ![65536]⟩
abbrev S65536x1 : Shape := ⟨2, ![65536, 1]⟩

abbrev nBuf : Space → Nat
  | .hbm => 70
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x2816, .bf16⟩
  | .hbm, ⟨2, _⟩ => ⟨S1024x2816, .bf16⟩
  | .hbm, ⟨3, _⟩ => ⟨S2816x1024, .bf16⟩
  | .hbm, ⟨4, _⟩ => ⟨S65536x256, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S1024x2816, .f32⟩
  | .hbm, ⟨10, _⟩ => ⟨S1024x2816, .f32⟩
  | .hbm, ⟨11, _⟩ => ⟨S2816x1024, .f32⟩
  | .hbm, ⟨12, _⟩ => ⟨S65536x2816, .f32⟩
  | .hbm, ⟨13, _⟩ => ⟨S65536x2816, .f32⟩
  | .hbm, ⟨14, _⟩ => ⟨S65536x2816, .f32⟩
  | .hbm, ⟨15, _⟩ => ⟨S_, .f32⟩
  | .hbm, ⟨16, _⟩ => ⟨S65536x2816, .f32⟩
  | .hbm, ⟨17, _⟩ => ⟨S65536x2816, .f32⟩
  | .hbm, ⟨18, _⟩ => ⟨S_, .f32⟩
  | .hbm, ⟨19, _⟩ => ⟨S65536x2816, .f32⟩
  | .hbm, ⟨20, _⟩ => ⟨S65536x2816, .f32⟩
  | .hbm, ⟨21, _⟩ => ⟨S65536x2816, .f32⟩
  | .hbm, ⟨22, _⟩ => ⟨S65536x2816, .f32⟩
  | .hbm, ⟨23, _⟩ => ⟨S65536x2816, .f32⟩
  | .hbm, ⟨24, _⟩ => ⟨S65536x1024, .f32⟩
  | .hbm, ⟨25, _⟩ => ⟨S1024x1024, .f32⟩
  | .hbm, ⟨26, _⟩ => ⟨S65536x1024, .f32⟩
  | .hbm, ⟨27, _⟩ => ⟨S65536x1024, .f32⟩
  | .hbm, ⟨28, _⟩ => ⟨S65536x1024, .f32⟩
  | .hbm, ⟨29, _⟩ => ⟨S_, .f32⟩
  | .hbm, ⟨30, _⟩ => ⟨S65536x1024, .f32⟩
  | .hbm, ⟨31, _⟩ => ⟨S65536x1024, .f32⟩
  | .hbm, ⟨32, _⟩ => ⟨S_, .f32⟩
  | .hbm, ⟨33, _⟩ => ⟨S65536x1024, .f32⟩
  | .hbm, ⟨34, _⟩ => ⟨S65536x1024, .f32⟩
  | .hbm, ⟨35, _⟩ => ⟨S256x1024, .f32⟩
  | .hbm, ⟨36, _⟩ => ⟨S65536x1024, .f32⟩
  | .hbm, ⟨37, _⟩ => ⟨S65536x1024, .f32⟩
  | .hbm, ⟨38, _⟩ => ⟨S_, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S65536x1024, .f32⟩
  | .hbm, ⟨43, _⟩ => ⟨S_, .f32⟩
  | .hbm, ⟨44, _⟩ => ⟨S65536, .f32⟩
  | .hbm, ⟨45, _⟩ => ⟨S65536x1, .f32⟩
  | .hbm, ⟨46, _⟩ => ⟨S_, .f32⟩
  | .hbm, ⟨47, _⟩ => ⟨S65536x1, .f32⟩
  | .hbm, ⟨48, _⟩ => ⟨S65536x1, .f32⟩
  | .hbm, ⟨49, _⟩ => ⟨S65536x1024, .f32⟩
  | .hbm, ⟨50, _⟩ => ⟨S65536x1024, .f32⟩
  | .hbm, ⟨51, _⟩ => ⟨S65536x1024, .f32⟩
  | .hbm, ⟨52, _⟩ => ⟨S_, .f32⟩
  | .hbm, ⟨53, _⟩ => ⟨S65536, .f32⟩
  | .hbm, ⟨54, _⟩ => ⟨S65536x1, .f32⟩
  | .hbm, ⟨55, _⟩ => ⟨S_, .f32⟩
  | .hbm, ⟨56, _⟩ => ⟨S65536x1, .f32⟩
  | .hbm, ⟨57, _⟩ => ⟨S65536x1, .f32⟩
  | .hbm, ⟨58, _⟩ => ⟨S65536x1024, .f32⟩
  | .hbm, ⟨59, _⟩ => ⟨S65536x1024, .f32⟩
  | .hbm, ⟨60, _⟩ => ⟨S_, .f32⟩
  | .hbm, ⟨61, _⟩ => ⟨S65536x1, .f32⟩
  | .hbm, ⟨62, _⟩ => ⟨S65536x1, .f32⟩
  | .hbm, ⟨63, _⟩ => ⟨S65536x1, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S65536x1024, .f32⟩
  | .hbm, ⟨69, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_call0_v0 : Ref sig .tc := ⟨.hbm, 13, rfl⟩
abbrev main_call0_v1 : Ref sig .tc := ⟨.hbm, 14, rfl⟩
abbrev main_call0_cst : Ref sig .tc := ⟨.hbm, 15, rfl⟩
abbrev main_call0_v2 : Ref sig .tc := ⟨.hbm, 16, rfl⟩
abbrev main_call0_v3 : Ref sig .tc := ⟨.hbm, 17, rfl⟩
abbrev main_call0_cst_0 : Ref sig .tc := ⟨.hbm, 18, rfl⟩
abbrev main_call0_v4 : Ref sig .tc := ⟨.hbm, 19, rfl⟩
abbrev main_call0_v5 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_cst_0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_1 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_cst_2 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_4 : Ref sig .tc := ⟨.hbm, 52, rfl⟩
abbrev main_v30 : Ref sig .tc := ⟨.hbm, 53, rfl⟩
abbrev main_v31 : Ref sig .tc := ⟨.hbm, 54, rfl⟩
abbrev main_cst_5 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_6 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Project.lean ====
abbrev S65536x1024 : Shape := ⟨2, ![65536, 1024]⟩
abbrev S1024x3584 : Shape := ⟨2, ![1024, 3584]⟩
abbrev S65536x3584 : Shape := ⟨2, ![65536, 3584]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S65536x1024, .f32⟩
  | .hbm, ⟨1, _⟩ => ⟨S1024x3584, .bf16⟩
  | .hbm, ⟨2, _⟩ => ⟨S65536x3584, .bf16⟩
  | .local _ .vmem, ⟨0, _⟩ => ⟨S1024x1024, .f32⟩
  | .local _ .vmem, ⟨1, _⟩ => ⟨S1024x1024, .f32⟩
  | .local _ .vmem, ⟨2, _⟩ => ⟨S1024x3584, .bf16⟩
  | .local _ .vmem, ⟨3, _⟩ => ⟨S1024x3584, .bf16⟩
  | .local _ .vmem, ⟨4, _⟩ => ⟨S1024x3584, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![64, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1024x3584 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1024x3584 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjectReferenceIdeal.lean ====
abbrev S65536x1024 : Shape := ⟨2, ![65536, 1024]⟩
abbrev S1024x3584 : Shape := ⟨2, ![1024, 3584]⟩
abbrev S65536x3584 : Shape := ⟨2, ![65536, 3584]⟩

abbrev nBuf : Space → Nat
  | .hbm => 5
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x3584, .bf16⟩
  | .hbm, ⟨2, _⟩ => ⟨S1024x3584, .f32⟩
  | .hbm, ⟨3, _⟩ => ⟨S65536x3584, .f32⟩
  | .hbm, ⟨4, _⟩ => ⟨S65536x3584, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Combine.lean ====
abbrev S65536x1024 : Shape := ⟨2, ![65536, 1024]⟩
abbrev S65536x8x128 : Shape := ⟨3, ![65536, 8, 128]⟩
abbrev S65536x128 : Shape := ⟨2, ![65536, 128]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x8x128 : Shape := ⟨3, ![512, 8, 128]⟩
abbrev S512x128 : Shape := ⟨2, ![512, 128]⟩
abbrev S512x256 : Shape := ⟨2, ![512, 256]⟩
abbrev S512x1 : Shape := ⟨2, ![512, 1]⟩
abbrev S512 : Shape := ⟨1, ![512]⟩

abbrev nBuf : Space → Nat
  | .hbm => 11
  | .vmem => 32
  | .smem => 0
  | _ => 0

abbrev bufTy : (tb : Table) → Fin (tcTables nBuf tb) → BufTy
  | .hbm, ⟨0, _⟩ => ⟨S65536x1024, .f32⟩
  | .hbm, ⟨1, _⟩ => ⟨S65536x8x128, .f32⟩
  | .hbm, ⟨2, _⟩ => ⟨S65536x8x128, .f32⟩
  | .hbm, ⟨3, _⟩ => ⟨S65536x128, .f32⟩
  | .hbm, ⟨4, _⟩ => ⟨S65536x256, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S65536x1024, .f32⟩
  | .hbm, ⟨10, _⟩ => ⟨S65536x1024, .f32⟩
  | .local _ .vmem, ⟨0, _⟩ => ⟨S512x1024, .f32⟩
  | .local _ .vmem, ⟨1, _⟩ => ⟨S512x1024, .f32⟩
  | .local _ .vmem, ⟨2, _⟩ => ⟨S512x8x128, .f32⟩
  | .local _ .vmem, ⟨3, _⟩ => ⟨S512x8x128, .f32⟩
  | .local _ .vmem, ⟨4, _⟩ => ⟨S512x8x128, .f32⟩
  | .local _ .vmem, ⟨5, _⟩ => ⟨S512x8x128, .f32⟩
  | .local _ .vmem, ⟨6, _⟩ => ⟨S512x128, .f32⟩
  | .local _ .vmem, ⟨7, _⟩ => ⟨S512x128, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S256x1024, .bf16⟩
  | .local _ .vmem, ⟨12, _⟩ => ⟨S1x1024, .f32⟩
  | .local _ .vmem, ⟨13, _⟩ => ⟨S1x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x8x128, .f32⟩
  | .local _ .vmem, ⟨19, _⟩ => ⟨S512x8x128, .f32⟩
  | .local _ .vmem, ⟨20, _⟩ => ⟨S512x8x128, .f32⟩
  | .local _ .vmem, ⟨21, _⟩ => ⟨S512x8x128, .f32⟩
  | .local _ .vmem, ⟨22, _⟩ => ⟨S512x128, .f32⟩
  | .local _ .vmem, ⟨23, _⟩ => ⟨S512x128, .f32⟩
  | .local _ .vmem, ⟨24, _⟩ => ⟨S512x256, .f32⟩
  | .local _ .vmem, ⟨25, _⟩ => ⟨S512x256, .f32⟩
  | .local _ .vmem, ⟨26, _⟩ => ⟨S1024x1024, .bf16⟩
  | .local _ .vmem, ⟨27, _⟩ => ⟨S256x1024, .bf16⟩
  | .local _ .vmem, ⟨28, _⟩ => ⟨S1x1024, .f32⟩
  | .local _ .vmem, ⟨29, _⟩ => ⟨S1x1024, .f32⟩
  | .local _ .vmem, ⟨30, _⟩ => ⟨S512x1024, .f32⟩
  | .local _ .vmem, ⟨31, _⟩ => ⟨S512x1024, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg1_1 : Ref sig .tc := ⟨.vmem, 19, rfl⟩
abbrev cc1_stg2_0 : Ref sig .tc := ⟨.vmem, 20, rfl⟩
abbrev cc1_stg2_1 : Ref sig .tc := ⟨.vmem, 21, rfl⟩
abbrev cc1_stg3_0 : Ref sig .tc := ⟨.vmem, 22, rfl⟩
abbrev cc1_stg3_1 : Ref sig .tc := ⟨.vmem, 23, rfl⟩
abbrev cc1_stg4_0 : Ref sig .tc := ⟨.vmem, 24, rfl⟩
abbrev cc1_stg4_1 : Ref sig .tc := ⟨.vmem, 25, rfl⟩
abbrev cc1_stg5_0 : Ref sig .tc := ⟨.vmem, 26, rfl⟩
abbrev cc1_stg6_0 : Ref sig .tc := ⟨.vmem, 27, rfl⟩
abbrev cc1_stg7_0 : Ref sig .tc := ⟨.vmem, 28, rfl⟩
abbrev cc1_stg8_0 : Ref sig .tc := ⟨.vmem, 29, rfl⟩
abbrev cc1_stg9_0 : Ref sig .tc := ⟨.vmem, 30, rfl⟩
abbrev cc1_stg9_1 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem6_0 : DmaSem sig := 27
abbrev cc1_sem7_0 : DmaSem sig := 28
abbrev cc1_sem8_0 : DmaSem sig := 29
abbrev cc1_sem9_0 : DmaSem sig := 30
abbrev cc1_sem9_1 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  let c0_i32_1 : BitVec 32 := 0#32
  ![v0.toNat, c0_i32.toNat, c0_i32_0.toNat]

def cc0_transform_3 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![64], ![false]⟩

def cc1_transform_0 (i : grid1.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  let c0_i32_1 : BitVec 32 := 0#32
  ![v0.toNat, c0_i32.toNat, c0_i32_0.toNat]

def cc1_transform_3 (i : grid1.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc1_transform_4 (i : grid1.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c64_i32 : BitVec 32 := 64#32
  let v0 : BitVec 32 := Scalar.addi arg0 c64_i32
  let c0_i32 : BitVec 32 := 0#32
  let c0_i32_0 : BitVec 32 := 0#32
  ![v0.toNat, c0_i32.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x8x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x8x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S512x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S512x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S1024x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S512x1024 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== CombineReferenceIdeal.lean ====
abbrev S65536x1024 : Shape := ⟨2, ![65536, 1024]⟩
abbrev S65536x8x128 : Shape := ⟨3, ![65536, 8, 128]⟩
abbrev S65536x128 : Shape := ⟨2, ![65536, 128]⟩
abbrev S65536x256 : Shape := ⟨2, ![65536, 256]⟩
abbrev S1024x1024 : Shape := ⟨2, ![1024, 1024]⟩
abbrev S256x1024 : Shape := ⟨2, ![256, 1024]⟩
abbrev S1x1024 : Shape := ⟨2, ![1, 1024]⟩
abbrev S32768x8x128 : Shape := ⟨3, ![32768, 8, 128]⟩
abbrev S65536x1 : Shape := ⟨2, ![65536, 1]⟩
abbrev S_ : Shape := ⟨0, ![]⟩
abbrev S65536 : Shape := ⟨1, ![65536]⟩

abbrev nBuf : Space → Nat
  | .hbm => 69
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x8x128, .f32⟩
  | .hbm, ⟨2, _⟩ => ⟨S65536x8x128, .f32⟩
  | .hbm, ⟨3, _⟩ => ⟨S65536x128, .f32⟩
  | .hbm, ⟨4, _⟩ => ⟨S65536x256, .f32⟩
  | .hbm, ⟨5, _⟩ => ⟨S1024x1024, .bf16⟩
  | .hbm, ⟨6, _⟩ => ⟨S256x1024, .bf16⟩
  | .hbm, ⟨7, _⟩ => ⟨S1x1024, .f32⟩
  | .hbm, ⟨8, _⟩ => ⟨S1x1024, .f32⟩
  | .hbm, ⟨9, _⟩ => ⟨S32768x8x128, .f32⟩
  | .hbm, ⟨10, _⟩ => ⟨S32768x8x128, .f32⟩
  | .hbm, ⟨11, _⟩ => ⟨S65536x8x128, .f32⟩
  | .hbm, ⟨12, _⟩ => ⟨S65536x1024, .f32⟩
  | .hbm, ⟨13, _⟩ => ⟨S32768x8x128, .f32⟩
  | .hbm, ⟨14, _⟩ => ⟨S32768x8x128, .f32⟩
  | .hbm, ⟨15, _⟩ => ⟨S65536x8x128, .f32⟩
  | .hbm, ⟨16, _⟩ => ⟨S65536x1024, .f32⟩
  | .hbm, ⟨17, _⟩ => ⟨S65536x1, .f32⟩
  | .hbm, ⟨18, _⟩ => ⟨S65536x1024, .f32⟩
  | .hbm, ⟨19, _⟩ => ⟨S65536x1024, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S65536x1024, .f32⟩
  | .hbm, ⟨24, _⟩ => ⟨S1024x1024, .f32⟩
  | .hbm, ⟨25, _⟩ => ⟨S65536x1024, .f32⟩
  | .hbm, ⟨26, _⟩ => ⟨S65536x1024, .f32⟩
  | .hbm, ⟨27, _⟩ => ⟨S65536x1024, .f32⟩
  | .hbm, ⟨28, _⟩ => ⟨S_, .f32⟩
  | .hbm, ⟨29, _⟩ => ⟨S65536x1024, .f32⟩
  | .hbm, ⟨30, _⟩ => ⟨S65536x1024, .f32⟩
  | .hbm, ⟨31, _⟩ => ⟨S_, .f32⟩
  | .hbm, ⟨32, _⟩ => ⟨S65536x1024, .f32⟩
  | .hbm, ⟨33, _⟩ => ⟨S65536x1024, .f32⟩
  | .hbm, ⟨34, _⟩ => ⟨S256x1024, .f32⟩
  | .hbm, ⟨35, _⟩ => ⟨S65536x1024, .f32⟩
  | .hbm, ⟨36, _⟩ => ⟨S65536x1024, .f32⟩
  | .hbm, ⟨37, _⟩ => ⟨S_, .f32⟩
  | .hbm, ⟨38, _⟩ => ⟨S65536x1024, .f32⟩
  | .hbm, ⟨39, _⟩ => ⟨S65536x1024, .f32⟩
  | .hbm, ⟨40, _⟩ => ⟨S65536x1024, .f32⟩
  | .hbm, ⟨41, _⟩ => ⟨S65536x1024, .f32⟩
  | .hbm, ⟨42, _⟩ => ⟨S_, .f32⟩
  | .hbm, ⟨43, _⟩ => ⟨S65536, .f32⟩
  | .hbm, ⟨44, _⟩ => ⟨S65536x1, .f32⟩
  | .hbm, ⟨45, _⟩ => ⟨S_, .f32⟩
  | .hbm, ⟨46, _⟩ => ⟨S65536x1, .f32⟩
  | .hbm, ⟨47, _⟩ => ⟨S65536x1, .f32⟩
  | .hbm, ⟨48, _⟩ => ⟨S65536x1024, .f32⟩
  | .hbm, ⟨49, _⟩ => ⟨S65536x1024, .f32⟩
  | .hbm, ⟨50, _⟩ => ⟨S65536x1024, .f32⟩
  | .hbm, ⟨51, _⟩ => ⟨S_, .f32⟩
  | .hbm, ⟨52, _⟩ => ⟨S65536, .f32⟩
  | .hbm, ⟨53, _⟩ => ⟨S65536x1, .f32⟩
  | .hbm, ⟨54, _⟩ => ⟨S_, .f32⟩
  | .hbm, ⟨55, _⟩ => ⟨S65536x1, .f32⟩
  | .hbm, ⟨56, _⟩ => ⟨S65536x1, .f32⟩
  | .hbm, ⟨57, _⟩ => ⟨S65536x1024, .f32⟩
  | .hbm, ⟨58, _⟩ => ⟨S65536x1024, .f32⟩
  | .hbm, ⟨59, _⟩ => ⟨S_, .f32⟩
  | .hbm, ⟨60, _⟩ => ⟨S65536x1, .f32⟩
  | .hbm, ⟨61, _⟩ => ⟨S65536x1, .f32⟩
  | .hbm, ⟨62, _⟩ => ⟨S65536x1, .f32⟩
  | .hbm, ⟨63, _⟩ => ⟨S65536x1024, .f32⟩
  | .hbm, ⟨64, _⟩ => ⟨S65536x1024, .f32⟩
  | .hbm, ⟨65, _⟩ => ⟨S65536x1024, .f32⟩
  | .hbm, ⟨66, _⟩ => ⟨S65536x1024, .f32⟩
  | .hbm, ⟨67, _⟩ => ⟨S65536x1024, .f32⟩
  | .hbm, ⟨68, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst : Ref sig .tc := ⟨.hbm, 28, rfl⟩
abbrev main_v19 : Ref sig .tc := ⟨.hbm, 29, rfl⟩
abbrev main_v20 : Ref sig .tc := ⟨.hbm, 30, rfl⟩
abbrev main_cst_0 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_1 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_2 : Ref sig .tc := ⟨.hbm, 42, rfl⟩
abbrev main_v30 : Ref sig .tc := ⟨.hbm, 43, rfl⟩
abbrev main_v31 : Ref sig .tc := ⟨.hbm, 44, rfl⟩
abbrev main_cst_3 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_4 : Ref sig .tc := ⟨.hbm, 51, rfl⟩
abbrev main_v37 : Ref sig .tc := ⟨.hbm, 52, rfl⟩
abbrev main_v38 : Ref sig .tc := ⟨.hbm, 53, rfl⟩
abbrev main_cst_5 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_6 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩

abbrev nD : Nat := 1
abbrev τ : Topo := Topo.v7x

variable {F : FTy → Type} [FloatOps F]
-- ==== Gating.lean ====
abbrev S65536x3584 : Shape := ⟨2, ![65536, 3584]⟩
abbrev S1x256 : Shape := ⟨2, ![1, 256]⟩
abbrev S4x128x128 : Shape := ⟨3, ![4, 128, 128]⟩
abbrev S4x128 : Shape := ⟨2, ![4, 128]⟩
abbrev S128x4 : Shape := ⟨2, ![128, 4]⟩
abbrev S128x4x64 : Shape := ⟨3, ![128, 4, 64]⟩
abbrev S128x256 : Shape := ⟨2, ![128, 256]⟩
abbrev S65536x256 : Shape := ⟨2, ![65536, 256]⟩
abbrev S1024x256 : Shape := ⟨2, ![1024, 256]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩
abbrev S128x512 : Shape := ⟨2, ![128, 512]⟩
abbrev S512x256 : Shape := ⟨2, ![512, 256]⟩

abbrev nBuf : Space → Nat
  | .hbm => 9
  | .vmem => 10
  | .smem => 0
  | _ => 0

abbrev bufTy : (tb : Table) → Fin (tcTables nBuf tb) → BufTy
  | .hbm, ⟨0, _⟩ => ⟨S65536x3584, .bf16⟩
  | .hbm, ⟨1, _⟩ => ⟨S1x256, .f32⟩
  | .hbm, ⟨2, _⟩ => ⟨S1x256, .f32⟩
  | .hbm, ⟨3, _⟩ => ⟨S4x128x128, .f32⟩
  | .hbm, ⟨4, _⟩ => ⟨S4x128, .f32⟩
  | .hbm, ⟨5, _⟩ => ⟨S128x4, .f32⟩
  | .hbm, ⟨6, _⟩ => ⟨S128x4x64, .f32⟩
  | .hbm, ⟨7, _⟩ => ⟨S128x256, .f32⟩
  | .hbm, ⟨8, _⟩ => ⟨S65536x256, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x256, .bf16⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S1024x256, .bf16⟩
  | .local _ .vmem, ⟨9, _⟩ => ⟨S1024x256, .bf16⟩
  | _, _ => ⟨S65536x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatingReferenceIdeal.lean ====
abbrev S65536x3584 : Shape := ⟨2, ![65536, 3584]⟩
abbrev S1x256 : Shape := ⟨2, ![1, 256]⟩
abbrev S4x128x128 : Shape := ⟨3, ![4, 128, 128]⟩
abbrev S4x128 : Shape := ⟨2, ![4, 128]⟩
abbrev S65536x512 : Shape := ⟨2, ![65536, 512]⟩
abbrev S_ : Shape := ⟨0, ![]⟩
abbrev S65536x256 : Shape := ⟨2, ![65536, 256]⟩
abbrev S65536 : Shape := ⟨1, ![65536]⟩
abbrev S65536x1 : Shape := ⟨2, ![65536, 1]⟩
abbrev S8x64x128x4x64 : Shape := ⟨5, ![8, 64, 128, 4, 64]⟩
abbrev S128x128 : Shape := ⟨2, ![128, 128]⟩
abbrev S1x128x128 : Shape := ⟨3, ![1, 128, 128]⟩
abbrev S4x8x64x64x128 : Shape := ⟨5, ![4, 8, 64, 64, 128]⟩
abbrev S128x4 : Shape := ⟨2, ![128, 4]⟩
abbrev S1x1x128x4x1 : Shape := ⟨5, ![1, 1, 128, 4, 1]⟩

abbrev nBuf : Space → Nat
  | .hbm => 79
  | .vmem => 0
  | .smem => 0
  | _ => 0

abbrev bufTy : (tb : Table) → Fin (tcTables nBuf tb) → BufTy
  | .hbm, ⟨0, _⟩ => ⟨S65536x3584, .bf16⟩
  | .hbm, ⟨1, _⟩ => ⟨S1x256, .f32⟩
  | .hbm, ⟨2, _⟩ => ⟨S1x256, .f32⟩
  | .hbm, ⟨3, _⟩ => ⟨S4x128x128, .f32⟩
  | .hbm, ⟨4, _⟩ => ⟨S4x128, .f32⟩
  | .hbm, ⟨5, _⟩ => ⟨S65536x512, .bf16⟩
  | .hbm, ⟨6, _⟩ => ⟨S65536x512, .f32⟩
  | .hbm, ⟨7, _⟩ => ⟨S65536x512, .f32⟩
  | .hbm, ⟨8, _⟩ => ⟨S65536x512, .f32⟩
  | .hbm, ⟨9, _⟩ => ⟨S_, .f32⟩
  | .hbm, ⟨10, _⟩ => ⟨S65536x512, .f32⟩
  | .hbm, ⟨11, _⟩ => ⟨S65536x512, .f32⟩
  | .hbm, ⟨12, _⟩ => ⟨S65536x512, .f32⟩
  | .hbm, ⟨13, _⟩ => ⟨S_, .f32⟩
  | .hbm, ⟨14, _⟩ => ⟨S65536x512, .f32⟩
  | .hbm, ⟨15, _⟩ => ⟨S65536x512, .f32⟩
  | .hbm, ⟨16, _⟩ => ⟨S65536x512, .f32⟩
  | .hbm, ⟨17, _⟩ => ⟨S_, .f32⟩
  | .hbm, ⟨18, _⟩ => ⟨S65536x512, .f32⟩
  | .hbm, ⟨19, _⟩ => ⟨S65536x512, .f32⟩
  | .hbm, ⟨20, _⟩ => ⟨S_, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x256, .f32⟩
  | .hbm, ⟨25, _⟩ => ⟨S65536x256, .f32⟩
  | .hbm, ⟨26, _⟩ => ⟨S_, .f32⟩
  | .hbm, ⟨27, _⟩ => ⟨S65536, .f32⟩
  | .hbm, ⟨28, _⟩ => ⟨S65536x1, .f32⟩
  | .hbm, ⟨29, _⟩ => ⟨S_, .f32⟩
  | .hbm, ⟨30, _⟩ => ⟨S65536x1, .f32⟩
  | .hbm, ⟨31, _⟩ => ⟨S65536x1, .f32⟩
  | .hbm, ⟨32, _⟩ => ⟨S65536x256, .f32⟩
  | .hbm, ⟨33, _⟩ => ⟨S65536x256, .f32⟩
  | .hbm, ⟨34, _⟩ => ⟨S65536x256, .f32⟩
  | .hbm, ⟨35, _⟩ => ⟨S_, .f32⟩
  | .hbm, ⟨36, _⟩ => ⟨S65536, .f32⟩
  | .hbm, ⟨37, _⟩ => ⟨S65536x1, .f32⟩
  | .hbm, ⟨38, _⟩ => ⟨S_, .f32⟩
  | .hbm, ⟨39, _⟩ => ⟨S65536x1, .f32⟩
  | .hbm, ⟨40, _⟩ => ⟨S65536x1, .f32⟩
  | .hbm, ⟨41, _⟩ => ⟨S65536x256, .f32⟩
  | .hbm, ⟨42, _⟩ => ⟨S65536x256, .f32⟩
  | .hbm, ⟨43, _⟩ => ⟨S_, .f32⟩
  | .hbm, ⟨44, _⟩ => ⟨S65536x1, .f32⟩
  | .hbm, ⟨45, _⟩ => ⟨S65536x1, .f32⟩
  | .hbm, ⟨46, _⟩ => ⟨S65536x1, .f32⟩
  | .hbm, ⟨47, _⟩ => ⟨S65536x256, .f32⟩
  | .hbm, ⟨48, _⟩ => ⟨S65536x256, .f32⟩
  | .hbm, ⟨49, _⟩ => ⟨S65536x256, .f32⟩
  | .hbm, ⟨50, _⟩ => ⟨S65536x256, .f32⟩
  | .hbm, ⟨51, _⟩ => ⟨S65536x256, .f32⟩
  | .hbm, ⟨52, _⟩ => ⟨S65536x256, .f32⟩
  | .hbm, ⟨53, _⟩ => ⟨S8x64x128x4x64, .f32⟩
  | .hbm, ⟨54, _⟩ => ⟨S_, .i1⟩
  | .hbm, ⟨55, _⟩ => ⟨S128x128, .i1⟩
  | .hbm, ⟨56, _⟩ => ⟨S128x128, .i32⟩
  | .hbm, ⟨57, _⟩ => ⟨S_, .i32⟩
  | .hbm, ⟨58, _⟩ => ⟨S128x128, .i32⟩
  | .hbm, ⟨59, _⟩ => ⟨S128x128, .i32⟩
  | .hbm, ⟨60, _⟩ => ⟨S128x128, .i32⟩
  | .hbm, ⟨61, _⟩ => ⟨S128x128, .i1⟩
  | .hbm, ⟨62, _⟩ => ⟨S_, .i1⟩
  | .hbm, ⟨63, _⟩ => ⟨S128x128, .i1⟩
  | .hbm, ⟨64, _⟩ => ⟨S128x128, .i1⟩
  | .hbm, ⟨65, _⟩ => ⟨S1x128x128, .i1⟩
  | .hbm, ⟨66, _⟩ => ⟨S_, .f32⟩
  | .hbm, ⟨67, _⟩ => ⟨S4x128x128, .f32⟩
  | .hbm, ⟨68, _⟩ => ⟨S4x128x128, .i1⟩
  | .hbm, ⟨69, _⟩ => ⟨S4x128x128, .f32⟩
  | .hbm, ⟨70, _⟩ => ⟨S4x8x64x64x128, .f32⟩
  | .hbm, ⟨71, _⟩ => ⟨S8x64x128x4x64, .f32⟩
  | .hbm, ⟨72, _⟩ => ⟨S128x4, .f32⟩
  | .hbm, ⟨73, _⟩ => ⟨S1x1x128x4x1, .f32⟩
  | .hbm, ⟨74, _⟩ => ⟨S8x64x128x4x64, .f32⟩
  | .hbm, ⟨75, _⟩ => ⟨S8x64x128x4x64, .f32⟩
  | .hbm, ⟨76, _⟩ => ⟨S65536x256, .f32⟩
  | .hbm, ⟨77, _⟩ => ⟨S65536x256, .f32⟩
  | .hbm, ⟨78, _⟩ => ⟨S65536x256, .bf16⟩
  | _, _ => ⟨S65536x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_5 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_7 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_c : Ref sig .tc := ⟨.hbm, 54, rfl⟩
abbrev main_v40 : Ref sig .tc := ⟨.hbm, 55, rfl⟩
abbrev main_call0_v0 : Ref sig .tc := ⟨.hbm, 56, rfl⟩
abbrev main_call0_c : Ref sig .tc := ⟨.hbm, 57, rfl⟩
abbrev main_call0_v1 : Ref sig .tc := ⟨.hbm, 58, rfl⟩
abbrev main_call0_v2 : Ref sig .tc := ⟨.hbm, 59, rfl⟩
abbrev main_call0_v3 : Ref sig .tc := ⟨.hbm, 60, rfl⟩
abbrev main_call0_v4 : Ref sig .tc := ⟨.hbm, 61, rfl⟩
abbrev main_call0_c_0 : Ref sig .tc := ⟨.hbm, 62, rfl⟩
abbrev main_call0_v5 : Ref sig .tc := ⟨.hbm, 63, rfl⟩
abbrev main_v41 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_call1_v0 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩

abbrev nD : Nat := 1
abbrev τ : Topo := Topo.v7x

variable {F : FTy → Type} [FloatOps F]
-- ==== Router.lean ====
abbrev S65536x1024 : Shape := ⟨2, ![65536, 1024]⟩
abbrev S1024x8 : Shape := ⟨2, ![1024, 8]⟩
abbrev S_ : Shape := ⟨0, ![]⟩
abbrev S1024x128 : Shape := ⟨2, ![1024, 128]⟩
abbrev S65536x128 : Shape := ⟨2, ![65536, 128]⟩
abbrev S8x128 : Shape := ⟨2, ![8, 128]⟩
abbrev S65536x8x128 : Shape := ⟨3, ![65536, 8, 128]⟩
abbrev S512x1024 : Shape := ⟨2, ![512, 1024]⟩
abbrev S512x128 : Shape := ⟨2, ![512, 128]⟩
abbrev S512x8x128 : Shape := ⟨3, ![512, 8, 128]⟩
abbrev S1x128 : Shape := ⟨2, ![1, 128]⟩
abbrev S512 : Shape := ⟨1, ![512]⟩
abbrev S512x1 : Shape := ⟨2, ![512, 1]⟩
abbrev S512x512 : Shape := ⟨2, ![512, 512]⟩
abbrev S128 : Shape := ⟨1, ![128]⟩

abbrev nBuf : Space → Nat
  | .hbm => 8
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S_, .i32⟩
  | .hbm, ⟨3, _⟩ => ⟨S_, .f32⟩
  | .hbm, ⟨4, _⟩ => ⟨S1024x128, .f32⟩
  | .hbm, ⟨5, _⟩ => ⟨S65536x128, .f32⟩
  | .hbm, ⟨6, _⟩ => ⟨S8x128, .f32⟩
  | .hbm, ⟨7, _⟩ => ⟨S65536x8x128, .f32⟩
  | .local _ .vmem, ⟨0, _⟩ => ⟨S512x1024, .f32⟩
  | .local _ .vmem, ⟨1, _⟩ => ⟨S512x1024, .f32⟩
  | .local _ .vmem, ⟨2, _⟩ => ⟨S1024x128, .f32⟩
  | .local _ .vmem, ⟨3, _⟩ => ⟨S512x128, .f32⟩
  | .local _ .vmem, ⟨4, _⟩ => ⟨S512x128, .f32⟩
  | .local _ .vmem, ⟨5, _⟩ => ⟨S8x128, .f32⟩
  | .local _ .vmem, ⟨6, _⟩ => ⟨S512x8x128, .f32⟩
  | .local _ .vmem, ⟨7, _⟩ => ⟨S512x8x128, .f32⟩
  | .local _ .vmem, ⟨8, _⟩ => ⟨S1x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== RouterReferenceIdeal.lean ====
abbrev S65536x1024 : Shape := ⟨2, ![65536, 1024]⟩
abbrev S1024x8 : Shape := ⟨2, ![1024, 8]⟩
abbrev S65536x8 : Shape := ⟨2, ![65536, 8]⟩
abbrev S65536x2 : Shape := ⟨2, ![65536, 2]⟩
abbrev S_ : Shape := ⟨0, ![]⟩
abbrev S65536 : Shape := ⟨1, ![65536]⟩
abbrev S65536x1 : Shape := ⟨2, ![65536, 1]⟩
abbrev S65536x2x1 : Shape := ⟨3, ![65536, 2, 1]⟩
abbrev S1x1x8 : Shape := ⟨3, ![1, 1, 8]⟩
abbrev S65536x2x8 : Shape := ⟨3, ![65536, 2, 8]⟩
abbrev S65536x1x8 : Shape := ⟨3, ![65536, 1, 8]⟩
abbrev S65536x6 : Shape := ⟨2, ![65536, 6]⟩
abbrev S8 : Shape := ⟨1, ![8]⟩
abbrev S128 : Shape := ⟨1, ![128]⟩
abbrev S8x128 : Shape := ⟨2, ![8, 128]⟩
abbrev S65536x128 : Shape := ⟨2, ![65536, 128]⟩
abbrev S65536x8x128 : Shape := ⟨3, ![65536, 8, 128]⟩

abbrev nBuf : Space → Nat
  | .hbm => 48
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024x8, .f32⟩
  | .hbm, ⟨2, _⟩ => ⟨S65536x8, .f32⟩
  | .hbm, ⟨3, _⟩ => ⟨S65536x2, .f32⟩
  | .hbm, ⟨4, _⟩ => ⟨S65536x2, .i32⟩
  | .hbm, ⟨5, _⟩ => ⟨S_, .f32⟩
  | .hbm, ⟨6, _⟩ => ⟨S65536, .f32⟩
  | .hbm, ⟨7, _⟩ => ⟨S_, .f32⟩
  | .hbm, ⟨8, _⟩ => ⟨S65536, .f32⟩
  | .hbm, ⟨9, _⟩ => ⟨S65536, .f32⟩
  | .hbm, ⟨10, _⟩ => ⟨S65536x1, .f32⟩
  | .hbm, ⟨11, _⟩ => ⟨S65536x2, .f32⟩
  | .hbm, ⟨12, _⟩ => ⟨S65536x2, .f32⟩
  | .hbm, ⟨13, _⟩ => ⟨S65536x2, .f32⟩
  | .hbm, ⟨14, _⟩ => ⟨S_, .f32⟩
  | .hbm, ⟨15, _⟩ => ⟨S65536, .f32⟩
  | .hbm, ⟨16, _⟩ => ⟨S65536x1, .f32⟩
  | .hbm, ⟨17, _⟩ => ⟨S65536x2, .f32⟩
  | .hbm, ⟨18, _⟩ => ⟨S65536x2, .f32⟩
  | .hbm, ⟨19, _⟩ => ⟨S65536x2x1, .i32⟩
  | .hbm, ⟨20, _⟩ => ⟨S1x1x8, .i32⟩
  | .hbm, ⟨21, _⟩ => ⟨S65536x2x8, .i32⟩
  | .hbm, ⟨22, _⟩ => ⟨S65536x2x8, .i32⟩
  | .hbm, ⟨23, _⟩ => ⟨S65536x2x8, .i1⟩
  | .hbm, ⟨24, _⟩ => ⟨S65536x2x8, .f32⟩
  | .hbm, ⟨25, _⟩ => ⟨S_, .f32⟩
  | .hbm, ⟨26, _⟩ => ⟨S65536x8, .f32⟩
  | .hbm, ⟨27, _⟩ => ⟨S_, .f32⟩
  | .hbm, ⟨28, _⟩ => ⟨S_, .f32⟩
  | .hbm, ⟨29, _⟩ => ⟨S65536x8, .f32⟩
  | .hbm, ⟨30, _⟩ => ⟨S65536x8, .f32⟩
  | .hbm, ⟨31, _⟩ => ⟨S65536x1x8, .f32⟩
  | .hbm, ⟨32, _⟩ => ⟨S65536x2x8, .f32⟩
  | .hbm, ⟨33, _⟩ => ⟨S65536x2x8, .f32⟩
  | .hbm, ⟨34, _⟩ => ⟨S_, .f32⟩
  | .hbm, ⟨35, _⟩ => ⟨S65536x2, .f32⟩
  | .hbm, ⟨36, _⟩ => ⟨S65536x2, .f32⟩
  | .hbm, ⟨37, _⟩ => ⟨S65536x6, .f32⟩
  | .hbm, ⟨38, _⟩ => ⟨S_, .f32⟩
  | .hbm, ⟨39, _⟩ => ⟨S8, .f32⟩
  | .hbm, ⟨40, _⟩ => ⟨S_, .i32⟩
  | .hbm, ⟨41, _⟩ => ⟨S_, .f32⟩
  | .hbm, ⟨42, _⟩ => ⟨S128, .f32⟩
  | .hbm, ⟨43, _⟩ => ⟨S8x128, .f32⟩
  | .hbm, ⟨44, _⟩ => ⟨S_, .i32⟩
  | .hbm, ⟨45, _⟩ => ⟨S_, .f32⟩
  | .hbm, ⟨46, _⟩ => ⟨S65536x128, .f32⟩
  | .hbm, ⟨47, _⟩ => ⟨S65536x8x128, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_values : Ref sig .tc := ⟨.hbm, 3, rfl⟩
abbrev main_indices : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v12 : Ref sig .tc := ⟨.hbm, 24, rfl⟩
abbrev main_cst_2 : Ref sig .tc := ⟨.hbm, 25, rfl⟩
abbrev main_v13 : Ref sig .tc := ⟨.hbm, 26, rfl⟩
abbrev main_call1_call0_cst : Ref sig .tc := ⟨.hbm, 27, rfl⟩
abbrev main_call1_call0_v0 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_3 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_4 : Ref sig .tc := ⟨.hbm, 38, rfl⟩
abbrev main_v22 : Ref sig .tc := ⟨.hbm, 39, rfl⟩
abbrev main_c : Ref sig .tc := ⟨.hbm, 40, rfl⟩
abbrev main_call2_v0 : Ref sig .tc := ⟨.hbm, 41, rfl⟩
abbrev main_v23 : Ref sig .tc := ⟨.hbm, 42, rfl⟩
abbrev main_v24 : Ref sig .tc := ⟨.hbm, 43, rfl⟩
abbrev main_c_5 : Ref sig .tc := ⟨.hbm, 44, rfl⟩
abbrev main_call3_v0 : Ref sig .tc := ⟨.hbm, 45, rfl⟩
abbrev main_v25 : Ref sig .tc := ⟨.hbm, 46, rfl⟩
abbrev main_v26 : Ref sig .tc := ⟨.hbm, 47, rfl⟩

abbrev nD : Nat := 1
abbrev τ : Topo := Topo.v7x

variable {F : FTy → Type} [FloatOps F]
-- ==== Proof.Softmax.lean ====
/- Softmax over a window whose outside is masked to minus infinity, over the extended reals. -/
module

public import Idealize.ShloMosaic.Lib.Pointwise

@[expose] public section

noncomputable section

namespace Cert.Softmax

open Idealize.ShloMosaic

/-- A nonnegative real factor goes through a sum of extended reals, infinite terms included. -/
theorem sum_mul_coe {ι : Type} (S : Finset ι) (f : ι → EReal) (r : ℝ) (h : 0 ≤ r) :
    (∑ i ∈ S, f i) * (r : EReal) = ∑ i ∈ S, f i * (r : EReal) := by
  classical
  induction S using Finset.induction_on with
  | empty => simp
  | insert a S ha ih =>
    rw [Finset.sum_insert ha, Finset.sum_insert ha, ← ih,
      EReal.right_distrib_of_nonneg_of_ne_top (by exact_mod_cast h) (EReal.coe_ne_top r)]

/-- A sum of reals is a real. -/
theorem coe_sum {ι : Type} (S : Finset ι) (f : ι → ℝ) : ∑ i ∈ S, (f i : EReal) = ((∑ i ∈ S, f i : ℝ) : EReal) := by
  classical
  induction S using Finset.induction_on with
  | empty => simp
  | insert a S ha ih => rw [Finset.sum_insert ha, Finset.sum_insert ha, ih, EReal.coe_add]

/-- A fold of `max` from minus infinity is the supremum. -/
theorem fold_max {ι : Type} (S : Finset ι) (f : ι → EReal) : S.fold max ⊥ f = S.sup f := rfl

/-- The supremum over a window whose outside is minus infinity is the supremum over the window. -/
theorem sup_window {K J : Type} [Fintype K] [Fintype J] (e : J → K) (s : K → EReal) (s' : J → EReal)
    (hin : ∀ j, s (e j) = s' j) (hout : ∀ k, (∀ j, e j ≠ k) → s k = ⊥) :
    Finset.univ.sup s = Finset.univ.sup s' := by
  apply le_antisymm
  · refine Finset.sup_le fun k _ => ?_
    by_cases h : ∃ j, e j = k
    · obtain ⟨j, rfl⟩ := h
      rw [hin]; exact Finset.le_sup (f := s') (Finset.mem_univ j)
    · rw [hout k (by simpa using h)]; exact bot_le
  · refine Finset.sup_le fun j _ => ?_
    rw [← hin]; exact Finset.le_sup (f := s) (Finset.mem_univ (e j))

/-- A sum over a window whose outside contributes nothing is the sum over the window. -/
theorem sum_window {K J : Type} [Fintype K] [Fintype J] (e : J → K) (he : Function.Injective e) (f : K → EReal) (g : J → EReal)
    (hin : ∀ j, f (e j) = g j) (hout : ∀ k, (∀ j, e j ≠ k) → f k = 0) : ∑ k, f k = ∑ j, g j := by
  classical
  rw [← Finset.sum_congr rfl fun j _ => hin j]
  rw [← Finset.sum_image (s := Finset.univ) (g := e) (f := f) (fun a _ b _ h => he h)]
  refine (Finset.sum_subset (Finset.subset_univ _) fun k _ hk => hout k fun j hj => hk ?_).symm
  exact Finset.mem_image.2 ⟨j, Finset.mem_univ j, hj⟩

/-- The supremum of scores none of which is plus infinity, one of which is a real, is a real. -/
theorem sup_real {J : Type} [Fintype J] (s : J → EReal) (htop : ∀ j, s j ≠ ⊤) (j₀ : J) (h₀ : s j₀ ≠ ⊥) :
    ∃ r : ℝ, Finset.univ.sup s = r := by
  have h1 : Finset.univ.sup s ≠ ⊤ := by
    refine ((Finset.sup_lt_iff (a := (⊤ : EReal)) (by exact bot_lt_top)).2 fun j _ => ?_).ne
    exact lt_top_iff_ne_top.2 (htop j)
  have h2 : Finset.univ.sup s ≠ ⊥ := by
    intro h
    exact h₀ (le_bot_iff.1 (h ▸ Finset.le_sup (f := s) (Finset.mem_univ j₀)))
  exact ⟨_, (EReal.coe_toReal h1 h2).symm⟩

/-- The exponential of a score below a real, none plus infinity, is a nonnegative real, zero exactly at minus infinity. -/
theorem exp_sub_real (x : EReal) (hx : x ≠ ⊤) (m : ℝ) :
    ∃ p : ℝ, Ideal.exp (x - m) = p ∧ 0 ≤ p ∧ (x ≠ ⊥ → 0 < p) := by
  induction x with
  | bot => exact ⟨0, by rw [EReal.bot_sub]; rfl, le_rfl, fun h => absurd rfl h⟩
  | top => exact absurd rfl hx
  | coe r => exact ⟨Real.exp (r - m), by rw [← EReal.coe_sub]; rfl, (Real.exp_pos _).le, fun _ => Real.exp_pos _⟩

/-- THE WINDOWED SOFTMAX: normalising the weighted sum over all keys, those outside the window masked to minus infinity, is
    weighting the softmax over the window. -/
theorem softmax_window {K J : Type} [Fintype K] [Fintype J] (e : J → K) (he : Function.Injective e) (s w : K → EReal)
    (s' w' : J → EReal) (hs : ∀ j, s (e j) = s' j) (hout : ∀ k, (∀ j, e j ≠ k) → s k = ⊥) (hw : ∀ j, s' j ≠ ⊥ → w (e j) = w' j)
    (htop : ∀ j, s' j ≠ ⊤) (j₀ : J) (h₀ : s' j₀ ≠ ⊥) :
    Ideal.div (∑ k, Ideal.exp (s k - Finset.univ.sup s) * w k) (∑ k, Ideal.exp (s k - Finset.univ.sup s))
      = ∑ j, Ideal.div (Ideal.exp (s' j - Finset.univ.sup s')) (∑ j, Ideal.exp (s' j - Finset.univ.sup s')) * w' j := by
  obtain ⟨m, hm⟩ := sup_real s' htop j₀ h₀
  rw [sup_window e s s' hs hout, hm]
  rw [sum_window e he (fun k => Ideal.exp (s k - m) * w k) (fun j => Ideal.exp (s' j - m) * w' j)
      (fun j => by
        by_cases hj : s' j = ⊥
        · rw [hs, hj, EReal.bot_sub, Ideal.exp_bot, zero_mul, zero_mul]
        · rw [hs, hw j hj]) (fun k hk => by rw [hout k hk, EReal.bot_sub, Ideal.exp_bot, zero_mul]),
    sum_window e he (fun k => Ideal.exp (s k - m)) (fun j => Ideal.exp (s' j - m))
      (fun j => by rw [hs]) (fun k hk => by rw [hout k hk, EReal.bot_sub, Ideal.exp_bot])]
  choose p hp hp0 hpos using fun j => exp_sub_real (s' j) (htop j) m
  have hsum : ∑ j, Ideal.exp (s' j - m) = ((∑ j, p j : ℝ) : EReal) := by
    rw [Finset.sum_congr rfl fun j _ => hp j]; exact coe_sum ..
  have hl : 0 < ∑ j, p j := Finset.sum_pos' (fun j _ => hp0 j) ⟨j₀, Finset.mem_univ _, hpos j₀ h₀⟩
  rw [hsum, Ideal.div_coe hl.ne', sum_mul_coe _ _ _ (by positivity)]
  refine Finset.sum_congr rfl fun j _ => ?_
  rw [Ideal.div_coe hl.ne', mul_right_comm]

end Cert.Softmax

end
-- ==== Proof.Block.lean ====
/- What one grid point of the band kernel stores, read at a row and a lane. -/
module

public import proofs.«01_k».proof.Proof.Gen.KernelIdeal.Skeleton
public import Idealize.ShloMosaic.Lib.WordCmp
public import Idealize.ShloMosaic.Lib.Pointwise
public import proofs.«01_k».proof.Proof.Softmax

@[expose] public section

set_option maxRecDepth 16384

noncomputable section

namespace Cert.KernelIdeal.Band

open Idealize.ShloMosaic Idealize.ShloMosaic.TcCoe Idealize.SL.Sem
open Cert.KernelIdeal Cert.KernelIdeal.Gen

/-- The lane numbers the body makes. -/
abbrev lanes : IVec S1x256 32 := iota .tc S1x256 32 [1] iota_S1x256_d1_w32

/-- Head 0's lanes. -/
theorem mask0 : ∀ l : Fin 256, k0_pay8 lanes 64#32 k0_pay6 k0_pay7 0#32 (ix2 0 l) = if l.val / 64 = 0 then 1#1 else 0#1 := by
  decide +kernel
/-- Head 1's lanes. -/
theorem mask1 : ∀ l : Fin 256, k0_pay12 lanes (ix2 0 l) = if l.val / 64 = 1 then 1#1 else 0#1 := by
  decide +kernel
/-- Head 2's lanes. -/
theorem mask2 : ∀ l : Fin 256, k0_pay15 lanes (ix2 0 l) = if l.val / 64 = 2 then 1#1 else 0#1 := by
  decide +kernel
/-- Head 3's lanes. -/
theorem mask3 : ∀ l : Fin 256, k0_pay19 lanes (ix2 0 l) = if l.val / 64 = 3 then 1#1 else 0#1 := by
  decide +kernel

/-- The scores of one head: its lanes of the queries against all the keys, plus the head's bias, masked where the key lies
    before the sequence. -/
def scores (hm : IVec S1x256 1) (q : FVec Ideal S256x256 .bf16) (k : FVec Ideal S768x256 .bf16) (inq : IVec S1x768 1)
    (b : FVec Ideal S1x256x768 .f32) : FVec Ideal S256x768 .f32 :=
  select (broadcastTo S256x768 (shapeCast S1x768 inq shapeCasts_S1x768_S1x768) broadcasts_S1x768_S256x768)
    (addf (matmul dot_S256x256_S768x256_S256x768_1_1_0_0_n_n none
      (select (broadcastTo S256x256 (shapeCast S1x256 hm shapeCasts_S1x256_S1x256) broadcasts_S1x256_S256x256) q
        (broadcast S256x256 (Scalar.ofBits (F := Ideal) .bf16 0x0000#16))) k (constant S256x768 .f32 0x00000000#32))
      (shapeCast S256x768 b shapeCasts_S1x256x768_S256x768))
    (broadcast S256x768 (Named.named (F := Ideal) κ "mask" 0xF149F2CA#32))

/-- The exponentials of one head's scores less their row's maximum. -/
def weights (s : FVec Ideal S256x768 .f32) : FVec Ideal S256x768 .f32 :=
  exp (subf s (broadcastTo S256x768 (shapeCast S256x1 (multiReduction .maximumf [1] S256 s 0xFF800000#32
    reduces_S256x768_S256 (.inl rfl) rfl) shapeCasts_S256_S256x1) broadcasts_S256x1_S256x768))

/-- One head's weighted sum of the values over the sum of its weights. -/
def headOut (v : FVec Ideal S768x256 .bf16) (p : FVec Ideal S256x768 .f32) : FVec Ideal S256x256 .f32 :=
  divf (matmul dot_S256x768_S768x256_S256x256_1_0_0_1_n_n none (truncf .bf16 p bitsLt_bf16_f32) v (constant S256x256 .f32 0x00000000#32))
    (broadcastTo S256x256 (shapeCast S256x1 (multiReduction .add [1] S256 p 0x00000000#32
      reduces_S256x768_S256 (.inl rfl) rfl) shapeCasts_S256_S256x1) broadcasts_S256x1_S256x256)

/-- What the body stores: each head's result in that head's lanes. -/
theorem stored (v : FVec Ideal S768x256 .bf16) (inq : IVec S1x768 1) (q : FVec Ideal S256x256 .bf16) (k : FVec Ideal S768x256 .bf16)
    (b0 b1 b2 b3 : FVec Ideal S1x256x768 .f32) (r l : Fin 256) :
    k0_pay1 (F := Ideal) v inq
      (k0_pay18 v (k0_pay14 v (k0_pay11 k0_pay5 (k0_pay9 lanes q k v inq 64#32 k0_pay6 k0_pay7 0#32 b0)
          (k0_pay10 lanes 64#32 k0_pay6 k0_pay7 0#32)) (k0_pay12 lanes) (k0_pay13 lanes q k inq b1))
        (k0_pay15 lanes) (k0_pay16 lanes q k b2) (Named.named κ "mask" 0xF149F2CA#32) (k0_pay17 inq))
      (k0_pay19 lanes) (k0_pay20 lanes q k) b3 (ix2 r l)
    = if l.val / 64 = 0 then headOut v (weights (scores (k0_pay8 lanes 64#32 k0_pay6 k0_pay7 0#32) q k inq b0)) (ix2 r l)
      else if l.val / 64 = 1 then headOut v (weights (scores (k0_pay12 lanes) q k inq b1)) (ix2 r l)
      else if l.val / 64 = 2 then headOut v (weights (scores (k0_pay15 lanes) q k inq b2)) (ix2 r l)
      else headOut v (weights (scores (k0_pay19 lanes) q k inq b3)) (ix2 r l) := by
  have h0 := mask0 l
  have h1 := mask1 l
  have h2 := mask2 l
  have h3 := mask3 l
  change Scalar.select (broadcastTo S256x256 (shapeCast S1x256 (k0_pay19 lanes) shapeCasts_S1x256_S1x256) broadcasts_S1x256_S256x256 (ix2 r l))
    (headOut v (weights (scores (k0_pay19 lanes) q k inq b3)) (ix2 r l))
    (Scalar.select (broadcastTo S256x256 (shapeCast S1x256 (k0_pay15 lanes) shapeCasts_S1x256_S1x256) broadcasts_S1x256_S256x256 (ix2 r l))
      (headOut v (weights (scores (k0_pay15 lanes) q k inq b2)) (ix2 r l))
      (Scalar.select (broadcastTo S256x256 (shapeCast S1x256 (k0_pay12 lanes) shapeCasts_S1x256_S1x256) broadcasts_S1x256_S256x256 (ix2 r l))
        (headOut v (weights (scores (k0_pay12 lanes) q k inq b1)) (ix2 r l))
        (Scalar.select (broadcastTo S256x256 (shapeCast S1x256 (k0_pay8 lanes 64#32 k0_pay6 k0_pay7 0#32) shapeCasts_S1x256_S1x256) broadcasts_S1x256_S256x256 (ix2 r l))
          (headOut v (weights (scores (k0_pay8 lanes 64#32 k0_pay6 k0_pay7 0#32) q k inq b0)) (ix2 r l))
          ((k0_pay5 (F := Ideal)) (ix2 r l))))) = _
  pointwise [h0, h1, h2, h3]
  have hl : l.val / 64 < 4 := by omega
  generalize headOut v _ (ix2 r l) = A
  generalize headOut v (weights (scores (k0_pay15 lanes) q k inq b2)) (ix2 r l) = B
  rcases (by omega : l.val / 64 = 0 ∨ l.val / 64 = 1 ∨ l.val / 64 = 2 ∨ l.val / 64 = 3) with h | h | h | h <;>
    simp [h, Scalar.select]

/-- The named mask is minus infinity. -/
theorem named_mask : Named.named (F := Ideal) (φ := .f32) κ "mask" 0xF149F2CA#32 = (⊥ : EReal) := rfl
/-- A maximum starts from minus infinity. -/
theorem neg_inf : Ideal.ofBits FTy.f32 0xFF800000#32 = ⊥ := by simp [Ideal.ofBits, Ideal.ieee]

/-- A sum over all lanes, zero outside a head's, is the sum over the head's. -/
theorem sum_head (h : Fin 4) (m : Fin 256 → BitVec 1) (hm : ∀ l : Fin 256, m l = if l.val / 64 = h.val then 1#1 else 0#1)
    (f : Fin 256 → EReal) :
    ∑ x, Scalar.select (m x) (f x) 0 = ∑ d : Fin 64, f ⟨h.val * 64 + d.val, by omega⟩ := by
  refine Softmax.sum_window (fun d : Fin 64 => (⟨h.val * 64 + d.val, by omega⟩ : Fin 256))
    (fun a b hab => Fin.ext (by have := congrArg Fin.val hab; simp only at this; omega)) _ _ (fun d => ?_) fun x hx => ?_
  · rw [hm, if_pos (by simp only; omega)]; rfl
  · rw [hm, if_neg fun hh => hx ⟨x.val % 64, by omega⟩ (Fin.ext (by simp only; omega))]; rfl

/-- One score: the head's part of the product, plus the bias, or minus infinity before the sequence. -/
def score (h : Fin 4) (q : FVec Ideal S256x256 .bf16) (k : FVec Ideal S768x256 .bf16) (inq : IVec S1x768 1)
    (b : FVec Ideal S1x256x768 .f32) (r : Fin 256) (c : Fin 768) : EReal :=
  if inq (ix2 0 c) = 1#1 then
    (∑ d : Fin 64, (show EReal from q (ix2 r ⟨h.val * 64 + d.val, by omega⟩)) * (show EReal from k (ix2 c ⟨h.val * 64 + d.val, by omega⟩)))
      + (show EReal from b (ix3 0 r c))
  else ⊥

theorem scores_at (h : Fin 4) (hm : IVec S1x256 1) (hh : ∀ l : Fin 256, hm (ix2 0 l) = if l.val / 64 = h.val then 1#1 else 0#1)
    (q : FVec Ideal S256x256 .bf16) (k : FVec Ideal S768x256 .bf16) (inq : IVec S1x768 1)
    (b : FVec Ideal S1x256x768 .f32) (r : Fin 256) (c : Fin 768) :
    scores hm q k inq b (ix2 r c) = score h q k inq b r c := by
  pointwise [scores]
  rw [named_mask, sum_head h (fun x => hm (ix2 0 x)) hh]
  unfold Scalar.select score
  rfl

/-- One head's result at a row and a lane: the normalised weighted sum over all 768 keys. -/
theorem head_at (h : Fin 4) (hm : IVec S1x256 1) (hh : ∀ l : Fin 256, hm (ix2 0 l) = if l.val / 64 = h.val then 1#1 else 0#1)
    (v : FVec Ideal S768x256 .bf16) (q : FVec Ideal S256x256 .bf16) (k : FVec Ideal S768x256 .bf16) (inq : IVec S1x768 1)
    (b : FVec Ideal S1x256x768 .f32) (r l : Fin 256) :
    headOut v (weights (scores hm q k inq b)) (ix2 r l)
      = Ideal.div (∑ c, Ideal.exp (score h q k inq b r c - Finset.univ.sup (score h q k inq b r)) * (show EReal from v (ix2 c l)))
          (∑ c, Ideal.exp (score h q k inq b r c - Finset.univ.sup (score h q k inq b r))) := by
  pointwise [headOut, weights]
  simp only [scores_at h hm hh, neg_inf]
  rfl

/-- Which block a key of the window lies in. -/
theorem keys_at (x : Fin 3 → FVec Ideal S256x256 .bf16) (c : Fin 768) (d : Fin 256) :
    k0_pay2 (F := Ideal) (x 0) (x 1) (x 2) (ix2 c d) = x ⟨c.val / 256, by omega⟩ (ix2 ⟨c.val % 256, by omega⟩ d) := by
  pointwise [k0_pay2]
  rcases (by omega : c.val / 256 = 0 ∨ c.val / 256 = 1 ∨ c.val / 256 = 2) with h | h | h
  · rw [dif_pos (by omega)]
    exact congrArg₂ (fun i (a : Fin 256) => x i (ix2 a d)) (Fin.ext (by simp [h])) (Fin.ext (by simp only; omega))
  · rw [dif_neg (by omega), dif_pos (by omega)]
    exact congrArg₂ (fun i (a : Fin 256) => x i (ix2 a d)) (Fin.ext (by simp [h])) (Fin.ext (by simp only; omega))
  · rw [dif_neg (by omega), dif_neg (by omega)]
    exact congrArg₂ (fun i (a : Fin 256) => x i (ix2 a d)) (Fin.ext (by simp [h])) (Fin.ext (by simp only; omega))

/-- The values' window is stacked as the keys'. -/
theorem values_eq (a b c : FVec Ideal S256x256 .bf16) : k0_pay3 (F := Ideal) a b c = k0_pay2 (F := Ideal) a b c := rfl

/-- How many keys of a block's window lie before the sequence. -/
def before (t : ℕ) : ℕ := (2 - min (t % 32) 2) * 256

/-- Which keys of a block's window lie in the sequence. -/
theorem inq_at (i : grid0.Coords) (c : Fin 768) :
    k0_pay4 i (ix2 0 c) = if before (i 0).val ≤ c.val then 1#1 else 0#1 := by
  have key : ∀ t : Fin 256, Scalar.muli (Scalar.subi 2#32 (Scalar.minsi (Scalar.select
      (Scalar.andi (Scalar.xori (Scalar.cmpi .slt (Scalar.remsi (BitVec.ofNat 32 t.val) (Scalar.select (Scalar.cmpi .eq 32#32 0#32) 1#32 32#32)) 0#32)
          (Scalar.cmpi .slt (Scalar.select (Scalar.cmpi .eq 32#32 0#32) 1#32 32#32) 0#32))
        (Scalar.cmpi .ne (Scalar.remsi (BitVec.ofNat 32 t.val) (Scalar.select (Scalar.cmpi .eq 32#32 0#32) 1#32 32#32)) 0#32))
      (Scalar.addi (Scalar.remsi (BitVec.ofNat 32 t.val) (Scalar.select (Scalar.cmpi .eq 32#32 0#32) 1#32 32#32)) (Scalar.select (Scalar.cmpi .eq 32#32 0#32) 1#32 32#32))
      (Scalar.remsi (BitVec.ofNat 32 t.val) (Scalar.select (Scalar.cmpi .eq 32#32 0#32) 1#32 32#32))) 2#32)) 256#32
      = BitVec.ofNat 32 (before t.val) := by decide +kernel
  have hk := key (i 0)
  have hb : before (i 0).val ≤ 512 := by unfold before; omega
  trans IntOp.cmpi .sge (BitVec.ofNat 32 c.val) (BitVec.ofNat 32 (before (i 0).val))
  · pointwise [k0_pay4]
    exact congrArg (IntOp.cmpi .sge (BitVec.ofNat 32 c.val)) hk
  · rw [WordCmp.cmpi_sge_ofNat (by omega) (by omega)]
    by_cases h : before (i 0).val ≤ c.val <;> simp [h]

end Cert.KernelIdeal.Band

end
-- ==== Proof.Bias.lean ====
module

public import proofs.«01_k».proof.Proof.Gen.KernelIdeal.Frame
public import Idealize.ShloMosaic.Lib.WordCmp
public import Idealize.ShloMosaic.Lib.Pointwise
public import Idealize.ShloMosaic.Lib.Claim

@[expose] public section

noncomputable section

namespace Cert.KernelIdeal.Band

open Cert.KernelIdeal Cert.KernelIdeal.Gen Idealize.ShloMosaic Idealize.ShloMosaic.TcCoe Idealize.SL.Sem Idealize.ShloMosaic.Tactic

/-- The signed distance 512 − u, with u read modulo 1024. -/
def dist : IVec S1024 32 :=
  select (cmpi .sle (iotaInDim S1024 32 0) (broadcastInDim S1024 ![] bcast_S_S1024 (constantI S_ 32 768#32)))
    (subi (broadcastInDim S1024 ![] bcast_S_S1024 (constantI S_ 32 512#32)) (iotaInDim S1024 32 0))
    (subi (broadcastInDim S1024 ![] bcast_S_S1024 (constantI S_ 32 1536#32)) (iotaInDim S1024 32 0))

/-- The distance clipped to −63 … 256 and moved to start at zero. -/
def clipped : IVec S1024 32 :=
  addi (minsi (broadcastInDim S1024 ![] bcast_S_S1024 (constantI S_ 32 256#32))
      (maxsi (broadcastInDim S1024 ![] bcast_S_S1024 (constantI S_ 32 4294967233#32)) dist))
    (broadcastInDim S1024 ![] bcast_S_S1024 (constantI S_ 32 63#32))

/-- The column of the bias table each offset reads. -/
def column : IVec S1024 32 :=
  select (cmpi .slt clipped (broadcastInDim S1024 ![] bcast_S_S1024 (constantI S_ 32 0#32)))
    (addi clipped (broadcastInDim S1024 ![] bcast_S_S1024 (constantI S_ 32 320#32))) clipped

theorem column_at : ∀ u : Fin 1024, column (ix1 u) = BitVec.ofNat 32 (min (if u.val ≤ 768 then 575 - u.val else 1599 - u.val) 319) := by
  intro u
  pointwise [column, clipped, dist]
  revert u
  decide +kernel

/-- One row of the bias, per head. -/
def row (x : FVec Ideal S4x320 .f32) : FVec Ideal S4x1024 .f32 :=
  Host.gather gather_S4x320_S1024x1_S4x1024_0_1_n_n_1_1_41 x (broadcastInDim S1024x1 ![0] bcast_S1024_S1024x1_0 column)

theorem row_gather (x : FVec Ideal S4x320 .f32) (idx : IVec S1024x1 32) (h : Fin 4) (u : Fin 1024) (b : Fin 320)
    (hb : idx (ix2 u 0) = BitVec.ofNat 32 b.val) :
    Host.gather gather_S4x320_S1024x1_S4x1024_0_1_n_n_1_1_41 x idx (ix2 h u) = x (ix2 h b) := by
  unfold Host.gather
  refine congrArg x (funext fun a => Fin.ext ?_)
  match a with
  | ⟨0, _⟩ =>
    show gather_S4x320_S1024x1_S4x1024_0_1_n_n_1_1_41.start (ix2 h u) idx 0
      + gather_S4x320_S1024x1_S4x1024_0_1_n_n_1_1_41.batchCoord (ix2 h u) 0
      + gather_S4x320_S1024x1_S4x1024_0_1_n_n_1_1_41.offCoord (ix2 h u) 0 = h.val
    exact (congrArg₂ (· + ·) (congrArg₂ (· + ·) (rfl : _ = 0) (rfl : _ = 0)) (rfl : _ = h.val)).trans (by omega)
  | ⟨1, _⟩ =>
    have hs : gather_S4x320_S1024x1_S4x1024_0_1_n_n_1_1_41.siIdx (ix2 h u) ⟨0, Nat.one_pos⟩ = ix2 u 0 := by
      funext b'
      match b' with
      | ⟨0, _⟩ => rfl
      | ⟨1, _⟩ => rfl
    show min (idx (gather_S4x320_S1024x1_S4x1024_0_1_n_n_1_1_41.siIdx (ix2 h u) ⟨0, Nat.one_pos⟩)).toInt.toNat 319 + 0 + 0 = b.val
    rw [hs, hb, WordCmp.toInt_ofNat_of_lt (by have := b.isLt; omega)]
    have := b.isLt
    omega

theorem row_at (x : FVec Ideal S4x320 .f32) (h : Fin 4) (u : Fin 1024) :
    row x (ix2 h u) = x (ix2 h ⟨min (if u.val ≤ 768 then 575 - u.val else 1599 - u.val) 319, by omega⟩) := by
  refine row_gather x _ h u _ ?_
  rw [← column_at u]
  pointwise []

/-- The rows laid out, each one place further to the right than the row above. -/
def skew (x : FVec Ideal S4x320 .f32) : FVec Ideal S4x256x768 .f32 :=
  extractStridedSlice S4x256x768 ![0, 0, 0]
    (shapeCast S4x256x1023
      (extractStridedSlice S4x261888 ![0, 0]
        (shapeCast S4x262144
          (broadcastInDim S1x4x256x1024 ![0, 1, 2, 3] bcast_S1x4x1x1024_S1x4x256x1024_0_1_2_3
            (shapeCast S1x4x1x1024 (row x) shapeCasts_S4x1024_S1x4x1x1024))
          shapeCasts_S1x4x256x1024_S4x262144)
        slices_S4x262144_S4x261888_0_0)
      shapeCasts_S4x261888_S4x256x1023)
    slices_S4x256x1023_S4x256x768_0_0_0

theorem skew_at (x : FVec Ideal S4x320 .f32) (h : Fin 4) (r : Fin 256) (k : Fin 768) :
    skew x (ix3 h r k) = x (ix2 h ⟨min (575 + r.val - k.val) 319, by omega⟩) := by
  pointwise [skew]
  rw [row_at]
  refine congrArg (fun b => x (ix2 h b)) (Fin.ext ?_)
  have hr := r.isLt
  have hk := k.isLt
  have hu : (r.val * 1023 + k.val) % 1024 = if r.val ≤ k.val then k.val - r.val else 1024 + k.val - r.val := by
    split
    · rw [show r.val * 1023 + k.val = (k.val - r.val) + 1024 * r.val by omega, Nat.add_mul_mod_self_left, Nat.mod_eq_of_lt (by omega)]
    · rw [show r.val * 1023 + k.val = (1024 + k.val - r.val) + 1024 * (r.val - 1) by omega, Nat.add_mul_mod_self_left, Nat.mod_eq_of_lt (by omega)]
  simp only [hu]
  split <;> split <;> omega

/-- Chunk number of a row, eight chunks of keys before it. -/
def rowChunk : IVec S256x1 32 :=
  select (andi (cmpi .ne (signi (addi (broadcastInDim S256x1 ![0] bcast_S256_S256x1_0 (iotaInDim S256 32 0)) (broadcastInDim S256x1 ![] bcast_S_S256x1 (constantI S_ 32 512#32))))
        (broadcastInDim S256x1 ![] bcast_S_S256x1 (signi (constantI S_ 32 64#32))))
      (cmpi .ne (Host.remsi (addi (broadcastInDim S256x1 ![0] bcast_S256_S256x1_0 (iotaInDim S256 32 0)) (broadcastInDim S256x1 ![] bcast_S_S256x1 (constantI S_ 32 512#32)))
          (broadcastInDim S256x1 ![] bcast_S_S256x1 (constantI S_ 32 64#32)))
        (broadcastInDim S256x1 ![] bcast_S_S256x1 (constantI S_ 32 0#32))))
    (subi (Host.divsi (addi (broadcastInDim S256x1 ![0] bcast_S256_S256x1_0 (iotaInDim S256 32 0)) (broadcastInDim S256x1 ![] bcast_S_S256x1 (constantI S_ 32 512#32)))
          (broadcastInDim S256x1 ![] bcast_S_S256x1 (constantI S_ 32 64#32)))
      (broadcastInDim S256x1 ![] bcast_S_S256x1 (constantI S_ 32 1#32)))
    (Host.divsi (addi (broadcastInDim S256x1 ![0] bcast_S256_S256x1_0 (iotaInDim S256 32 0)) (broadcastInDim S256x1 ![] bcast_S_S256x1 (constantI S_ 32 512#32)))
          (broadcastInDim S256x1 ![] bcast_S_S256x1 (constantI S_ 32 64#32)))

theorem rowChunk_at : ∀ r : Fin 256, rowChunk (ix2 r 0) = BitVec.ofNat 32 (r.val / 64 + 8) := by
  intro u
  pointwise [rowChunk]
  revert u
  decide +kernel

/-- Chunk number of a key. -/
def keyChunk : IVec S1x768 32 :=
  select (andi (cmpi .ne (signi (broadcastInDim S1x768 ![1] bcast_S768_S1x768_1 (iotaInDim S768 32 0)))
        (broadcastInDim S1x768 ![] bcast_S_S1x768 (signi (constantI S_ 32 64#32))))
      (cmpi .ne (Host.remsi (broadcastInDim S1x768 ![1] bcast_S768_S1x768_1 (iotaInDim S768 32 0))
          (broadcastInDim S1x768 ![] bcast_S_S1x768 (constantI S_ 32 64#32)))
        (broadcastInDim S1x768 ![] bcast_S_S1x768 (constantI S_ 32 0#32))))
    (subi (Host.divsi (broadcastInDim S1x768 ![1] bcast_S768_S1x768_1 (iotaInDim S768 32 0))
          (broadcastInDim S1x768 ![] bcast_S_S1x768 (constantI S_ 32 64#32)))
      (broadcastInDim S1x768 ![] bcast_S_S1x768 (constantI S_ 32 1#32)))
    (Host.divsi (broadcastInDim S1x768 ![1] bcast_S768_S1x768_1 (iotaInDim S768 32 0))
          (broadcastInDim S1x768 ![] bcast_S_S1x768 (constantI S_ 32 64#32)))

theorem keyChunk_at : ∀ k : Fin 768, keyChunk (ix2 0 k) = BitVec.ofNat 32 (k.val / 64) := by
  intro u
  pointwise [keyChunk]
  revert u
  decide +kernel

/-- The bias the kernel is called with, minus infinity outside the band. -/
def banded (x : FVec Ideal S4x320 .f32) : FVec Ideal S4x256x768 .f32 :=
  select (broadcastInDim S4x256x768 ![0, 1, 2] bcast_S1x256x768_S4x256x768_0_1_2
      (broadcastInDim S1x256x768 ![1, 2] bcast_S256x768_S1x256x768_1_2
        (andi (cmpi .sle (broadcastInDim S256x768 ![0, 1] bcast_S1x768_S256x768_0_1 keyChunk) (broadcastInDim S256x768 ![0, 1] bcast_S256x1_S256x768_0_1 rowChunk))
          (cmpi .sge (broadcastInDim S256x768 ![0, 1] bcast_S1x768_S256x768_0_1 keyChunk)
            (broadcastInDim S256x768 ![0, 1] bcast_S256x1_S256x768_0_1
              (subi rowChunk (broadcastInDim S256x1 ![] bcast_S_S256x1 (constantI S_ 32 8#32))))))))
    (skew x)
    (broadcastInDim S4x256x768 ![] bcast_S_S4x256x768 (constant S_ .f32 0xFF800000#32))

theorem banded_at (x : FVec Ideal S4x320 .f32) (h : Fin 4) (r : Fin 256) (k : Fin 768) :
    banded x (ix3 h r k) =
      if r.val / 64 ≤ k.val / 64 ∧ k.val / 64 ≤ r.val / 64 + 8 then
        x (ix2 h ⟨min (575 + r.val - k.val) 319, by omega⟩)
      else (⊥ : EReal) := by
  have h1 := rowChunk_at r
  have h2 := keyChunk_at k
  have h3 := skew_at x h r k
  have h4 : ∀ r : Fin 256, IntOp.subi (BitVec.ofNat 32 (r.val / 64 + 8)) 8#32 = BitVec.ofNat 32 (r.val / 64) := by decide +kernel
  have hr := r.isLt
  have hk := k.isLt
  pointwise [banded, h1, h2, h3]
  rw [h4, WordCmp.cmpi_sle_ofNat (by omega) (by omega), WordCmp.cmpi_sge_ofNat (by omega) (by omega)]
  have hb : Ideal.ofBits FTy.f32 4286578688#32 = (⊥ : EReal) := by simp [Ideal.ofBits, Ideal.ieee]
  rw [hb]
  by_cases p : k.val / 64 ≤ r.val / 64 + 8 <;> by_cases q : r.val / 64 ≤ k.val / 64 <;> simp [p, q, Scalar.select, IntOp.andi]

variable (m : (ℓ : Loc nD τ sig) → Buf (Elt Ideal) ℓ)

theorem bias_eq (c : Dev nD) : V m c main_v42 = banded (m (c.tc.loc main_arg1)) := by
  unfold V
  simp only [hostOps0, hostOps0_1, hostOps0_2, hostOps0_3, hostOps0_4, hostOps0_5, hostOps0_6, hostOps0_7, hostOps0_8, hostOps0_9, List.flatten_cons, List.flatten_nil, List.cons_append, List.nil_append, List.append_nil]
  entry_read
  simp -implicitDefEqProofs only [StableHlo.TRef.toBuf, StableHlo.TRef.ofBuf, cast_cast, cast_eq, id_eq]
  unfold banded skew row column clipped dist keyChunk rowChunk
  rfl

end Cert.KernelIdeal.Band

end
-- ==== Proof.Ref.lean ====
module

public import proofs.«01_k».proof.Proof.Gen.ReferenceIdeal.Run
public import Idealize.ShloMosaic.Lib.WordCmp
public import Idealize.ShloMosaic.Lib.Pointwise
public import proofs.«01_k».proof.Proof.Softmax

@[expose] public section

noncomputable section

namespace Cert.ReferenceIdeal.Band

open Cert.ReferenceIdeal Cert.ReferenceIdeal.Gen Idealize.ShloMosaic Idealize.ShloMosaic.TcCoe Idealize.SL.Sem Idealize.ShloMosaic.Tactic

/-- Queries, keys and values by sequence, chunk, row, head and lane. -/
def packed (x : FVec Ideal S65536x3584 .bf16) : FVec Ideal S8x128x64x3x4x64 .f32 :=
  shapeCast S8x128x64x3x4x64 (extf .f32 (extractStridedSlice S65536x768 ![0, 1280] x slices_S65536x3584_S65536x768_0_1280) bitsLt_bf16_f32)
    shapeCasts_S65536x768_S8x128x64x3x4x64

/-- The queries. -/
def queries (x : FVec Ideal S65536x3584 .bf16) : FVec Ideal S8x128x64x4x64 .f32 :=
  shapeCast S8x128x64x4x64 (extractStridedSlice S8x128x64x1x4x64 ![0, 0, 0, 0, 0, 0] (packed x) slices_S8x128x64x3x4x64_S8x128x64x1x4x64_0_0_0_0_0_0)
    shapeCasts_S8x128x64x1x4x64_S8x128x64x4x64
/-- The keys. -/
def keys (x : FVec Ideal S65536x3584 .bf16) : FVec Ideal S8x128x64x4x64 .f32 :=
  shapeCast S8x128x64x4x64 (extractStridedSlice S8x128x64x1x4x64 ![0, 0, 0, 1, 0, 0] (packed x) slices_S8x128x64x3x4x64_S8x128x64x1x4x64_0_0_0_1_0_0)
    shapeCasts_S8x128x64x1x4x64_S8x128x64x4x64
/-- The values. -/
def values (x : FVec Ideal S65536x3584 .bf16) : FVec Ideal S8x128x64x4x64 .f32 :=
  shapeCast S8x128x64x4x64 (extractStridedSlice S8x128x64x1x4x64 ![0, 0, 0, 2, 0, 0] (packed x) slices_S8x128x64x3x4x64_S8x128x64x1x4x64_0_0_0_2_0_0)
    shapeCasts_S8x128x64x1x4x64_S8x128x64x4x64

theorem queries_at (x : FVec Ideal S65536x3584 .bf16) (b : Fin 8) (n : Fin 128) (i : Fin 64) (h : Fin 4) (d : Fin 64) :
    queries x (ix5 b n i h d) = x (ix2 ⟨b.val * 8192 + n.val * 64 + i.val, by omega⟩ ⟨1280 + h.val * 64 + d.val, by omega⟩) := by
  pointwise [queries, packed]
  exact congrArg (fun a => x (ix2 _ a)) (Fin.ext (by simp only; omega))

theorem keys_at (x : FVec Ideal S65536x3584 .bf16) (b : Fin 8) (n : Fin 128) (i : Fin 64) (h : Fin 4) (d : Fin 64) :
    keys x (ix5 b n i h d) = x (ix2 ⟨b.val * 8192 + n.val * 64 + i.val, by omega⟩ ⟨1536 + h.val * 64 + d.val, by omega⟩) := by
  pointwise [keys, packed]
  exact congrArg (fun a => x (ix2 _ a)) (Fin.ext (by simp only; omega))

theorem values_at (x : FVec Ideal S65536x3584 .bf16) (b : Fin 8) (n : Fin 128) (i : Fin 64) (h : Fin 4) (d : Fin 64) :
    values x (ix5 b n i h d) = x (ix2 ⟨b.val * 8192 + n.val * 64 + i.val, by omega⟩ ⟨1792 + h.val * 64 + d.val, by omega⟩) := by
  pointwise [values, packed]
  exact congrArg (fun a => x (ix2 _ a)) (Fin.ext (by simp only; omega))

/-- Eight chunks of zeros put before a sequence. -/
def before (y : FVec Ideal S8x128x64x4x64 .f32) : FVec Ideal S8x136x64x4x64 .f32 :=
  pad S8x136x64x4x64 ![0, 8, 0, 0, 0] ![0, 0, 0, 0, 0] ![0, 0, 0, 0, 0] y (sitofp .f32 (constantI S_ 32 0#32))
    pads_S8x128x64x4x64_S8x136x64x4x64_000_800_000_000_000 h_S_

theorem before_at (y : FVec Ideal S8x128x64x4x64 .f32) (b : Fin 8) (n : Fin 136) (i : Fin 64) (h : Fin 4) (d : Fin 64) :
    before y (ix5 b n i h d) = if hn : 8 ≤ n.val then y (ix5 b ⟨n.val - 8, by omega⟩ i h d) else (0 : EReal) := by
  pointwise [before]
  have hz : (FloatOps.sitofp (F := Ideal) FTy.f32 0#32 : EReal) = 0 := by
    show (((0#32 : BitVec 32).toInt : ℝ) : EReal) = 0
    simp
  by_cases hn : 8 ≤ n.val
  · rw [dif_pos (by omega), dif_pos hn]
  · rw [dif_neg (by omega), dif_neg hn]
    exact hz

/-- Chunk of the padded sequence each window's chunk is. -/
def place : IVec S128x9 32 :=
  addi (broadcastInDim S128x9 ![0, 1] bcast_S128x1_S128x9_0_1 (broadcastInDim S128x1 ![0] bcast_S128_S128x1_0 (iotaInDim S128 32 0)))
    (broadcastInDim S128x9 ![0, 1] bcast_S1x9_S128x9_0_1 (broadcastInDim S1x9 ![1] bcast_S9_S1x9_1 (iotaInDim S9 32 0)))

/-- The same, negative ones counted from the end. -/
def wrapped : IVec S128x9 32 :=
  select (cmpi .slt place (broadcastInDim S128x9 ![] bcast_S_S128x9 (constantI S_ 32 0#32)))
    (addi place (broadcastInDim S128x9 ![] bcast_S_S128x9 (constantI S_ 32 136#32))) place

theorem wrapped_at : ∀ (n : Fin 128) (o : Fin 9), wrapped (ix2 n o) = BitVec.ofNat 32 (n.val + o.val) := by
  intro n o
  pointwise [wrapped, place]
  revert n o
  decide +kernel

/-- The window of nine chunks of each chunk. -/
def window (y : FVec Ideal S8x128x64x4x64 .f32) : FVec Ideal S8x128x576x4x64 .f32 :=
  shapeCast S8x128x576x4x64 (Host.gather gather_S8x136x64x4x64_S128x9x1_S8x128x9x64x4x64_0345_1_n_n_1_2_8164464 (before y)
    (broadcastInDim S128x9x1 ![0, 1] bcast_S128x9_S128x9x1_0_1 wrapped)) shapeCasts_S8x128x9x64x4x64_S8x128x576x4x64

theorem window_gather (y : FVec Ideal S8x136x64x4x64 .f32) (idx : IVec S128x9x1 32) (b : Fin 8) (n : Fin 128) (o : Fin 9) (i : Fin 64) (h : Fin 4) (d : Fin 64)
    (p : Fin 136) (hp : idx (ix3 n o 0) = BitVec.ofNat 32 p.val) :
    Host.gather gather_S8x136x64x4x64_S128x9x1_S8x128x9x64x4x64_0345_1_n_n_1_2_8164464 y idx (ix6 b n o i h d) = y (ix5 b p i h d) := by
  unfold Host.gather
  refine congrArg y (funext fun a => Fin.ext ?_)
  match a with
  | ⟨0, _⟩ => exact (congrArg₂ (· + ·) (congrArg₂ (· + ·) (rfl : _ = 0) (rfl : _ = 0)) (rfl : _ = b.val)).trans (Nat.zero_add _)
  | ⟨1, _⟩ =>
    have hs : gather_S8x136x64x4x64_S128x9x1_S8x128x9x64x4x64_0345_1_n_n_1_2_8164464.siIdx (ix6 b n o i h d) ⟨0, Nat.one_pos⟩ = ix3 n o 0 := by
      funext b'
      match b' with
      | ⟨0, _⟩ => rfl
      | ⟨1, _⟩ => rfl
      | ⟨2, _⟩ => rfl
    show min (idx (gather_S8x136x64x4x64_S128x9x1_S8x128x9x64x4x64_0345_1_n_n_1_2_8164464.siIdx (ix6 b n o i h d) ⟨0, Nat.one_pos⟩)).toInt.toNat 135 + 0 + 0 = p.val
    rw [hs, hp, WordCmp.toInt_ofNat_of_lt (by have := p.isLt; omega)]
    have := p.isLt
    omega
  | ⟨2, _⟩ => exact (congrArg₂ (· + ·) (congrArg₂ (· + ·) (rfl : _ = 0) (rfl : _ = 0)) (rfl : _ = i.val)).trans (Nat.zero_add _)
  | ⟨3, _⟩ => exact (congrArg₂ (· + ·) (congrArg₂ (· + ·) (rfl : _ = 0) (rfl : _ = 0)) (rfl : _ = h.val)).trans (Nat.zero_add _)
  | ⟨4, _⟩ => exact (congrArg₂ (· + ·) (congrArg₂ (· + ·) (rfl : _ = 0) (rfl : _ = 0)) (rfl : _ = d.val)).trans (Nat.zero_add _)

theorem window_at (y : FVec Ideal S8x128x64x4x64 .f32) (b : Fin 8) (n : Fin 128) (j : Fin 576) (h : Fin 4) (d : Fin 64) :
    window y (ix5 b n j h d) = if hn : 8 ≤ n.val + j.val / 64 then
      y (ix5 b ⟨n.val + j.val / 64 - 8, by omega⟩ ⟨j.val % 64, by omega⟩ h d) else (0 : EReal) := by
  have hj := j.isLt
  have hn := n.isLt
  pointwise [window]
  rw [window_gather (before y) _ b n ⟨j.val / 64, by omega⟩ ⟨j.val % 64, by omega⟩ h d ⟨n.val + j.val / 64, by omega⟩
    (by rw [← wrapped_at n ⟨j.val / 64, by omega⟩]; pointwise []), before_at]

/-- Distance of a key from a row, clipped to −63 … 256 and moved to start at zero. -/
def clipped : IVec S64x576 32 :=
  addi (minsi (broadcastInDim S64x576 ![] bcast_S_S64x576 (id (constantI S_ 32 256#32)))
      (maxsi (broadcastInDim S64x576 ![] bcast_S_S64x576 (id (constantI S_ 32 4294967233#32)))
        (subi (broadcastInDim S64x576 ![0, 1] bcast_S64x1_S64x576_0_1 (addi (broadcastInDim S64x1 ![] bcast_S_S64x1 (constantI S_ 32 512#32)) (broadcastInDim S64x1 ![0] bcast_S64_S64x1_0 (iotaInDim S64 32 0))))
          (broadcastInDim S64x576 ![0, 1] bcast_S1x576_S64x576_0_1 (broadcastInDim S1x576 ![1] bcast_S576_S1x576_1 (iotaInDim S576 32 0))))))
    (broadcastInDim S64x576 ![] bcast_S_S64x576 (constantI S_ 32 63#32))

/-- The column of the bias table each pair reads. -/
def column : IVec S64x576 32 :=
  select (cmpi .slt clipped (broadcastInDim S64x576 ![] bcast_S_S64x576 (constantI S_ 32 0#32)))
    (addi clipped (broadcastInDim S64x576 ![] bcast_S_S64x576 (constantI S_ 32 320#32))) clipped

theorem column_at : ∀ (i : Fin 64) (j : Fin 576), column (ix2 i j) = BitVec.ofNat 32 (min (575 + i.val - j.val) 319) := by
  intro i j
  have hi := i.isLt
  have hj := j.isLt
  have hd : IntOp.subi (IntOp.addi (512#32) (BitVec.ofNat 32 i.val)) (BitVec.ofNat 32 j.val)
      = IntOp.subi (BitVec.ofNat 32 (575 + i.val - j.val)) 63#32 := by
    unfold IntOp.subi IntOp.addi
    bv_omega
  have key : ∀ t : Fin 640, Scalar.select (IntOp.cmpi .slt (IntOp.addi (IntOp.minsi 256#32 (IntOp.maxsi 4294967233#32 (IntOp.subi (BitVec.ofNat 32 t.val) 63#32))) 63#32) 0#32)
      (IntOp.addi (IntOp.addi (IntOp.minsi 256#32 (IntOp.maxsi 4294967233#32 (IntOp.subi (BitVec.ofNat 32 t.val) 63#32))) 63#32) 320#32)
      (IntOp.addi (IntOp.minsi 256#32 (IntOp.maxsi 4294967233#32 (IntOp.subi (BitVec.ofNat 32 t.val) 63#32))) 63#32)
      = BitVec.ofNat 32 (min t.val 319) := by decide +kernel
  pointwise [column, clipped]
  rw [hd]
  exact key ⟨575 + i.val - j.val, by omega⟩

/-- The bias of each head, row and key. -/
def bias (x : FVec Ideal S4x320 .f32) : FVec Ideal S4x64x576 .f32 :=
  Host.gather gather_S4x320_S64x576x1_S4x64x576_0_1_n_n_1_2_41 x (broadcastInDim S64x576x1 ![0, 1] bcast_S64x576_S64x576x1_0_1 column)

theorem bias_gather (x : FVec Ideal S4x320 .f32) (idx : IVec S64x576x1 32) (h : Fin 4) (i : Fin 64) (j : Fin 576) (b : Fin 320)
    (hb : idx (ix3 i j 0) = BitVec.ofNat 32 b.val) :
    Host.gather gather_S4x320_S64x576x1_S4x64x576_0_1_n_n_1_2_41 x idx (ix3 h i j) = x (ix2 h b) := by
  unfold Host.gather
  refine congrArg x (funext fun a => Fin.ext ?_)
  match a with
  | ⟨0, _⟩ => exact (congrArg₂ (· + ·) (congrArg₂ (· + ·) (rfl : _ = 0) (rfl : _ = 0)) (rfl : _ = h.val)).trans (Nat.zero_add _)
  | ⟨1, _⟩ =>
    have hs : gather_S4x320_S64x576x1_S4x64x576_0_1_n_n_1_2_41.siIdx (ix3 h i j) ⟨0, Nat.one_pos⟩ = ix3 i j 0 := by
      funext b'
      match b' with
      | ⟨0, _⟩ => rfl
      | ⟨1, _⟩ => rfl
      | ⟨2, _⟩ => rfl
    show min (idx (gather_S4x320_S64x576x1_S4x64x576_0_1_n_n_1_2_41.siIdx (ix3 h i j) ⟨0, Nat.one_pos⟩)).toInt.toNat 319 + 0 + 0 = b.val
    rw [hs, hb, WordCmp.toInt_ofNat_of_lt (by have := b.isLt; omega)]
    have := b.isLt
    omega

theorem bias_at (x : FVec Ideal S4x320 .f32) (h : Fin 4) (i : Fin 64) (j : Fin 576) :
    bias x (ix3 h i j) = x (ix2 h ⟨min (575 + i.val - j.val) 319, by omega⟩) := by
  refine bias_gather x _ h i j _ ?_
  rw [← column_at i j]
  pointwise []

/-- Which keys of a chunk's window lie in the sequence. -/
def inside : IVec S128x576 1 :=
  cmpi .sge (addi (broadcastInDim S128x576 ![0, 1] bcast_S128x1_S128x576_0_1 (muli (subi (broadcastInDim S128x1 ![0] bcast_S128_S128x1_0 (iotaInDim S128 32 0)) (broadcastInDim S128x1 ![] bcast_S_S128x1 (constantI S_ 32 8#32))) (broadcastInDim S128x1 ![] bcast_S_S128x1 (constantI S_ 32 64#32))))
      (broadcastInDim S128x576 ![0, 1] bcast_S1x576_S128x576_0_1 (broadcastInDim S1x576 ![1] bcast_S576_S1x576_1 (iotaInDim S576 32 0))))
    (broadcastInDim S128x576 ![] bcast_S_S128x576 (constantI S_ 32 0#32))

theorem inside_at : ∀ (n : Fin 128) (j : Fin 576), inside (ix2 n j) = if 8 ≤ n.val + j.val / 64 then 1#1 else 0#1 := by
  intro n j
  have hn := n.isLt
  have hj := j.isLt
  have hd : IntOp.addi (IntOp.muli (IntOp.subi (BitVec.ofNat 32 n.val) 8#32) 64#32) (BitVec.ofNat 32 j.val)
      = IntOp.subi (BitVec.ofNat 32 (n.val * 64 + j.val)) 512#32 := by
    have hm : ∀ n : Fin 128, IntOp.muli (IntOp.subi (BitVec.ofNat 32 n.val) 8#32) 64#32 = IntOp.subi (BitVec.ofNat 32 (n.val * 64)) 512#32 := by
      decide +kernel
    rw [hm]
    unfold IntOp.subi IntOp.addi
    bv_omega
  have key : ∀ t : Fin 8768, IntOp.cmpi .sge (IntOp.subi (BitVec.ofNat 32 t.val) 512#32) 0#32 = if 512 ≤ t.val then 1#1 else 0#1 := by decide +kernel
  pointwise [inside]
  rw [hd, key ⟨n.val * 64 + j.val, by omega⟩]
  exact if_congr (by simp only; omega) rfl rfl

/-- The masked scores. -/
def scores (x : FVec Ideal S65536x3584 .bf16) (r : FVec Ideal S4x320 .f32) : FVec Ideal S8x128x4x64x576 .f32 :=
  select (broadcastInDim S8x128x4x64x576 ![0, 1, 2, 3, 4] bcast_S1x128x1x1x576_S8x128x4x64x576_0_1_2_3_4 (broadcastInDim S1x128x1x1x576 ![1, 4] bcast_S128x576_S1x128x1x1x576_1_4 inside))
    (addf (Host.dotGeneral dot_S8x128x64x4x64_S8x128x576x4x64_S8x128x4x64x576_4_4_2_2_013_013 none (queries x) (window (keys x)))
      (broadcastInDim S8x128x4x64x576 ![0, 1, 2, 3, 4] bcast_S1x1x4x64x576_S8x128x4x64x576_0_1_2_3_4 (broadcastInDim S1x1x4x64x576 ![2, 3, 4] bcast_S4x64x576_S1x1x4x64x576_2_3_4 (bias r))))
    (broadcastInDim S8x128x4x64x576 ![] bcast_S_S8x128x4x64x576 (id (constant S_ .f32 0xFF800000#32)))

theorem neg_inf : Ideal.ofBits FTy.f32 0xFF800000#32 = (⊥ : EReal) := by simp [Ideal.ofBits, Ideal.ieee]

/-- One score. -/
def score (x : FVec Ideal S65536x3584 .bf16) (r : FVec Ideal S4x320 .f32) (b : Fin 8) (n : Fin 128) (h : Fin 4) (i : Fin 64) (j : Fin 576) : EReal :=
  if hn : 8 ≤ n.val + j.val / 64 then
    (∑ d : Fin 64, (show EReal from x (ix2 ⟨b.val * 8192 + n.val * 64 + i.val, by omega⟩ ⟨1280 + h.val * 64 + d.val, by omega⟩))
        * (show EReal from x (ix2 ⟨b.val * 8192 + (n.val + j.val / 64 - 8) * 64 + j.val % 64, by omega⟩ ⟨1536 + h.val * 64 + d.val, by omega⟩)))
      + (show EReal from r (ix2 h ⟨min (575 + i.val - j.val) 319, by omega⟩))
  else ⊥

theorem scores_at (x : FVec Ideal S65536x3584 .bf16) (r : FVec Ideal S4x320 .f32) (b : Fin 8) (n : Fin 128) (h : Fin 4) (i : Fin 64) (j : Fin 576) :
    scores x r (ix5 b n h i j) = score x r b n h i j := by
  have h1 := inside_at n j
  have h2 := bias_at r h i j
  pointwise [scores, h1, h2]
  simp only [queries_at, window_at, keys_at]
  unfold score
  by_cases hn : 8 ≤ n.val + j.val / 64
  · simp only [dif_pos hn, if_pos hn]
    rfl
  · simp only [dif_neg hn, if_neg hn]
    exact neg_inf

end Cert.ReferenceIdeal.Band

end
-- ==== Proof.RefWeights.lean ====
module

public import proofs.«01_k».proof.Proof.Gen.ReferenceIdeal.Run
public import Idealize.ShloMosaic.Lib.WordCmp
public import Idealize.ShloMosaic.Lib.Pointwise
public import proofs.«01_k».proof.Proof.Ref

@[expose] public section

noncomputable section

namespace Cert.ReferenceIdeal.Band

open Cert.ReferenceIdeal Cert.ReferenceIdeal.Gen Idealize.ShloMosaic Idealize.ShloMosaic.TcCoe Idealize.SL.Sem Idealize.ShloMosaic.Tactic

/-- Each row's maximum. -/
def top (s : FVec Ideal S8x128x4x64x576 .f32) : FVec Ideal S8x128x4x64 .f32 :=
  maximumf (broadcastInDim S8x128x4x64 ![] bcast_S_S8x128x4x64 (constant S_ .f32 0xFF800000#32))
    (Host.reduce FloatOps.maximumf s (constant S_ .f32 0xFF800000#32) reducesTo_S8x128x4x64x576_S8x128x4x64_d4 h_S_)

/-- The exponentials of the scores under their row's maximum. -/
def expo (s : FVec Ideal S8x128x4x64x576 .f32) : FVec Ideal S8x128x4x64x576 .f32 :=
  Host.exp (subf s (broadcastInDim S8x128x4x64x576 ![0, 1, 2, 3, 4] bcast_S8x128x4x64x1_S8x128x4x64x576_0_1_2_3_4
    (broadcastInDim S8x128x4x64x1 ![0, 1, 2, 3] bcast_S8x128x4x64_S8x128x4x64x1_0_1_2_3 (top s))))

/-- Each row's sum of exponentials. -/
def total (s : FVec Ideal S8x128x4x64x576 .f32) : FVec Ideal S8x128x4x64 .f32 :=
  Host.reduceAdd (expo s) (constant S_ .f32 0x00000000#32) reducesTo_S8x128x4x64x576_S8x128x4x64_d4 h_S_

/-- The weights, each row's normalised. -/
def weights (s : FVec Ideal S8x128x4x64x576 .f32) : FVec Ideal S8x128x4x64x576 .f32 :=
  Host.divf (expo s)
    (broadcastInDim S8x128x4x64x576 ![0, 1, 2, 3, 4] bcast_S8x128x4x64x1_S8x128x4x64x576_0_1_2_3_4
      (broadcastInDim S8x128x4x64x1 ![0, 1, 2, 3] bcast_S8x128x4x64_S8x128x4x64x1_0_1_2_3 (total s)))

theorem max_at (s : FVec Ideal S8x128x4x64x576 .f32) (b : Fin 8) (n : Fin 128) (h : Fin 4) (i : Fin 64) :
    Host.reduce FloatOps.maximumf s (constant S_ .f32 0xFF800000#32) reducesTo_S8x128x4x64x576_S8x128x4x64_d4 h_S_ (ix4 b n h i)
      = Finset.univ.fold max (Ideal.ofBits FTy.f32 0xFF800000#32) fun j => s (ix5 b n h i j) := by
  pointwise []

theorem max_bot (y : FVec Ideal S8x128x4x64 .f32) (j : S8x128x4x64.Idx) :
    maximumf (broadcastInDim S8x128x4x64 ![] bcast_S_S8x128x4x64 (constant S_ .f32 0xFF800000#32)) y j = (y j : EReal) := by
  show max (Ideal.ofBits FTy.f32 0xFF800000#32) (y j : EReal) = y j
  rw [neg_inf, max_eq_right bot_le]

theorem top_at (s : FVec Ideal S8x128x4x64x576 .f32) (b : Fin 8) (n : Fin 128) (h : Fin 4) (i : Fin 64) (f : Fin 576 → EReal)
    (hf : ∀ j, s (ix5 b n h i j) = f j) :
    top s (ix4 b n h i) = Finset.univ.sup f := by
  unfold top
  rw [max_bot, max_at, neg_inf, Softmax.fold_max]
  simp only [hf]

theorem exp_sub_at (s : FVec Ideal S8x128x4x64x576 .f32) (t : FVec Ideal S8x128x4x64 .f32) (b : Fin 8) (n : Fin 128) (h : Fin 4) (i : Fin 64) (j : Fin 576) :
    Host.exp (subf s (broadcastInDim S8x128x4x64x576 ![0, 1, 2, 3, 4] bcast_S8x128x4x64x1_S8x128x4x64x576_0_1_2_3_4
      (broadcastInDim S8x128x4x64x1 ![0, 1, 2, 3] bcast_S8x128x4x64_S8x128x4x64x1_0_1_2_3 t))) (ix5 b n h i j)
      = Ideal.exp ((show EReal from s (ix5 b n h i j)) - (show EReal from t (ix4 b n h i))) := by
  pointwise []

theorem expo_at (s : FVec Ideal S8x128x4x64x576 .f32) (b : Fin 8) (n : Fin 128) (h : Fin 4) (i : Fin 64) (j : Fin 576) (f : Fin 576 → EReal)
    (hf : ∀ j, s (ix5 b n h i j) = f j) :
    expo s (ix5 b n h i j) = Ideal.exp (f j - Finset.univ.sup f) := by
  unfold expo
  rw [exp_sub_at, top_at s b n h i f hf, hf]

theorem sum_at (s : FVec Ideal S8x128x4x64x576 .f32) (b : Fin 8) (n : Fin 128) (h : Fin 4) (i : Fin 64) :
    Host.reduceAdd s (constant S_ .f32 0x00000000#32) reducesTo_S8x128x4x64x576_S8x128x4x64_d4 h_S_ (ix4 b n h i)
      = ∑ j : Fin 576, (show EReal from s (ix5 b n h i j)) := by
  pointwise []

theorem div_at (s : FVec Ideal S8x128x4x64x576 .f32) (t : FVec Ideal S8x128x4x64 .f32) (b : Fin 8) (n : Fin 128) (h : Fin 4) (i : Fin 64) (j : Fin 576) :
    Host.divf s (broadcastInDim S8x128x4x64x576 ![0, 1, 2, 3, 4] bcast_S8x128x4x64x1_S8x128x4x64x576_0_1_2_3_4
      (broadcastInDim S8x128x4x64x1 ![0, 1, 2, 3] bcast_S8x128x4x64_S8x128x4x64x1_0_1_2_3 t)) (ix5 b n h i j)
      = Ideal.div (show EReal from s (ix5 b n h i j)) (show EReal from t (ix4 b n h i)) := by
  pointwise []

theorem weights_at (s : FVec Ideal S8x128x4x64x576 .f32) (b : Fin 8) (n : Fin 128) (h : Fin 4) (i : Fin 64) (j : Fin 576) (f : Fin 576 → EReal)
    (hf : ∀ j, s (ix5 b n h i j) = f j) :
    weights s (ix5 b n h i j) = Ideal.div (Ideal.exp (f j - Finset.univ.sup f)) (∑ j, Ideal.exp (f j - Finset.univ.sup f)) := by
  unfold weights
  rw [div_at, expo_at s b n h i j f hf]
  refine congrArg (Ideal.div _) ?_
  unfold total
  rw [sum_at]
  exact Finset.sum_congr rfl fun j _ => expo_at s b n h i j f hf

end Cert.ReferenceIdeal.Band

end
-- ==== Proof.RefOut.lean ====
module

public import proofs.«01_k».proof.Proof.Gen.ReferenceIdeal.Run
public import Idealize.ShloMosaic.Lib.WordCmp
public import Idealize.ShloMosaic.Lib.Pointwise
public import proofs.«01_k».proof.Proof.RefWeights

@[expose] public section

noncomputable section

namespace Cert.ReferenceIdeal.Band

open Cert.ReferenceIdeal Cert.ReferenceIdeal.Gen Idealize.ShloMosaic Idealize.ShloMosaic.TcCoe Idealize.SL.Sem Idealize.ShloMosaic.Tactic

/-- What the reference returns. -/
def result (x : FVec Ideal S65536x3584 .bf16) (r : FVec Ideal S4x320 .f32) : FVec Ideal S65536x256 .bf16 :=
  truncf .bf16 (shapeCast S65536x256 (transpose S8x128x64x4x64 [0, 1, 4, 2, 3]
    (Host.dotGeneral dot_S8x128x576x4x64_S8x128x4x64x576_S8x128x4x64x64_2_4_4_3_013_012 none (window (values x)) (weights (scores x r)))
    transposes_S8x128x4x64x64_S8x128x64x4x64_0_1_4_2_3) shapeCasts_S8x128x64x4x64_S65536x256) bitsLt_bf16_f32

variable (m : (ℓ : Loc nD τ sig) → Buf (Elt Ideal) ℓ)

theorem res_eq (c : Dev nD) : Value.res_out0 m c = result (m (c.tc.loc main_arg0)) (m (c.tc.loc main_arg1)) := by
  unfold Value.res_out0 Value.res_main_v86 result weights total expo top scores inside bias column clipped window wrapped place before queries keys values packed
  rfl

theorem result_at (x : FVec Ideal S65536x3584 .bf16) (r : FVec Ideal S4x320 .f32) (R : Fin 65536) (l : Fin 256) :
    result x r (ix2 R l) =
      ∑ j : Fin 576, Ideal.div (Ideal.exp (score x r ⟨R.val / 8192, by omega⟩ ⟨R.val / 64 % 128, by omega⟩ ⟨l.val / 64, by omega⟩ ⟨R.val % 64, by omega⟩ j
            - Finset.univ.sup (score x r ⟨R.val / 8192, by omega⟩ ⟨R.val / 64 % 128, by omega⟩ ⟨l.val / 64, by omega⟩ ⟨R.val % 64, by omega⟩)))
          (∑ j, Ideal.exp (score x r ⟨R.val / 8192, by omega⟩ ⟨R.val / 64 % 128, by omega⟩ ⟨l.val / 64, by omega⟩ ⟨R.val % 64, by omega⟩ j
            - Finset.univ.sup (score x r ⟨R.val / 8192, by omega⟩ ⟨R.val / 64 % 128, by omega⟩ ⟨l.val / 64, by omega⟩ ⟨R.val % 64, by omega⟩)))
        * (if hn : 8 ≤ R.val / 64 % 128 + j.val / 64 then
            x (ix2 ⟨R.val / 8192 * 8192 + (R.val / 64 % 128 + j.val / 64 - 8) * 64 + j.val % 64, by omega⟩ ⟨1792 + l.val, by omega⟩) else (0 : EReal)) := by
  pointwise [result]
  refine Finset.sum_congr rfl fun j _ => ?_
  rw [weights_at _ _ _ _ _ j _ fun j => scores_at x r _ _ _ _ j, window_at, mul_comm]
  refine congrArg _ ?_
  split
  · rw [values_at]
    exact congrArg (fun a => x (ix2 _ a)) (Fin.ext (by simp only; omega))
  · rfl

end Cert.ReferenceIdeal.Band

end
-- ==== Proof.Point.lean ====
module

public import proofs.«01_k».proof.Proof.Block
public import proofs.«01_k».proof.Proof.Bias
public import proofs.«01_k».proof.Proof.RefOut
public import proofs.«01_k».proof.Proof.Gen.KernelIdeal.Value
public import Idealize.ShloMosaic.Lib.Claim
public import Idealize.ShloMosaic.Lib.Pipeline.ValueKit

@[expose] public section

noncomputable section

namespace Cert.KernelIdeal.Band

open Cert.KernelIdeal Cert.KernelIdeal.Gen Idealize.ShloMosaic Idealize.ShloMosaic.TcCoe Idealize.SL.Sem Idealize.ShloMosaic.Tactic

variable (m : (ℓ : Loc nD τ sig) → Buf (Elt Ideal) ℓ)

/-- Which block each window holds at a point. -/
theorem idx : ∀ t : Fin cfg0.N,
    (grid0.coords t 0).val = t.val ∧ win0_0.index t = ![t.val, 5]
    ∧ win0_1.index t = ![t.val - min (t.val % 32) 2, 6] ∧ win0_2.index t = ![t.val - min (t.val % 32) 1, 6] ∧ win0_3.index t = ![t.val, 6]
    ∧ win0_4.index t = ![t.val - min (t.val % 32) 2, 7] ∧ win0_5.index t = ![t.val - min (t.val % 32) 1, 7] ∧ win0_6.index t = ![t.val, 7]
    ∧ win0_7.index t = ![0, 0, 0] ∧ win0_8.index t = ![t.val, 0] :=
  (by decide +kernel : ∀ t : Fin grid0.N, _)

/-- The launched activations. -/
abbrev acts (c : Dev nD) : FVec Ideal S65536x3584 .bf16 := m (c.tc.loc main_arg0)
/-- The launched bias table. -/
abbrev table (c : Dev nD) : FVec Ideal S4x320 .f32 := m (c.tc.loc main_arg1)

theorem row0 (t k p : ℕ) (hk : before t ≤ k) (hp : p + 512 = t * 256 + k) (h : k / 256 = 0) : (t - min (t % 32) 2) * 256 + k % 256 = p := by
  unfold before at hk
  omega

theorem row1 (t k p : ℕ) (hk : before t ≤ k) (hp : p + 512 = t * 256 + k) (h : k / 256 = 1) : (t - min (t % 32) 1) * 256 + k % 256 = p := by
  unfold before at hk
  omega

theorem row2 (t k p : ℕ) (hk : before t ≤ k) (hp : p + 512 = t * 256 + k) (h : k / 256 = 2) : t * 256 + k % 256 = p := by
  unfold before at hk
  omega

/-- Three stacked blocks, each read from an array at its own row, read that array at the row of the whole window. -/
theorem stack_at (A : FVec Ideal S65536x3584 .bf16) (b0 b1 b2 : FVec Ideal S256x256 .bf16) (t : ℕ) (ht : t < 256) (o : ℕ) (ho : o + 256 ≤ 3584)
    (h0 : ∀ r l : Fin 256, b0 (ix2 r l) = A (ix2 ⟨(t - min (t % 32) 2) * 256 + r.val, by omega⟩ ⟨o + l.val, by omega⟩))
    (h1 : ∀ r l : Fin 256, b1 (ix2 r l) = A (ix2 ⟨(t - min (t % 32) 1) * 256 + r.val, by omega⟩ ⟨o + l.val, by omega⟩))
    (h2 : ∀ r l : Fin 256, b2 (ix2 r l) = A (ix2 ⟨t * 256 + r.val, by omega⟩ ⟨o + l.val, by omega⟩))
    (k : Fin 768) (l : Fin 256) (hk : before t ≤ k.val) (p : Fin 65536) (hp : p.val + 512 = t * 256 + k.val) :
    k0_pay2 (F := Ideal) b0 b1 b2 (ix2 k l) = A (ix2 p ⟨o + l.val, by omega⟩) := by
  refine (keys_at ![b0, b1, b2] k l).trans ?_
  rcases (by omega : k.val / 256 = 0 ∨ k.val / 256 = 1 ∨ k.val / 256 = 2) with h | h | h
  · rw [(Fin.ext h : (⟨k.val / 256, by omega⟩ : Fin 3) = 0)]
    show b0 _ = _
    rw [h0]
    exact congrArg A (congrArg (fun a => ix2 a _) (Fin.ext (row0 _ _ _ hk hp h)))
  · rw [(Fin.ext h : (⟨k.val / 256, by omega⟩ : Fin 3) = 1)]
    show b1 _ = _
    rw [h1]
    exact congrArg A (congrArg (fun a => ix2 a _) (Fin.ext (row1 _ _ _ hk hp h)))
  · rw [(Fin.ext h : (⟨k.val / 256, by omega⟩ : Fin 3) = 2)]
    show b2 _ = _
    rw [h2]
    exact congrArg A (congrArg (fun a => ix2 a _) (Fin.ext (row2 _ _ _ hk hp h)))

theorem query_at (c : Dev nD) (t : Fin cfg0.N) (r l : Fin 256) :
    iblk m c 0 t (ix2 r l) = acts m c (ix2 ⟨t.val * 256 + r.val, by have := t.isLt; have : cfg0.N = 256 := rfl; omega⟩ ⟨1280 + l.val, by omega⟩) := by
  blk_ext [iblk, V, idx t]

theorem key0_at (c : Dev nD) (t : Fin cfg0.N) (r l : Fin 256) :
    iblk m c 1 t (ix2 r l) = acts m c (ix2 ⟨(t.val - min (t.val % 32) 2) * 256 + r.val, by have := t.isLt; have : cfg0.N = 256 := rfl; omega⟩ ⟨1536 + l.val, by omega⟩) := by
  blk_ext [iblk, V, idx t]

theorem key1_at (c : Dev nD) (t : Fin cfg0.N) (r l : Fin 256) :
    iblk m c 2 t (ix2 r l) = acts m c (ix2 ⟨(t.val - min (t.val % 32) 1) * 256 + r.val, by have := t.isLt; have : cfg0.N = 256 := rfl; omega⟩ ⟨1536 + l.val, by omega⟩) := by
  blk_ext [iblk, V, idx t]

theorem key2_at (c : Dev nD) (t : Fin cfg0.N) (r l : Fin 256) :
    iblk m c 3 t (ix2 r l) = acts m c (ix2 ⟨t.val * 256 + r.val, by have := t.isLt; have : cfg0.N = 256 := rfl; omega⟩ ⟨1536 + l.val, by omega⟩) := by
  blk_ext [iblk, V, idx t]

/-- A key inside the sequence is read from the activations. -/
theorem keys_acts (c : Dev nD) (t : Fin cfg0.N) (k : Fin 768) (l : Fin 256) (hk : before t.val ≤ k.val) (p : Fin 65536)
    (hp : p.val + 512 = t.val * 256 + k.val) :
    k0_pay2 (F := Ideal) (iblk m c 1 t) (iblk m c 2 t) (iblk m c 3 t) (ix2 k l) = acts m c (ix2 p ⟨1536 + l.val, by omega⟩) :=
  stack_at (acts m c) _ _ _ t.val t.isLt 1536 (by omega) (key0_at m c t) (key1_at m c t) (key2_at m c t) k l hk p hp

theorem value0_at (c : Dev nD) (t : Fin cfg0.N) (r l : Fin 256) :
    iblk m c 4 t (ix2 r l) = acts m c (ix2 ⟨(t.val - min (t.val % 32) 2) * 256 + r.val, by have := t.isLt; have : cfg0.N = 256 := rfl; omega⟩ ⟨1792 + l.val, by omega⟩) := by
  blk_ext [iblk, V, idx t]

theorem value1_at (c : Dev nD) (t : Fin cfg0.N) (r l : Fin 256) :
    iblk m c 5 t (ix2 r l) = acts m c (ix2 ⟨(t.val - min (t.val % 32) 1) * 256 + r.val, by have := t.isLt; have : cfg0.N = 256 := rfl; omega⟩ ⟨1792 + l.val, by omega⟩) := by
  blk_ext [iblk, V, idx t]

theorem value2_at (c : Dev nD) (t : Fin cfg0.N) (r l : Fin 256) :
    iblk m c 6 t (ix2 r l) = acts m c (ix2 ⟨t.val * 256 + r.val, by have := t.isLt; have : cfg0.N = 256 := rfl; omega⟩ ⟨1792 + l.val, by omega⟩) := by
  blk_ext [iblk, V, idx t]

/-- A value inside the sequence is read from the activations. -/
theorem values_acts (c : Dev nD) (t : Fin cfg0.N) (k : Fin 768) (l : Fin 256) (hk : before t.val ≤ k.val) (p : Fin 65536)
    (hp : p.val + 512 = t.val * 256 + k.val) :
    k0_pay2 (F := Ideal) (iblk m c 4 t) (iblk m c 5 t) (iblk m c 6 t) (ix2 k l) = acts m c (ix2 p ⟨1792 + l.val, by omega⟩) :=
  stack_at (acts m c) _ _ _ t.val t.isLt 1792 (by omega) (value0_at m c t) (value1_at m c t) (value2_at m c t) k l hk p hp

theorem biasBlock_at (c : Dev nD) (t : Fin cfg0.N) (h : Fin 4) (r : Fin 256) (k : Fin 768) :
    iblk m c 7 t (ix3 h r k) = banded (table m c) (ix3 h r k) := by
  rw [← bias_eq m c]
  blk_ext [iblk, idx t]

end Cert.KernelIdeal.Band

end
-- ==== Proof.Band.lean ====
module

public import proofs.«01_k».proof.Proof.Point

@[expose] public section

noncomputable section

namespace Cert.KernelIdeal.Band

open Cert.KernelIdeal Cert.KernelIdeal.Gen Idealize.ShloMosaic Idealize.ShloMosaic.TcCoe Idealize.SL.Sem Idealize.ShloMosaic.Tactic

/-- What the precondition gives: the queries, the keys and the bias table hold real numbers. -/
structure Finite (X : FVec Ideal S65536x3584 .bf16) (B : FVec Ideal S4x320 .f32) : Prop where
  acts (R : Fin 65536) (d : Fin 512) : ∃ x : ℝ, X (ix2 R ⟨1280 + d.val, by omega⟩) = (x : EReal)
  table (h : Fin 4) (d : Fin 320) : ∃ x : ℝ, B (ix2 h d) = (x : EReal)

abbrev refScore (X : FVec Ideal S65536x3584 .bf16) (B : FVec Ideal S4x320 .f32) (R : Fin 65536) (h : Fin 4) : Fin 576 → EReal :=
  Cert.ReferenceIdeal.Band.score X B ⟨R.val / 8192, by omega⟩ ⟨R.val / 64 % 128, by omega⟩ h ⟨R.val % 64, by omega⟩

/-- Under real inputs every score inside the sequence is real. -/
theorem refScore_real {X : FVec Ideal S65536x3584 .bf16} {B : FVec Ideal S4x320 .f32} (hf : Finite X B) (R : Fin 65536) (h : Fin 4)
    (j : Fin 576) (hn : 8 ≤ R.val / 64 % 128 + j.val / 64) : ∃ x : ℝ, refScore X B R h j = (x : EReal) := by
  obtain ⟨b, hb⟩ := hf.table h ⟨min (575 + R.val % 64 - j.val) 319, by omega⟩
  choose a ha using fun (r : Fin 65536) (d : Fin 512) => hf.acts r d
  refine ⟨(∑ d : Fin 64, a ⟨R.val / 8192 * 8192 + R.val / 64 % 128 * 64 + R.val % 64, by omega⟩ ⟨h.val * 64 + d.val, by omega⟩
      * a ⟨R.val / 8192 * 8192 + (R.val / 64 % 128 + j.val / 64 - 8) * 64 + j.val % 64, by omega⟩ ⟨256 + (h.val * 64 + d.val), by omega⟩) + b, ?_⟩
  unfold refScore Cert.ReferenceIdeal.Band.score
  rw [dif_pos hn, EReal.coe_add, ← Cert.Softmax.coe_sum]
  refine congrArg₂ (· + ·) (Finset.sum_congr rfl fun d _ => ?_) hb
  rw [EReal.coe_mul, ← ha, ← ha]
  refine congrArg₂ (· * ·) (congrArg X (congrArg (ix2 _) (Fin.ext ?_))) (congrArg X (congrArg (ix2 _) (Fin.ext ?_)))
  · simp only; omega
  · simp only; omega

theorem refScore_ne_top {X : FVec Ideal S65536x3584 .bf16} {B : FVec Ideal S4x320 .f32} (hf : Finite X B) (R : Fin 65536) (h : Fin 4)
    (j : Fin 576) : refScore X B R h j ≠ ⊤ := by
  by_cases hn : 8 ≤ R.val / 64 % 128 + j.val / 64
  · obtain ⟨x, hx⟩ := refScore_real hf R h j hn
    rw [hx]; exact EReal.coe_ne_top x
  · unfold refScore Cert.ReferenceIdeal.Band.score
    rw [dif_neg hn]; exact bot_ne_top

/-- Where a window position lies among the stacked keys of row r of a block. -/
def place (r : Fin 256) (j : Fin 576) : Fin 768 := ⟨r.val / 64 * 64 + j.val, by omega⟩

theorem place_inj (r : Fin 256) : Function.Injective (place r) := fun i j hij => by
  have := congrArg Fin.val hij
  simp only [place] at this
  exact Fin.ext (by omega)

/-- A key in the sequence, by its place. -/
theorem before_place (t : ℕ) (R : ℕ) (r : Fin 256) (hR : R = t * 256 + r.val) (j : Fin 576) :
    before t ≤ (place r j).val ↔ 8 ≤ R / 64 % 128 + j.val / 64 := by
  simp only [place, before]
  omega

theorem place_row (t : ℕ) (R : ℕ) (r : Fin 256) (hR : R = t * 256 + r.val) (j : Fin 576) (hn : 8 ≤ R / 64 % 128 + j.val / 64) :
    R / 8192 * 8192 + (R / 64 % 128 + j.val / 64 - 8) * 64 + j.val % 64 + 512 = t * 256 + (place r j).val := by
  simp only [place]
  omega

/-- The row itself is a key of its own window. -/
theorem own_key (R : ℕ) (i : ℕ) (hi : i < 64) : 8 ≤ R / 64 % 128 + (512 + i) / 64 := by omega

/-- The columns of the queries. -/
def qcol (l : Fin 256) : Fin 3584 := ⟨1280 + l.val, by omega⟩
/-- The columns of the keys. -/
def kcol (l : Fin 256) : Fin 3584 := ⟨1536 + l.val, by omega⟩
/-- The columns of the values. -/
def vcol (l : Fin 256) : Fin 3584 := ⟨1792 + l.val, by omega⟩

section
variable (X : FVec Ideal S65536x3584 .bf16) (B : FVec Ideal S4x320 .f32) (t : ℕ) (r : Fin 256) (R : Fin 65536) (hR : R.val = t * 256 + r.val)
  (h : Fin 4) (q : FVec Ideal S256x256 .bf16) (k v : FVec Ideal S768x256 .bf16) (inq : IVec S1x768 1) (b : FVec Ideal S1x256x768 .f32)
  (hq : ∀ l : Fin 256, q (ix2 r l) = X (ix2 R (qcol l)))
  (hk : ∀ (c : Fin 768) (l : Fin 256), before t ≤ c.val → ∀ p : Fin 65536, p.val + 512 = t * 256 + c.val → k (ix2 c l) = X (ix2 p (kcol l)))
  (hv : ∀ (c : Fin 768) (l : Fin 256), before t ≤ c.val → ∀ p : Fin 65536, p.val + 512 = t * 256 + c.val → v (ix2 c l) = X (ix2 p (vcol l)))
  (hi : ∀ c : Fin 768, inq (ix2 0 c) = if before t ≤ c.val then 1#1 else 0#1)
  (hb : ∀ c : Fin 768, b (ix3 0 r c) = banded B (ix3 h r c))

include hR hq hk hi hb

/-- A kernel score at a place of the window is the reference's. -/
theorem score_place (j : Fin 576) : score h q k inq b r (place r j) = refScore X B R h j := by
  have hbp := before_place t R.val r hR j
  unfold score refScore Cert.ReferenceIdeal.Band.score
  rw [hi]
  by_cases hn : 8 ≤ R.val / 64 % 128 + j.val / 64
  · rw [if_pos (hbp.2 hn), if_pos rfl, dif_pos hn, hb, banded_at, if_pos (by simp only [place]; omega)]
    refine congrArg₂ (· + ·) (Finset.sum_congr rfl fun d _ => ?_) (congrArg B (congrArg (ix2 h) (Fin.ext ?_)))
    · rw [hq, hk _ _ (hbp.2 hn) ⟨R.val / 8192 * 8192 + (R.val / 64 % 128 + j.val / 64 - 8) * 64 + j.val % 64, by omega⟩ (place_row t R.val r hR j hn)]
      refine congrArg₂ (· * ·) (congrArg X (congrArg₂ ix2 (Fin.ext ?_) (Fin.ext ?_))) (congrArg X (congrArg (ix2 _) (Fin.ext ?_)))
      · simp only; omega
      · simp only [qcol]; omega
      · simp only [kcol]; omega
    · simp only [place]; omega
  · rw [if_neg (fun h' => hn (hbp.1 h')), if_neg (by decide), dif_neg hn]

omit hq hk in
/-- Outside the window every kernel score is masked. -/
theorem score_outside (c : Fin 768) (hc : ∀ j, place r j ≠ c) : score h q k inq b r c = ⊥ := by
  unfold score
  split
  · rw [hb, banded_at, if_neg, EReal.add_bot]
    rintro ⟨h1, h2⟩
    exact hc ⟨c.val - r.val / 64 * 64, by omega⟩ (Fin.ext (by simp only [place]; omega))
  · rfl

include hv

/-- One head of one row: the kernel's normalised sum is the reference's output. -/
theorem head_eq (hf : Finite X B) (l : Fin 256) (hl : l.val / 64 = h.val) :
    Ideal.div (∑ c, Ideal.exp (score h q k inq b r c - Finset.univ.sup (score h q k inq b r)) * (show EReal from v (ix2 c l)))
          (∑ c, Ideal.exp (score h q k inq b r c - Finset.univ.sup (score h q k inq b r)))
      = Cert.ReferenceIdeal.Band.result X B (ix2 R l) := by
  have hlt : l.val / 64 < 4 := by clear hl; omega
  obtain rfl : (⟨l.val / 64, hlt⟩ : Fin 4) = h := Fin.ext hl
  rw [Cert.ReferenceIdeal.Band.result_at]
  refine Cert.Softmax.softmax_window (place r) (place_inj r) _ _ (refScore X B R _) _
    (score_place X B t r R hR _ q k inq b hq hk hi hb) (score_outside B t r R hR _ q k inq b hi hb) (fun j hj => ?_) (refScore_ne_top hf R _)
    ⟨512 + R.val % 64, by omega⟩ ?_
  · have hn : 8 ≤ R.val / 64 % 128 + j.val / 64 := by
      by_contra hn
      exact hj (by unfold refScore Cert.ReferenceIdeal.Band.score; rw [dif_neg hn])
    rw [dif_pos hn]
    exact hv _ l ((before_place t R.val r hR j).2 hn) _ (place_row t R.val r hR j hn)
  · obtain ⟨x, hx⟩ := refScore_real hf R ⟨l.val / 64, by omega⟩ ⟨512 + R.val % 64, by omega⟩ (own_key _ _ (Nat.mod_lt _ (by decide)))
    rw [hx]; exact EReal.coe_ne_bot x

end

end Cert.KernelIdeal.Band

end
-- ==== Proof.Final.lean ====
module

public import proofs.«01_k».proof.Proof.Band

@[expose] public section

noncomputable section

namespace Cert.KernelIdeal.Band

open Cert.KernelIdeal Cert.KernelIdeal.Gen Idealize.ShloMosaic Idealize.ShloMosaic.TcCoe Idealize.SL.Sem Idealize.ShloMosaic.Tactic

theorem slab0 (x7 : Vec Ideal S4x256x768 .f32) (r : Fin 256) (k : Fin 768) : View.ld x7 r0_1 (ix3 0 r k) = x7 (ix3 0 r k) :=
  congrArg x7 (funext fun a => Fin.ext (match a with
    | ⟨0, _⟩ => rfl
    | ⟨1, _⟩ => (Nat.zero_add _).trans (Nat.one_mul _)
    | ⟨2, _⟩ => (Nat.zero_add _).trans (Nat.one_mul _)))

theorem slab1 (x7 : Vec Ideal S4x256x768 .f32) (r : Fin 256) (k : Fin 768) : View.ld x7 r0_2 (ix3 0 r k) = x7 (ix3 1 r k) :=
  congrArg x7 (funext fun a => Fin.ext (match a with
    | ⟨0, _⟩ => rfl
    | ⟨1, _⟩ => (Nat.zero_add _).trans (Nat.one_mul _)
    | ⟨2, _⟩ => (Nat.zero_add _).trans (Nat.one_mul _)))

theorem slab2 (x7 : Vec Ideal S4x256x768 .f32) (r : Fin 256) (k : Fin 768) : View.ld x7 r0_3 (ix3 0 r k) = x7 (ix3 2 r k) :=
  congrArg x7 (funext fun a => Fin.ext (match a with
    | ⟨0, _⟩ => rfl
    | ⟨1, _⟩ => (Nat.zero_add _).trans (Nat.one_mul _)
    | ⟨2, _⟩ => (Nat.zero_add _).trans (Nat.one_mul _)))

theorem slab3 (x7 : Vec Ideal S4x256x768 .f32) (r : Fin 256) (k : Fin 768) : View.ld x7 r0_4 (ix3 0 r k) = x7 (ix3 3 r k) :=
  congrArg x7 (funext fun a => Fin.ext (match a with
    | ⟨0, _⟩ => rfl
    | ⟨1, _⟩ => (Nat.zero_add _).trans (Nat.one_mul _)
    | ⟨2, _⟩ => (Nat.zero_add _).trans (Nat.one_mul _)))

/-- What one grid point stores, by heads. -/
theorem out_at (i : grid0.Coords) (x0 x1 x2 x3 x4 x5 x6 : Vec Ideal S256x256 .bf16) (x7 : Vec Ideal S4x256x768 .f32) (r l : Fin 256) :
    out0_8 (F := Ideal) i x0 x1 x2 x3 x4 x5 x6 x7 (ix2 r l)
      = if l.val / 64 = 0 then headOut (k0_pay3 x4 x5 x6) (weights (scores (k0_pay8 lanes 64#32 k0_pay6 k0_pay7 0#32) x0 (k0_pay2 x1 x2 x3) (k0_pay4 i) (View.ld x7 r0_1))) (ix2 r l)
      else if l.val / 64 = 1 then headOut (k0_pay3 x4 x5 x6) (weights (scores (k0_pay12 lanes) x0 (k0_pay2 x1 x2 x3) (k0_pay4 i) (View.ld x7 r0_2))) (ix2 r l)
      else if l.val / 64 = 2 then headOut (k0_pay3 x4 x5 x6) (weights (scores (k0_pay15 lanes) x0 (k0_pay2 x1 x2 x3) (k0_pay4 i) (View.ld x7 r0_3))) (ix2 r l)
      else headOut (k0_pay3 x4 x5 x6) (weights (scores (k0_pay19 lanes) x0 (k0_pay2 x1 x2 x3) (k0_pay4 i) (View.ld x7 r0_4))) (ix2 r l) := by
  unfold_out out0_8
  frame_out
  exact stored (k0_pay3 x4 x5 x6) (k0_pay4 i) x0 (k0_pay2 x1 x2 x3) _ _ _ _ r l

variable (m : (ℓ : Loc nD τ sig) → Buf (Elt Ideal) ℓ)

/-- One grid point stores the reference's rows. -/
theorem point (c : Dev nD) (hf : Finite (acts m c) (table m c)) (t : Fin cfg0.N) (r l : Fin 256) (R : Fin 65536) (hR : R.val = t.val * 256 + r.val) :
    out0_8 (F := Ideal) (grid0.coords t) (iblk m c 0 t) (iblk m c 1 t) (iblk m c 2 t) (iblk m c 3 t) (iblk m c 4 t) (iblk m c 5 t) (iblk m c 6 t) (iblk m c 7 t) (ix2 r l)
      = Cert.ReferenceIdeal.Band.result (acts m c) (table m c) (ix2 R l) := by
  have hin : ∀ k : Fin 768, k0_pay4 (grid0.coords t) (ix2 0 k) = if before t.val ≤ k.val then 1#1 else 0#1 := fun k => by
    rw [inq_at, (idx t).1]
  have hrow : ∀ l : Fin 256, acts m c (ix2 ⟨t.val * 256 + r.val, by omega⟩ ⟨1280 + l.val, by omega⟩) = acts m c (ix2 R ⟨1280 + l.val, by omega⟩) :=
    fun l => congrArg (acts m c) (congrArg (fun a => ix2 a _) (Fin.ext hR.symm))
  rw [out_at]
  split
  · next hl =>
    exact (head_at 0 _ mask0 _ _ _ _ _ r l).trans
      (head_eq (acts m c) (table m c) t.val r R hR 0 _ _ _ _ _ (fun l => (query_at m c t r l).trans (hrow l))
        (fun k l hk p hp => keys_acts m c t k l hk p hp) (fun k l hk p hp => values_acts m c t k l hk p hp) hin
        (fun k => (slab0 _ r k).trans (biasBlock_at m c t 0 r k)) hf l hl)
  split
  · next hl =>
    exact (head_at 1 _ mask1 _ _ _ _ _ r l).trans
      (head_eq (acts m c) (table m c) t.val r R hR 1 _ _ _ _ _ (fun l => (query_at m c t r l).trans (hrow l))
        (fun k l hk p hp => keys_acts m c t k l hk p hp) (fun k l hk p hp => values_acts m c t k l hk p hp) hin
        (fun k => (slab1 _ r k).trans (biasBlock_at m c t 1 r k)) hf l hl)
  split
  · next hl =>
    exact (head_at 2 _ mask2 _ _ _ _ _ r l).trans
      (head_eq (acts m c) (table m c) t.val r R hR 2 _ _ _ _ _ (fun l => (query_at m c t r l).trans (hrow l))
        (fun k l hk p hp => keys_acts m c t k l hk p hp) (fun k l hk p hp => values_acts m c t k l hk p hp) hin
        (fun k => (slab2 _ r k).trans (biasBlock_at m c t 2 r k)) hf l hl)
  · next h0 h1 h2 =>
    have hl : l.val / 64 = 3 := by omega
    exact (head_at 3 _ mask3 _ _ _ _ _ r l).trans
      (head_eq (acts m c) (table m c) t.val r R hR 3 _ _ _ _ _ (fun l => (query_at m c t r l).trans (hrow l))
        (fun k l hk p hp => keys_acts m c t k l hk p hp) (fun k l hk p hp => values_acts m c t k l hk p hp) hin
        (fun k => (slab3 _ r k).trans (biasBlock_at m c t 3 r k)) hf l hl)

/-- What the kernel leaves in its result. -/
theorem final (c : Dev nD) (hf : Finite (acts m c) (table m c)) :
    (dats m 0 c).arrAt 8 cfg0.N = Cert.ReferenceIdeal.Band.result (acts m c) (table m c) := by
  refine (dats m 0 c).arrAt_eq_of_covers 8 (Cert.ReferenceIdeal.Band.result (acts m c) (table m c)) (by decide +kernel) fun t _ y => ?_
  blk_simp
  rw [after0_8]
  obtain ⟨r, l, rfl⟩ : ∃ r l : Fin 256, y = ix2 r l := ⟨y 0, y 1, (ix2_eta y).symm⟩
  refine (point m c hf t r l ⟨t.val * 256 + r.val, by have := t.isLt; have : cfg0.grid.N = 256 := rfl; omega⟩ rfl).trans ?_
  blk_ext [idx t]

end Cert.KernelIdeal.Band

end
-- ==== Proof.Pre.lean ====
module

public import proofs.«01_k».proof.Pre_finite_args
public import proofs.«01_k».proof.Proof.Band
public import Idealize.ShloMosaic.Lib.Affine
public import Idealize.ShloMosaic.Lib.Decide
public import Idealize.ShloMosaic.Lib.Pointwise

@[expose] public section

noncomputable section

namespace Cert.Pre_finite_args.Band

open Idealize.ShloMosaic

/-- The side conditions the precondition's operations state. -/
theorem facts : Cert.Pre_finite_args.Facts where
  slices_S65536x3584_S65536x512_0_1280 := by decide
  bitsLt_bf16_f32 := by decide
  bcast_S_S65536x512 := by decide
  bcast_S_S4x320 := by decide

/-- A value whose magnitude compares below plus infinity is real. -/
theorem real_of_olt (x : EReal) (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x with
  | bot => simp at h
  | top => simp at h
  | coe r => exact ⟨r, rfl⟩

/-- The precondition, read: queries, keys and bias entries are real. -/
theorem finite (X : FVec Ideal Cert.KernelIdeal.S65536x3584 .bf16) (B : FVec Ideal Cert.KernelIdeal.S4x320 .f32)
    (h : (@Cert.Pre_finite_args.fn facts Ideal _ X B).1 = (fun _ => 1#1) ∧ (@Cert.Pre_finite_args.fn facts Ideal _ X B).2 = (fun _ => 1#1)) :
    Cert.KernelIdeal.Band.Finite X B where
  acts R d := by
    have h1 := congrFun h.1 (ix2 R d)
    unfold Cert.Pre_finite_args.fn at h1
    have key : (show FVec Ideal S65536x512 .bf16 from extractStridedSlice S65536x512 ![0, 1280] X facts.slices_S65536x3584_S65536x512_0_1280) (ix2 R d)
        = X (ix2 R ⟨1280 + d.val, by omega⟩) := by pointwise []
    exact real_of_olt _ ((congrArg (fun x : EReal => Ideal.cmp .olt (max x (-x)) (Ideal.ofBits .f32 0x7F800000#32)) key).symm.trans h1)
  table a b := real_of_olt _ (congrFun h.2 (ix2 a b))

end Cert.Pre_finite_args.Band

end
-- ==== Proof.ExpertsOk.lean ====
/- The experts' kernel picks each tile's expert by a word of its table, so its weight blocks lie inside the
   weight arrays exactly because those words are below 8: here the precondition is read at each word, and the
   side condition of the tables follows at both instances. -/
module

public import proofs.«01_k».proof.Defs
public import proofs.«01_k».proof.Proof.Gen.Experts.Frame
public import proofs.«01_k».proof.Proof.Gen.ExpertsIdeal.Frame
public import proofs.«01_k».proof.Proof.Gen.Pre_experts_in_range
public import Idealize.ShloMosaic.Lib.ReduceAll
public import Idealize.ShloMosaic.Lib.Pipeline.ValueKit
import Idealize.ShloMosaic.Lib.Pointwise.ShapeOpsCore

@[expose] public section

namespace Cert.Proof.ExpertsOk

open Idealize.ShloMosaic Idealize.ShloMosaic.TcCoe

/-- The precondition at tile `i`: the tile's word of the table, an expert's number, is below 8. -/
theorem word_lt {F : FTy → Type} [FloatOps F] (te : IVec Cert.Pre_experts_in_range.S273 32)
    (xs : FVec F Cert.Pre_experts_in_range.S139264x8x128 .f32)
    (wg wu : FVec F Cert.Pre_experts_in_range.S8x1024x3584 .bf16)
    (wd : FVec F Cert.Pre_experts_in_range.S8x3584x1024 .bf16)
    (h : Cert.Pre_experts_in_range.fn (F := F) te xs wg wu wd = fun _ => 1#1)
    (i : Fin 273) (hi : i.val < 136) : (te (ix1 i)).toNat < 8 := by
  have h0 := congrFun h (fun a => a.elim0)
  unfold Cert.Pre_experts_in_range.fn at h0
  haveI : Subsingleton Cert.Pre_experts_in_range.S_.Idx := ⟨fun a b => funext fun k => k.elim0⟩
  have h1 := Host.reduce_andi_all _ _ _ _ _ h0 (fun a => ⟨i.val, by obtain rfl : a = 0 := Subsingleton.elim _ _; exact hi⟩)
  have andi_one (a b : BitVec 1) : IntOp.andi a b = 1#1 ↔ a = 1#1 ∧ b = 1#1 := by revert a b; decide
  simp only [constantI, broadcastInDim, cmpi, andi, andi_one, extractStridedSlice] at h1
  have key (v : BitVec 32) (a : IntOp.cmpi .sge v 0#32 = 1#1) (b : IntOp.cmpi .slt v 8#32 = 1#1) : v.toNat < 8 := by
    have one (p : Bool) : BitVec.ofBool p = 1#1 ↔ p = true := by cases p <;> decide
    have a' : ((0#32 : BitVec 32).sle v) = true := (one _).1 a
    have b' : (v.slt (8#32 : BitVec 32)) = true := (one _).1 b
    rw [BitVec.sle_eq_decide, decide_eq_true_eq] at a'
    rw [BitVec.slt_eq_decide, decide_eq_true_eq] at b'
    have e0 : (0#32 : BitVec 32).toInt = 0 := by decide
    have e8 : (8#32 : BitVec 32).toInt = 8 := by decide
    rw [e0] at a'
    rw [e8] at b'
    rw [BitVec.toInt_eq_toNat_cond] at a' b'
    have := v.isLt
    split at a' <;> omega
  refine key _ ?_ ?_
  · refine Eq.trans (congrArg (fun v => IntOp.cmpi .sge (te v) 0#32) ?_) h1.1
    funext a
    obtain rfl : a = 0 := Subsingleton.elim _ _
    exact Fin.ext (Nat.zero_add _).symm
  · refine Eq.trans (congrArg (fun v => IntOp.cmpi .slt (te v) 8#32) ?_) h1.2
    funext a
    obtain rfl : a = 0 := Subsingleton.elim _ _
    exact Fin.ext (Nat.zero_add _).symm

namespace Bitwise

open Cert.Experts Cert.Experts.Gen

section Words

variable {F : FTy → Type} [FloatOps F]

theorem lt136 (i : grid0.Coords) : (i 0).val < 136 := (i 0).isLt
theorem lt2 (i : grid0.Coords) : (i 1).val < 2 := (i 1).isLt
theorem lt273 (i : grid0.Coords) : (i 0).val < 273 := Nat.lt_trans (lt136 i) (by decide)

theorem off1_eq (i : grid0.Coords) : k0_off1 i = ![(i 0).val] := by
  have := lt136 i
  have e : (BitVec.ofNat 32 (i 0).val).toNat = (i 0).val := by simp only [BitVec.toNat_ofNat]; omega
  show ![(BitVec.ofNat 32 (i 0).val).toNat] = _
  rw [e]

/-- The one word of a rectangle at a known place. -/
theorem emb_word (off : Fin 1 → Nat) (n : Nat) (hn : n < 273) (e : off = ![n]) (h : ∀ a, off a + S1.size a ≤ S273.size a)
    (k : (Rect.unit (s := S273) off S1.size h).shape.Idx) : (Rect.unit (s := S273) off S1.size h).emb k = ix1 ⟨n, hn⟩ := by
  subst e
  funext a
  obtain rfl : a = 0 := Subsingleton.elim _ _
  have hk : (k 0).val < 1 := (k 0).isLt
  refine Fin.ext ?_
  show n + 1 * (k 0).val = n
  omega

/-- The word the weights' index maps read at a grid point is the tile's. -/
theorem at_eq (pf : pre0.Contents (Elt F)) (i : grid0.Coords) (h : ∀ a, (k0_off1 i) a + S1.size a ≤ S273.size a) (h1 : S1.numel = 1) :
    pf.at 0 (Rect.unit (s := S273) (k0_off1 i) S1.size h) h1 = pf 0 (ix1 ⟨(i 0).val, lt273 i⟩) :=
  congrArg (pf 0) (emb_word (k0_off1 i) (i 0).val (lt273 i) (off1_eq i) h _)

theorem ofNat1 (i : grid0.Coords) : (BitVec.ofNat 32 (i 1).val).toNat = (i 1).val := by
  have := lt2 i
  simp only [BitVec.toNat_ofNat]; omega

theorem transform_1 (pf : pre0.Contents (Elt F)) (i : grid0.Coords) :
    cc0_transform_1 k0_off1_inb numel1_S1 pf i = ![BitVec.toNat (w := 32) (pf 0 (ix1 ⟨(i 0).val, lt273 i⟩)), 0, (i 1).val] := by
  rw [← at_eq pf i (k0_off1_inb i) numel1_S1]
  conv => rhs; rw [← ofNat1 i]
  rfl

theorem transform_2 (pf : pre0.Contents (Elt F)) (i : grid0.Coords) :
    cc0_transform_2 k0_off1_inb numel1_S1 pf i = ![BitVec.toNat (w := 32) (pf 0 (ix1 ⟨(i 0).val, lt273 i⟩)), 0, (i 1).val] := by
  rw [← at_eq pf i (k0_off1_inb i) numel1_S1]
  conv => rhs; rw [← ofNat1 i]
  rfl

theorem transform_3 (pf : pre0.Contents (Elt F)) (i : grid0.Coords) :
    cc0_transform_3 k0_off1_inb numel1_S1 pf i = ![BitVec.toNat (w := 32) (pf 0 (ix1 ⟨(i 0).val, lt273 i⟩)), (i 1).val, 0] := by
  rw [← at_eq pf i (k0_off1_inb i) numel1_S1]
  conv => rhs; rw [← ofNat1 i]
  rfl

/-- A block of 1792 columns of one expert's weights lies in the array and keeps whole words. -/
theorem block_cols (ix : Fin 3 → Nat) (e f : Nat) (he : e < 8) (hf : f < 2) (hix : ix = ![e, 0, f]) :
    ∃ h : (∀ a, (ix a + 1) * S1x1024x1792.size a ≤ S8x1024x3584.size a), EltTy.bits .bf16 = 32 ∨
      (Rect.block (s := S8x1024x3584) S1x1024x1792.size ix h).WholeWords (EltTy.packing .bf16) := by
  subst hix
  refine ⟨fun a => ?_, Or.inr ?_⟩
  · match a with
    | 0 => show (e + 1) * 1 ≤ 8; omega
    | 1 => show (0 + 1) * 1024 ≤ 1024; omega
    | 2 => show (f + 1) * 1792 ≤ 3584; omega
  · have h2 : 2 ≤ S8x1024x3584.rank := by decide
    refine Or.inl (Or.inr ⟨h2, rfl, Or.inl ⟨?_, ?_⟩⟩)
    · show 2 ∣ 0 * 1024
      exact ⟨0, rfl⟩
    · show 2 ∣ 1024
      exact ⟨512, rfl⟩

/-- A block of 1792 rows of one expert's weights lies in the array and keeps whole words. -/
theorem block_rows (ix : Fin 3 → Nat) (e f : Nat) (he : e < 8) (hf : f < 2) (hix : ix = ![e, f, 0]) :
    ∃ h : (∀ a, (ix a + 1) * S1x1792x1024.size a ≤ S8x3584x1024.size a), EltTy.bits .bf16 = 32 ∨
      (Rect.block (s := S8x3584x1024) S1x1792x1024.size ix h).WholeWords (EltTy.packing .bf16) := by
  subst hix
  refine ⟨fun a => ?_, Or.inr ?_⟩
  · match a with
    | 0 => show (e + 1) * 1 ≤ 8; omega
    | 1 => show (f + 1) * 1792 ≤ 3584; omega
    | 2 => show (0 + 1) * 1024 ≤ 1024; omega
  · have h2 : 2 ≤ S8x3584x1024.rank := by decide
    refine Or.inl (Or.inr ⟨h2, rfl, Or.inl ⟨?_, ?_⟩⟩)
    · show 2 ∣ f * 1792
      exact ⟨f * 896, by omega⟩
    · show 2 ∣ 1792
      exact ⟨896, rfl⟩

/-- Tables whose expert numbers are below 8 are admitted. -/
theorem ok (pf : pre0.Contents (Elt F))
    (h : ∀ (i : Fin 273), i.val < 136 → BitVec.toNat (w := 32) (pf 0 (ix1 i)) < 8) : ok0 pf :=
  ⟨fun i => block_cols _ _ _ (h ⟨_, lt273 i⟩ (lt136 i)) (lt2 i) (transform_1 pf i),
   fun i => block_cols _ _ _ (h ⟨_, lt273 i⟩ (lt136 i)) (lt2 i) (transform_2 pf i),
   fun i => block_rows _ _ _ (h ⟨_, lt273 i⟩ (lt136 i)) (lt2 i) (transform_3 pf i)⟩

end Words

/-- The table's first 136 words at the launch are below 8. -/
theorem tbl_lt (m : (ℓ : Loc nD τ sig) → Buf (Elt Bits) ℓ) (h : Cert.Pre_Experts m) (i : Fin 273) (hi : i.val < 136) :
    BitVec.toNat (w := 32) (tbl m 0 (ix1 i)) < 8 :=
  word_lt (F := Bits) _ _ _ _ _ (h 0) i hi

theorem ok_of_pre (m : (ℓ : Loc nD τ sig) → Buf (Elt Bits) ℓ) (h : Cert.Pre_Experts m) : Ok (F := Bits) m :=
  ok (tbl m) (tbl_lt m h)

end Bitwise

namespace Exact

open Cert.ExpertsIdeal Cert.ExpertsIdeal.Gen

section Words

variable {F : FTy → Type} [FloatOps F]

theorem lt136 (i : grid0.Coords) : (i 0).val < 136 := (i 0).isLt
theorem lt2 (i : grid0.Coords) : (i 1).val < 2 := (i 1).isLt
theorem lt273 (i : grid0.Coords) : (i 0).val < 273 := Nat.lt_trans (lt136 i) (by decide)

theorem off1_eq (i : grid0.Coords) : k0_off1 i = ![(i 0).val] := by
  have := lt136 i
  have e : (BitVec.ofNat 32 (i 0).val).toNat = (i 0).val := by simp only [BitVec.toNat_ofNat]; omega
  show ![(BitVec.ofNat 32 (i 0).val).toNat] = _
  rw [e]

/-- The one word of a rectangle at a known place. -/
theorem emb_word (off : Fin 1 → Nat) (n : Nat) (hn : n < 273) (e : off = ![n]) (h : ∀ a, off a + S1.size a ≤ S273.size a)
    (k : (Rect.unit (s := S273) off S1.size h).shape.Idx) : (Rect.unit (s := S273) off S1.size h).emb k = ix1 ⟨n, hn⟩ := by
  subst e
  funext a
  obtain rfl : a = 0 := Subsingleton.elim _ _
  have hk : (k 0).val < 1 := (k 0).isLt
  refine Fin.ext ?_
  show n + 1 * (k 0).val = n
  omega

/-- The word the weights' index maps read at a grid point is the tile's. -/
theorem at_eq (pf : pre0.Contents (Elt F)) (i : grid0.Coords) (h : ∀ a, (k0_off1 i) a + S1.size a ≤ S273.size a) (h1 : S1.numel = 1) :
    pf.at 0 (Rect.unit (s := S273) (k0_off1 i) S1.size h) h1 = pf 0 (ix1 ⟨(i 0).val, lt273 i⟩) :=
  congrArg (pf 0) (emb_word (k0_off1 i) (i 0).val (lt273 i) (off1_eq i) h _)

theorem ofNat1 (i : grid0.Coords) : (BitVec.ofNat 32 (i 1).val).toNat = (i 1).val := by
  have := lt2 i
  simp only [BitVec.toNat_ofNat]; omega

theorem transform_1 (pf : pre0.Contents (Elt F)) (i : grid0.Coords) :
    cc0_transform_1 k0_off1_inb numel1_S1 pf i = ![BitVec.toNat (w := 32) (pf 0 (ix1 ⟨(i 0).val, lt273 i⟩)), 0, (i 1).val] := by
  rw [← at_eq pf i (k0_off1_inb i) numel1_S1]
  conv => rhs; rw [← ofNat1 i]
  rfl

theorem transform_2 (pf : pre0.Contents (Elt F)) (i : grid0.Coords) :
    cc0_transform_2 k0_off1_inb numel1_S1 pf i = ![BitVec.toNat (w := 32) (pf 0 (ix1 ⟨(i 0).val, lt273 i⟩)), 0, (i 1).val] := by
  rw [← at_eq pf i (k0_off1_inb i) numel1_S1]
  conv => rhs; rw [← ofNat1 i]
  rfl

theorem transform_3 (pf : pre0.Contents (Elt F)) (i : grid0.Coords) :
    cc0_transform_3 k0_off1_inb numel1_S1 pf i = ![BitVec.toNat (w := 32) (pf 0 (ix1 ⟨(i 0).val, lt273 i⟩)), (i 1).val, 0] := by
  rw [← at_eq pf i (k0_off1_inb i) numel1_S1]
  conv => rhs; rw [← ofNat1 i]
  rfl

/-- A block of 1792 columns of one expert's weights lies in the array and keeps whole words. -/
theorem block_cols (ix : Fin 3 → Nat) (e f : Nat) (he : e < 8) (hf : f < 2) (hix : ix = ![e, 0, f]) :
    ∃ h : (∀ a, (ix a + 1) * S1x1024x1792.size a ≤ S8x1024x3584.size a), EltTy.bits .bf16 = 32 ∨
      (Rect.block (s := S8x1024x3584) S1x1024x1792.size ix h).WholeWords (EltTy.packing .bf16) := by
  subst hix
  refine ⟨fun a => ?_, Or.inr ?_⟩
  · match a with
    | 0 => show (e + 1) * 1 ≤ 8; omega
    | 1 => show (0 + 1) * 1024 ≤ 1024; omega
    | 2 => show (f + 1) * 1792 ≤ 3584; omega
  · have h2 : 2 ≤ S8x1024x3584.rank := by decide
    refine Or.inl (Or.inr ⟨h2, rfl, Or.inl ⟨?_, ?_⟩⟩)
    · show 2 ∣ 0 * 1024
      exact ⟨0, rfl⟩
    · show 2 ∣ 1024
      exact ⟨512, rfl⟩

/-- A block of 1792 rows of one expert's weights lies in the array and keeps whole words. -/
theorem block_rows (ix : Fin 3 → Nat) (e f : Nat) (he : e < 8) (hf : f < 2) (hix : ix = ![e, f, 0]) :
    ∃ h : (∀ a, (ix a + 1) * S1x1792x1024.size a ≤ S8x3584x1024.size a), EltTy.bits .bf16 = 32 ∨
      (Rect.block (s := S8x3584x1024) S1x1792x1024.size ix h).WholeWords (EltTy.packing .bf16) := by
  subst hix
  refine ⟨fun a => ?_, Or.inr ?_⟩
  · match a with
    | 0 => show (e + 1) * 1 ≤ 8; omega
    | 1 => show (f + 1) * 1792 ≤ 3584; omega
    | 2 => show (0 + 1) * 1024 ≤ 1024; omega
  · have h2 : 2 ≤ S8x3584x1024.rank := by decide
    refine Or.inl (Or.inr ⟨h2, rfl, Or.inl ⟨?_, ?_⟩⟩)
    · show 2 ∣ f * 1792
      exact ⟨f * 896, by omega⟩
    · show 2 ∣ 1792
      exact ⟨896, rfl⟩

/-- Tables whose expert numbers are below 8 are admitted. -/
theorem ok (pf : pre0.Contents (Elt F))
    (h : ∀ (i : Fin 273), i.val < 136 → BitVec.toNat (w := 32) (pf 0 (ix1 i)) < 8) : ok0 pf :=
  ⟨fun i => block_cols _ _ _ (h ⟨_, lt273 i⟩ (lt136 i)) (lt2 i) (transform_1 pf i),
   fun i => block_cols _ _ _ (h ⟨_, lt273 i⟩ (lt136 i)) (lt2 i) (transform_2 pf i),
   fun i => block_rows _ _ _ (h ⟨_, lt273 i⟩ (lt136 i)) (lt2 i) (transform_3 pf i)⟩

end Words

/-- The table's first 136 words at the launch are below 8. -/
theorem tbl_lt (m : (ℓ : Loc nD τ sig) → Buf (Elt Ideal) ℓ) (h : Cert.Pre_ExpertsIdeal m) (i : Fin 273) (hi : i.val < 136) :
    BitVec.toNat (w := 32) (tbl m 0 (ix1 i)) < 8 :=
  word_lt (F := Ideal) _ _ _ _ _ (h 0) i hi

theorem ok_of_pre (m : (ℓ : Loc nD τ sig) → Buf (Elt Ideal) ℓ) (h : Cert.Pre_ExpertsIdeal m) : Ok (F := Ideal) m :=
  ok (tbl m) (tbl_lt m h)

end Exact

end Cert.Proof.ExpertsOk
-- ==== Proof.ExpertsBlock.lean ====
/- What one grid point of the experts' kernel computes, read at a row and a column. -/
module

public import proofs.«01_k».proof.Proof.Gen.ExpertsIdeal.Skeleton
public import Idealize.ShloMosaic.Lib.WordCmp
public import Idealize.ShloMosaic.Lib.Pointwise

@[expose] public section

set_option maxRecDepth 16384

noncomputable section

namespace Cert.ExpertsIdeal.Tile

open Idealize.ShloMosaic Idealize.ShloMosaic.TcCoe Idealize.SL.Sem
open Cert.ExpertsIdeal Cert.ExpertsIdeal.Gen

/-- The accumulator starts at zero. -/
theorem pay1_at (r d : Fin 1024) : k0_pay1 (F := Ideal) (ix2 r d) = (0 : EReal) := by
  pointwise [k0_pay1]

/-- A row of the tile counts when its number is below the tile's live rows. -/
theorem pay2_at (n : Elt Ideal .i32) (x : Vec Ideal S1024x8x128 .f32) (r d : Fin 1024) :
    k0_pay2 (F := Ideal) n x (ix2 r d)
      = if IntOp.cmpi .slt (BitVec.ofNat 32 r.val) n = 1#1 then x (ix3 r ⟨d.val / 128, by omega⟩ ⟨d.val % 128, by omega⟩) else (0 : EReal) := by
  pointwise [k0_pay2]
  rfl

/-- The product with a weight block at a row and a column. -/
def dot (x : Vec Ideal S1024x1024 .bf16) (w : Vec Ideal S1x1024x1792 .bf16) (r : Fin 1024) (k : Fin 1792) : EReal :=
  ∑ j : Fin 1024, (show EReal from x (ix2 r j)) * (show EReal from w (ix3 0 j k))

/-- The hidden value of a row. -/
def hid (x : Vec Ideal S1024x1024 .bf16) (wg wu : Vec Ideal S1x1024x1792 .bf16) (r : Fin 1024) (k : Fin 1792) : EReal :=
  (dot x wg r k * Ideal.logistic (dot x wg r k)) * dot x wu r k

/-- One half of the hidden columns adds its product to the accumulator. -/
theorem pay3_at (x : Vec Ideal S1024x1024 .bf16) (wg wu : Vec Ideal S1x1024x1792 .bf16) (acc : Vec Ideal S1024x1024 .f32)
    (wd : Vec Ideal S1x1792x1024 .bf16) (r d : Fin 1024) :
    k0_pay3 (F := Ideal) x wg wu acc wd (ix2 r d)
      = (show EReal from acc (ix2 r d)) + ∑ k : Fin 1792, hid x wg wu r k * (show EReal from wd (ix3 0 k d)) := by
  pointwise [k0_pay3, hid, dot]

/-- The result's columns in groups of 128. -/
theorem pay4_at (acc : Vec Ideal S1024x1024 .f32) (r : Fin 1024) (a : Fin 8) (b : Fin 128) :
    k0_pay4 (F := Ideal) acc (ix3 r a b) = acc (ix2 r ⟨a.val * 128 + b.val, by omega⟩) := by
  pointwise [k0_pay4]

end Cert.ExpertsIdeal.Tile

end
-- ==== Proof.ExpertsReads.lean ====
/- Which parts of its arrays the experts' kernel reads at a grid point. -/
module

public import proofs.«01_k».proof.Proof.ExpertsBlock
public import proofs.«01_k».proof.Proof.ExpertsOk
public import Idealize.ShloMosaic.Lib.Pipeline.ValueKit

@[expose] public section

set_option maxRecDepth 16384

noncomputable section

namespace Cert.ExpertsIdeal.Tile

open Idealize.ShloMosaic Idealize.ShloMosaic.TcCoe Idealize.SL.Sem
open Cert.ExpertsIdeal Cert.ExpertsIdeal.Gen Cert.Proof.ExpertsOk

variable (m : (ℓ : Loc nD τ sig) → Buf (Elt Ideal) ℓ) (hO : Ok m)

/-- The launched table, rows and weights. -/
abbrev tab (c : Dev nD) : IVec S273 32 := m (c.tc.loc main_arg0)
abbrev rows (c : Dev nD) : FVec Ideal S139264x8x128 .f32 := m (c.tc.loc main_arg1)
abbrev gates (c : Dev nD) : FVec Ideal S8x1024x3584 .bf16 := m (c.tc.loc main_arg2)
abbrev ups (c : Dev nD) : FVec Ideal S8x1024x3584 .bf16 := m (c.tc.loc main_arg3)
abbrev downs (c : Dev nD) : FVec Ideal S8x3584x1024 .bf16 := m (c.tc.loc main_arg4)

theorem lt272 (t : Fin (cfgM m hO).N) : t.val < 272 := lt_of_lt_of_eq t.isLt (show (cfgM m hO).N = 272 from N_0)

theorem coord0 (t : Fin (cfgM m hO).N) : (grid0.coords t 0).val = t.val / 2 := by
  have := lt272 m hO t
  have e : (grid0.coords t 0).val = t.val / 2 % 136 := (fun t : Fin grid0.N => Pipeline.Grid.coords_val t 0 (by decide) rfl) t
  omega

theorem coord1 (t : Fin (cfgM m hO).N) : (grid0.coords t 1).val = t.val % 2 := by
  have e : (grid0.coords t 1).val = t.val / 1 % 2 := (fun t : Fin grid0.N => Pipeline.Grid.coords_val t 1 (by decide) rfl) t
  omega

/-- The expert of a tile. -/
abbrev expert (i : Fin 273) : ℕ := BitVec.toNat (w := 32) (tbl m 0 (ix1 i))

theorem index0 (t : Fin (cfgM m hO).N) : ((cfgM m hO).win 0).index t = ![t.val / 2, 0, 0] := by
  have h := Exact.lt136 (grid0.coords t)
  have e : (BitVec.ofNat 32 (grid0.coords t 0).val).toNat = t.val / 2 := by
    rw [coord0 m hO] at h ⊢
    simp only [BitVec.toNat_ofNat]; omega
  show ![(BitVec.ofNat 32 (grid0.coords t 0).val).toNat, 0, 0] = _
  rw [e]

theorem index4 (t : Fin (cfgM m hO).N) : ((cfgM m hO).win 4).index t = ![t.val / 2, 0, 0] := index0 m hO t

theorem lt273' (t : Fin (cfgM m hO).N) : t.val / 2 < 273 := by have := lt272 m hO t; omega

theorem place (t : Fin (cfgM m hO).N) : (⟨(grid0.coords t 0).val, Exact.lt273 (grid0.coords t)⟩ : Fin 273) = ⟨t.val / 2, lt273' m hO t⟩ :=
  Fin.ext (coord0 m hO t)

theorem index1 (t : Fin (cfgM m hO).N) : ((cfgM m hO).win 1).index t = ![expert m ⟨t.val / 2, lt273' m hO t⟩, 0, t.val % 2] := by
  refine (Exact.transform_1 (tbl m) (grid0.coords t)).trans ?_
  rw [place m hO, coord1 m hO]

theorem index2 (t : Fin (cfgM m hO).N) : ((cfgM m hO).win 2).index t = ![expert m ⟨t.val / 2, lt273' m hO t⟩, 0, t.val % 2] := by
  refine (Exact.transform_2 (tbl m) (grid0.coords t)).trans ?_
  rw [place m hO, coord1 m hO]

theorem index3 (t : Fin (cfgM m hO).N) : ((cfgM m hO).win 3).index t = ![expert m ⟨t.val / 2, lt273' m hO t⟩, t.val % 2, 0] := by
  refine (Exact.transform_3 (tbl m) (grid0.coords t)).trans ?_
  rw [place m hO, coord1 m hO]

theorem rows_at (c : Dev nD) (t : Fin (cfgM m hO).N) (r : Fin 1024) (a : Fin 8) (b : Fin 128) (R : Fin 139264)
    (hR : R.val = t.val / 2 * 1024 + r.val) :
    iblk m hO c 0 t (ix3 r a b) = rows m c (ix3 R a b) := by
  blk_ext [iblk, V, index0 m hO t]

theorem gates_at (c : Dev nD) (t : Fin (cfgM m hO).N) (e : Fin 8) (he : e.val = expert m ⟨t.val / 2, lt273' m hO t⟩)
    (j : Fin 1024) (k : Fin 1792) (K : Fin 3584) (hK : K.val = t.val % 2 * 1792 + k.val) :
    iblk m hO c 1 t (ix3 0 j k) = gates m c (ix3 e j K) := by
  blk_ext [iblk, V, index1 m hO t]

theorem ups_at (c : Dev nD) (t : Fin (cfgM m hO).N) (e : Fin 8) (he : e.val = expert m ⟨t.val / 2, lt273' m hO t⟩)
    (j : Fin 1024) (k : Fin 1792) (K : Fin 3584) (hK : K.val = t.val % 2 * 1792 + k.val) :
    iblk m hO c 2 t (ix3 0 j k) = ups m c (ix3 e j K) := by
  blk_ext [iblk, V, index2 m hO t]

theorem downs_at (c : Dev nD) (t : Fin (cfgM m hO).N) (e : Fin 8) (he : e.val = expert m ⟨t.val / 2, lt273' m hO t⟩)
    (k : Fin 1792) (d : Fin 1024) (K : Fin 3584) (hK : K.val = t.val % 2 * 1792 + k.val) :
    iblk m hO c 3 t (ix3 0 k d) = downs m c (ix3 e K d) := by
  blk_ext [iblk, V, index3 m hO t]

end Cert.ExpertsIdeal.Tile

end
-- ==== Proof.ExpertsOuts.lean ====
/- What the experts' kernel holds after each grid point: the two halves of a tile, one after the other. -/
module

public import proofs.«01_k».proof.Proof.ExpertsReads

@[expose] public section

set_option maxRecDepth 16384

noncomputable section

namespace Cert.ExpertsIdeal.Tile

open Idealize.ShloMosaic Idealize.ShloMosaic.TcCoe Idealize.SL.Sem
open Cert.ExpertsIdeal Cert.ExpertsIdeal.Gen Cert.Proof.ExpertsOk

variable (m : (ℓ : Loc nD τ sig) → Buf (Elt Ideal) ℓ) (hO : Ok m)

/-- The number of live tiles the table holds after the experts' numbers. -/
abbrev liveWord : BitVec 32 := tbl m 0 (ix1 (n0 := 273) ⟨136, by decide⟩)

/-- A tile below that number is computed. -/
abbrev Live (i : ℕ) : Prop := IntOp.cmpi .slt (BitVec.ofNat 32 i) (liveWord m) = 1#1

theorem cond1_iff (t : Fin (cfgM m hO).N) :
    cond0_1 (grid0.coords t) (tbM0_0.view.readAt (Elt Ideal) (Rect.unit (s := S273) ![136] S1.size inb_S273_S1_136).toLoadRect (tbl m 0)
      (Shape.Idx.first (numel1_S1.symm ▸ Nat.one_pos))) ↔ Live m (t.val / 2) := by
  have hw : tbM0_0.view.readAt (Elt Ideal) (Rect.unit (s := S273) ![136] S1.size inb_S273_S1_136).toLoadRect (tbl m 0)
      (Shape.Idx.first (numel1_S1.symm ▸ Nat.one_pos)) = liveWord m :=
    congrArg (tbl m 0) (Exact.emb_word ![136] 136 (by decide) rfl inb_S273_S1_136 _)
  rw [hw]
  unfold cond0_1
  rw [coord0 m hO]
  have key (b : BitVec 1) : Scalar.cmpi .ne (Scalar.extui b : BitVec 32) 0#32 = 1#1 ↔ b = 1#1 := by
    revert b; decide
  exact key _

/-- The number of live rows of a tile. -/
abbrev rowsWord (t : Fin (cfgM m hO).N) : BitVec 32 :=
  tbl m 0 (ix1 (n0 := 273) ⟨137 + t.val / 2, by have := lt272 m hO t; omega⟩)

theorem off2_eq (i : grid0.Coords) : k0_off2 i = ![137 + (i 0).val] := by
  have := Exact.lt136 i
  have e : (Scalar.addi 137#32 (BitVec.ofNat 32 (i 0).val)).toNat = 137 + (i 0).val := by
    show (137#32 + BitVec.ofNat 32 (i 0).val).toNat = _
    simp only [BitVec.toNat_add, BitVec.toNat_ofNat]
    omega
  show ![(Scalar.addi 137#32 (BitVec.ofNat 32 (i 0).val)).toNat] = _
  rw [e]

/-- The word the body reads for a tile's live rows. -/
theorem rowsWord_eq (t : Fin (cfgM m hO).N) (h : ∀ a, k0_off2 (grid0.coords t) a + S1.size a ≤ S273.size a)
    (k : (Rect.unit (s := S273) (k0_off2 (grid0.coords t)) S1.size h).shape.Idx) :
    (View.whole main_arg0).readAt (Elt Ideal) (Rect.unit (s := S273) (k0_off2 (grid0.coords t)) S1.size h).toLoadRect (tbl m 0) k
      = rowsWord m hO t := by
  refine (congrArg (tbl m 0) (Exact.emb_word (k0_off2 (grid0.coords t)) (137 + (grid0.coords t 0).val)
    (by have := Exact.lt136 (grid0.coords t); omega) (off2_eq _) h k)).trans ?_
  exact congrArg (fun i => tbl m 0 (ix1 (n0 := 273) i)) (Fin.ext (congrArg (137 + ·) (coord0 m hO t)))

theorem pay2_congr {n n' : Elt Ideal .i32} {x x' : Vec Ideal S1024x8x128 .f32} (hn : n = n') (hx : x = x') :
    k0_pay2 (F := Ideal) n x = k0_pay2 (F := Ideal) n' x' := by
  rw [hn, hx]

theorem pay3_congr {x x' : Vec Ideal S1024x1024 .bf16} {wg wg' wu wu' : Vec Ideal S1x1024x1792 .bf16} {acc acc' : Vec Ideal S1024x1024 .f32}
    {wd wd' : Vec Ideal S1x1792x1024 .bf16} (hx : x = x') (hg : wg = wg') (hu : wu = wu') (ha : acc = acc') (hd : wd = wd') :
    k0_pay3 (F := Ideal) x wg wu acc wd = k0_pay3 (F := Ideal) x' wg' wu' acc' wd' := by
  rw [hx, hg, hu, ha, hd]

theorem outsA (c : Dev nD) (t : Fin (cfgM m hO).N) (h0 : t.val % 2 = 0) (h1 : Live m (t.val / 2)) :
    (outsAt0 m hO c t.val t.isLt).2.1 = k0_pay3 (F := Ideal) (k0_pay2 (F := Ideal) (rowsWord m hO t) (iblk m hO c 0 t)) (iblk m hO c 1 t) (iblk m hO c 2 t)
        (k0_pay1 (F := Ideal)) (iblk m hO c 3 t)
      ∧ (outsAt0 m hO c t.val t.isLt).2.2 = k0_pay2 (F := Ideal) (rowsWord m hO t) (iblk m hO c 0 t) := by
  rw [outsAt0_A m hO c t h0 ((cond1_iff m hO t).2 h1) (by omega)]
  constructor
  · frame_out
    exact pay3_congr (pay2_congr (rowsWord_eq m hO t _ _) (Memref.IsWhole.read_unread _ _)) (Memref.IsWhole.read_unread _ _)
      (Memref.IsWhole.read_unread _ _) rfl (Memref.IsWhole.read_unread _ _)
  · frame_out
    exact pay2_congr (rowsWord_eq m hO t _ _) (Memref.IsWhole.read_unread _ _)

theorem outsB (c : Dev nD) (t : Fin (cfgM m hO).N) (h0 : t.val % 2 = 0) (h1 : ¬Live m (t.val / 2)) :
    (outsAt0 m hO c t.val t.isLt).2.1 = k0_pay1 (F := Ideal) := by
  rw [outsAt0_B m hO c t h0 (fun h => h1 ((cond1_iff m hO t).1 h)) (by omega)]
  frame_out

theorem outsC (c : Dev nD) (t : Fin (cfgM m hO).N) (h0 : t.val % 2 = 1) (h1 : Live m (t.val / 2)) :
    (outsAt0 m hO c t.val t.isLt).1 = k0_pay4 (F := Ideal) (k0_pay3 (F := Ideal)
      (outsAt0 m hO c (t.val - 1) (Nat.lt_of_le_of_lt (Nat.sub_le _ _) t.isLt)).2.2 (iblk m hO c 1 t) (iblk m hO c 2 t)
      (outsAt0 m hO c (t.val - 1) (Nat.lt_of_le_of_lt (Nat.sub_le _ _) t.isLt)).2.1 (iblk m hO c 3 t)) := by
  rw [outsAt0_C m hO c t (by omega) ((cond1_iff m hO t).2 h1) h0]
  frame_out
  exact congrArg (k0_pay4 (F := Ideal)) (pay3_congr (Memref.IsWhole.read_unread _ _) (Memref.IsWhole.read_unread _ _)
    (Memref.IsWhole.read_unread _ _) (Memref.IsWhole.read_unread _ _) (Memref.IsWhole.read_unread _ _))

theorem outsD (c : Dev nD) (t : Fin (cfgM m hO).N) (h0 : t.val % 2 = 1) (h1 : ¬Live m (t.val / 2)) :
    (outsAt0 m hO c t.val t.isLt).1 = k0_pay4 (F := Ideal)
      (outsAt0 m hO c (t.val - 1) (Nat.lt_of_le_of_lt (Nat.sub_le _ _) t.isLt)).2.1 := by
  rw [outsAt0_D m hO c t (by omega) (fun h => h1 ((cond1_iff m hO t).1 h)) h0]
  frame_out
  exact congrArg (k0_pay4 (F := Ideal)) (Memref.IsWhole.read_unread _ _)

end Cert.ExpertsIdeal.Tile

end
-- ==== Proof.ExpertsSpec.lean ====
/- The experts' layer read at one row and one column: the tile's expert applied to the row, or zero where nothing is live. -/
module

public import Idealize.ShloMosaic.PureOps.Ideal
public import Idealize.ShloMosaic.Lib.Pointwise

@[expose] public section

noncomputable section

namespace Cert.Proof.ExpertsSpec

open Idealize.ShloMosaic

abbrev Tiles : Type := IVec (⟨1, ![273]⟩ : Shape) 32
abbrev Rows : Type := FVec Ideal (⟨3, ![139264, 8, 128]⟩ : Shape) .f32
abbrev Wide : Type := FVec Ideal (⟨3, ![8, 1024, 3584]⟩ : Shape) .bf16
abbrev Tall : Type := FVec Ideal (⟨3, ![8, 3584, 1024]⟩ : Shape) .bf16

/-- A row of 1024 values, held in 8 groups of 128. -/
def entry (xs : Rows) (R : Fin 139264) (j : Fin 1024) : EReal := xs (ix3 R ⟨j.val / 128, by omega⟩ ⟨j.val % 128, by omega⟩)

/-- A row times one column of one expert's weights. -/
def proj (xs : Rows) (w : Wide) (e : Fin 8) (R : Fin 139264) (K : Fin 3584) : EReal :=
  ∑ j : Fin 1024, entry xs R j * (show EReal from w (ix3 e j K))

/-- The gated hidden value. -/
def hidden (xs : Rows) (wg wu : Wide) (e : Fin 8) (R : Fin 139264) (K : Fin 3584) : EReal :=
  (proj xs wg e R K * Ideal.logistic (proj xs wg e R K)) * proj xs wu e R K

/-- One expert applied to a row. -/
def ffn (xs : Rows) (wg wu : Wide) (wd : Tall) (e : Fin 8) (R : Fin 139264) (d : Fin 1024) : EReal :=
  ∑ K : Fin 3584, hidden xs wg wu e R K * (show EReal from wd (ix3 e K d))

theorem tile_lt (R : Fin 139264) : R.val / 1024 < 136 := by omega

/-- The table's word for a row's tile. -/
def word (te : Tiles) (o : ℕ) (ho : o + 136 ≤ 273) (R : Fin 139264) : BitVec 32 :=
  te (ix1 (n0 := 273) ⟨o + R.val / 1024, by have := tile_lt R; omega⟩)

/-- The row's tile is computed and the row is one of its live rows. -/
def Used (te : Tiles) (R : Fin 139264) : Prop :=
  IntOp.cmpi .slt (BitVec.ofNat 32 (R.val / 1024)) (te (ix1 (n0 := 273) ⟨136, by decide⟩)) = 1#1 ∧
    IntOp.cmpi .slt (BitVec.ofNat 32 (R.val % 1024)) (word te 137 (by decide) R) = 1#1

instance (te : Tiles) (R : Fin 139264) : Decidable (Used te R) := by unfold Used; infer_instance

/-- The layer at a row and a column. -/
def value (te : Tiles) (xs : Rows) (wg wu : Wide) (wd : Tall) (R : Fin 139264) (d : Fin 1024) : EReal :=
  if h : (word te 0 (by decide) R).toNat < 8 then
    if Used te R then ffn xs wg wu wd ⟨(word te 0 (by decide) R).toNat, h⟩ R d else 0
  else 0

/-- The layer's array. -/
def layer (te : Tiles) (xs : Rows) (wg wu : Wide) (wd : Tall) : Rows := fun y =>
  value te xs wg wu wd (y 0) ⟨(y 1).val * 128 + (y 2).val, by
    have h1 : (y 1).val < 8 := (y 1).isLt
    have h2 : (y 2).val < 128 := (y 2).isLt
    omega⟩

end Cert.Proof.ExpertsSpec

end
-- ==== Proof.ExpertsFinal.lean ====
/- What the experts' kernel leaves in its result: each row of a live tile is the tile's expert of that row, everything else is zero. -/
module

public import proofs.«01_k».proof.Proof.ExpertsOuts
public import proofs.«01_k».proof.Proof.ExpertsSpec

@[expose] public section

set_option maxRecDepth 16384

noncomputable section

namespace Cert.ExpertsIdeal.Tile

open Idealize.ShloMosaic Idealize.ShloMosaic.TcCoe Idealize.SL.Sem
open Cert.ExpertsIdeal Cert.ExpertsIdeal.Gen Cert.Proof.ExpertsOk Cert.Proof.ExpertsSpec

/-- A block of 1792 hidden columns, part `f` of an expert's weights. -/
def Cols (e : Fin 8) (f : ℕ) (b : Vec Ideal S1x1024x1792 .bf16) (w : Wide) : Prop :=
  ∀ (j : Fin 1024) (k : Fin 1792) (K : Fin 3584), K.val = f * 1792 + k.val → b (ix3 0 j k) = w (ix3 e j K)

/-- A block of 1792 rows, part `f` of an expert's weights. -/
def Tops (e : Fin 8) (f : ℕ) (b : Vec Ideal S1x1792x1024 .bf16) (w : Tall) : Prop :=
  ∀ (k : Fin 1792) (d : Fin 1024) (K : Fin 3584), K.val = f * 1792 + k.val → b (ix3 0 k d) = w (ix3 e K d)

theorem dot_eq (xs : Rows) (w : Wide) (e : Fin 8) (f : ℕ) (x : Vec Ideal S1024x1024 .bf16) (b : Vec Ideal S1x1024x1792 .bf16)
    (r : Fin 1024) (R : Fin 139264) (hx : ∀ j : Fin 1024, x (ix2 r j) = entry xs R j) (hb : Cols e f b w)
    (k : Fin 1792) (K : Fin 3584) (hK : K.val = f * 1792 + k.val) : dot x b r k = proj xs w e R K := by
  unfold dot proj
  exact Finset.sum_congr rfl fun j _ => congrArg₂ (fun a b : EReal => a * b) (hx j) (hb j k K hK)

/-- A live row gets its expert's value, the hidden columns summed in two parts. -/
theorem live_row (xs : Rows) (wg wu : Wide) (wd : Tall) (e : Fin 8) (x : Vec Ideal S1024x1024 .bf16)
    (g0 u0 g1 u1 : Vec Ideal S1x1024x1792 .bf16) (d0 d1 : Vec Ideal S1x1792x1024 .bf16)
    (r d : Fin 1024) (R : Fin 139264) (hx : ∀ j : Fin 1024, x (ix2 r j) = entry xs R j)
    (hg0 : Cols e 0 g0 wg) (hu0 : Cols e 0 u0 wu) (hd0 : Tops e 0 d0 wd)
    (hg1 : Cols e 1 g1 wg) (hu1 : Cols e 1 u1 wu) (hd1 : Tops e 1 d1 wd) :
    k0_pay3 (F := Ideal) x g1 u1 (k0_pay3 (F := Ideal) x g0 u0 (k0_pay1 (F := Ideal)) d0) d1 (ix2 r d) = ffn xs wg wu wd e R d := by
  rw [pay3_at, pay3_at, pay1_at]
  unfold ffn
  have half (f : ℕ) (hf : f < 2) (g u : Vec Ideal S1x1024x1792 .bf16) (b : Vec Ideal S1x1792x1024 .bf16)
      (hg : Cols e f g wg) (hu : Cols e f u wu) (hb : Tops e f b wd) (k : Fin 1792) :
      hid x g u r k * (show EReal from b (ix3 0 k d))
        = Cert.Proof.ExpertsSpec.hidden xs wg wu e R ⟨f * 1792 + k.val, by omega⟩ * (show EReal from wd (ix3 e ⟨f * 1792 + k.val, by omega⟩ d)) := by
    unfold hid Cert.Proof.ExpertsSpec.hidden
    rw [dot_eq xs wg e f x g r R hx hg k ⟨f * 1792 + k.val, by omega⟩ rfl, dot_eq xs wu e f x u r R hx hu k ⟨f * 1792 + k.val, by omega⟩ rfl]
    exact congrArg (fun b : EReal => _ * b) (hb k d ⟨f * 1792 + k.val, by omega⟩ rfl)
  refine Eq.trans ?_ (Fin.sum_mul_add_congr (S := 2) (n := 1792) (L := 3584)
    (F := fun s k => Cert.Proof.ExpertsSpec.hidden xs wg wu e R ⟨s.val * 1792 + k.val, by omega⟩
      * (show EReal from wd (ix3 e ⟨s.val * 1792 + k.val, by omega⟩ d)))
    (f := fun K => Cert.Proof.ExpertsSpec.hidden xs wg wu e R K * (show EReal from wd (ix3 e K d)))
    fun s k hl => rfl)
  rw [Fin.sum_univ_two, zero_add]
  exact congrArg₂ (fun a b : EReal => a + b) (Finset.sum_congr rfl fun k _ => half 0 (by decide) g0 u0 d0 hg0 hu0 hd0 k)
    (Finset.sum_congr rfl fun k _ => half 1 (by decide) g1 u1 d1 hg1 hu1 hd1 k)

/-- A row of zeros gets zero. -/
theorem dead_row (x : Vec Ideal S1024x1024 .bf16)
    (g0 u0 g1 u1 : Vec Ideal S1x1024x1792 .bf16) (d0 d1 : Vec Ideal S1x1792x1024 .bf16)
    (r d : Fin 1024) (hx : ∀ j : Fin 1024, x (ix2 r j) = (0 : EReal)) :
    k0_pay3 (F := Ideal) x g1 u1 (k0_pay3 (F := Ideal) x g0 u0 (k0_pay1 (F := Ideal)) d0) d1 (ix2 r d) = (0 : EReal) := by
  rw [pay3_at, pay3_at, pay1_at]
  have hdot (b : Vec Ideal S1x1024x1792 .bf16) (k : Fin 1792) : dot x b r k = 0 :=
    Finset.sum_eq_zero fun j _ => (congrArg (fun a : EReal => a * _) (hx j)).trans (zero_mul _)
  have hz (g u : Vec Ideal S1x1024x1792 .bf16) (b : Vec Ideal S1x1792x1024 .bf16) :
      ∑ k : Fin 1792, hid x g u r k * (show EReal from b (ix3 0 k d)) = 0 :=
    Finset.sum_eq_zero fun k _ => by
      unfold hid
      rw [hdot u k, mul_zero, zero_mul]
  rw [hz, hz, add_zero, add_zero]

variable (m : (ℓ : Loc nD τ sig) → Buf (Elt Ideal) ℓ) (hO : Ok m)

/-- At the second point of a live tile, the block stored is the two parts' sum. -/
theorem tile_live (c : Dev nD) (t t' : Fin (cfgM m hO).N) (ht : t.val % 2 = 1) (hv : t'.val = t.val - 1) (hl : Live m (t.val / 2)) :
    (outsAt0 m hO c t.val t.isLt).1 = k0_pay4 (F := Ideal) (k0_pay3 (F := Ideal) (k0_pay2 (F := Ideal) (rowsWord m hO t') (iblk m hO c 0 t'))
      (iblk m hO c 1 t) (iblk m hO c 2 t)
      (k0_pay3 (F := Ideal) (k0_pay2 (F := Ideal) (rowsWord m hO t') (iblk m hO c 0 t')) (iblk m hO c 1 t') (iblk m hO c 2 t')
        (k0_pay1 (F := Ideal)) (iblk m hO c 3 t')) (iblk m hO c 3 t)) := by
  obtain ⟨v, hlt⟩ := t'
  obtain rfl : v = t.val - 1 := hv
  have hdiv : (t.val - 1) / 2 = t.val / 2 := by omega
  have hA := outsA m hO c ⟨t.val - 1, hlt⟩ (show (t.val - 1) % 2 = 0 by omega) (show Live m ((t.val - 1) / 2) by rw [hdiv]; exact hl)
  rw [outsC m hO c t ht hl]
  exact congrArg (k0_pay4 (F := Ideal)) (pay3_congr hA.2 rfl rfl hA.1 rfl)

/-- At the second point of a tile that is not live, the block stored is zero. -/
theorem tile_dead (c : Dev nD) (t t' : Fin (cfgM m hO).N) (ht : t.val % 2 = 1) (hv : t'.val = t.val - 1) (hl : ¬Live m (t.val / 2)) :
    (outsAt0 m hO c t.val t.isLt).1 = k0_pay4 (F := Ideal) (k0_pay1 (F := Ideal)) := by
  obtain ⟨v, hlt⟩ := t'
  obtain rfl : v = t.val - 1 := hv
  have hdiv : (t.val - 1) / 2 = t.val / 2 := by omega
  have hB := outsB m hO c ⟨t.val - 1, hlt⟩ (show (t.val - 1) % 2 = 0 by omega) (show ¬Live m ((t.val - 1) / 2) by rw [hdiv]; exact hl)
  rw [outsD m hO c t ht hl]
  exact congrArg (k0_pay4 (F := Ideal)) hB

theorem rowsWord_word (t : Fin (cfgM m hO).N) (R : Fin 139264) (h : R.val / 1024 = t.val / 2) :
    word (tab m 0) 137 (by decide) R = rowsWord m hO t :=
  congrArg (fun i => tbl m 0 (ix1 (n0 := 273) i)) (Fin.ext (congrArg (137 + ·) h))

theorem word_tile (t : Fin (cfgM m hO).N) (R : Fin 139264) (h : R.val / 1024 = t.val / 2) :
    word (tab m 0) 0 (by decide) R = tbl m 0 (ix1 (n0 := 273) ⟨t.val / 2, lt273' m hO t⟩) :=
  congrArg (fun i => tbl m 0 (ix1 (n0 := 273) i)) (Fin.ext ((Nat.zero_add _).trans h))

theorem live_iff (i j : ℕ) (h : i = j) : IntOp.cmpi .slt (BitVec.ofNat 32 i) (tab m 0 (ix1 (n0 := 273) ⟨136, by decide⟩)) = 1#1 ↔ Live m j := by
  subst h; exact Iff.rfl

theorem row_iff (t : Fin (cfgM m hO).N) (R : Fin 139264) (r : Fin 1024) (h : R.val / 1024 = t.val / 2) (hr : R.val % 1024 = r.val) :
    IntOp.cmpi .slt (BitVec.ofNat 32 (R.val % 1024)) (word (tab m 0) 137 (by decide) R) = 1#1
      ↔ IntOp.cmpi .slt (BitVec.ofNat 32 r.val) (rowsWord m hO t) = 1#1 := by
  rw [hr, rowsWord_word m hO t R h]

/-- A row of a live tile. -/
theorem row_live (t t' : Fin (cfgM m hO).N) (ht : t.val % 2 = 1) (hv : t'.val = t.val - 1) (r d : Fin 1024) (R : Fin 139264)
    (hR : R.val = t.val / 2 * 1024 + r.val) (e : Fin 8) (he : e.val = expert m ⟨t.val / 2, lt273' m hO t⟩)
    (he' : e.val = expert m ⟨t'.val / 2, lt273' m hO t'⟩) (hr : IntOp.cmpi .slt (BitVec.ofNat 32 r.val) (rowsWord m hO t') = 1#1) :
    k0_pay3 (F := Ideal) (k0_pay2 (F := Ideal) (rowsWord m hO t') (iblk m hO 0 0 t')) (iblk m hO 0 1 t) (iblk m hO 0 2 t)
      (k0_pay3 (F := Ideal) (k0_pay2 (F := Ideal) (rowsWord m hO t') (iblk m hO 0 0 t')) (iblk m hO 0 1 t') (iblk m hO 0 2 t')
        (k0_pay1 (F := Ideal)) (iblk m hO 0 3 t')) (iblk m hO 0 3 t) (ix2 r d)
      = ffn (rows m 0) (gates m 0) (ups m 0) (downs m 0) e R d := by
  have hm : t'.val % 2 = 0 := by omega
  have hd : t'.val / 2 = t.val / 2 := by omega
  have cols (s : Fin (cfgM m hO).N) (f : ℕ) (hs : s.val % 2 = f) (he : e.val = expert m ⟨s.val / 2, lt273' m hO s⟩) :
      Cols e f (iblk m hO 0 1 s) (gates m 0) ∧ Cols e f (iblk m hO 0 2 s) (ups m 0) ∧ Tops e f (iblk m hO 0 3 s) (downs m 0) :=
    ⟨fun j k K hK => gates_at m hO 0 s e he j k K (by rw [hs]; exact hK), fun j k K hK => ups_at m hO 0 s e he j k K (by rw [hs]; exact hK),
      fun k d K hK => downs_at m hO 0 s e he k d K (by rw [hs]; exact hK)⟩
  have h0 := cols t' 0 hm he'
  have h1 := cols t 1 ht he
  refine live_row (rows m 0) (gates m 0) (ups m 0) (downs m 0) e _ _ _ _ _ _ _ r d R (fun j => ?_) h0.1 h0.2.1 h0.2.2 h1.1 h1.2.1 h1.2.2
  exact (pay2_at (rowsWord m hO t') (iblk m hO 0 0 t') r j).trans ((if_pos hr).trans (rows_at m hO 0 t' r _ _ R (by rw [hd]; exact hR)))

/-- One grid point that ends a tile stores the tile's part of the layer. -/
theorem point (hlt : ∀ i : Fin 273, i.val < 136 → BitVec.toNat (w := 32) (tbl m 0 (ix1 i)) < 8) (c : Dev nD)
    (t : Fin (cfgM m hO).N) (ht : t.val % 2 = 1) (r : Fin 1024) (a : Fin 8) (b : Fin 128) (R : Fin 139264)
    (hR : R.val = t.val / 2 * 1024 + r.val) (d : Fin 1024) (hd : d.val = a.val * 128 + b.val) :
    (outsAt0 m hO c t.val t.isLt).1 (ix3 r a b) = value (tab m c) (rows m c) (gates m c) (ups m c) (downs m c) R d := by
  have hN := lt272 m hO t
  obtain rfl : c = 0 := Subsingleton.elim _ _
  have hdiv : R.val / 1024 = t.val / 2 := by omega
  have hmod : R.val % 1024 = r.val := by omega
  obtain ⟨t', hv⟩ : ∃ t' : Fin (cfgM m hO).N, t'.val = t.val - 1 := ⟨⟨t.val - 1, Nat.lt_of_le_of_lt (Nat.sub_le _ _) t.isLt⟩, rfl⟩
  have hdiv' : t'.val / 2 = t.val / 2 := by omega
  have hd' : (⟨a.val * 128 + b.val, by omega⟩ : Fin 1024) = d := Fin.ext hd.symm
  have hword := word_tile m hO t R hdiv
  have hexp : (word (tab m 0) 0 (by decide) R).toNat < 8 := by
    rw [hword]; exact hlt ⟨t.val / 2, lt273' m hO t⟩ (show t.val / 2 < 136 by omega)
  have he : (word (tab m 0) 0 (by decide) R).toNat = expert m ⟨t.val / 2, lt273' m hO t⟩ := congrArg BitVec.toNat hword
  have he' : (word (tab m 0) 0 (by decide) R).toNat = expert m ⟨t'.val / 2, lt273' m hO t'⟩ :=
    he.trans (congrArg (expert m) (Fin.ext hdiv'.symm))
  have h1 := live_iff m (R.val / 1024) (t.val / 2) hdiv
  have h2 := row_iff m hO t' R r (hdiv.trans hdiv'.symm) hmod
  unfold value
  rw [dif_pos hexp]
  by_cases hl : Live m (t.val / 2)
  · refine (congrFun (tile_live m hO 0 t t' ht hv hl) (ix3 r a b)).trans ?_
    rw [pay4_at, hd']
    by_cases hr : IntOp.cmpi .slt (BitVec.ofNat 32 r.val) (rowsWord m hO t') = 1#1
    · exact (row_live m hO t t' ht hv r d R hR ⟨_, hexp⟩ he he' hr).trans (if_pos (show Used (tab m 0) R from ⟨h1.2 hl, h2.2 hr⟩)).symm
    · refine (dead_row _ _ _ _ _ _ _ r d (fun j => ?_)).trans (if_neg (fun h : Used (tab m 0) R => hr (h2.1 h.2))).symm
      exact (pay2_at (rowsWord m hO t') (iblk m hO 0 0 t') r j).trans (if_neg hr)
  · refine (congrFun (tile_dead m hO 0 t t' ht hv hl) (ix3 r a b)).trans ?_
    rw [pay4_at, hd', pay1_at]
    exact (if_neg (fun h : Used (tab m 0) R => hl (h1.1 h.1))).symm

theorem flushes : ∀ t : Fin (cfgM m hO).N, t.val % 2 = 1 → ((cfgM m hO).win 4).flush t = true :=
  (by decide +kernel : ∀ t : Fin grid0.N, t.val % 2 = 1 → Pipeline.Window.flushOf grid0 true cc0_transform_4 t = true)

theorem flushes_odd : ∀ t : Fin (cfgM m hO).N, ((cfgM m hO).win 4).flush t = true → t.val % 2 = 1 :=
  (by decide +kernel : ∀ t : Fin grid0.N, Pipeline.Window.flushOf grid0 true cc0_transform_4 t = true → t.val % 2 = 1)

theorem covers : ((cfgM m hO).win 4).Covers := by
  refine ⟨(by decide : ∀ a : Fin 3, 0 < S1024x8x128.size a), fun β => ?_⟩
  have hb0 : (β (0 : Fin 3)).val < 136 :=
    lt_of_lt_of_eq (β (0 : Fin 3)).isLt ((by decide : (139264 + 1024 - 1) / 1024 = 136) : ((cfgM m hO).win 4).nblk (0 : Fin 3) = 136)
  have hb1 : (β (1 : Fin 3)).val < 1 :=
    lt_of_lt_of_eq (β (1 : Fin 3)).isLt ((by decide : (8 + 8 - 1) / 8 = 1) : ((cfgM m hO).win 4).nblk (1 : Fin 3) = 1)
  have hb2 : (β (2 : Fin 3)).val < 1 :=
    lt_of_lt_of_eq (β (2 : Fin 3)).isLt ((by decide : (128 + 128 - 1) / 128 = 1) : ((cfgM m hO).win 4).nblk (2 : Fin 3) = 1)
  let t : Fin (cfgM m hO).N := ⟨2 * (β (0 : Fin 3)).val + 1, lt_of_lt_of_eq (by omega : 2 * (β (0 : Fin 3)).val + 1 < 272) (show 272 = (cfgM m hO).N from N_0.symm)⟩
  have hv : t.val = 2 * (β (0 : Fin 3)).val + 1 := rfl
  refine ⟨t, flushes m hO t (by omega), fun a => ⟨?_, Or.inl rfl⟩⟩
  rw [index4 m hO t]
  match a with
  | ⟨0, _⟩ => show t.val / 2 = (β (0 : Fin 3)).val; omega
  | ⟨1, _⟩ => show 0 = (β (1 : Fin 3)).val; omega
  | ⟨2, _⟩ => show 0 = (β (2 : Fin 3)).val; omega

/-- What the kernel leaves in its result. -/
theorem final (hlt : ∀ i : Fin 273, i.val < 136 → BitVec.toNat (w := 32) (tbl m 0 (ix1 i)) < 8) (c : Dev nD) :
    (dats m hO 0 c).arrAt 4 (cfgM m hO).N = layer (tab m c) (rows m c) (gates m c) (ups m c) (downs m c) := by
  refine (dats m hO 0 c).arrAt_eq_of_covers 4 (layer (tab m c) (rows m c) (gates m c) (ups m c) (downs m c)) (covers m hO) fun t hf y => ?_
  blk_simp
  rw [after0_4]
  have hN := lt272 m hO t
  obtain ⟨r, a, b, rfl⟩ : ∃ (r : Fin 1024) (a : Fin 8) (b : Fin 128), y = ix3 r a b := ⟨y (0 : Fin 3), y (1 : Fin 3), y (2 : Fin 3), (ix3_eta y).symm⟩
  refine (point m hO hlt c t (flushes_odd m hO t hf) r a b ⟨t.val / 2 * 1024 + r.val, by omega⟩ rfl ⟨a.val * 128 + b.val, by omega⟩ rfl).trans ?_
  refine congrArg₂ (value (tab m c) (rows m c) (gates m c) (ups m c) (downs m c)) (Fin.ext ?_) (Fin.ext ?_)
  · blk_simp [index4 m hO t]
  · blk_simp [index4 m hO t]

end Cert.ExpertsIdeal.Tile

end
-- ==== Proof.ExpertsRef.lean ====
/- The experts' reference read at one row and one column: of the eight shares only the tile's own is one, and the sum is the layer. -/
module

public import proofs.«01_k».proof.Proof.Gen.ExpertsReferenceIdeal.Run
public import Idealize.ShloMosaic.Lib.WordCmp
public import Idealize.ShloMosaic.Lib.Pointwise
public import proofs.«01_k».proof.Proof.ExpertsSpec

@[expose] public section

noncomputable section

namespace Cert.ExpertsReferenceIdeal.Layer

open Cert.ExpertsReferenceIdeal Cert.ExpertsReferenceIdeal.Gen Idealize.ShloMosaic Idealize.ShloMosaic.TcCoe Idealize.SL.Sem Idealize.ShloMosaic.Tactic
open Cert.Proof.ExpertsSpec

/-- The rows, a row's values side by side. -/
def flat (xs : Rows) : FVec Ideal S139264x1024 .f32 := shapeCast S139264x1024 xs shapeCasts_S139264x8x128_S139264x1024

/-- One expert's weights of a matrix into the hidden columns. -/
def wide (e : ℕ) (h : S8x1024x3584.Slices ![e, 0, 0] S1x1024x3584) (w : Wide) : FVec Ideal S1024x3584 .f32 :=
  extf .f32 (shapeCast S1024x3584 (extractStridedSlice S1x1024x3584 ![e, 0, 0] w h) shapeCasts_S1x1024x3584_S1024x3584) bitsLt_bf16_f32

/-- One expert's weights of the matrix out of the hidden columns. -/
def tall (e : ℕ) (h : S8x3584x1024.Slices ![e, 0, 0] S1x3584x1024) (w : Tall) : FVec Ideal S3584x1024 .f32 :=
  extf .f32 (shapeCast S3584x1024 (extractStridedSlice S1x3584x1024 ![e, 0, 0] w h) shapeCasts_S1x3584x1024_S3584x1024) bitsLt_bf16_f32

def times (x : FVec Ideal S139264x1024 .f32) (w : FVec Ideal S1024x3584 .f32) : FVec Ideal S139264x3584 .f32 :=
  Host.dotGeneral dot_S139264x1024_S1024x3584_S139264x3584_1_0_0_1_n_n none x w

def back (h : FVec Ideal S139264x3584 .f32) (w : FVec Ideal S3584x1024 .f32) : FVec Ideal S139264x1024 .f32 :=
  Host.dotGeneral dot_S139264x3584_S3584x1024_S139264x1024_1_0_0_1_n_n none h w

/-- The gated hidden values. -/
def gated (g u : FVec Ideal S139264x3584 .f32) : FVec Ideal S139264x3584 .f32 :=
  mulf (mulf g (Host.divf (broadcastInDim S139264x3584 ![] bcast_S_S139264x3584 (constant S_ .f32 0x3F800000#32))
    (addf (broadcastInDim S139264x3584 ![] bcast_S_S139264x3584 (constant S_ .f32 0x3F800000#32)) (Host.exp (Host.negf g))))) u

/-- The tile is computed. -/
def tileOn (te : Tiles) : IVec S136x1 1 :=
  cmpi .slt (broadcastInDim S136x1 ![0] bcast_S136_S136x1_0 (iotaInDim S136 32 0))
    (broadcastInDim S136x1 ![] bcast_S_S136x1 (shapeCast S_ (extractStridedSlice S1 ![136] te slices_S273_S1_136) shapeCasts_S1_S_))

/-- The row is live in its tile. -/
def rowOn (te : Tiles) : IVec S136x1024 1 :=
  cmpi .slt (broadcastInDim S136x1024 ![0, 1] bcast_S1x1024_S136x1024_0_1 (broadcastInDim S1x1024 ![1] bcast_S1024_S1x1024_1 (iotaInDim S1024 32 0)))
    (broadcastInDim S136x1024 ![0, 1] bcast_S136x1_S136x1024_0_1 (broadcastInDim S136x1 ![0] bcast_S136_S136x1_0 (extractStridedSlice S136 ![137] te slices_S273_S136_137)))

/-- The tile is the expert's. -/
def mine (te : Tiles) (e : BitVec 32) : IVec S136x1 1 :=
  broadcastInDim S136x1 ![0] bcast_S136_S136x1_0 (cmpi .eq (extractStridedSlice S136 ![0] te slices_S273_S136_0)
    (broadcastInDim S136 ![] bcast_S_S136 (constantI S_ 32 e)))

/-- An expert's share of each row: one or zero. -/
def share (te : Tiles) (e : BitVec 32) : FVec Ideal S139264x1 .f32 :=
  id (shapeCast S139264x1 (select (andi (andi (broadcastInDim S136x1024 ![0, 1] bcast_S136x1_S136x1024_0_1 (tileOn te)) (rowOn te))
      (broadcastInDim S136x1024 ![0, 1] bcast_S136x1_S136x1024_0_1 (mine te e)))
    (broadcastInDim S136x1024 ![] bcast_S_S136x1024 (constant S_ .f32 0x3F800000#32))
    (broadcastInDim S136x1024 ![] bcast_S_S136x1024 (constant S_ .f32 0x00000000#32))) shapeCasts_S136x1024_S139264x1)

/-- One expert's term of the sum. -/
def term (te : Tiles) (xs : Rows) (wg wu : Wide) (wd : Tall) (w : BitVec 32) (e : ℕ) (h : S8x1024x3584.Slices ![e, 0, 0] S1x1024x3584)
    (h' : S8x3584x1024.Slices ![e, 0, 0] S1x3584x1024) : FVec Ideal S139264x1024 .f32 :=
  mulf (broadcastInDim S139264x1024 ![0, 1] bcast_S139264x1_S139264x1024_0_1 (share te w))
    (back (gated (times (flat xs) (wide e h wg)) (times (flat xs) (wide e h wu))) (tall e h' wd))

theorem flat_at (xs : Rows) (R : Fin 139264) (j : Fin 1024) : flat xs (ix2 R j) = entry xs R j := by
  pointwise [flat, entry]

theorem wide_at (e : Fin 8) (h : S8x1024x3584.Slices ![e.val, 0, 0] S1x1024x3584) (w : Wide) (j : Fin 1024) (K : Fin 3584) :
    wide e.val h w (ix2 j K) = w (ix3 e j K) := by
  pointwise [wide]

theorem tall_at (e : Fin 8) (h : S8x3584x1024.Slices ![e.val, 0, 0] S1x3584x1024) (w : Tall) (K : Fin 3584) (d : Fin 1024) :
    tall e.val h w (ix2 K d) = w (ix3 e K d) := by
  pointwise [tall]

theorem times_at (x : FVec Ideal S139264x1024 .f32) (w : FVec Ideal S1024x3584 .f32) (R : Fin 139264) (K : Fin 3584) :
    times x w (ix2 R K) = ∑ j : Fin 1024, (show EReal from x (ix2 R j)) * (show EReal from w (ix2 j K)) := by
  pointwise [times]

theorem back_at (x : FVec Ideal S139264x3584 .f32) (w : FVec Ideal S3584x1024 .f32) (R : Fin 139264) (d : Fin 1024) :
    back x w (ix2 R d) = ∑ K : Fin 3584, (show EReal from x (ix2 R K)) * (show EReal from w (ix2 K d)) := by
  pointwise [back]

theorem gated_at (g u : FVec Ideal S139264x3584 .f32) (R : Fin 139264) (K : Fin 3584) :
    gated g u (ix2 R K) = ((show EReal from g (ix2 R K)) * Ideal.logistic (g (ix2 R K))) * (show EReal from u (ix2 R K)) := by
  pointwise [gated, Ideal.logistic]

theorem tileOn_at (te : Tiles) (i : Fin 136) :
    tileOn te (ix2 i 0) = IntOp.cmpi .slt (BitVec.ofNat 32 i.val) (te (ix1 (n0 := 273) ⟨136, by decide⟩)) := by
  pointwise [tileOn]

theorem rowOn_at (te : Tiles) (i : Fin 136) (r : Fin 1024) :
    rowOn te (ix2 i r) = IntOp.cmpi .slt (BitVec.ofNat 32 r.val) (te (ix1 (n0 := 273) ⟨137 + i.val, by omega⟩)) := by
  pointwise [rowOn]

theorem mine_at (te : Tiles) (e : BitVec 32) (i : Fin 136) :
    mine te e (ix2 i 0) = IntOp.cmpi .eq (te (ix1 (n0 := 273) ⟨0 + i.val, by omega⟩)) e := by
  pointwise [mine]

theorem share_at (te : Tiles) (e : BitVec 32) (R : Fin 139264) :
    share te e (ix2 R 0) = Scalar.select (IntOp.andi (IntOp.andi (tileOn te (ix2 ⟨R.val / 1024, tile_lt R⟩ 0))
      (rowOn te (ix2 ⟨R.val / 1024, tile_lt R⟩ ⟨R.val % 1024, by omega⟩))) (mine te e (ix2 ⟨R.val / 1024, tile_lt R⟩ 0))) (1 : EReal) (0 : EReal) := by
  pointwise [share, id_eq]

theorem term_at (te : Tiles) (xs : Rows) (wg wu : Wide) (wd : Tall) (w : BitVec 32) (e : Fin 8) (h : S8x1024x3584.Slices ![e.val, 0, 0] S1x1024x3584)
    (h' : S8x3584x1024.Slices ![e.val, 0, 0] S1x3584x1024) (R : Fin 139264) (d : Fin 1024) :
    term te xs wg wu wd w e.val h h' (ix2 R d) = (show EReal from share te w (ix2 R 0)) * ffn xs wg wu wd e R d := by
  have h1 : ∀ (v : Wide) (K : Fin 3584), times (flat xs) (wide e.val h v) (ix2 R K) = proj xs v e R K := fun v K =>
    (times_at _ _ R K).trans (Finset.sum_congr rfl fun j _ => congrArg₂ (fun a b : EReal => a * b) (flat_at xs R j) (wide_at e h v j K))
  have h2 : back (gated (times (flat xs) (wide e.val h wg)) (times (flat xs) (wide e.val h wu))) (tall e.val h' wd) (ix2 R d) = ffn xs wg wu wd e R d := by
    refine (back_at _ _ R d).trans (Finset.sum_congr rfl fun K _ => congrArg₂ (fun a b : EReal => a * b) ?_ (tall_at e h' wd K d))
    refine (gated_at _ _ R K).trans ?_
    rw [h1, h1]
    rfl
  rw [← h2]
  pointwise [term]

theorem select_and (a b c : BitVec 1) (x y : EReal) :
    Scalar.select (IntOp.andi (IntOp.andi a b) c) x y = if (a = 1#1 ∧ b = 1#1) ∧ c = 1#1 then x else y := by
  have h : IntOp.andi (IntOp.andi a b) c = 1#1 ↔ (a = 1#1 ∧ b = 1#1) ∧ c = 1#1 := by revert a b c; decide
  unfold Scalar.select
  by_cases hc : (a = 1#1 ∧ b = 1#1) ∧ c = 1#1
  · rw [if_pos hc]; exact if_pos (h.2 hc)
  · rw [if_neg hc]; exact if_neg (fun q => hc (h.1 q))

theorem eq_iff (x : BitVec 32) (e : Fin 8) : IntOp.cmpi .eq x (BitVec.ofNat 32 e.val) = 1#1 ↔ x.toNat = e.val := by
  have hw : (BitVec.ofNat 32 e.val).toNat = e.val := by rw [BitVec.toNat_ofNat]; exact Nat.mod_eq_of_lt (by omega)
  have hb : IntOp.cmpi .eq x (BitVec.ofNat 32 e.val) = 1#1 ↔ x = BitVec.ofNat 32 e.val := by
    show BitVec.ofBool (x == BitVec.ofNat 32 e.val) = 1#1 ↔ _
    by_cases hx : x = BitVec.ofNat 32 e.val
    · subst hx; simp
    · have : (x == BitVec.ofNat 32 e.val) = false := beq_eq_false_iff_ne.2 hx
      rw [this]
      exact ⟨fun q => absurd q (by decide), fun q => absurd q hx⟩
  rw [hb, ← BitVec.toNat_inj, hw]

theorem share_eq (te : Tiles) (e : Fin 8) (R : Fin 139264) :
    share te (BitVec.ofNat 32 e.val) (ix2 R 0) = if Used te R ∧ (word te 0 (by decide) R).toNat = e.val then (1 : EReal) else (0 : EReal) := by
  rw [share_at, select_and, tileOn_at, rowOn_at, mine_at]
  exact if_congr (and_congr Iff.rfl (eq_iff _ e)) rfl rfl

/-- The eight terms' sum. -/
def sums (te : Tiles) (xs : Rows) (wg wu : Wide) (wd : Tall) : FVec Ideal S139264x1024 .f32 :=
  addf (addf (addf (addf (addf (addf (addf (addf (broadcastInDim S139264x1024 ![] bcast_S_S139264x1024 (constant S_ .f32 0x00000000#32))
    (term te xs wg wu wd 0#32 0 slices_S8x1024x3584_S1x1024x3584_0_0_0 slices_S8x3584x1024_S1x3584x1024_0_0_0))
    (term te xs wg wu wd 1#32 1 slices_S8x1024x3584_S1x1024x3584_1_0_0 slices_S8x3584x1024_S1x3584x1024_1_0_0))
    (term te xs wg wu wd 2#32 2 slices_S8x1024x3584_S1x1024x3584_2_0_0 slices_S8x3584x1024_S1x3584x1024_2_0_0))
    (term te xs wg wu wd 3#32 3 slices_S8x1024x3584_S1x1024x3584_3_0_0 slices_S8x3584x1024_S1x3584x1024_3_0_0))
    (term te xs wg wu wd 4#32 4 slices_S8x1024x3584_S1x1024x3584_4_0_0 slices_S8x3584x1024_S1x3584x1024_4_0_0))
    (term te xs wg wu wd 5#32 5 slices_S8x1024x3584_S1x1024x3584_5_0_0 slices_S8x3584x1024_S1x3584x1024_5_0_0))
    (term te xs wg wu wd 6#32 6 slices_S8x1024x3584_S1x1024x3584_6_0_0 slices_S8x3584x1024_S1x3584x1024_6_0_0))
    (term te xs wg wu wd 7#32 7 slices_S8x1024x3584_S1x1024x3584_7_0_0 slices_S8x3584x1024_S1x3584x1024_7_0_0)

/-- The reference's result. -/
def result (te : Tiles) (xs : Rows) (wg wu : Wide) (wd : Tall) : FVec Ideal S139264x8x128 .f32 :=
  shapeCast S139264x8x128 (sums te xs wg wu wd) shapeCasts_S139264x1024_S139264x8x128

theorem add_at (x y : FVec Ideal S139264x1024 .f32) (i : S139264x1024.Idx) :
    addf x y i = (show EReal from x i) + (show EReal from y i) := rfl

theorem zero_at (i : S139264x1024.Idx) :
    (broadcastInDim S139264x1024 ![] bcast_S_S139264x1024 (constant (F := Ideal) S_ .f32 0x00000000#32)) i = (0 : EReal) := by
  pointwise

theorem sums_at (te : Tiles) (xs : Rows) (wg wu : Wide) (wd : Tall) (R : Fin 139264) (d : Fin 1024)
    (hw : (word te 0 (by decide) R).toNat < 8) : sums te xs wg wu wd (ix2 R d) = value te xs wg wu wd R d := by
  have ht : ∀ (e : Fin 8) (h : S8x1024x3584.Slices ![e.val, 0, 0] S1x1024x3584) (h' : S8x3584x1024.Slices ![e.val, 0, 0] S1x3584x1024),
      term te xs wg wu wd (BitVec.ofNat 32 e.val) e.val h h' (ix2 R d)
        = (if Used te R ∧ (word te 0 (by decide) R).toNat = e.val then (1 : EReal) else (0 : EReal)) * ffn xs wg wu wd e R d := fun e h h' => by
    rw [term_at, share_eq]
  have hs : sums te xs wg wu wd (ix2 R d) = ∑ e : Fin 8,
      (if Used te R ∧ (word te 0 (by decide) R).toNat = e.val then (1 : EReal) else (0 : EReal)) * ffn xs wg wu wd e R d := by
    unfold sums
    rw [Fin.sum_univ_eight, ← zero_add (_ * ffn xs wg wu wd 0 R d)]
    simp only [add_at]
    refine congrArg₂ (fun a b : EReal => a + b) (congrArg₂ (fun a b : EReal => a + b) (congrArg₂ (fun a b : EReal => a + b)
      (congrArg₂ (fun a b : EReal => a + b) (congrArg₂ (fun a b : EReal => a + b) (congrArg₂ (fun a b : EReal => a + b)
      (congrArg₂ (fun a b : EReal => a + b) (congrArg₂ (fun a b : EReal => a + b) (zero_at _) (ht 0 _ _)) (ht 1 _ _)) (ht 2 _ _)) (ht 3 _ _))
      (ht 4 _ _)) (ht 5 _ _)) (ht 6 _ _)) (ht 7 _ _)
  rw [hs]
  unfold value
  rw [dif_pos hw, Finset.sum_eq_single (⟨(word te 0 (by decide) R).toNat, hw⟩ : Fin 8)]
  · by_cases hu : Used te R
    · rw [if_pos hu, if_pos ⟨hu, rfl⟩, one_mul]
    · rw [if_neg hu, if_neg (fun h => hu h.1), zero_mul]
  · intro e _ he
    rw [if_neg (fun h => he (Fin.ext h.2.symm)), zero_mul]
  · exact fun h => absurd (Finset.mem_univ _) h

/-- The reference's result is the layer's array. -/
theorem result_eq (te : Tiles) (xs : Rows) (wg wu : Wide) (wd : Tall)
    (hw : ∀ R : Fin 139264, (word te 0 (by decide) R).toNat < 8) : result te xs wg wu wd = layer te xs wg wu wd := by
  funext y
  obtain ⟨R, a, b, rfl⟩ : ∃ (R : Fin 139264) (a : Fin 8) (b : Fin 128), y = ix3 R a b := ⟨y 0, y 1, y 2, (ix3_eta y).symm⟩
  have h : result te xs wg wu wd (ix3 R a b) = sums te xs wg wu wd (ix2 R ⟨a.val * 128 + b.val, by omega⟩) := by
    pointwise [result]
  exact h.trans (sums_at te xs wg wu wd R _ (hw R))

/-- What the reference's run leaves is the reference's result. -/
theorem res_eq (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v239) = result (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2)
        ∧ r.2.mem ((c.tc : Thread nD τ).loc main_arg3) = m ((c.tc : Thread nD τ).loc main_arg3)
        ∧ r.2.mem ((c.tc : Thread nD τ).loc main_arg4) = m ((c.tc : Thread nD τ).loc main_arg4) :=
  (θ_run _ _ _).mono (fun _ h c => ⟨(h c).1.trans rfl, (h c).2⟩) (Value.run m ρ)

end Cert.ExpertsReferenceIdeal.Layer

end
-- ==== Proof.RowSpec.lean ====
/- What the dense calls compute of one row: a product with a matrix, a normalised row, the feed-forward and the merge. -/
module

public import Idealize.ShloMosaic.PureOps.Ideal
public import Idealize.ShloMosaic.Lib.Pointwise

@[expose] public section

noncomputable section

namespace Cert.Proof.RowSpec

open Idealize.ShloMosaic

abbrev Mat (n k : ℕ) : Type := FVec Ideal (⟨2, ![n, k]⟩ : Shape) .bf16
abbrev Real2 (n k : ℕ) : Type := FVec Ideal (⟨2, ![n, k]⟩ : Shape) .f32

/-- A row times one column of a matrix. -/
def dot {n k : ℕ} (x : Fin n → EReal) (w : Mat n k) (d : Fin k) : EReal := ∑ j : Fin n, x j * (show EReal from w (ix2 j d))

/-- A row's mean. -/
def mean (z : Fin 1024 → EReal) : EReal := Ideal.div (∑ j : Fin 1024, z j) (Ideal.ofBits FTy.f32 0x44800000#32)

/-- A row less its mean, over its deviation, scaled and shifted. -/
def normRow (z : Fin 1024 → EReal) (g b : Real2 1 1024) (d : Fin 1024) : EReal :=
  ((z d - mean z) * Ideal.rsqrt (mean (fun j => (z j - mean z) * (z j - mean z)) + Ideal.ofBits FTy.f32 0x3727C5AC#32)) * (show EReal from g (ix2 0 d))
    + (show EReal from b (ix2 0 d))

/-- The weight of the row in a residual sum. -/
def alpha : EReal := Ideal.ofBits FTy.f32 0x3FB504F3#32

/-- The gated hidden value. -/
def hid {k : ℕ} (x : Fin 1024 → EReal) (wg wu : Mat 1024 k) (K : Fin k) : EReal := (dot x wg K * Ideal.logistic (dot x wg K)) * dot x wu K

/-- The feed-forward with the per-layer embedding, before the norm. -/
def denseSum (x : Fin 1024 → EReal) (p : Fin 256 → EReal) (wg wu : Mat 1024 2816) (wd : Mat 2816 1024) (pg : Mat 1024 1024) (pp : Mat 256 1024)
    (d : Fin 1024) : EReal :=
  (alpha * x d + dot (hid x wg wu) wd d) + Ideal.logistic (dot x pg d) * dot p pp d

/-- One branch's gate at a channel. -/
def gate (x : Fin 1024 → EReal) (w : Mat 1024 4096) (i : Fin 4) (d : Fin 1024) : EReal :=
  Ideal.logistic (∑ j : Fin 1024, x j * (show EReal from w (ix2 j ⟨i.val * 1024 + d.val, by omega⟩)))

/-- The four gated branches' sum. -/
def merged (x : Fin 1024 → EReal) (w : Mat 1024 4096) (ya yb yc : Fin 256 → EReal) (yd : Fin 512 → EReal) (wa wb wc : Mat 256 1024) (wd : Mat 512 1024)
    (d : Fin 1024) : EReal :=
  ((gate x w 0 d * dot ya wa d + gate x w 1 d * dot yb wb d) + gate x w 2 d * dot yc wc d) + gate x w 3 d * dot yd wd d

/-- The merge's residual sum, before the norm. -/
def mergeSum (x : Fin 1024 → EReal) (w : Mat 1024 4096) (ya yb yc : Fin 256 → EReal) (yd : Fin 512 → EReal) (wa wb wc : Mat 256 1024) (wd : Mat 512 1024)
    (wo : Mat 1024 1024) (d : Fin 1024) : EReal :=
  alpha * x d + dot (merged x w ya yb yc yd wa wb wc wd) wo d

/-- A row of an array. -/
def row {n k : ℕ} {f : FTy} (x : FVec Ideal (⟨2, ![n, k]⟩ : Shape) f) (R : Fin n) (j : Fin k) : EReal := x (ix2 R j)

theorem norm_congr {z z' : Fin 1024 → EReal} (h : ∀ j, z j = z' j) (g b : Real2 1 1024) (d : Fin 1024) : normRow z g b d = normRow z' g b d := by
  rw [funext h]

end Cert.Proof.RowSpec

end
-- ==== Proof.DenseRef.lean ====
/- The dense feed-forward's reference read row by row. -/
module

public import proofs.«01_k».proof.Proof.Gen.DenseReferenceIdeal.Run
public import proofs.«01_k».proof.Proof.RowSpec

@[expose] public section

noncomputable section

namespace Cert.DenseReferenceIdeal.Rows

open Cert.DenseReferenceIdeal Cert.DenseReferenceIdeal.Gen Idealize.ShloMosaic Idealize.ShloMosaic.TcCoe Idealize.SL.Sem Idealize.ShloMosaic.Tactic
open Cert.Proof.RowSpec

/-- Each row's mean. -/
def means (z : FVec Ideal S65536x1024 .f32) : FVec Ideal S65536x1 .f32 :=
  Host.divf (broadcastInDim S65536x1 ![0] bcast_S65536_S65536x1_0 (Host.reduceAdd z (constant S_ .f32 0x00000000#32) reducesTo_S65536x1024_S65536_d1 h_S_))
    (broadcastInDim S65536x1 ![] bcast_S_S65536x1 (constant S_ .f32 0x44800000#32))

/-- Each row less its mean. -/
def centred (z : FVec Ideal S65536x1024 .f32) : FVec Ideal S65536x1024 .f32 :=
  subf z (broadcastInDim S65536x1024 ![0, 1] bcast_S65536x1_S65536x1024_0_1 (means z))

/-- The rows normalised. -/
def normed (z : FVec Ideal S65536x1024 .f32) (g b : FVec Ideal S1x1024 .f32) : FVec Ideal S65536x1024 .f32 :=
  addf (mulf (mulf (centred z) (broadcastInDim S65536x1024 ![0, 1] bcast_S65536x1_S65536x1024_0_1
      (Host.rsqrt (addf (means (mulf (centred z) (centred z))) (broadcastInDim S65536x1 ![] bcast_S_S65536x1 (constant S_ .f32 0x3727C5AC#32))))))
    (broadcastInDim S65536x1024 ![0, 1] bcast_S1x1024_S65536x1024_0_1 g)) (broadcastInDim S65536x1024 ![0, 1] bcast_S1x1024_S65536x1024_0_1 b)

theorem means_at (z : FVec Ideal S65536x1024 .f32) (R : Fin 65536) : means z (ix2 R 0) = mean (row z R) := by
  pointwise [means, mean, row]

theorem centred_at (z : FVec Ideal S65536x1024 .f32) (R : Fin 65536) (d : Fin 1024) :
    centred z (ix2 R d) = row z R d - mean (row z R) := by
  rw [← means_at]
  pointwise [centred, row]

theorem square_at (z : FVec Ideal S65536x1024 .f32) (R : Fin 65536) :
    row (mulf (centred z) (centred z)) R = fun j => (row z R j - mean (row z R)) * (row z R j - mean (row z R)) := by
  funext j
  rw [← centred_at]
  rfl

theorem normed_at (z : FVec Ideal S65536x1024 .f32) (g b : FVec Ideal S1x1024 .f32) (R : Fin 65536) (d : Fin 1024) :
    normed z g b (ix2 R d) = normRow (row z R) g b d := by
  unfold normRow
  rw [← square_at, ← centred_at, ← means_at]
  pointwise [normed]

def wide (x : FVec Ideal S65536x1024 .f32) (w : FVec Ideal S1024x2816 .bf16) : FVec Ideal S65536x2816 .f32 :=
  Host.dotGeneral dot_S65536x1024_S1024x2816_S65536x2816_1_0_0_1_n_n none x (extf .f32 w bitsLt_bf16_f32)

def back (x : FVec Ideal S65536x2816 .f32) (w : FVec Ideal S2816x1024 .bf16) : FVec Ideal S65536x1024 .f32 :=
  Host.dotGeneral dot_S65536x2816_S2816x1024_S65536x1024_1_0_0_1_n_n none x (extf .f32 w bitsLt_bf16_f32)

def square (x : FVec Ideal S65536x1024 .f32) (w : FVec Ideal S1024x1024 .bf16) : FVec Ideal S65536x1024 .f32 :=
  Host.dotGeneral dot_S65536x1024_S1024x1024_S65536x1024_1_0_0_1_n_n none x (extf .f32 w bitsLt_bf16_f32)

def embed (x : FVec Ideal S65536x256 .f32) (w : FVec Ideal S256x1024 .bf16) : FVec Ideal S65536x1024 .f32 :=
  Host.dotGeneral dot_S65536x256_S256x1024_S65536x1024_1_0_0_1_n_n none x (extf .f32 w bitsLt_bf16_f32)

theorem wide_at (x : FVec Ideal S65536x1024 .f32) (w : FVec Ideal S1024x2816 .bf16) (R : Fin 65536) (d : Fin 2816) :
    wide x w (ix2 R d) = dot (row x R) w d := by
  pointwise [wide, dot, row]

theorem back_at (x : FVec Ideal S65536x2816 .f32) (w : FVec Ideal S2816x1024 .bf16) (R : Fin 65536) (d : Fin 1024) :
    back x w (ix2 R d) = dot (row x R) w d := by
  pointwise [back, dot, row]

theorem square_dot_at (x : FVec Ideal S65536x1024 .f32) (w : FVec Ideal S1024x1024 .bf16) (R : Fin 65536) (d : Fin 1024) :
    square x w (ix2 R d) = dot (row x R) w d := by
  pointwise [square, dot, row]

theorem embed_at (x : FVec Ideal S65536x256 .f32) (w : FVec Ideal S256x1024 .bf16) (R : Fin 65536) (d : Fin 1024) :
    embed x w (ix2 R d) = dot (row x R) w d := by
  pointwise [embed, dot, row]

/-- The gated hidden values. -/
def gated (g u : FVec Ideal S65536x2816 .f32) : FVec Ideal S65536x2816 .f32 :=
  mulf (mulf g (Host.divf (broadcastInDim S65536x2816 ![] bcast_S_S65536x2816 (constant S_ .f32 0x3F800000#32))
    (addf (broadcastInDim S65536x2816 ![] bcast_S_S65536x2816 (constant S_ .f32 0x3F800000#32)) (Host.exp (Host.negf g))))) u

theorem gated_at (g u : FVec Ideal S65536x2816 .f32) (R : Fin 65536) (K : Fin 2816) :
    gated g u (ix2 R K) = ((show EReal from g (ix2 R K)) * Ideal.logistic (g (ix2 R K))) * (show EReal from u (ix2 R K)) := by
  pointwise [gated, Ideal.logistic]

/-- The residual sum. -/
def sums (x f q e : FVec Ideal S65536x1024 .f32) : FVec Ideal S65536x1024 .f32 :=
  addf (addf (mulf (broadcastInDim S65536x1024 ![] bcast_S_S65536x1024 (constant S_ .f32 0x3FB504F3#32)) x) f)
    (mulf (Host.divf (broadcastInDim S65536x1024 ![] bcast_S_S65536x1024 (constant S_ .f32 0x3F800000#32))
      (addf (broadcastInDim S65536x1024 ![] bcast_S_S65536x1024 (constant S_ .f32 0x3F800000#32)) (Host.exp (Host.negf q)))) e)

theorem sums_at (x f q e : FVec Ideal S65536x1024 .f32) (R : Fin 65536) (d : Fin 1024) :
    sums x f q e (ix2 R d) = (alpha * (show EReal from x (ix2 R d)) + (show EReal from f (ix2 R d)))
      + Ideal.logistic (q (ix2 R d)) * (show EReal from e (ix2 R d)) := by
  pointwise [sums, alpha, Ideal.logistic]

/-- The reference's result. -/
def result (x : FVec Ideal S65536x1024 .f32) (wg wu : FVec Ideal S1024x2816 .bf16) (wd : FVec Ideal S2816x1024 .bf16) (p : FVec Ideal S65536x256 .f32)
    (pg : FVec Ideal S1024x1024 .bf16) (pp : FVec Ideal S256x1024 .bf16) (g b : FVec Ideal S1x1024 .f32) : FVec Ideal S65536x1024 .f32 :=
  normed (sums x (back (gated (wide x wg) (wide x wu)) wd) (square x pg) (embed p pp)) g b

theorem result_at (x : FVec Ideal S65536x1024 .f32) (wg wu : FVec Ideal S1024x2816 .bf16) (wd : FVec Ideal S2816x1024 .bf16) (p : FVec Ideal S65536x256 .f32)
    (pg : FVec Ideal S1024x1024 .bf16) (pp : FVec Ideal S256x1024 .bf16) (g b : FVec Ideal S1x1024 .f32) (R : Fin 65536) (d : Fin 1024) :
    result x wg wu wd p pg pp g b (ix2 R d) = normRow (denseSum (row x R) (row p R) wg wu wd pg pp) g b d := by
  unfold result
  rw [normed_at]
  refine norm_congr (fun j => ?_) g b d
  refine (sums_at _ _ _ _ R j).trans ?_
  have hh : row (gated (wide x wg) (wide x wu)) R = hid (row x R) wg wu := by
    funext K
    refine (gated_at _ _ R K).trans ?_
    rw [wide_at, wide_at]
    rfl
  rw [back_at, hh, square_dot_at, embed_at]
  rfl

theorem res_eq (m : (ℓ : Loc nD τ sig) → Buf (Elt Ideal) ℓ) (c : Dev nD) :
    Value.res_main_v44 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

end Cert.DenseReferenceIdeal.Rows

end
-- ==== Proof.MergeRef.lean ====
/- The merge's reference read row by row. -/
module

public import proofs.«01_k».proof.Proof.Gen.MergeReferenceIdeal.Run
public import proofs.«01_k».proof.Proof.DenseRef

@[expose] public section

noncomputable section

namespace Cert.MergeReferenceIdeal.Rows

open Cert.MergeReferenceIdeal Cert.MergeReferenceIdeal.Gen Idealize.ShloMosaic Idealize.ShloMosaic.TcCoe Idealize.SL.Sem Idealize.ShloMosaic.Tactic
open Cert.Proof.RowSpec

/-- The gates' projections, all four branches side by side. -/
def logits (x : FVec Ideal S65536x1024 .f32) (w : FVec Ideal S1024x4096 .bf16) : FVec Ideal S65536x4096 .f32 :=
  Host.dotGeneral dot_S65536x1024_S1024x4096_S65536x4096_1_0_0_1_n_n none x (extf .f32 w bitsLt_bf16_f32)

theorem logits_at (x : FVec Ideal S65536x1024 .f32) (w : FVec Ideal S1024x4096 .bf16) (R : Fin 65536) (k : Fin 4096) :
    logits x w (ix2 R k) = dot (row x R) w k := by
  pointwise [logits, dot, row]

/-- The gates, by branch. -/
def gates (z : FVec Ideal S65536x4096 .f32) : FVec Ideal S65536x4x1024 .f32 :=
  Host.divf (broadcastInDim S65536x4x1024 ![] bcast_S_S65536x4x1024 (constant S_ .f32 0x3F800000#32))
    (addf (broadcastInDim S65536x4x1024 ![] bcast_S_S65536x4x1024 (constant S_ .f32 0x3F800000#32))
      (Host.exp (Host.negf (shapeCast _ z shapeCasts_S65536x4096_S65536x4x1024))))

theorem gates_at (z : FVec Ideal S65536x4096 .f32) (R : Fin 65536) (i : Fin 4) (d : Fin 1024) :
    gates z (ix3 R i d) = Ideal.logistic (z (ix2 R ⟨i.val * 1024 + d.val, by omega⟩)) := by
  pointwise [gates, Ideal.logistic]

def gate0 (z : FVec Ideal S65536x4x1024 .f32) : FVec Ideal S65536x1024 .f32 :=
  shapeCast _ (extractStridedSlice S65536x1x1024 ![0, 0, 0] z slices_S65536x4x1024_S65536x1x1024_0_0_0) shapeCasts_S65536x1x1024_S65536x1024
def gate1 (z : FVec Ideal S65536x4x1024 .f32) : FVec Ideal S65536x1024 .f32 :=
  shapeCast _ (extractStridedSlice S65536x1x1024 ![0, 1, 0] z slices_S65536x4x1024_S65536x1x1024_0_1_0) shapeCasts_S65536x1x1024_S65536x1024
def gate2 (z : FVec Ideal S65536x4x1024 .f32) : FVec Ideal S65536x1024 .f32 :=
  shapeCast _ (extractStridedSlice S65536x1x1024 ![0, 2, 0] z slices_S65536x4x1024_S65536x1x1024_0_2_0) shapeCasts_S65536x1x1024_S65536x1024
def gate3 (z : FVec Ideal S65536x4x1024 .f32) : FVec Ideal S65536x1024 .f32 :=
  shapeCast _ (extractStridedSlice S65536x1x1024 ![0, 3, 0] z slices_S65536x4x1024_S65536x1x1024_0_3_0) shapeCasts_S65536x1x1024_S65536x1024

theorem gate0_at (z : FVec Ideal S65536x4x1024 .f32) (R : Fin 65536) (d : Fin 1024) : gate0 z (ix2 R d) = z (ix3 R 0 d) := by
  pointwise [gate0]
theorem gate1_at (z : FVec Ideal S65536x4x1024 .f32) (R : Fin 65536) (d : Fin 1024) : gate1 z (ix2 R d) = z (ix3 R 1 d) := by
  pointwise [gate1]
theorem gate2_at (z : FVec Ideal S65536x4x1024 .f32) (R : Fin 65536) (d : Fin 1024) : gate2 z (ix2 R d) = z (ix3 R 2 d) := by
  pointwise [gate2]
theorem gate3_at (z : FVec Ideal S65536x4x1024 .f32) (R : Fin 65536) (d : Fin 1024) : gate3 z (ix2 R d) = z (ix3 R 3 d) := by
  pointwise [gate3]

def narrow (y : FVec Ideal S65536x256 .bf16) (w : FVec Ideal S256x1024 .bf16) : FVec Ideal S65536x1024 .f32 :=
  Host.dotGeneral dot_S65536x256_S256x1024_S65536x1024_1_0_0_1_n_n none (extf .f32 y bitsLt_bf16_f32) (extf .f32 w bitsLt_bf16_f32)

def double (y : FVec Ideal S65536x512 .bf16) (w : FVec Ideal S512x1024 .bf16) : FVec Ideal S65536x1024 .f32 :=
  Host.dotGeneral dot_S65536x512_S512x1024_S65536x1024_1_0_0_1_n_n none (extf .f32 y bitsLt_bf16_f32) (extf .f32 w bitsLt_bf16_f32)

def square (x : FVec Ideal S65536x1024 .f32) (w : FVec Ideal S1024x1024 .bf16) : FVec Ideal S65536x1024 .f32 :=
  Host.dotGeneral dot_S65536x1024_S1024x1024_S65536x1024_1_0_0_1_n_n none x (extf .f32 w bitsLt_bf16_f32)

theorem narrow_at (y : FVec Ideal S65536x256 .bf16) (w : FVec Ideal S256x1024 .bf16) (R : Fin 65536) (d : Fin 1024) :
    narrow y w (ix2 R d) = dot (row y R) w d := by
  pointwise [narrow, dot, row]

theorem double_at (y : FVec Ideal S65536x512 .bf16) (w : FVec Ideal S512x1024 .bf16) (R : Fin 65536) (d : Fin 1024) :
    double y w (ix2 R d) = dot (row y R) w d := by
  pointwise [double, dot, row]

theorem square_at (x : FVec Ideal S65536x1024 .f32) (w : FVec Ideal S1024x1024 .bf16) (R : Fin 65536) (d : Fin 1024) :
    square x w (ix2 R d) = dot (row x R) w d := by
  pointwise [square, dot, row]

/-- The gated branches' sum. -/
def total (g : FVec Ideal S65536x4x1024 .f32) (a b c d : FVec Ideal S65536x1024 .f32) : FVec Ideal S65536x1024 .f32 :=
  addf (addf (addf (mulf (gate0 g) a) (mulf (gate1 g) b)) (mulf (gate2 g) c)) (mulf (gate3 g) d)

theorem total_at (g : FVec Ideal S65536x4x1024 .f32) (a b c d : FVec Ideal S65536x1024 .f32) (R : Fin 65536) (l : Fin 1024) :
    total g a b c d (ix2 R l) = (((show EReal from g (ix3 R 0 l)) * (show EReal from a (ix2 R l)) + (show EReal from g (ix3 R 1 l)) * (show EReal from b (ix2 R l)))
      + (show EReal from g (ix3 R 2 l)) * (show EReal from c (ix2 R l))) + (show EReal from g (ix3 R 3 l)) * (show EReal from d (ix2 R l)) := by
  rw [show (g (ix3 R 0 l) : EReal) = _ from (gate0_at g R l).symm, show (g (ix3 R 1 l) : EReal) = _ from (gate1_at g R l).symm,
    show (g (ix3 R 2 l) : EReal) = _ from (gate2_at g R l).symm, show (g (ix3 R 3 l) : EReal) = _ from (gate3_at g R l).symm]
  rfl

/-- The residual sum. -/
def sums (x o : FVec Ideal S65536x1024 .f32) : FVec Ideal S65536x1024 .f32 :=
  addf (mulf (broadcastInDim S65536x1024 ![] bcast_S_S65536x1024 (constant S_ .f32 0x3FB504F3#32)) x) o

theorem sums_at (x o : FVec Ideal S65536x1024 .f32) (R : Fin 65536) (d : Fin 1024) :
    sums x o (ix2 R d) = alpha * (show EReal from x (ix2 R d)) + (show EReal from o (ix2 R d)) := by
  pointwise [sums, alpha]

/-- The reference's result. -/
def result (x : FVec Ideal S65536x1024 .f32) (w : FVec Ideal S1024x4096 .bf16) (ya yb yc : FVec Ideal S65536x256 .bf16) (yd : FVec Ideal S65536x512 .bf16)
    (wa wb wc : FVec Ideal S256x1024 .bf16) (wd : FVec Ideal S512x1024 .bf16) (wo : FVec Ideal S1024x1024 .bf16) (g b : FVec Ideal S1x1024 .f32) :
    FVec Ideal S65536x1024 .f32 :=
  Cert.DenseReferenceIdeal.Rows.normed
    (sums x (square (total (gates (logits x w)) (narrow ya wa) (narrow yb wb) (narrow yc wc) (double yd wd)) wo)) g b

theorem result_at (x : FVec Ideal S65536x1024 .f32) (w : FVec Ideal S1024x4096 .bf16) (ya yb yc : FVec Ideal S65536x256 .bf16) (yd : FVec Ideal S65536x512 .bf16)
    (wa wb wc : FVec Ideal S256x1024 .bf16) (wd : FVec Ideal S512x1024 .bf16) (wo : FVec Ideal S1024x1024 .bf16) (g b : FVec Ideal S1x1024 .f32)
    (R : Fin 65536) (d : Fin 1024) :
    result x w ya yb yc yd wa wb wc wd wo g b (ix2 R d)
      = normRow (mergeSum (row x R) w (row ya R) (row yb R) (row yc R) (row yd R) wa wb wc wd wo) g b d := by
  unfold result
  rw [Cert.DenseReferenceIdeal.Rows.normed_at]
  refine norm_congr (fun j => ?_) g b d
  refine (sums_at _ _ R j).trans ?_
  have hh : row (total (gates (logits x w)) (narrow ya wa) (narrow yb wb) (narrow yc wc) (double yd wd)) R
      = merged (row x R) w (row ya R) (row yb R) (row yc R) (row yd R) wa wb wc wd := by
    funext l
    refine (total_at _ _ _ _ _ R l).trans ?_
    rw [narrow_at, narrow_at, narrow_at, double_at, gates_at, gates_at, gates_at, gates_at, logits_at, logits_at, logits_at, logits_at]
    rfl
  rw [square_at, hh]
  rfl

theorem res_eq (m : (ℓ : Loc nD τ sig) → Buf (Elt Ideal) ℓ) (c : Dev nD) :
    Value.res_main_v62 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) (m ((c.tc : Thread nD τ).loc main_arg9)) (m ((c.tc : Thread nD τ).loc main_arg10))
      (m ((c.tc : Thread nD τ).loc main_arg11)) (m ((c.tc : Thread nD τ).loc main_arg12)) := rfl

end Cert.MergeReferenceIdeal.Rows

end
-- ==== Proof.MergeFinal.lean ====
/- The merge's kernel: what one block stores, and the array it leaves. -/
module

public import proofs.«01_k».proof.Proof.Gen.MergeIdeal.Value
public import proofs.«01_k».proof.Proof.MergeRef
public import Idealize.ShloMosaic.Lib.Pipeline.ValueKit

@[expose] public section

set_option maxRecDepth 16384

noncomputable section

namespace Cert.MergeIdeal.Rows

open Cert.MergeIdeal Cert.MergeIdeal.Gen Idealize.ShloMosaic Idealize.ShloMosaic.TcCoe Idealize.SL.Sem Idealize.ShloMosaic.Tactic
open Cert.Proof.RowSpec

/-- Each row's mean. -/
def means (z : FVec Ideal S1024x1024 .f32) : FVec Ideal S1024x1 .f32 :=
  divf (shapeCast S1024x1 (multiReduction .add [1] S1024 z 0x00000000#32 reduces_S1024x1024_S1024 (.inl rfl) rfl) shapeCasts_S1024_S1024x1)
    (broadcast S1024x1 (Scalar.ofBits .f32 0x44800000#32))

/-- Each row less its mean. -/
def centred (z : FVec Ideal S1024x1024 .f32) : FVec Ideal S1024x1024 .f32 := subf z (broadcastTo S1024x1024 (means z) broadcasts_S1024x1_S1024x1024)

/-- The rows normalised. -/
def normed (z : FVec Ideal S1024x1024 .f32) (g b : FVec Ideal S1x1024 .f32) : FVec Ideal S1024x1024 .f32 :=
  addf (mulf (mulf (centred z) (broadcastTo S1024x1024
      (rsqrt (addf (means (mulf (centred z) (centred z))) (broadcast S1024x1 (Scalar.ofBits .f32 0x3727C5AC#32)))) broadcasts_S1024x1_S1024x1024))
    (broadcastTo S1024x1024 g broadcasts_S1x1024_S1024x1024)) (broadcastTo S1024x1024 b broadcasts_S1x1024_S1024x1024)

theorem means_at (z : FVec Ideal S1024x1024 .f32) (r : Fin 1024) : means z (ix2 r 0) = mean (row z r) := by
  pointwise [means, mean, row]

theorem centred_at (z : FVec Ideal S1024x1024 .f32) (r : Fin 1024) (d : Fin 1024) : centred z (ix2 r d) = row z r d - mean (row z r) := by
  rw [← means_at]
  pointwise [centred, row]

theorem square_at (z : FVec Ideal S1024x1024 .f32) (r : Fin 1024) :
    row (mulf (centred z) (centred z)) r = fun j => (row z r j - mean (row z r)) * (row z r j - mean (row z r)) := by
  funext j
  rw [← centred_at]
  rfl

theorem normed_at (z : FVec Ideal S1024x1024 .f32) (g b : FVec Ideal S1x1024 .f32) (r : Fin 1024) (d : Fin 1024) :
    normed z g b (ix2 r d) = normRow (row z r) g b d := by
  unfold normRow
  rw [← square_at, ← centred_at, ← means_at]
  pointwise [normed]

/-- A block's rows times a square matrix. -/
def square (x : FVec Ideal S1024x1024 .f32) (w : FVec Ideal S1024x1024 .bf16) : FVec Ideal S1024x1024 .f32 :=
  matmul dot_S1024x1024_S1024x1024_S1024x1024_1_0_0_1_n_n none (truncf .bf16 x bitsLt_bf16_f32) w (constant S1024x1024 .f32 0x00000000#32)

theorem square_dot (x : FVec Ideal S1024x1024 .f32) (w : FVec Ideal S1024x1024 .bf16) (r d : Fin 1024) : square x w (ix2 r d) = dot (row x r) w d := by
  pointwise [square, dot, row]

def narrow (y : FVec Ideal S1024x256 .bf16) (w : FVec Ideal S256x1024 .bf16) : FVec Ideal S1024x1024 .f32 :=
  matmul dot_S1024x256_S256x1024_S1024x1024_1_0_0_1_n_n none y w (constant S1024x1024 .f32 0x00000000#32)

theorem narrow_at (y : FVec Ideal S1024x256 .bf16) (w : FVec Ideal S256x1024 .bf16) (r d : Fin 1024) : narrow y w (ix2 r d) = dot (row y r) w d := by
  pointwise [narrow, dot, row]

def double (y : FVec Ideal S1024x512 .bf16) (w : FVec Ideal S512x1024 .bf16) : FVec Ideal S1024x1024 .f32 :=
  matmul dot_S1024x512_S512x1024_S1024x1024_1_0_0_1_n_n none y w (constant S1024x1024 .f32 0x00000000#32)

theorem double_at (y : FVec Ideal S1024x512 .bf16) (w : FVec Ideal S512x1024 .bf16) (r d : Fin 1024) : double y w (ix2 r d) = dot (row y r) w d := by
  pointwise [double, dot, row]

/-- The gated branches' sum, of the gates' four projections. -/
def total (q0 a q1 b q2 c q3 d : FVec Ideal S1024x1024 .f32) : FVec Ideal S1024x1024 .f32 :=
  addf (addf (addf (mulf (logistic q0) a) (mulf (logistic q1) b)) (mulf (logistic q2) c)) (mulf (logistic q3) d)

theorem total_at (q0 a q1 b q2 c q3 d : FVec Ideal S1024x1024 .f32) (r l : Fin 1024) :
    total q0 a q1 b q2 c q3 d (ix2 r l)
      = ((Ideal.logistic (q0 (ix2 r l)) * (show EReal from a (ix2 r l)) + Ideal.logistic (q1 (ix2 r l)) * (show EReal from b (ix2 r l)))
        + Ideal.logistic (q2 (ix2 r l)) * (show EReal from c (ix2 r l))) + Ideal.logistic (q3 (ix2 r l)) * (show EReal from d (ix2 r l)) := by
  pointwise [total]

/-- The residual sum. -/
def sums (x o : FVec Ideal S1024x1024 .f32) : FVec Ideal S1024x1024 .f32 :=
  addf (mulf (broadcast S1024x1024 (Scalar.ofBits .f32 0x3FB504F3#32)) x) o

theorem sums_at (x o : FVec Ideal S1024x1024 .f32) (r d : Fin 1024) :
    sums x o (ix2 r d) = alpha * (show EReal from x (ix2 r d)) + (show EReal from o (ix2 r d)) := by
  pointwise [sums, alpha]

/-- What one block stores. -/
def block (x : FVec Ideal S1024x1024 .f32) (w0 w1 w2 w3 : FVec Ideal S1024x1024 .bf16) (ya yb yc : FVec Ideal S1024x256 .bf16) (yd : FVec Ideal S1024x512 .bf16)
    (wa wb wc : FVec Ideal S256x1024 .bf16) (wd : FVec Ideal S512x1024 .bf16) (wo : FVec Ideal S1024x1024 .bf16) (g b : FVec Ideal S1x1024 .f32) :
    FVec Ideal S1024x1024 .f32 :=
  normed (sums x (square (total (square x w0) (narrow ya wa) (square x w1) (narrow yb wb) (square x w2) (narrow yc wc) (square x w3) (double yd wd)) wo)) g b

theorem pay_eq (x : FVec Ideal S1024x1024 .f32) (w0 w1 w2 w3 : FVec Ideal S1024x1024 .bf16) (ya yb yc : FVec Ideal S1024x256 .bf16) (yd : FVec Ideal S1024x512 .bf16)
    (wa wb wc : FVec Ideal S256x1024 .bf16) (wd : FVec Ideal S512x1024 .bf16) (wo : FVec Ideal S1024x1024 .bf16) (g b : FVec Ideal S1x1024 .f32) :
    k0_pay1 (F := Ideal) x (k0_pay3 (F := Ideal) x w0 ya wa w1 yb wb w2 yc wc) (k0_pay4 (F := Ideal) x w3) yd wd wo g b
      = block x w0 w1 w2 w3 ya yb yc yd wa wb wc wd wo g b := rfl

/-- The columns of one branch's gate. -/
def Part (w : FVec Ideal S1024x4096 .bf16) (i : Fin 4) (q : FVec Ideal S1024x1024 .bf16) : Prop :=
  ∀ j d : Fin 1024, q (ix2 j d) = w (ix2 j ⟨i.val * 1024 + d.val, by omega⟩)

theorem part_gate (x : Fin 1024 → EReal) (w : FVec Ideal S1024x4096 .bf16) (i : Fin 4) (q : FVec Ideal S1024x1024 .bf16) (h : Part w i q) (d : Fin 1024) :
    Ideal.logistic (dot x q d) = gate x w i d :=
  congrArg Ideal.logistic (Finset.sum_congr rfl fun j _ => congrArg (fun a : EReal => x j * a) (h j d))

theorem block_at (x : FVec Ideal S1024x1024 .f32) (w : FVec Ideal S1024x4096 .bf16) (w0 w1 w2 w3 : FVec Ideal S1024x1024 .bf16)
    (ya yb yc : FVec Ideal S1024x256 .bf16) (yd : FVec Ideal S1024x512 .bf16)
    (wa wb wc : FVec Ideal S256x1024 .bf16) (wd : FVec Ideal S512x1024 .bf16) (wo : FVec Ideal S1024x1024 .bf16) (g b : FVec Ideal S1x1024 .f32)
    (h0 : Part w 0 w0) (h1 : Part w 1 w1) (h2 : Part w 2 w2) (h3 : Part w 3 w3) (r d : Fin 1024) :
    block x w0 w1 w2 w3 ya yb yc yd wa wb wc wd wo g b (ix2 r d)
      = normRow (mergeSum (row x r) w (row ya r) (row yb r) (row yc r) (row yd r) wa wb wc wd wo) g b d := by
  unfold block
  rw [normed_at]
  refine norm_congr (fun j => ?_) g b d
  refine (sums_at _ _ r j).trans ?_
  have hh : row (total (square x w0) (narrow ya wa) (square x w1) (narrow yb wb) (square x w2) (narrow yc wc) (square x w3) (double yd wd)) r
      = merged (row x r) w (row ya r) (row yb r) (row yc r) (row yd r) wa wb wc wd := by
    funext l
    refine (total_at _ _ _ _ _ _ _ _ r l).trans ?_
    rw [narrow_at, narrow_at, narrow_at, double_at, square_dot, square_dot, square_dot, square_dot,
      part_gate _ w 0 w0 h0, part_gate _ w 1 w1 h1, part_gate _ w 2 w2 h2, part_gate _ w 3 w3 h3]
    rfl
  rw [square_dot, hh]
  rfl

/-- The columns of branch 0. -/
def cols0 (w : Vec Ideal S1024x4096 .bf16) : Vec Ideal S1024x1024 .bf16 := View.ld w r0_1

theorem part0 (w : Vec Ideal S1024x4096 .bf16) : Part w 0 (cols0 w) := fun j d =>
  congrArg w (funext fun a => Fin.ext (match a with
    | ⟨0, _⟩ => (Nat.zero_add _).trans (Nat.one_mul _)
    | ⟨1, _⟩ => congrArg (0 + ·) (Nat.one_mul _)))

/-- The columns of branch 1. -/
def cols1 (w : Vec Ideal S1024x4096 .bf16) : Vec Ideal S1024x1024 .bf16 := View.ld w r0_4

theorem part1 (w : Vec Ideal S1024x4096 .bf16) : Part w 1 (cols1 w) := fun j d =>
  congrArg w (funext fun a => Fin.ext (match a with
    | ⟨0, _⟩ => (Nat.zero_add _).trans (Nat.one_mul _)
    | ⟨1, _⟩ => congrArg (1024 + ·) (Nat.one_mul _)))

/-- The columns of branch 2. -/
def cols2 (w : Vec Ideal S1024x4096 .bf16) : Vec Ideal S1024x1024 .bf16 := View.ld w r0_5

theorem part2 (w : Vec Ideal S1024x4096 .bf16) : Part w 2 (cols2 w) := fun j d =>
  congrArg w (funext fun a => Fin.ext (match a with
    | ⟨0, _⟩ => (Nat.zero_add _).trans (Nat.one_mul _)
    | ⟨1, _⟩ => congrArg (2048 + ·) (Nat.one_mul _)))

/-- The columns of branch 3. -/
def cols3 (w : Vec Ideal S1024x4096 .bf16) : Vec Ideal S1024x1024 .bf16 := View.ld w r0_6

theorem part3 (w : Vec Ideal S1024x4096 .bf16) : Part w 3 (cols3 w) := fun j d =>
  congrArg w (funext fun a => Fin.ext (match a with
    | ⟨0, _⟩ => (Nat.zero_add _).trans (Nat.one_mul _)
    | ⟨1, _⟩ => congrArg (3072 + ·) (Nat.one_mul _)))

theorem out_at (x : FVec Ideal S1024x1024 .f32) (w : FVec Ideal S1024x4096 .bf16) (ya yb yc : FVec Ideal S1024x256 .bf16) (yd : FVec Ideal S1024x512 .bf16)
    (wa wb wc : FVec Ideal S256x1024 .bf16) (wd : FVec Ideal S512x1024 .bf16) (wo : FVec Ideal S1024x1024 .bf16) (g b : FVec Ideal S1x1024 .f32)
    (r d : Fin 1024) :
    out0_13 (F := Ideal) x w ya yb yc yd wa wb wc wd wo g b (ix2 r d)
      = normRow (mergeSum (row x r) w (row ya r) (row yb r) (row yc r) (row yd r) wa wb wc wd wo) g b d := by
  unfold out0_13
  frame_out
  exact (congrFun (pay_eq x (cols0 w) (cols1 w) (cols2 w) (cols3 w) ya yb yc yd wa wb wc wd wo g b) (ix2 r d)).trans
    (block_at x w _ _ _ _ ya yb yc yd wa wb wc wd wo g b (part0 w) (part1 w) (part2 w) (part3 w) r d)

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![t.val, 0]
    ∧ win0_4.index t = ![t.val, 0] ∧ win0_5.index t = ![t.val, 0] ∧ win0_6.index t = ![0, 0] ∧ win0_7.index t = ![0, 0] ∧ win0_8.index t = ![0, 0]
    ∧ win0_9.index t = ![0, 0] ∧ win0_10.index t = ![0, 0] ∧ win0_11.index t = ![0, 0] ∧ win0_12.index t = ![0, 0] ∧ win0_13.index t = ![t.val, 0] :=
  (by decide +kernel : ∀ t : Fin grid0.N, _)

/-- The launched rows. -/
abbrev x (c : Dev nD) : FVec Ideal S65536x1024 .f32 := m (c.tc.loc main_arg0)
/-- The launched branches. -/
abbrev ya (c : Dev nD) : FVec Ideal S65536x256 .bf16 := m (c.tc.loc main_arg2)
abbrev yb (c : Dev nD) : FVec Ideal S65536x256 .bf16 := m (c.tc.loc main_arg3)
abbrev yc (c : Dev nD) : FVec Ideal S65536x256 .bf16 := m (c.tc.loc main_arg4)
abbrev yd (c : Dev nD) : FVec Ideal S65536x512 .bf16 := m (c.tc.loc main_arg5)

theorem rows_at (c : Dev nD) (t : Fin cfg0.N) (r : Fin 1024) (hR : t.val * 1024 + r.val < 65536) :
    row (n := 1024) (k := 1024) (f := .f32) (iblk m c 0 t) r = row (x m c) ⟨t.val * 1024 + r.val, hR⟩ := by
  funext j
  unfold row
  blk_ext [iblk, V, idx t]

theorem ya_at (c : Dev nD) (t : Fin cfg0.N) (r : Fin 1024) (hR : t.val * 1024 + r.val < 65536) :
    row (n := 1024) (k := 256) (f := .bf16) (iblk m c 2 t) r = row (ya m c) ⟨t.val * 1024 + r.val, hR⟩ := by
  funext j
  unfold row
  blk_ext [iblk, V, idx t]

theorem yb_at (c : Dev nD) (t : Fin cfg0.N) (r : Fin 1024) (hR : t.val * 1024 + r.val < 65536) :
    row (n := 1024) (k := 256) (f := .bf16) (iblk m c 3 t) r = row (yb m c) ⟨t.val * 1024 + r.val, hR⟩ := by
  funext j
  unfold row
  blk_ext [iblk, V, idx t]

theorem yc_at (c : Dev nD) (t : Fin cfg0.N) (r : Fin 1024) (hR : t.val * 1024 + r.val < 65536) :
    row (n := 1024) (k := 256) (f := .bf16) (iblk m c 4 t) r = row (yc m c) ⟨t.val * 1024 + r.val, hR⟩ := by
  funext j
  unfold row
  blk_ext [iblk, V, idx t]

theorem yd_at (c : Dev nD) (t : Fin cfg0.N) (r : Fin 1024) (hR : t.val * 1024 + r.val < 65536) :
    row (n := 1024) (k := 512) (f := .bf16) (iblk m c 5 t) r = row (yd m c) ⟨t.val * 1024 + r.val, hR⟩ := by
  funext j
  unfold row
  blk_ext [iblk, V, idx t]

theorem whole1 (c : Dev nD) (t : Fin cfg0.N) : iblk m c 1 t = m (c.tc.loc main_arg1) := by
  funext y
  blk_ext [iblk, V, idx t]
theorem whole6 (c : Dev nD) (t : Fin cfg0.N) : iblk m c 6 t = m (c.tc.loc main_arg6) := by
  funext y
  blk_ext [iblk, V, idx t]
theorem whole7 (c : Dev nD) (t : Fin cfg0.N) : iblk m c 7 t = m (c.tc.loc main_arg7) := by
  funext y
  blk_ext [iblk, V, idx t]
theorem whole8 (c : Dev nD) (t : Fin cfg0.N) : iblk m c 8 t = m (c.tc.loc main_arg8) := by
  funext y
  blk_ext [iblk, V, idx t]
theorem whole9 (c : Dev nD) (t : Fin cfg0.N) : iblk m c 9 t = m (c.tc.loc main_arg9) := by
  funext y
  blk_ext [iblk, V, idx t]
theorem whole10 (c : Dev nD) (t : Fin cfg0.N) : iblk m c 10 t = m (c.tc.loc main_arg10) := by
  funext y
  blk_ext [iblk, V, idx t]
theorem whole11 (c : Dev nD) (t : Fin cfg0.N) : iblk m c 11 t = m (c.tc.loc main_arg11) := by
  funext y
  blk_ext [iblk, V, idx t]
theorem whole12 (c : Dev nD) (t : Fin cfg0.N) : iblk m c 12 t = m (c.tc.loc main_arg12) := by
  funext y
  blk_ext [iblk, V, idx t]

/-- The reference's result of the launched arrays. -/
abbrev want (c : Dev nD) : FVec Ideal S65536x1024 .f32 :=
  Cert.MergeReferenceIdeal.Rows.result (x m c) (m (c.tc.loc main_arg1)) (ya m c) (yb m c) (yc m c) (yd m c) (m (c.tc.loc main_arg6)) (m (c.tc.loc main_arg7))
    (m (c.tc.loc main_arg8)) (m (c.tc.loc main_arg9)) (m (c.tc.loc main_arg10)) (m (c.tc.loc main_arg11)) (m (c.tc.loc main_arg12))

/-- One grid point stores the reference's rows. -/
theorem point (c : Dev nD) (t : Fin cfg0.N) (r l : Fin 1024) (hR : t.val * 1024 + r.val < 65536) :
    out0_13 (F := Ideal) (iblk m c 0 t) (iblk m c 1 t) (iblk m c 2 t) (iblk m c 3 t) (iblk m c 4 t) (iblk m c 5 t) (iblk m c 6 t) (iblk m c 7 t)
      (iblk m c 8 t) (iblk m c 9 t) (iblk m c 10 t) (iblk m c 11 t) (iblk m c 12 t) (ix2 r l) = want m c (ix2 ⟨t.val * 1024 + r.val, hR⟩ l) := by
  refine (out_at _ _ _ _ _ _ _ _ _ _ _ _ _ r l).trans ?_
  refine Eq.trans ?_ (Cert.MergeReferenceIdeal.Rows.result_at _ _ _ _ _ _ _ _ _ _ _ _ _ _ l).symm
  rw [rows_at m c t r hR, ya_at m c t r hR, yb_at m c t r hR, yc_at m c t r hR, yd_at m c t r hR, whole1, whole6, whole7, whole8, whole9, whole10, whole11,
    whole12]

/-- What the kernel leaves in its result. -/
theorem final (c : Dev nD) : (dats m 0 c).arrAt 13 cfg0.N = want m c := by
  refine (dats m 0 c).arrAt_eq_of_covers 13 (want m c) (by decide +kernel) fun t _ y => ?_
  blk_simp
  rw [after0_13]
  obtain ⟨r, l, rfl⟩ : ∃ r l : Fin 1024, y = ix2 r l := ⟨y 0, y 1, (ix2_eta y).symm⟩
  refine (point m c t r l (by have := t.isLt; have : cfg0.grid.N = 64 := rfl; omega)).trans ?_
  blk_ext [idx t]

end Cert.MergeIdeal.Rows

end
-- ==== Proof.DenseFinal.lean ====
/- The dense feed-forward's kernel: what one block stores, and the array it leaves. -/
module

public import proofs.«01_k».proof.Proof.Gen.DenseIdeal.Value
public import proofs.«01_k».proof.Proof.DenseRef
public import Idealize.ShloMosaic.Lib.Pipeline.ValueKit

@[expose] public section

set_option maxRecDepth 16384

noncomputable section

namespace Cert.DenseIdeal.Rows

open Cert.DenseIdeal Cert.DenseIdeal.Gen Idealize.ShloMosaic Idealize.ShloMosaic.TcCoe Idealize.SL.Sem Idealize.ShloMosaic.Tactic
open Cert.Proof.RowSpec

/-- Each row's mean. -/
def means (z : FVec Ideal S512x1024 .f32) : FVec Ideal S512x1 .f32 :=
  divf (shapeCast S512x1 (multiReduction .add [1] S512 z 0x00000000#32 reduces_S512x1024_S512 (.inl rfl) rfl) shapeCasts_S512_S512x1)
    (broadcast S512x1 (Scalar.ofBits .f32 0x44800000#32))

/-- Each row less its mean. -/
def centred (z : FVec Ideal S512x1024 .f32) : FVec Ideal S512x1024 .f32 := subf z (broadcastTo S512x1024 (means z) broadcasts_S512x1_S512x1024)

/-- The rows normalised. -/
def normed (z : FVec Ideal S512x1024 .f32) (g b : FVec Ideal S1x1024 .f32) : FVec Ideal S512x1024 .f32 :=
  addf (mulf (mulf (centred z) (broadcastTo S512x1024
      (rsqrt (addf (means (mulf (centred z) (centred z))) (broadcast S512x1 (Scalar.ofBits .f32 0x3727C5AC#32)))) broadcasts_S512x1_S512x1024))
    (broadcastTo S512x1024 g broadcasts_S1x1024_S512x1024)) (broadcastTo S512x1024 b broadcasts_S1x1024_S512x1024)

theorem means_at (z : FVec Ideal S512x1024 .f32) (r : Fin 512) : means z (ix2 r 0) = mean (row z r) := by
  pointwise [means, mean, row]

theorem centred_at (z : FVec Ideal S512x1024 .f32) (r : Fin 512) (d : Fin 1024) : centred z (ix2 r d) = row z r d - mean (row z r) := by
  rw [← means_at]
  pointwise [centred, row]

theorem square_at (z : FVec Ideal S512x1024 .f32) (r : Fin 512) :
    row (mulf (centred z) (centred z)) r = fun j => (row z r j - mean (row z r)) * (row z r j - mean (row z r)) := by
  funext j
  rw [← centred_at]
  rfl

theorem normed_at (z : FVec Ideal S512x1024 .f32) (g b : FVec Ideal S1x1024 .f32) (r : Fin 512) (d : Fin 1024) :
    normed z g b (ix2 r d) = normRow (row z r) g b d := by
  unfold normRow
  rw [← square_at, ← centred_at, ← means_at]
  pointwise [normed]

/-- A block's residual sum. -/
def sums (xb : FVec Ideal S512x1024 .bf16) (pg : FVec Ideal S1024x1024 .bf16) (p : FVec Ideal S512x256 .f32) (pp : FVec Ideal S256x1024 .bf16)
    (x acc : FVec Ideal S512x1024 .f32) : FVec Ideal S512x1024 .f32 :=
  addf (addf (mulf (broadcast S512x1024 (Scalar.ofBits .f32 0x3FB504F3#32)) x) acc)
    (mulf (logistic (matmul dot_S512x1024_S1024x1024_S512x1024_1_0_0_1_n_n none xb pg (constant S512x1024 .f32 0x00000000#32)))
      (matmul dot_S512x256_S256x1024_S512x1024_1_0_0_1_n_n none (truncf .bf16 p bitsLt_bf16_f32) pp (constant S512x1024 .f32 0x00000000#32)))

theorem sums_at (xb : FVec Ideal S512x1024 .bf16) (pg : FVec Ideal S1024x1024 .bf16) (p : FVec Ideal S512x256 .f32) (pp : FVec Ideal S256x1024 .bf16)
    (x acc : FVec Ideal S512x1024 .f32) (r : Fin 512) (d : Fin 1024) :
    sums xb pg p pp x acc (ix2 r d) = (alpha * row x r d + row acc r d) + Ideal.logistic (dot (row xb r) pg d) * dot (row p r) pp d := by
  pointwise [sums, alpha, dot, row]

theorem pay4_eq (xb : FVec Ideal S512x1024 .bf16) (pg : FVec Ideal S1024x1024 .bf16) (p : FVec Ideal S512x256 .f32) (pp : FVec Ideal S256x1024 .bf16)
    (x acc : FVec Ideal S512x1024 .f32) (g b : FVec Ideal S1x1024 .f32) :
    k0_pay4 (F := Ideal) xb pg p pp x acc g b = normed (sums xb pg p pp x acc) g b := rfl

theorem pay3_at (xb : FVec Ideal S512x1024 .bf16) (wg wu : FVec Ideal S1024x2816 .bf16) (acc : FVec Ideal S512x1024 .f32) (wd : FVec Ideal S2816x1024 .bf16)
    (r : Fin 512) (d : Fin 1024) :
    k0_pay3 (F := Ideal) xb wg wu acc wd (ix2 r d) = row acc r d + dot (hid (row xb r) wg wu) wd d := by
  pointwise [k0_pay3, dot, hid, row]

theorem pay1_at (r : Fin 512) (d : Fin 1024) : k0_pay1 (F := Ideal) (ix2 r d) = (0 : EReal) := by
  pointwise [k0_pay1]

theorem pay2_at (x : FVec Ideal S512x1024 .f32) (r : Fin 512) : row (k0_pay2 (F := Ideal) x) r = row x r := by
  funext d
  unfold row
  pointwise [k0_pay2]

/-- What one block stores. -/
def block (x : FVec Ideal S512x1024 .f32) (wg wu : FVec Ideal S1024x2816 .bf16) (wd : FVec Ideal S2816x1024 .bf16) (p : FVec Ideal S512x256 .f32)
    (pg : FVec Ideal S1024x1024 .bf16) (pp : FVec Ideal S256x1024 .bf16) (g b : FVec Ideal S1x1024 .f32) : FVec Ideal S512x1024 .f32 :=
  k0_pay4 (F := Ideal) (k0_pay2 (F := Ideal) x) pg p pp x (k0_pay3 (F := Ideal) (k0_pay2 (F := Ideal) x) wg wu (k0_pay1 (F := Ideal)) wd) g b

theorem block_at (x : FVec Ideal S512x1024 .f32) (wg wu : FVec Ideal S1024x2816 .bf16) (wd : FVec Ideal S2816x1024 .bf16) (p : FVec Ideal S512x256 .f32)
    (pg : FVec Ideal S1024x1024 .bf16) (pp : FVec Ideal S256x1024 .bf16) (g b : FVec Ideal S1x1024 .f32) (r : Fin 512) (d : Fin 1024) :
    block x wg wu wd p pg pp g b (ix2 r d) = normRow (denseSum (row x r) (row p r) wg wu wd pg pp) g b d := by
  unfold block
  rw [pay4_eq, normed_at]
  refine norm_congr (fun j => ?_) g b d
  refine (sums_at _ _ _ _ _ _ r j).trans ?_
  have ha : row (k0_pay3 (F := Ideal) (k0_pay2 (F := Ideal) x) wg wu (k0_pay1 (F := Ideal)) wd) r j = dot (hid (row x r) wg wu) wd j := by
    refine (pay3_at _ _ _ _ _ r j).trans ?_
    rw [pay2_at]
    exact (congrArg (fun a : EReal => a + _) (pay1_at r j)).trans (zero_add _)
  rw [ha, pay2_at]
  rfl

variable (m : (ℓ : Loc nD τ sig) → Buf (Elt Ideal) ℓ)

theorem outs_eq (c : Dev nD) (t : Fin cfg0.N) :
    outsAt0 m c t = block (iblk m c 0 t) (iblk m c 1 t) (iblk m c 2 t) (iblk m c 3 t) (iblk m c 4 t) (iblk m c 5 t) (iblk m c 6 t) (iblk m c 7 t)
      (iblk m c 8 t) := by
  unfold outsAt0
  frame_out
  rfl

theorem idx : ∀ t : Fin cfg0.N, win0_0.index t = ![t.val, 0] ∧ win0_1.index t = ![0, 0] ∧ win0_2.index t = ![0, 0] ∧ win0_3.index t = ![0, 0]
    ∧ win0_4.index t = ![t.val, 0] ∧ win0_5.index t = ![0, 0] ∧ win0_6.index t = ![0, 0] ∧ win0_7.index t = ![0, 0] ∧ win0_8.index t = ![0, 0]
    ∧ win0_9.index t = ![t.val, 0] :=
  (by decide +kernel : ∀ t : Fin grid0.N, _)

/-- The launched rows. -/
abbrev x (c : Dev nD) : FVec Ideal S65536x1024 .f32 := m (c.tc.loc main_arg0)
/-- The launched per-layer embedding. -/
abbrev p (c : Dev nD) : FVec Ideal S65536x256 .f32 := m (c.tc.loc main_arg4)

theorem rows_at (c : Dev nD) (t : Fin cfg0.N) (r : Fin 512) (hR : t.val * 512 + r.val < 65536) :
    row (n := 512) (k := 1024) (f := .f32) (iblk m c 0 t) r = row (x m c) ⟨t.val * 512 + r.val, hR⟩ := by
  funext j
  unfold row
  blk_ext [iblk, V, idx t]

theorem embeds_at (c : Dev nD) (t : Fin cfg0.N) (r : Fin 512) (hR : t.val * 512 + r.val < 65536) :
    row (n := 512) (k := 256) (f := .f32) (iblk m c 4 t) r = row (p m c) ⟨t.val * 512 + r.val, hR⟩ := by
  funext j
  unfold row
  blk_ext [iblk, V, idx t]

theorem whole1 (c : Dev nD) (t : Fin cfg0.N) : iblk m c 1 t = m (c.tc.loc main_arg1) := by
  funext y
  blk_ext [iblk, V, idx t]
theorem whole2 (c : Dev nD) (t : Fin cfg0.N) : iblk m c 2 t = m (c.tc.loc main_arg2) := by
  funext y
  blk_ext [iblk, V, idx t]
theorem whole3 (c : Dev nD) (t : Fin cfg0.N) : iblk m c 3 t = m (c.tc.loc main_arg3) := by
  funext y
  blk_ext [iblk, V, idx t]
theorem whole5 (c : Dev nD) (t : Fin cfg0.N) : iblk m c 5 t = m (c.tc.loc main_arg5) := by
  funext y
  blk_ext [iblk, V, idx t]
theorem whole6 (c : Dev nD) (t : Fin cfg0.N) : iblk m c 6 t = m (c.tc.loc main_arg6) := by
  funext y
  blk_ext [iblk, V, idx t]
theorem whole7 (c : Dev nD) (t : Fin cfg0.N) : iblk m c 7 t = m (c.tc.loc main_arg7) := by
  funext y
  blk_ext [iblk, V, idx t]
theorem whole8 (c : Dev nD) (t : Fin cfg0.N) : iblk m c 8 t = m (c.tc.loc main_arg8) := by
  funext y
  blk_ext [iblk, V, idx t]

/-- The reference's result of the launched arrays. -/
abbrev want (c : Dev nD) : FVec Ideal S65536x1024 .f32 :=
  Cert.DenseReferenceIdeal.Rows.result (x m c) (m (c.tc.loc main_arg1)) (m (c.tc.loc main_arg2)) (m (c.tc.loc main_arg3)) (p m c) (m (c.tc.loc main_arg5))
    (m (c.tc.loc main_arg6)) (m (c.tc.loc main_arg7)) (m (c.tc.loc main_arg8))

/-- One grid point stores the reference's rows. -/
theorem point (c : Dev nD) (t : Fin cfg0.N) (r : Fin 512) (l : Fin 1024) (hR : t.val * 512 + r.val < 65536) :
    outsAt0 m c t (ix2 r l) = want m c (ix2 ⟨t.val * 512 + r.val, hR⟩ l) := by
  rw [outs_eq]
  refine (block_at _ _ _ _ _ _ _ _ _ r l).trans ?_
  refine Eq.trans ?_ (Cert.DenseReferenceIdeal.Rows.result_at _ _ _ _ _ _ _ _ _ _ l).symm
  rw [rows_at m c t r hR, embeds_at m c t r hR, whole1, whole2, whole3, whole5, whole6, whole7, whole8]

/-- What the kernel leaves in its result. -/
theorem final (c : Dev nD) : (dats m 0 c).arrAt 9 cfg0.N = want m c := by
  refine (dats m 0 c).arrAt_eq_of_covers 9 (want m c) (by decide +kernel) fun t _ y => ?_
  blk_simp
  rw [after0_9]
  obtain ⟨r, l, rfl⟩ : ∃ (r : Fin 512) (l : Fin 1024), y = ix2 r l := ⟨y 0, y 1, (ix2_eta y).symm⟩
  refine (point m c t r l (by have := t.isLt; have : cfg0.grid.N = 128 := rfl; omega)).trans ?_
  blk_ext [idx t]

end Cert.DenseIdeal.Rows

end
-- ==== Proof.ProjectFinal.lean ====
/- The input projection: every row times the weights, in the kernel block by block and in the reference at once. -/
module

public import proofs.«01_k».proof.Proof.Gen.ProjectIdeal.Value
public import proofs.«01_k».proof.Proof.Gen.ProjectReferenceIdeal.Run
public import proofs.«01_k».proof.Proof.RowSpec
public import Idealize.ShloMosaic.Lib.Pipeline.ValueKit

@[expose] public section

noncomputable section

namespace Cert.ProjectReferenceIdeal.Rows

open Cert.ProjectReferenceIdeal Cert.ProjectReferenceIdeal.Gen Idealize.ShloMosaic Idealize.ShloMosaic.Tactic
open Cert.Proof.RowSpec

/-- The reference's result. -/
def result (x : FVec Ideal S65536x1024 .f32) (w : FVec Ideal S1024x3584 .bf16) : FVec Ideal S65536x3584 .bf16 :=
  truncf .bf16 (Host.dotGeneral dot_S65536x1024_S1024x3584_S65536x3584_1_0_0_1_n_n none x (extf .f32 w bitsLt_bf16_f32)) bitsLt_bf16_f32

theorem result_at (x : FVec Ideal S65536x1024 .f32) (w : FVec Ideal S1024x3584 .bf16) (R : Fin 65536) (d : Fin 3584) :
    result x w (ix2 R d) = dot (row x R) w d := by
  pointwise [result, dot, row]

end Cert.ProjectReferenceIdeal.Rows

namespace Cert.ProjectIdeal.Rows

open Cert.ProjectIdeal Cert.ProjectIdeal.Gen Idealize.ShloMosaic Idealize.ShloMosaic.TcCoe Idealize.SL.Sem Idealize.ShloMosaic.Tactic
open Cert.Proof.RowSpec

/-- One block's product. -/
theorem block_at (x : FVec Ideal S1024x1024 .f32) (w : FVec Ideal S1024x3584 .bf16) (r : Fin 1024) (d : Fin 3584) :
    k0_pay1 (F := Ideal) x w (ix2 r d) = dot (row x r) w d := by
  pointwise [k0_pay1, dot, row]

theorem out_at (x : FVec Ideal S1024x1024 .f32) (w : FVec Ideal S1024x3584 .bf16) (r : Fin 1024) (d : Fin 3584) :
    out0_2 (F := Ideal) x w (ix2 r d) = dot (row x r) w d := by
  unfold out0_2
  frame_out
  exact block_at x w r d

variable (m : (ℓ : Loc nD τ sig) → Buf (Elt Ideal) ℓ)

theorem idx : ∀ t : Fin cfg0.N, win0_0.index t = ![t.val, 0] ∧ win0_1.index t = ![0, 0] ∧ win0_2.index t = ![t.val, 0] :=
  (by decide +kernel : ∀ t : Fin grid0.N, _)

/-- The launched rows. -/
abbrev x (c : Dev nD) : FVec Ideal S65536x1024 .f32 := m (c.tc.loc main_arg0)
/-- The launched weights. -/
abbrev w (c : Dev nD) : FVec Ideal S1024x3584 .bf16 := m (c.tc.loc main_arg1)

theorem rows_at (c : Dev nD) (t : Fin cfg0.N) (r : Fin 1024) (hR : t.val * 1024 + r.val < 65536) :
    row (n := 1024) (k := 1024) (f := .f32) (iblk m c 0 t) r = row (x m c) ⟨t.val * 1024 + r.val, hR⟩ := by
  funext j
  unfold row
  blk_ext [iblk, V, idx t]

theorem weights_at (c : Dev nD) (t : Fin cfg0.N) : iblk m c 1 t = w m c := by
  funext y
  blk_ext [iblk, V, idx t]

theorem final (c : Dev nD) : (dats m 0 c).arrAt 2 cfg0.N = Cert.ProjectReferenceIdeal.Rows.result (x m c) (w m c) := by
  refine (dats m 0 c).arrAt_eq_of_covers 2 (Cert.ProjectReferenceIdeal.Rows.result (x m c) (w m c)) (by decide +kernel) fun t _ y => ?_
  blk_simp
  rw [after0_2]
  obtain ⟨r, l, rfl⟩ : ∃ (r : Fin 1024) (l : Fin 3584), y = ix2 r l := ⟨y 0, y 1, (ix2_eta y).symm⟩
  have hR : t.val * 1024 + r.val < 65536 := by have := t.isLt; have : cfg0.grid.N = 64 := rfl; omega
  refine (out_at _ _ r l).trans ?_
  refine (congrArg₂ (fun a b => dot a b l) (rows_at m c t r hR) (weights_at m c t)).trans ?_
  refine (Cert.ProjectReferenceIdeal.Rows.result_at _ _ _ _).symm.trans ?_
  blk_ext [idx t]

end Cert.ProjectIdeal.Rows

end
-- ==== Proof.CombineRun.lean ====
/- The combination's run, both calls: its result is what the second call's points leave. -/
module

public import proofs.«01_k».proof.Proof.Gen.CombineIdeal.Frame

@[expose] public section

set_option maxRecDepth 16384

noncomputable section

namespace Cert.CombineIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
/-- The run with its result: the launch over the segments, the last boundary's contents read at the result and the arguments. -/
theorem run_value : θ_run defs (onTc (τ := τ) (main (F := F))) ⟨m, fun _ => 0, ρ⟩ (fun r => ∀ c : Dev nD,
      r.2.mem ((c.tc : Thread nD τ).loc main_v1) = (dat1 (V2 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m ρ c b)
    (hfin := fun c s' => by
      iintro ⟨⟨Hh, -⟩, HSI⟩
      unfold StableHlo.held
      imodintro
      iapply (pointsTo_read_all (Pipeline.ucRefs τ sig) (fun b => (((c : Thread nD τ)).1, b)) (W3 m ρ c) s')
      isplitl [Hh] <;> iassumption)
    (hQ := fun s h _ => fun c =>
      ⟨(h c _ (mem_uc main_v1 (by decide))).trans (W3_arr m ρ c 9),
       (h c _ (mem_uc main_arg0 (by decide))).trans (W3_main_arg0 m ρ c),
       (h c _ (mem_uc main_arg1 (by decide))).trans (W3_main_arg1 m ρ c),
       (h c _ (mem_uc main_arg2 (by decide))).trans (W3_main_arg2 m ρ c),
       (h c _ (mem_uc main_arg3 (by decide))).trans (W3_main_arg3 m ρ c),
       (h c _ (mem_uc main_arg4 (by decide))).trans (W3_main_arg4 m ρ c),
       (h c _ (mem_uc main_arg5 (by decide))).trans (W3_main_arg5 m ρ c),
       (h c _ (mem_uc main_arg6 (by decide))).trans (W3_main_arg6 m ρ c),
       (h c _ (mem_uc main_arg7 (by decide))).trans (W3_main_arg7 m ρ c),
       (h c _ (mem_uc main_arg8 (by decide))).trans (W3_main_arg8 m ρ c)⟩)

end Cert.CombineIdeal.Gen

end
-- ==== Proof.CombineRef.lean ====
/- The combination's reference read row by row. -/
module

public import proofs.«01_k».proof.Proof.Gen.CombineReferenceIdeal.Run
public import proofs.«01_k».proof.Proof.DenseRef
public import Idealize.ShloMosaic.Lib.Pipeline.ValueKit

@[expose] public section

noncomputable section

namespace Cert.Proof.RowSpec

open Idealize.ShloMosaic

/-- A row of slabs, its 8 slabs of 128 side by side. -/
def slab {n : ℕ} (a : FVec Ideal (⟨3, ![n, 8, 128]⟩ : Shape) .f32) (R : Fin n) (d : Fin 1024) : EReal :=
  a (ix3 R ⟨d.val / 128, by omega⟩ ⟨d.val % 128, by omega⟩)

/-- The weighted pair of expert rows with the residual and the per-layer embedding, before the norm. -/
def pairSum (x y0 y1 : Fin 1024 → EReal) (t : Fin 128 → EReal) (p : Fin 256 → EReal) (pg : Mat 1024 1024) (pp : Mat 256 1024) (d : Fin 1024) : EReal :=
  (alpha * x d + (t 4 * y0 d + t 5 * y1 d)) + Ideal.logistic (dot x pg d) * dot p pp d

end Cert.Proof.RowSpec

namespace Cert.CombineReferenceIdeal.Rows

open Cert.CombineReferenceIdeal Cert.CombineReferenceIdeal.Gen Idealize.ShloMosaic Idealize.ShloMosaic.TcCoe Idealize.SL.Sem Idealize.ShloMosaic.Tactic
open Cert.Proof.RowSpec

/-- The first halves of the two arrays, one after the other. -/
def firsts (a b : FVec Ideal S65536x8x128 .f32) : FVec Ideal S65536x8x128 .f32 :=
  concatenate S65536x8x128 0 [⟨S32768x8x128, extractStridedSlice S32768x8x128 ![0, 0, 0] a slices_S65536x8x128_S32768x8x128_0_0_0⟩,
    ⟨S32768x8x128, extractStridedSlice S32768x8x128 ![0, 0, 0] b slices_S65536x8x128_S32768x8x128_0_0_0⟩] concatenates_S32768x8x128_S32768x8x128_S65536x8x128_d0

/-- The second halves of the two arrays, one after the other. -/
def seconds (a b : FVec Ideal S65536x8x128 .f32) : FVec Ideal S65536x8x128 .f32 :=
  concatenate S65536x8x128 0 [⟨S32768x8x128, extractStridedSlice S32768x8x128 ![32768, 0, 0] a slices_S65536x8x128_S32768x8x128_32768_0_0⟩,
    ⟨S32768x8x128, extractStridedSlice S32768x8x128 ![32768, 0, 0] b slices_S65536x8x128_S32768x8x128_32768_0_0⟩] concatenates_S32768x8x128_S32768x8x128_S65536x8x128_d0

theorem firsts_low (a b : FVec Ideal S65536x8x128 .f32) (r : Fin 32768) (i : Fin 8) (j : Fin 128) :
    firsts a b (ix3 ⟨r.val, by omega⟩ i j) = a (ix3 ⟨r.val, by omega⟩ i j) := by
  unfold firsts
  refine (concatenate_pair_apply_left (t := S65536x8x128) (s₁ := S32768x8x128) (s₂ := S32768x8x128) 0 _ _ _ (ix3 ⟨r.val, by omega⟩ i j) rfl (ix3 r i j) (fun | ⟨0, _⟩ => rfl | ⟨1, _⟩ => rfl | ⟨2, _⟩ => rfl)).trans ?_
  pointwise

theorem firsts_high (a b : FVec Ideal S65536x8x128 .f32) (r : Fin 32768) (i : Fin 8) (j : Fin 128) :
    firsts a b (ix3 ⟨32768 + r.val, by omega⟩ i j) = b (ix3 ⟨r.val, by omega⟩ i j) := by
  unfold firsts
  refine (concatenate_pair_apply_right (t := S65536x8x128) (s₁ := S32768x8x128) (s₂ := S32768x8x128) 0 _ _ _ (ix3 ⟨32768 + r.val, by omega⟩ i j) rfl rfl (ix3 r i j) (fun | ⟨0, _⟩ => fun h => absurd rfl h | ⟨1, _⟩ => fun _ => rfl | ⟨2, _⟩ => fun _ => rfl)
    (Nat.add_comm r.val 32768)).trans ?_
  pointwise

theorem seconds_low (a b : FVec Ideal S65536x8x128 .f32) (r : Fin 32768) (i : Fin 8) (j : Fin 128) :
    seconds a b (ix3 ⟨r.val, by omega⟩ i j) = a (ix3 ⟨32768 + r.val, by omega⟩ i j) := by
  unfold seconds
  refine (concatenate_pair_apply_left (t := S65536x8x128) (s₁ := S32768x8x128) (s₂ := S32768x8x128) 0 _ _ _ (ix3 ⟨r.val, by omega⟩ i j) rfl (ix3 r i j) (fun | ⟨0, _⟩ => rfl | ⟨1, _⟩ => rfl | ⟨2, _⟩ => rfl)).trans ?_
  pointwise

theorem seconds_high (a b : FVec Ideal S65536x8x128 .f32) (r : Fin 32768) (i : Fin 8) (j : Fin 128) :
    seconds a b (ix3 ⟨32768 + r.val, by omega⟩ i j) = b (ix3 ⟨32768 + r.val, by omega⟩ i j) := by
  unfold seconds
  refine (concatenate_pair_apply_right (t := S65536x8x128) (s₁ := S32768x8x128) (s₂ := S32768x8x128) 0 _ _ _ (ix3 ⟨32768 + r.val, by omega⟩ i j) rfl rfl (ix3 r i j) (fun | ⟨0, _⟩ => fun h => absurd rfl h | ⟨1, _⟩ => fun _ => rfl | ⟨2, _⟩ => fun _ => rfl)
    (Nat.add_comm r.val 32768)).trans ?_
  pointwise

/-- The slabs laid side by side. -/
def flat (a : FVec Ideal S65536x8x128 .f32) : FVec Ideal S65536x1024 .f32 := shapeCast _ a shapeCasts_S65536x8x128_S65536x1024

theorem flat_at (a : FVec Ideal S65536x8x128 .f32) (R : Fin 65536) (d : Fin 1024) : flat a (ix2 R d) = slab a R d := by
  pointwise [flat, slab]

/-- The weighted sum of the two expert rows. -/
def pair (t : FVec Ideal S65536x128 .f32) (y0 y1 : FVec Ideal S65536x1024 .f32) : FVec Ideal S65536x1024 .f32 :=
  addf (mulf (broadcastInDim S65536x1024 ![0, 1] bcast_S65536x1_S65536x1024_0_1 (extractStridedSlice S65536x1 ![0, 4] t slices_S65536x128_S65536x1_0_4)) y0)
    (mulf (broadcastInDim S65536x1024 ![0, 1] bcast_S65536x1_S65536x1024_0_1 (extractStridedSlice S65536x1 ![0, 5] t slices_S65536x128_S65536x1_0_5)) y1)

theorem pair_at (t : FVec Ideal S65536x128 .f32) (y0 y1 : FVec Ideal S65536x1024 .f32) (R : Fin 65536) (d : Fin 1024) :
    pair t y0 y1 (ix2 R d) = row t R 4 * (show EReal from y0 (ix2 R d)) + row t R 5 * (show EReal from y1 (ix2 R d)) := by
  pointwise [pair, row]

/-- The reference's result. -/
def result (x : FVec Ideal S65536x1024 .f32) (a b : FVec Ideal S65536x8x128 .f32) (t : FVec Ideal S65536x128 .f32) (p : FVec Ideal S65536x256 .f32)
    (pg : FVec Ideal S1024x1024 .bf16) (pp : FVec Ideal S256x1024 .bf16) (g h : FVec Ideal S1x1024 .f32) : FVec Ideal S65536x1024 .f32 :=
  Cert.DenseReferenceIdeal.Rows.normed (Cert.DenseReferenceIdeal.Rows.sums x (pair t (flat (firsts a b)) (flat (seconds a b)))
    (Cert.DenseReferenceIdeal.Rows.square x pg) (Cert.DenseReferenceIdeal.Rows.embed p pp)) g h

theorem result_at (x : FVec Ideal S65536x1024 .f32) (a b : FVec Ideal S65536x8x128 .f32) (t : FVec Ideal S65536x128 .f32) (p : FVec Ideal S65536x256 .f32)
    (pg : FVec Ideal S1024x1024 .bf16) (pp : FVec Ideal S256x1024 .bf16) (g h : FVec Ideal S1x1024 .f32) (R : Fin 65536) (d : Fin 1024) :
    result x a b t p pg pp g h (ix2 R d)
      = normRow (pairSum (row x R) (slab (firsts a b) R) (slab (seconds a b) R) (row t R) (row p R) pg pp) g h d := by
  unfold result
  rw [Cert.DenseReferenceIdeal.Rows.normed_at]
  refine norm_congr (fun j => ?_) g h d
  refine (Cert.DenseReferenceIdeal.Rows.sums_at _ _ _ _ R j).trans ?_
  rw [pair_at, flat_at, flat_at, Cert.DenseReferenceIdeal.Rows.square_dot_at, Cert.DenseReferenceIdeal.Rows.embed_at]
  rfl

/-- A row of the first half. -/
theorem result_low (x : FVec Ideal S65536x1024 .f32) (a b : FVec Ideal S65536x8x128 .f32) (t : FVec Ideal S65536x128 .f32) (p : FVec Ideal S65536x256 .f32)
    (pg : FVec Ideal S1024x1024 .bf16) (pp : FVec Ideal S256x1024 .bf16) (g h : FVec Ideal S1x1024 .f32) (r : Fin 32768) (d : Fin 1024) :
    result x a b t p pg pp g h (ix2 ⟨r.val, by omega⟩ d)
      = normRow (pairSum (row x ⟨r.val, by omega⟩) (slab a ⟨r.val, by omega⟩) (slab a ⟨32768 + r.val, by omega⟩) (row t ⟨r.val, by omega⟩)
          (row p ⟨r.val, by omega⟩) pg pp) g h d := by
  have h0 : slab (firsts a b) ⟨r.val, by omega⟩ = slab a ⟨r.val, by omega⟩ := funext fun j => firsts_low a b r _ _
  have h1 : slab (seconds a b) ⟨r.val, by omega⟩ = slab a ⟨32768 + r.val, by omega⟩ := funext fun j => seconds_low a b r _ _
  rw [result_at, h0, h1]

/-- A row of the second half. -/
theorem result_high (x : FVec Ideal S65536x1024 .f32) (a b : FVec Ideal S65536x8x128 .f32) (t : FVec Ideal S65536x128 .f32) (p : FVec Ideal S65536x256 .f32)
    (pg : FVec Ideal S1024x1024 .bf16) (pp : FVec Ideal S256x1024 .bf16) (g h : FVec Ideal S1x1024 .f32) (r : Fin 32768) (d : Fin 1024) :
    result x a b t p pg pp g h (ix2 ⟨32768 + r.val, by omega⟩ d)
      = normRow (pairSum (row x ⟨32768 + r.val, by omega⟩) (slab b ⟨r.val, by omega⟩) (slab b ⟨32768 + r.val, by omega⟩) (row t ⟨32768 + r.val, by omega⟩)
          (row p ⟨32768 + r.val, by omega⟩) pg pp) g h d := by
  have h0 : slab (firsts a b) ⟨32768 + r.val, by omega⟩ = slab b ⟨r.val, by omega⟩ := funext fun j => firsts_high a b r _ _
  have h1 : slab (seconds a b) ⟨32768 + r.val, by omega⟩ = slab b ⟨32768 + r.val, by omega⟩ := funext fun j => seconds_high a b r _ _
  rw [result_at, h0, h1]

theorem res_eq (m : (ℓ : Loc nD τ sig) → Buf (Elt Ideal) ℓ) (c : Dev nD) :
    Value.res_main_v51 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) (m ((c.tc : Thread nD τ).loc main_arg7))
      (m ((c.tc : Thread nD τ).loc main_arg8)) := rfl

end Cert.CombineReferenceIdeal.Rows

end
-- ==== Proof.CombineFinal.lean ====
/- The combination's kernel: what one block of each call stores, and the array the two calls leave. -/
module

public import proofs.«01_k».proof.Proof.CombineRun
public import proofs.«01_k».proof.Proof.CombineRef
public import proofs.«01_k».proof.Proof.DenseFinal
public import Idealize.ShloMosaic.Lib.Pipeline.ValueKit

@[expose] public section

set_option maxRecDepth 16384

noncomputable section

namespace Cert.CombineIdeal.Rows

open Cert.CombineIdeal Cert.CombineIdeal.Gen Idealize.ShloMosaic Idealize.ShloMosaic.TcCoe Idealize.SL.Sem Idealize.ShloMosaic.Tactic
open Cert.Proof.RowSpec
open Cert.DenseIdeal.Rows (normed normed_at)

/-- A block's residual sum. -/
def total (x : FVec Ideal S512x1024 .f32) (y0 y1 : FVec Ideal S512x8x128 .f32) (t : FVec Ideal S512x128 .f32) (p : FVec Ideal S512x256 .f32)
    (pg : FVec Ideal S1024x1024 .bf16) (pp : FVec Ideal S256x1024 .bf16) : FVec Ideal S512x1024 .f32 :=
  addf (addf (addf (mulf (broadcast S512x1024 (Scalar.ofBits .f32 0x3FB504F3#32)) x)
        (mulf (broadcastTo S512x1024 (extractStridedSlice S512x1 ![0, 4] t slices_S512x128_o0_4_S512x1) broadcasts_S512x1_S512x1024)
          (shapeCast S512x1024 y0 shapeCasts_S512x8x128_S512x1024)))
      (mulf (broadcastTo S512x1024 (extractStridedSlice S512x1 ![0, 5] t slices_S512x128_o0_5_S512x1) broadcasts_S512x1_S512x1024)
        (shapeCast S512x1024 y1 shapeCasts_S512x8x128_S512x1024)))
    (mulf (logistic (matmul dot_S512x1024_S1024x1024_S512x1024_1_0_0_1_n_n none (truncf .bf16 x bitsLt_bf16_f32) pg (constant S512x1024 .f32 0x00000000#32)))
      (matmul dot_S512x256_S256x1024_S512x1024_1_0_0_1_n_n none (truncf .bf16 p bitsLt_bf16_f32) pp (constant S512x1024 .f32 0x00000000#32)))

theorem total_at (x : FVec Ideal S512x1024 .f32) (y0 y1 : FVec Ideal S512x8x128 .f32) (t : FVec Ideal S512x128 .f32) (p : FVec Ideal S512x256 .f32)
    (pg : FVec Ideal S1024x1024 .bf16) (pp : FVec Ideal S256x1024 .bf16) (r : Fin 512) (d : Fin 1024) :
    total x y0 y1 t p pg pp (ix2 r d) = ((alpha * row x r d + row t r 4 * slab y0 r d) + row t r 5 * slab y1 r d)
      + Ideal.logistic (dot (row x r) pg d) * dot (row p r) pp d := by
  pointwise [total, alpha, dot, row, slab]

/-- What one block stores. -/
def block (x : FVec Ideal S512x1024 .f32) (y0 y1 : FVec Ideal S512x8x128 .f32) (t : FVec Ideal S512x128 .f32) (p : FVec Ideal S512x256 .f32)
    (pg : FVec Ideal S1024x1024 .bf16) (pp : FVec Ideal S256x1024 .bf16) (g h : FVec Ideal S1x1024 .f32) : FVec Ideal S512x1024 .f32 :=
  normed (total x y0 y1 t p pg pp) g h

theorem block_at (x : FVec Ideal S512x1024 .f32) (y0 y1 : FVec Ideal S512x8x128 .f32) (t : FVec Ideal S512x128 .f32) (p : FVec Ideal S512x256 .f32)
    (pg : FVec Ideal S1024x1024 .bf16) (pp : FVec Ideal S256x1024 .bf16) (g h : FVec Ideal S1x1024 .f32) (r : Fin 512) (d : Fin 1024) :
    block x y0 y1 t p pg pp g h (ix2 r d) = normRow (pairSum (row x r) (slab y0 r) (slab y1 r) (row t r) (row p r) pg pp) g h d := by
  unfold block
  rw [normed_at]
  refine norm_congr (fun j => ?_) g h d
  refine (total_at _ _ _ _ _ _ _ r j).trans ?_
  rw [add_assoc (alpha * row x r j)]
  rfl

variable (V : (c : Dev nD) → (b : Ref sig .tc) → Buf (Elt Ideal) ((c : Thread nD τ).loc b))

theorem out0_eq (x0 : Vec Ideal S512x1024 .f32) (x1 x2 : Vec Ideal S512x8x128 .f32) (x3 : Vec Ideal S512x128 .f32) (x4 : Vec Ideal S512x256 .f32)
    (x5 : Vec Ideal S1024x1024 .bf16) (x6 : Vec Ideal S256x1024 .bf16) (x7 x8 : Vec Ideal S1x1024 .f32) :
    out0_9 (F := Ideal) x0 x1 x2 x3 x4 x5 x6 x7 x8 = block x0 x1 x2 x3 x4 x5 x6 x7 x8 := by
  unfold out0_9
  frame_out
  rfl

theorem outs1_eq (c : Dev nD) (t : Fin cfg1.N) :
    outsAt1 V c t = block (iblk1 V c 0 t) (iblk1 V c 1 t) (iblk1 V c 2 t) (iblk1 V c 3 t) (iblk1 V c 4 t) (iblk1 V c 5 t) (iblk1 V c 6 t) (iblk1 V c 7 t)
      (iblk1 V c 8 t) := by
  unfold outsAt1
  frame_out
  rfl

theorem idx0 : ∀ t : Fin cfg0.N, win0_0.index t = ![t.val, 0] ∧ win0_1.index t = ![t.val, 0, 0] ∧ win0_2.index t = ![t.val + 64, 0, 0]
    ∧ win0_3.index t = ![t.val, 0] ∧ win0_4.index t = ![t.val, 0] ∧ win0_5.index t = ![0, 0] ∧ win0_6.index t = ![0, 0] ∧ win0_7.index t = ![0, 0]
    ∧ win0_8.index t = ![0, 0] ∧ win0_9.index t = ![t.val, 0] :=
  (by decide +kernel : ∀ t : Fin grid0.N, _)

theorem idx1 : ∀ t : Fin cfg1.N, win1_0.index t = ![t.val + 64, 0] ∧ win1_1.index t = ![t.val, 0, 0] ∧ win1_2.index t = ![t.val + 64, 0, 0]
    ∧ win1_3.index t = ![t.val + 64, 0] ∧ win1_4.index t = ![t.val + 64, 0] ∧ win1_5.index t = ![0, 0] ∧ win1_6.index t = ![0, 0]
    ∧ win1_7.index t = ![0, 0] ∧ win1_8.index t = ![0, 0] ∧ win1_9.index t = ![t.val + 64, 0] :=
  (by decide +kernel : ∀ t : Fin grid1.N, _)

theorem rows0 (c : Dev nD) (t : Fin cfg0.N) (r : Fin 512) (hR : t.val * 512 + r.val < 65536) :
    row (n := 512) (k := 1024) (f := .f32) (iblk0 V c 0 t) r = row (n := 65536) (k := 1024) (f := .f32) (V c main_arg0) ⟨t.val * 512 + r.val, hR⟩ := by
  funext j
  unfold row
  blk_ext [iblk0, idx0 t]

theorem early0 (c : Dev nD) (t : Fin cfg0.N) (r : Fin 512) (hR : t.val * 512 + r.val < 65536) :
    slab (n := 512) (iblk0 V c 1 t) r = slab (n := 65536) (V c main_arg1) ⟨t.val * 512 + r.val, hR⟩ := by
  funext j
  unfold slab
  blk_ext [iblk0, idx0 t]

theorem late0 (c : Dev nD) (t : Fin cfg0.N) (r : Fin 512) (hR : (t.val + 64) * 512 + r.val < 65536) :
    slab (n := 512) (iblk0 V c 2 t) r = slab (n := 65536) (V c main_arg1) ⟨(t.val + 64) * 512 + r.val, hR⟩ := by
  funext j
  unfold slab
  blk_ext [iblk0, idx0 t]

theorem tabs0 (c : Dev nD) (t : Fin cfg0.N) (r : Fin 512) (hR : t.val * 512 + r.val < 65536) :
    row (n := 512) (k := 128) (f := .f32) (iblk0 V c 3 t) r = row (n := 65536) (k := 128) (f := .f32) (V c main_arg3) ⟨t.val * 512 + r.val, hR⟩ := by
  funext j
  unfold row
  blk_ext [iblk0, idx0 t]

theorem embeds0 (c : Dev nD) (t : Fin cfg0.N) (r : Fin 512) (hR : t.val * 512 + r.val < 65536) :
    row (n := 512) (k := 256) (f := .f32) (iblk0 V c 4 t) r = row (n := 65536) (k := 256) (f := .f32) (V c main_arg4) ⟨t.val * 512 + r.val, hR⟩ := by
  funext j
  unfold row
  blk_ext [iblk0, idx0 t]

theorem whole0_5 (c : Dev nD) (t : Fin cfg0.N) : iblk0 V c 5 t = V c main_arg5 := by
  funext y
  blk_ext [iblk0, idx0 t]

theorem whole0_6 (c : Dev nD) (t : Fin cfg0.N) : iblk0 V c 6 t = V c main_arg6 := by
  funext y
  blk_ext [iblk0, idx0 t]

theorem whole0_7 (c : Dev nD) (t : Fin cfg0.N) : iblk0 V c 7 t = V c main_arg7 := by
  funext y
  blk_ext [iblk0, idx0 t]

theorem whole0_8 (c : Dev nD) (t : Fin cfg0.N) : iblk0 V c 8 t = V c main_arg8 := by
  funext y
  blk_ext [iblk0, idx0 t]

theorem rows1 (c : Dev nD) (t : Fin cfg1.N) (r : Fin 512) (hR : (t.val + 64) * 512 + r.val < 65536) :
    row (n := 512) (k := 1024) (f := .f32) (iblk1 V c 0 t) r = row (n := 65536) (k := 1024) (f := .f32) (V c main_arg0) ⟨(t.val + 64) * 512 + r.val, hR⟩ := by
  funext j
  unfold row
  blk_ext [iblk1, idx1 t]

theorem early1 (c : Dev nD) (t : Fin cfg1.N) (r : Fin 512) (hR : t.val * 512 + r.val < 65536) :
    slab (n := 512) (iblk1 V c 1 t) r = slab (n := 65536) (V c main_arg2) ⟨t.val * 512 + r.val, hR⟩ := by
  funext j
  unfold slab
  blk_ext [iblk1, idx1 t]

theorem late1 (c : Dev nD) (t : Fin cfg1.N) (r : Fin 512) (hR : (t.val + 64) * 512 + r.val < 65536) :
    slab (n := 512) (iblk1 V c 2 t) r = slab (n := 65536) (V c main_arg2) ⟨(t.val + 64) * 512 + r.val, hR⟩ := by
  funext j
  unfold slab
  blk_ext [iblk1, idx1 t]

theorem tabs1 (c : Dev nD) (t : Fin cfg1.N) (r : Fin 512) (hR : (t.val + 64) * 512 + r.val < 65536) :
    row (n := 512) (k := 128) (f := .f32) (iblk1 V c 3 t) r = row (n := 65536) (k := 128) (f := .f32) (V c main_arg3) ⟨(t.val + 64) * 512 + r.val, hR⟩ := by
  funext j
  unfold row
  blk_ext [iblk1, idx1 t]

theorem embeds1 (c : Dev nD) (t : Fin cfg1.N) (r : Fin 512) (hR : (t.val + 64) * 512 + r.val < 65536) :
    row (n := 512) (k := 256) (f := .f32) (iblk1 V c 4 t) r = row (n := 65536) (k := 256) (f := .f32) (V c main_arg4) ⟨(t.val + 64) * 512 + r.val, hR⟩ := by
  funext j
  unfold row
  blk_ext [iblk1, idx1 t]

theorem whole1_5 (c : Dev nD) (t : Fin cfg1.N) : iblk1 V c 5 t = V c main_arg5 := by
  funext y
  blk_ext [iblk1, idx1 t]

theorem whole1_6 (c : Dev nD) (t : Fin cfg1.N) : iblk1 V c 6 t = V c main_arg6 := by
  funext y
  blk_ext [iblk1, idx1 t]

theorem whole1_7 (c : Dev nD) (t : Fin cfg1.N) : iblk1 V c 7 t = V c main_arg7 := by
  funext y
  blk_ext [iblk1, idx1 t]

theorem whole1_8 (c : Dev nD) (t : Fin cfg1.N) : iblk1 V c 8 t = V c main_arg8 := by
  funext y
  blk_ext [iblk1, idx1 t]

/-- The reference's result of the arrays. -/
abbrev want (c : Dev nD) : FVec Ideal S65536x1024 .f32 :=
  Cert.CombineReferenceIdeal.Rows.result (V c main_arg0) (V c main_arg1) (V c main_arg2) (V c main_arg3) (V c main_arg4) (V c main_arg5) (V c main_arg6)
    (V c main_arg7) (V c main_arg8)

/-- One point of the first call stores the reference's rows of the first half. -/
theorem point0 (c : Dev nD) (t : Fin cfg0.N) (r : Fin 512) (l : Fin 1024) (hR : t.val * 512 + r.val < 32768) :
    out0_9 (F := Ideal) (iblk0 V c 0 t) (iblk0 V c 1 t) (iblk0 V c 2 t) (iblk0 V c 3 t) (iblk0 V c 4 t) (iblk0 V c 5 t) (iblk0 V c 6 t) (iblk0 V c 7 t)
      (iblk0 V c 8 t) (ix2 r l) = want V c (ix2 ⟨t.val * 512 + r.val, by omega⟩ l) := by
  rw [out0_eq]
  refine (block_at _ _ _ _ _ _ _ _ _ r l).trans ?_
  refine Eq.trans ?_ (Cert.CombineReferenceIdeal.Rows.result_low _ _ _ _ _ _ _ _ _ ⟨t.val * 512 + r.val, hR⟩ l).symm
  rw [rows0 V c t r (by omega), early0 V c t r (by omega), late0 V c t r (by omega), tabs0 V c t r (by omega), embeds0 V c t r (by omega), whole0_5,
    whole0_6, whole0_7, whole0_8]
  have e : (⟨(t.val + 64) * 512 + r.val, by omega⟩ : Fin 65536) = ⟨32768 + (t.val * 512 + r.val), by omega⟩ := Fin.ext (by simp; omega)
  rw [e]

/-- One point of the second call stores the reference's rows of the second half. -/
theorem point1 (c : Dev nD) (t : Fin cfg1.N) (r : Fin 512) (l : Fin 1024) (hR : t.val * 512 + r.val < 32768) :
    outsAt1 V c t (ix2 r l) = want V c (ix2 ⟨(t.val + 64) * 512 + r.val, by omega⟩ l) := by
  rw [outs1_eq]
  refine (block_at _ _ _ _ _ _ _ _ _ r l).trans ?_
  have e : (⟨(t.val + 64) * 512 + r.val, by omega⟩ : Fin 65536) = ⟨32768 + (t.val * 512 + r.val), by omega⟩ := Fin.ext (by simp; omega)
  rw [rows1 V c t r (by omega), early1 V c t r (by omega), late1 V c t r (by omega), tabs1 V c t r (by omega), embeds1 V c t r (by omega), whole1_5,
    whole1_6, whole1_7, whole1_8, e]
  exact (Cert.CombineReferenceIdeal.Rows.result_high _ _ _ _ _ _ _ _ _ ⟨t.val * 512 + r.val, hR⟩ l).symm

/-- The first call leaves the first half's rows. -/
theorem first (c : Dev nD) : (dat0 V c).arrAt 9 cfg0.N = fun i => if (i 0 : ℕ) / 512 < 64 then want V c i else (dat0 V c).A 9 i := by
  refine (dat0 V c).arrAt_eq_of_coversWhere 9 (want V c) (fun β => β (0 : Fin _) < 64) (by decide +kernel) (fun t _ y => ?_) (fun j => Iff.rfl)
  blk_simp
  rw [after0_9]
  obtain ⟨r, l, rfl⟩ : ∃ (r : Fin 512) (l : Fin 1024), y = ix2 r l := ⟨y 0, y 1, (ix2_eta y).symm⟩
  refine (point0 V c t r l (by have := t.isLt; have : cfg0.grid.N = 64 := rfl; omega)).trans ?_
  blk_ext [idx0 t]

/-- The second call leaves the second half's rows and what was there before of the first half. -/
theorem second (c : Dev nD) : (dat1 V c).arrAt 9 cfg1.N = fun i => if 64 ≤ (i 0 : ℕ) / 512 then want V c i else (dat1 V c).A 9 i := by
  refine (dat1 V c).arrAt_eq_of_coversWhere 9 (want V c) (fun β => 64 ≤ β (0 : Fin _)) (by decide +kernel) (fun t _ y => ?_) (fun j => Iff.rfl)
  blk_simp
  rw [after1_9]
  obtain ⟨r, l, rfl⟩ : ∃ (r : Fin 512) (l : Fin 1024), y = ix2 r l := ⟨y 0, y 1, (ix2_eta y).symm⟩
  refine (point1 V c t r l (by have := t.isLt; have : cfg1.grid.N = 64 := rfl; omega)).trans ?_
  blk_ext [idx1 t]

variable (m : (ℓ : Loc nD τ sig) → Buf (Elt Ideal) ℓ) (ρ : Dev nD → PrngReg)

/-- The copy between the calls hands the first call's array to the second. -/
theorem handed (c : Dev nD) : (dat1 (V2 m ρ) c).A 9 = (dat0 (V0 m ρ) c).arrAt 9 cfg0.N := by
  refine (A_eq1 (V2 m ρ) c 9).trans ?_
  refine Eq.trans ?_ (W1_arr m ρ c 9)
  show StableHlo.after hostOps1 (W1 m ρ c) (Proc.devRef .tc main_v1) = _
  after_results
  rfl

/-- The arguments at the second call's entry are the launched ones. -/
theorem want_eq (c : Dev nD) : want (V2 m ρ) c = want (V0 m ρ) c := by
  unfold want
  have h : ∀ a ∈ argRefs, V2 m ρ c a = V0 m ρ c a := W2_args m ρ c
  rw [h main_arg0 (by decide), h main_arg1 (by decide), h main_arg2 (by decide), h main_arg3 (by decide), h main_arg4 (by decide),
    h main_arg5 (by decide), h main_arg6 (by decide), h main_arg7 (by decide), h main_arg8 (by decide)]

/-- What the two calls leave. -/
theorem final (c : Dev nD) : (dat1 (V2 m ρ) c).arrAt 9 cfg1.N = want (V0 m ρ) c := by
  rw [second, handed, first, want_eq]
  funext i
  dsimp only
  by_cases h : 64 ≤ (i 0 : ℕ) / 512
  · rw [if_pos h]
  · rw [if_neg h, if_pos (Nat.lt_of_not_le h)]

end Cert.CombineIdeal.Rows

end
-- ==== Proof.GatingRef.lean ====
/- The spatial gating's reference read row by row. -/
module

public import proofs.«01_k».proof.Proof.Gen.GatingReferenceIdeal.Run
public import proofs.«01_k».proof.Proof.RowSpec
public import Idealize.ShloMosaic.Lib.WordCmp

@[expose] public section

noncomputable section

namespace Cert.Proof.RowSpec

open Idealize.ShloMosaic

/-- The tanh form of gelu. -/
def gelu (x : EReal) : EReal :=
  x * (Ideal.ofBits FTy.f32 0x3F000000#32 * (Ideal.ofBits FTy.f32 0x3F800000#32
    + Ideal.tanh (Ideal.ofBits FTy.f32 0x3F4C422A#32 * (x + Ideal.ofBits FTy.f32 0x3D372713#32 * ((x * x) * x)))))

/-- The mean of a row of 256. -/
def shortMean (z : Fin 256 → EReal) : EReal := Ideal.div (∑ j : Fin 256, z j) (Ideal.ofBits FTy.f32 0x43800000#32)

/-- A row of 256 less its mean, over its deviation, scaled and shifted. -/
def shortNorm (z : Fin 256 → EReal) (g b : Real2 1 256) (d : Fin 256) : EReal :=
  ((z d - shortMean z) * Ideal.rsqrt (shortMean (fun j => (z j - shortMean z) * (z j - shortMean z)) + Ideal.ofBits FTy.f32 0x3727C5AC#32)) * (show EReal from g (ix2 0 d))
    + (show EReal from b (ix2 0 d))

/-- A position's sum over the earlier positions of its chunk, in one group. -/
def mixSum (v : Fin 128 → EReal) (w : FVec Ideal (⟨3, ![4, 128, 128]⟩ : Shape) .f32) (g : Fin 4) (t : Fin 128) : EReal :=
  ∑ s : Fin 128, v s * (if s.val ≤ t.val then (show EReal from w (ix3 g t s)) else 0)

end Cert.Proof.RowSpec

namespace Cert.GatingReferenceIdeal.Rows

open Cert.GatingReferenceIdeal Cert.GatingReferenceIdeal.Gen Idealize.ShloMosaic Idealize.ShloMosaic.TcCoe Idealize.SL.Sem Idealize.ShloMosaic.Tactic
open Cert.Proof.RowSpec

/-- The two halves the layer cuts from its projection, activated. -/
def active (h : FVec Ideal S65536x3584 .bf16) : FVec Ideal S65536x512 .f32 :=
  let x : FVec Ideal S65536x512 .f32 := extf .f32 (extractStridedSlice S65536x512 ![0, 768] h slices_S65536x3584_S65536x512_0_768) bitsLt_bf16_f32
  mulf x (mulf (broadcastInDim S65536x512 ![] bcast_S_S65536x512 (constant S_ .f32 0x3F000000#32))
    (addf (broadcastInDim S65536x512 ![] bcast_S_S65536x512 (constant S_ .f32 0x3F800000#32))
      (Host.tanh (mulf (broadcastInDim S65536x512 ![] bcast_S_S65536x512 (constant S_ .f32 0x3F4C422A#32))
        (addf x (mulf (broadcastInDim S65536x512 ![] bcast_S_S65536x512 (constant S_ .f32 0x3D372713#32)) (mulf (mulf x x) x)))))))

theorem active_at (h : FVec Ideal S65536x3584 .bf16) (R : Fin 65536) (j : Fin 512) :
    active h (ix2 R j) = gelu (h (ix2 R ⟨768 + j.val, by omega⟩)) := by
  pointwise [active, gelu]

def left (h : FVec Ideal S65536x3584 .bf16) : FVec Ideal S65536x256 .f32 :=
  extractStridedSlice S65536x256 ![0, 0] (active h) slices_S65536x512_S65536x256_0_0

def right (h : FVec Ideal S65536x3584 .bf16) : FVec Ideal S65536x256 .f32 :=
  extractStridedSlice S65536x256 ![0, 256] (active h) slices_S65536x512_S65536x256_0_256

theorem left_at (h : FVec Ideal S65536x3584 .bf16) (R : Fin 65536) (d : Fin 256) :
    left h (ix2 R d) = gelu (h (ix2 R ⟨768 + d.val, by omega⟩)) := by
  refine Eq.trans ?_ (active_at h R ⟨d.val, by omega⟩)
  pointwise [left]

theorem right_at (h : FVec Ideal S65536x3584 .bf16) (R : Fin 65536) (d : Fin 256) :
    right h (ix2 R d) = gelu (h (ix2 R ⟨1024 + d.val, by omega⟩)) := by
  refine Eq.trans ?_ ((active_at h R ⟨256 + d.val, by omega⟩).trans ?_)
  · pointwise [right]
  · congr 3
    exact Fin.ext (by simp; omega)

/-- Each row's mean. -/
def means (z : FVec Ideal S65536x256 .f32) : FVec Ideal S65536x1 .f32 :=
  Host.divf (broadcastInDim S65536x1 ![0] bcast_S65536_S65536x1_0 (Host.reduceAdd z (constant S_ .f32 0x00000000#32) reducesTo_S65536x256_S65536_d1 h_S_))
    (broadcastInDim S65536x1 ![] bcast_S_S65536x1 (constant S_ .f32 0x43800000#32))

/-- Each row less its mean. -/
def centred (z : FVec Ideal S65536x256 .f32) : FVec Ideal S65536x256 .f32 :=
  subf z (broadcastInDim S65536x256 ![0, 1] bcast_S65536x1_S65536x256_0_1 (means z))

/-- The rows normalised. -/
def normed (z : FVec Ideal S65536x256 .f32) (g b : FVec Ideal S1x256 .f32) : FVec Ideal S65536x256 .f32 :=
  addf (mulf (mulf (centred z) (broadcastInDim S65536x256 ![0, 1] bcast_S65536x1_S65536x256_0_1
      (Host.rsqrt (addf (means (mulf (centred z) (centred z))) (broadcastInDim S65536x1 ![] bcast_S_S65536x1 (constant S_ .f32 0x3727C5AC#32))))))
    (broadcastInDim S65536x256 ![0, 1] bcast_S1x256_S65536x256_0_1 g)) (broadcastInDim S65536x256 ![0, 1] bcast_S1x256_S65536x256_0_1 b)

theorem means_at (z : FVec Ideal S65536x256 .f32) (R : Fin 65536) : means z (ix2 R 0) = shortMean (row z R) := by
  pointwise [means, shortMean, row]

theorem centred_at (z : FVec Ideal S65536x256 .f32) (R : Fin 65536) (d : Fin 256) :
    centred z (ix2 R d) = row z R d - shortMean (row z R) := by
  rw [← means_at]
  pointwise [centred, row]

theorem square_at (z : FVec Ideal S65536x256 .f32) (R : Fin 65536) :
    row (mulf (centred z) (centred z)) R = fun j => (row z R j - shortMean (row z R)) * (row z R j - shortMean (row z R)) := by
  funext j
  rw [← centred_at]
  rfl

theorem normed_at (z : FVec Ideal S65536x256 .f32) (g b : FVec Ideal S1x256 .f32) (R : Fin 65536) (d : Fin 256) :
    normed z g b (ix2 R d) = shortNorm (row z R) g b d := by
  unfold shortNorm
  rw [← square_at, ← centred_at, ← means_at]
  pointwise [normed]

/-- The lower triangle. -/
def tri : IVec S128x128 1 :=
  select (cmpi .sge (addi (iotaInDim S128x128 32 0) (broadcastInDim S128x128 ![] bcast_S_S128x128 (constantI S_ 32 0#32))) (iotaInDim S128x128 32 1))
    (broadcastInDim S128x128 ![] bcast_S_S128x128 (constantI S_ 1 1#1)) (broadcastInDim S128x128 ![] bcast_S_S128x128 (constantI S_ 1 0#1))

theorem tri_at (t s : Fin 128) : tri (ix2 t s) = if s.val ≤ t.val then 1#1 else 0#1 := by
  have ht := t.isLt
  have hs := s.isLt
  pointwise [tri]
  have hz : IntOp.addi (BitVec.ofNat 32 t.val) 0#32 = BitVec.ofNat 32 t.val := by simp [IntOp.addi]
  rw [hz, WordCmp.cmpi_sge_ofNat (by omega) (by omega)]
  by_cases p : s.val ≤ t.val <;> simp [p, Scalar.select]

/-- The weights below the diagonal. -/
def masked (w : FVec Ideal S4x128x128 .f32) : FVec Ideal S4x128x128 .f32 :=
  select (broadcastInDim S4x128x128 ![0, 1, 2] bcast_S1x128x128_S4x128x128_0_1_2 (broadcastInDim S1x128x128 ![1, 2] bcast_S128x128_S1x128x128_1_2 tri)) w
    (broadcastInDim S4x128x128 ![] bcast_S_S4x128x128 (constant S_ .f32 0x00000000#32))

theorem masked_at (w : FVec Ideal S4x128x128 .f32) (g : Fin 4) (t s : Fin 128) :
    masked w (ix3 g t s) = if s.val ≤ t.val then (show EReal from w (ix3 g t s)) else 0 := by
  have h := tri_at t s
  pointwise [masked]
  rw [h]
  by_cases p : s.val ≤ t.val <;> simp [p, Scalar.select]

/-- The mixed rows. -/
def mixed (v : FVec Ideal S65536x256 .f32) (w : FVec Ideal S4x128x128 .f32) (b : FVec Ideal S4x128 .f32) : FVec Ideal S65536x256 .f32 :=
  shapeCast _ (addf (transpose S8x64x128x4x64 [1, 2, 4, 0, 3]
      (Host.dotGeneral dot_S8x64x128x4x64_S4x128x128_S4x8x64x64x128_2_2_014_1_3_0 none
        (shapeCast _ v shapeCasts_S65536x256_S8x64x128x4x64 : FVec Ideal S8x64x128x4x64 .f32) w) transposes_S4x8x64x64x128_S8x64x128x4x64_1_2_4_0_3)
    (broadcastInDim S8x64x128x4x64 ![0, 1, 2, 3, 4] bcast_S1x1x128x4x1_S8x64x128x4x64_0_1_2_3_4
      (broadcastInDim S1x1x128x4x1 ![2, 3] bcast_S128x4_S1x1x128x4x1_2_3 (transpose S128x4 [1, 0] b transposes_S4x128_S128x4_1_0))))
    shapeCasts_S8x64x128x4x64_S65536x256

theorem mixed_at (v : FVec Ideal S65536x256 .f32) (w : FVec Ideal S4x128x128 .f32) (b : FVec Ideal S4x128 .f32) (R : Fin 65536) (d : Fin 256) :
    mixed v (masked w) b (ix2 R d) = mixSum (fun s => v (ix2 ⟨R.val / 128 * 128 + s.val, by omega⟩ d)) w ⟨d.val / 64, by omega⟩ ⟨R.val % 128, by omega⟩
      + (show EReal from b (ix2 ⟨d.val / 64, by omega⟩ ⟨R.val % 128, by omega⟩)) := by
  unfold mixSum
  pointwise [mixed]
  refine congrArg₂ (· + ·) (Finset.sum_congr rfl fun s _ => ?_) rfl
  rw [masked_at]
  refine congrArg₂ (· * ·) (congrArg v (congrArg (fun i => ix2 i d) (Fin.ext ?_))) rfl
  show R.val / 8192 * 8192 + R.val / 128 % 64 * 128 + s.val = R.val / 128 * 128 + s.val
  omega

/-- The reference's result. -/
def result (h : FVec Ideal S65536x3584 .bf16) (g b : FVec Ideal S1x256 .f32) (w : FVec Ideal S4x128x128 .f32) (s : FVec Ideal S4x128 .f32) :
    FVec Ideal S65536x256 .bf16 :=
  truncf .bf16 (mulf (left h) (mixed (normed (right h) g b) (masked w) s)) bitsLt_bf16_f32

theorem result_at (h : FVec Ideal S65536x3584 .bf16) (g b : FVec Ideal S1x256 .f32) (w : FVec Ideal S4x128x128 .f32) (s : FVec Ideal S4x128 .f32)
    (R : Fin 65536) (d : Fin 256) :
    result h g b w s (ix2 R d) = gelu (h (ix2 R ⟨768 + d.val, by omega⟩))
      * (mixSum (fun u => shortNorm (fun j => gelu (h (ix2 ⟨R.val / 128 * 128 + u.val, by omega⟩ ⟨1024 + j.val, by omega⟩))) g b d) w
          ⟨d.val / 64, by omega⟩ ⟨R.val % 128, by omega⟩
        + (show EReal from s (ix2 ⟨d.val / 64, by omega⟩ ⟨R.val % 128, by omega⟩))) := by
  have h1 : ∀ r : Fin 65536, row (right h) r = fun j => gelu (h (ix2 r ⟨1024 + j.val, by omega⟩)) := fun r => funext fun j => right_at h r j
  simp only [← h1, ← normed_at]
  refine Eq.trans ?_ (congrArg₂ (· * ·) (left_at h R d) (mixed_at _ w s R d))
  pointwise [result]

theorem res_eq (m : (ℓ : Loc nD τ sig) → Buf (Elt Ideal) ℓ) (c : Dev nD) :
    Value.res_main_v53 m c = result (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := rfl

end Cert.GatingReferenceIdeal.Rows

end
-- ==== Proof.GatingFinal.lean ====
/- The spatial gating's kernel: what one block stores, and the array it leaves. -/
module

public import proofs.«01_k».proof.Proof.Gen.GatingIdeal.Value
public import proofs.«01_k».proof.Proof.GatingRef
public import Idealize.ShloMosaic.Lib.Pipeline.ValueKit

@[expose] public section

set_option maxRecDepth 16384

noncomputable section

namespace Cert.GatingIdeal.Rows

open Cert.GatingIdeal Cert.GatingIdeal.Gen Idealize.ShloMosaic Idealize.ShloMosaic.TcCoe Idealize.SL.Sem Idealize.ShloMosaic.Tactic
open Cert.Proof.RowSpec

/-- Each row's mean. -/
def means (z : FVec Ideal S1024x256 .f32) : FVec Ideal S1024x1 .f32 :=
  divf (shapeCast S1024x1 (multiReduction .add [1] S1024 z 0x00000000#32 reduces_S1024x256_S1024 (.inl rfl) rfl) shapeCasts_S1024_S1024x1)
    (broadcast S1024x1 (Scalar.ofBits .f32 0x43800000#32))

/-- Each row less its mean. -/
def centred (z : FVec Ideal S1024x256 .f32) : FVec Ideal S1024x256 .f32 := subf z (broadcastTo S1024x256 (means z) broadcasts_S1024x1_S1024x256)

/-- The rows normalised. -/
def normed (z : FVec Ideal S1024x256 .f32) (g b : FVec Ideal S1x256 .f32) : FVec Ideal S1024x256 .bf16 :=
  truncf .bf16 (addf (mulf (mulf (centred z) (broadcastTo S1024x256
      (rsqrt (addf (means (mulf (centred z) (centred z))) (broadcast S1024x1 (Scalar.ofBits .f32 0x3727C5AC#32)))) broadcasts_S1024x1_S1024x256))
    (broadcastTo S1024x256 g broadcasts_S1x256_S1024x256)) (broadcastTo S1024x256 b broadcasts_S1x256_S1024x256)) bitsLt_bf16_f32

theorem means_at (z : FVec Ideal S1024x256 .f32) (r : Fin 1024) : means z (ix2 r 0) = shortMean (row z r) := by
  pointwise [means, shortMean, row]

theorem centred_at (z : FVec Ideal S1024x256 .f32) (r : Fin 1024) (d : Fin 256) : centred z (ix2 r d) = row z r d - shortMean (row z r) := by
  rw [← means_at]
  pointwise [centred, row]

theorem square_at (z : FVec Ideal S1024x256 .f32) (r : Fin 1024) :
    row (mulf (centred z) (centred z)) r = fun j => (row z r j - shortMean (row z r)) * (row z r j - shortMean (row z r)) := by
  funext j
  rw [← centred_at]
  rfl

theorem normed_at (z : FVec Ideal S1024x256 .f32) (g b : FVec Ideal S1x256 .f32) (r : Fin 1024) (d : Fin 256) :
    normed z g b (ix2 r d) = shortNorm (row z r) g b d := by
  unfold shortNorm
  rw [← square_at, ← centred_at, ← means_at]
  pointwise [normed]

theorem active_at (x : FVec Ideal S1024x256 .bf16) (r : Fin 1024) (d : Fin 256) : k0_pay2 (F := Ideal) x (ix2 r d) = gelu (x (ix2 r d)) := by
  have e : ∀ a b c : EReal, (a * b) * c = b * (a * c) := fun a b c => by rw [mul_comm a b, mul_assoc]
  unfold gelu
  rw [← e]
  pointwise [k0_pay2]

theorem norm_eq (x : FVec Ideal S1024x256 .bf16) (g b : FVec Ideal S1x256 .f32) :
    k0_pay5 (F := Ideal) g b (k0_pay3 (F := Ideal) x) (k0_pay4 (F := Ideal) x) = normed (k0_pay2 (F := Ideal) x) g b := rfl

/-- The four groups' lanes. -/
def lanes : Fin 4 → IVec S1x256 1 :=
  ![k0_pay6, k0_pay10 (iota .tc S1x256 32 [1] iota_S1x256_d1_w32) 64#32 k0_pay7 k0_pay8 k0_pay9, k0_pay11 (iota .tc S1x256 32 [1] iota_S1x256_d1_w32),
    k0_pay13 (iota .tc S1x256 32 [1] iota_S1x256_d1_w32) 64#32 k0_pay12]

theorem lanes0 (d : Fin 256) : lanes 0 (ix2 0 d) = if d.val / 64 = 0 then 1#1 else 0#1 := by
  show k0_pay6 (ix2 0 d) = _
  pointwise [k0_pay6]
  revert d
  decide +kernel

theorem lanes1 (d : Fin 256) : lanes 1 (ix2 0 d) = if d.val / 64 = 1 then 1#1 else 0#1 := by
  show k0_pay10 (iota .tc S1x256 32 [1] iota_S1x256_d1_w32) 64#32 k0_pay7 k0_pay8 k0_pay9 (ix2 0 d) = _
  pointwise [k0_pay10, k0_pay7, k0_pay8, k0_pay9]
  revert d
  decide +kernel

theorem lanes2 (d : Fin 256) : lanes 2 (ix2 0 d) = if d.val / 64 = 2 then 1#1 else 0#1 := by
  show k0_pay11 (iota .tc S1x256 32 [1] iota_S1x256_d1_w32) (ix2 0 d) = _
  pointwise [k0_pay11]
  revert d
  decide +kernel

theorem lanes3 (d : Fin 256) : lanes 3 (ix2 0 d) = if d.val / 64 = 3 then 1#1 else 0#1 := by
  show k0_pay13 (iota .tc S1x256 32 [1] iota_S1x256_d1_w32) 64#32 k0_pay12 (ix2 0 d) = _
  pointwise [k0_pay13, k0_pay12]
  revert d
  decide +kernel

theorem lanes_at : ∀ (g : Fin 4) (d : Fin 256), lanes g (ix2 0 d) = if d.val / 64 = g.val then 1#1 else 0#1
  | ⟨0, _⟩ => lanes0
  | ⟨1, _⟩ => lanes1
  | ⟨2, _⟩ => lanes2
  | ⟨3, _⟩ => lanes3

theorem causal_at (t s : Fin 128) : k0_pay14 (ix2 t s) = if s.val ≤ t.val then 1#1 else 0#1 := by
  have ht := t.isLt
  have hs := s.isLt
  pointwise [k0_pay14]
  rw [WordCmp.cmpi_sle_ofNat (by omega) (by omega)]
  by_cases p : s.val ≤ t.val <;> simp [p]

/-- One group's weights below the diagonal. -/
def tril (a : FVec Ideal S1x128x128 .f32) : FVec Ideal S128x128 .bf16 :=
  truncf .bf16 (select k0_pay14 (shapeCast S128x128 a shapeCasts_S1x128x128_S128x128) (broadcast S128x128 (Scalar.ofBits .f32 0x00000000#32))) bitsLt_bf16_f32

theorem tril_at (a : FVec Ideal S1x128x128 .f32) (t s : Fin 128) :
    tril a (ix2 t s) = if s.val ≤ t.val then (show EReal from a (ix3 0 t s)) else 0 := by
  have h := causal_at t s
  pointwise [tril]
  rw [h]
  by_cases p : s.val ≤ t.val <;> simp [p, Scalar.select]

/-- The four groups' weights side by side. -/
def wide (a : Fin 4 → FVec Ideal S1x128x128 .f32) : FVec Ideal S128x512 .bf16 :=
  concatenate S128x512 1 (List.ofFn fun g : Fin 4 => (⟨S128x128, tril (a g)⟩ : (s : Shape) × (s.Idx → EReal))) concatenates_S128x128_S128x128_S128x128_S128x128_S128x512_d1

theorem wide_at (a : Fin 4 → FVec Ideal S1x128x128 .f32) (t : Fin 128) (g : Fin 4) (s : Fin 128) :
    wide a (ix2 t ⟨g.val * 128 + s.val, by omega⟩) = if s.val ≤ t.val then (show EReal from a g (ix3 0 t s)) else 0 := by
  rw [← tril_at]
  have hg := g.isLt
  have hs := s.isLt
  refine concatenate_ofFn_apply (t := S128x512) (s₁ := S128x128) 1 (fun g => tril (a g)) _ rfl 128 rfl (ix2 t ⟨g.val * 128 + s.val, by omega⟩) g
    (show (g.val * 128 + s.val) / 128 = g.val by omega) (ix2 t s) (show s.val = (g.val * 128 + s.val) % 128 by omega)
    (fun | ⟨0, _⟩ => fun _ => rfl | ⟨1, _⟩ => fun h => absurd rfl h)

/-- The rows of one chunk, once for every group with the other groups' lanes at zero. -/
def stack (v : FVec Ideal S128x256 .bf16) : FVec Ideal S512x256 .bf16 :=
  concatenate S512x256 0 (List.ofFn fun g : Fin 4 => (⟨S128x256, select (broadcastTo S128x256 (shapeCast S1x256 (lanes g) shapeCasts_S1x256_S1x256) broadcasts_S1x256_S128x256) v
    (broadcast S128x256 (Scalar.ofBits (F := Ideal) .bf16 0x0000#16))⟩ : (s : Shape) × (s.Idx → EReal))) concatenates_S128x256_S128x256_S128x256_S128x256_S512x256_d0

theorem stack_at (v : FVec Ideal S128x256 .bf16) (g : Fin 4) (s : Fin 128) (d : Fin 256) :
    stack v (ix2 ⟨g.val * 128 + s.val, by omega⟩ d) = if d.val / 64 = g.val then (show EReal from v (ix2 s d)) else 0 := by
  have hg := g.isLt
  have hs := s.isLt
  refine (concatenate_ofFn_apply (t := S512x256) (s₁ := S128x256) 0 (fun g => select (broadcastTo S128x256 (shapeCast S1x256 (lanes g) shapeCasts_S1x256_S1x256) broadcasts_S1x256_S128x256) v
    (broadcast S128x256 (Scalar.ofBits (F := Ideal) .bf16 0x0000#16))) _ rfl 128 rfl (ix2 ⟨g.val * 128 + s.val, by omega⟩ d) g
    (show (g.val * 128 + s.val) / 128 = g.val by omega) (ix2 s d) (show s.val = (g.val * 128 + s.val) % 128 by omega)
    (fun | ⟨0, _⟩ => fun h => absurd rfl h | ⟨1, _⟩ => fun _ => rfl)).trans ?_
  have h := lanes_at g d
  pointwise
  rw [h]
  by_cases p : d.val / 64 = g.val <;> simp [p, Scalar.select]

/-- One chunk's mixed rows. -/
def mixed (a : Fin 4 → FVec Ideal S1x128x128 .f32) (v : FVec Ideal S128x256 .bf16) : FVec Ideal S128x256 .f32 :=
  matmul dot_S128x512_S512x256_S128x256_1_0_0_1_n_n none (wide a) (stack v) (constant S128x256 .f32 0x00000000#32)

theorem mixed_at (w : FVec Ideal S4x128x128 .f32) (a : Fin 4 → FVec Ideal S1x128x128 .f32) (ha : ∀ g t s, a g (ix3 0 t s) = w (ix3 g t s))
    (v : FVec Ideal S128x256 .bf16) (t : Fin 128) (d : Fin 256) :
    mixed a v (ix2 t d) = mixSum (row v · d) w ⟨d.val / 64, by omega⟩ t := by
  have h : mixed a v (ix2 t d) = ∑ k : Fin 512, (show EReal from wide a (ix2 t k)) * (show EReal from stack v (ix2 k d)) := by
    pointwise [mixed]
  rw [h, Fin.sum_univ_tiles 4 128 rfl]
  simp only [wide_at, stack_at, ha]
  rw [Finset.sum_eq_single (⟨d.val / 64, by omega⟩ : Fin 4)]
  · unfold mixSum
    refine Finset.sum_congr rfl fun s _ => ?_
    rw [if_pos rfl, mul_comm]
    rfl
  · intro g _ hg
    refine Finset.sum_eq_zero fun s _ => ?_
    rw [if_neg (show ¬ d.val / 64 = g.val from fun e => hg (Fin.ext e.symm)), mul_zero]
  · intro hn
    exact absurd (Finset.mem_univ _) hn

/-- One chunk's stored rows. -/
def chunk (a : Fin 4 → FVec Ideal S1x128x128 .f32) (u : FVec Ideal S128x256 .f32) (v : FVec Ideal S128x256 .bf16) (s : FVec Ideal S128x256 .f32) :
    FVec Ideal S128x256 .bf16 :=
  truncf .bf16 (mulf u (addf (mixed a v) (shapeCast S128x256 s shapeCasts_S128x256_S128x256))) bitsLt_bf16_f32

theorem chunk_at (a : Fin 4 → FVec Ideal S1x128x128 .f32) (u : FVec Ideal S128x256 .f32) (v : FVec Ideal S128x256 .bf16) (s : FVec Ideal S128x256 .f32)
    (t : Fin 128) (d : Fin 256) :
    chunk a u v s (ix2 t d) = (show EReal from u (ix2 t d)) * ((show EReal from mixed a v (ix2 t d)) + (show EReal from s (ix2 t d))) := by
  pointwise [chunk]

def slab0 (w : FVec Ideal S4x128x128 .f32) : FVec Ideal S1x128x128 .f32 := View.ld (Val := Elt Ideal) (e' := .f32) w r0_2
def slab1 (w : FVec Ideal S4x128x128 .f32) : FVec Ideal S1x128x128 .f32 := View.ld (Val := Elt Ideal) (e' := .f32) w r0_3
def slab2 (w : FVec Ideal S4x128x128 .f32) : FVec Ideal S1x128x128 .f32 := View.ld (Val := Elt Ideal) (e' := .f32) w r0_4
def slab3 (w : FVec Ideal S4x128x128 .f32) : FVec Ideal S1x128x128 .f32 := View.ld (Val := Elt Ideal) (e' := .f32) w r0_5

/-- The loaded weights of the four groups. -/
def slabs (w : FVec Ideal S4x128x128 .f32) : Fin 4 → FVec Ideal S1x128x128 .f32 := ![slab0 w, slab1 w, slab2 w, slab3 w]

theorem slab0_at (w : FVec Ideal S4x128x128 .f32) (t s : Fin 128) : slab0 w (ix3 0 t s) = w (ix3 0 t s) :=
  View.ld_unit_apply_of (S := S4x128x128) (Val := Elt Ideal) (e := .f32) w _ _ _ _ (ix3 (n0 := 4) 0 t s) (fun | ⟨0, _⟩ => rfl | ⟨1, _⟩ => (Nat.zero_add t.val).symm | ⟨2, _⟩ => (Nat.zero_add s.val).symm)
theorem slab1_at (w : FVec Ideal S4x128x128 .f32) (t s : Fin 128) : slab1 w (ix3 0 t s) = w (ix3 1 t s) :=
  View.ld_unit_apply_of (S := S4x128x128) (Val := Elt Ideal) (e := .f32) w _ _ _ _ (ix3 (n0 := 4) 1 t s) (fun | ⟨0, _⟩ => rfl | ⟨1, _⟩ => (Nat.zero_add t.val).symm | ⟨2, _⟩ => (Nat.zero_add s.val).symm)
theorem slab2_at (w : FVec Ideal S4x128x128 .f32) (t s : Fin 128) : slab2 w (ix3 0 t s) = w (ix3 2 t s) :=
  View.ld_unit_apply_of (S := S4x128x128) (Val := Elt Ideal) (e := .f32) w _ _ _ _ (ix3 (n0 := 4) 2 t s) (fun | ⟨0, _⟩ => rfl | ⟨1, _⟩ => (Nat.zero_add t.val).symm | ⟨2, _⟩ => (Nat.zero_add s.val).symm)
theorem slab3_at (w : FVec Ideal S4x128x128 .f32) (t s : Fin 128) : slab3 w (ix3 0 t s) = w (ix3 3 t s) :=
  View.ld_unit_apply_of (S := S4x128x128) (Val := Elt Ideal) (e := .f32) w _ _ _ _ (ix3 (n0 := 4) 3 t s) (fun | ⟨0, _⟩ => rfl | ⟨1, _⟩ => (Nat.zero_add t.val).symm | ⟨2, _⟩ => (Nat.zero_add s.val).symm)

theorem slabs_at (w : FVec Ideal S4x128x128 .f32) : ∀ (g : Fin 4) (t s : Fin 128), slabs w g (ix3 0 t s) = w (ix3 g t s)
  | ⟨0, _⟩ => slab0_at w
  | ⟨1, _⟩ => slab1_at w
  | ⟨2, _⟩ => slab2_at w
  | ⟨3, _⟩ => slab3_at w

/-- A block's row as the layer's mathematics has it. -/
def spec (x y : FVec Ideal S1024x256 .bf16) (g b : FVec Ideal S1x256 .f32) (w : FVec Ideal S4x128x128 .f32) (s : FVec Ideal S128x256 .f32)
    (r : Fin 1024) (d : Fin 256) : EReal :=
  gelu (x (ix2 r d)) * (mixSum (fun u => shortNorm (fun j => gelu (y (ix2 ⟨r.val / 128 * 128 + u.val, by omega⟩ j))) g b d) w
      ⟨d.val / 64, by omega⟩ ⟨r.val % 128, by omega⟩
    + (show EReal from s (ix2 ⟨r.val % 128, by omega⟩ d)))

/-- The rows of a block from one on. -/
def from32 (o : ℕ) (x : FVec Ideal S1024x256 .f32) (h : S1024x256.Slices ![o, 0] S128x256) : FVec Ideal S128x256 .f32 := extractStridedSlice S128x256 ![o, 0] x h
def from16 (o : ℕ) (x : FVec Ideal S1024x256 .bf16) (h : S1024x256.Slices ![o, 0] S128x256) : FVec Ideal S128x256 .bf16 := extractStridedSlice S128x256 ![o, 0] x h

theorem from32_at (o : ℕ) (x : FVec Ideal S1024x256 .f32) (h : S1024x256.Slices ![o, 0] S128x256) (t : Fin 128) (d : Fin 256) (ho : o + t.val < 1024) :
    from32 o x h (ix2 t d) = x (ix2 ⟨o + t.val, ho⟩ d) := by
  pointwise [from32]
theorem from16_at (o : ℕ) (x : FVec Ideal S1024x256 .bf16) (h : S1024x256.Slices ![o, 0] S128x256) (t : Fin 128) (d : Fin 256) (ho : o + t.val < 1024) :
    from16 o x h (ix2 t d) = x (ix2 ⟨o + t.val, ho⟩ d) := by
  pointwise [from16]

theorem piece (x y : FVec Ideal S1024x256 .bf16) (g b : FVec Ideal S1x256 .f32) (w : FVec Ideal S4x128x128 .f32) (s : FVec Ideal S128x256 .f32)
    (k : Fin 8) (o : ℕ) (ho : o = k.val * 128) (h : S1024x256.Slices ![o, 0] S128x256) (t : Fin 128) (d : Fin 256) :
    chunk (slabs w) (from32 o (k0_pay2 (F := Ideal) x) h) (from16 o (normed (k0_pay2 (F := Ideal) y) g b) h) s (ix2 t d)
      = spec x y g b w s ⟨k.val * 128 + t.val, by omega⟩ d := by
  subst ho
  have ht := t.isLt
  rw [chunk_at, mixed_at w _ (slabs_at w)]
  have hv : (fun u => row (from16 (k.val * 128) (normed (k0_pay2 (F := Ideal) y) g b) h) u d)
      = fun u : Fin 128 => shortNorm (fun j => gelu (y (ix2 ⟨(k.val * 128 + t.val) / 128 * 128 + u.val, by omega⟩ j))) g b d := by
    funext u
    refine (from16_at _ _ h u d (by omega)).trans ((normed_at _ g b _ d).trans ?_)
    have hr : row (k0_pay2 (F := Ideal) y) ⟨k.val * 128 + u.val, by omega⟩
        = fun j => gelu (y (ix2 ⟨(k.val * 128 + t.val) / 128 * 128 + u.val, by omega⟩ j)) := by
      funext j
      refine (active_at y _ j).trans (congrArg (fun i => gelu (y (ix2 i j))) (Fin.ext ?_))
      show k.val * 128 + u.val = (k.val * 128 + t.val) / 128 * 128 + u.val
      omega
    rw [hr]
  have ht' : (⟨(k.val * 128 + t.val) % 128, by omega⟩ : Fin 128) = t := Fin.ext (by show (k.val * 128 + t.val) % 128 = t.val; omega)
  unfold spec
  rw [hv, from32_at _ _ h t d (by omega), active_at, ht']

theorem out_at (x y : FVec Ideal S1024x256 .bf16) (g b : FVec Ideal S1x256 .f32) (w : FVec Ideal S4x128x128 .f32) (s : FVec Ideal S128x256 .f32)
    (r : Fin 1024) (d : Fin 256) : out0_6 (F := Ideal) x y g b w s (ix2 r d) = spec x y g b w s r d := by
  have e0 : ∀ a : FVec Ideal S1024x256 .bf16, View.ld (Val := Elt Ideal) (e' := .bf16) a r0_0 = a := fun a => View.ld_unit_lit' (S := S1024x256) (off := ![0, 0]) (Val := Elt Ideal) (e := .bf16) _ a (by decide)
  have e1 : ∀ a : FVec Ideal S1x256 .f32, View.ld (Val := Elt Ideal) (e' := .f32) a r0_1 = a := fun a => View.ld_unit_lit' (S := S1x256) (off := ![0, 0]) (Val := Elt Ideal) (e := .f32) _ a (by decide)
  have e6 : ∀ a : FVec Ideal S128x256 .f32, View.ld (Val := Elt Ideal) (e' := .f32) a r0_6 = a := fun a => View.ld_unit_lit' (S := S128x256) (off := ![0, 0]) (Val := Elt Ideal) (e := .f32) _ a (by decide)
  have key : ∀ (k : Fin 8) (o : ℕ) (ho : o = k.val * 128) (h : S1024x256.Slices ![o, 0] S128x256) (q : S128x256.Idx) (_ : r.val = o + (q 0).val) (_ : d.val = (q 1).val),
      chunk (slabs w) (from32 o (k0_pay2 (F := Ideal) (View.ld (Val := Elt Ideal) (e' := .bf16) x r0_0)) h)
        (from16 o (k0_pay5 (F := Ideal) (View.ld (Val := Elt Ideal) (e' := .f32) g r0_1) (View.ld (Val := Elt Ideal) (e' := .f32) b r0_1) (k0_pay3 (F := Ideal) (View.ld (Val := Elt Ideal) (e' := .bf16) y r0_0)) (k0_pay4 (F := Ideal) (View.ld (Val := Elt Ideal) (e' := .bf16) y r0_0))) h)
        (View.ld (Val := Elt Ideal) (e' := .f32) s r0_6) q = spec x y g b w s r d := by
    intro k o ho h q h0 h1
    obtain ⟨t, l, rfl⟩ : ∃ (t : Fin 128) (l : Fin 256), q = ix2 t l := ⟨q 0, q 1, (ix2_eta q).symm⟩
    obtain rfl : d = l := Fin.ext h1
    rw [e0, e0, e1, e1, e6, norm_eq, piece x y g b w s k o ho h t d]
    congr 1
    exact Fin.ext (by subst ho; exact h0.symm)
  unfold out0_6
  canon_tiles q h
  · exact key 7 896 rfl slices_S1024x256_o896_0_S128x256 q h0 h1
  · exact key 6 768 rfl slices_S1024x256_o768_0_S128x256 q h0 h1
  · exact key 5 640 rfl slices_S1024x256_o640_0_S128x256 q h0 h1
  · exact key 4 512 rfl slices_S1024x256_o512_0_S128x256 q h0 h1
  · exact key 3 384 rfl slices_S1024x256_o384_0_S128x256 q h0 h1
  · exact key 2 256 rfl slices_S1024x256_o256_0_S128x256 q h0 h1
  · exact key 1 128 rfl slices_S1024x256_o128_0_S128x256 q h0 h1
  · exact key 0 0 rfl slices_S1024x256_o0_0_S128x256 q (h0.trans (Nat.zero_add _).symm) h1

variable (m : (ℓ : Loc nD τ sig) → Buf (Elt Ideal) ℓ)

theorem idx : ∀ t : Fin cfg0.N, win0_0.index t = ![t.val, 3] ∧ win0_1.index t = ![t.val, 4] ∧ win0_2.index t = ![0, 0] ∧ win0_3.index t = ![0, 0]
    ∧ win0_4.index t = ![0, 0, 0] ∧ win0_5.index t = ![0, 0] ∧ win0_6.index t = ![t.val, 0] :=
  (by decide +kernel : ∀ t : Fin grid0.N, _)

/-- The launched projection. -/
abbrev h (c : Dev nD) : FVec Ideal S65536x3584 .bf16 := m (c.tc.loc main_arg0)
/-- The launched bias. -/
abbrev bias (c : Dev nD) : FVec Ideal S4x128 .f32 := m (c.tc.loc main_arg4)

theorem left_at (c : Dev nD) (t : Fin cfg0.N) (r : Fin 1024) (j : Fin 256) (hR : t.val * 1024 + r.val < 65536) :
    (show FVec Ideal S1024x256 .bf16 from iblk m c 0 t) (ix2 r j) = h m c (ix2 ⟨t.val * 1024 + r.val, hR⟩ ⟨768 + j.val, by omega⟩) := by
  blk_ext [iblk, V, idx t]

theorem right_at (c : Dev nD) (t : Fin cfg0.N) (r : Fin 1024) (j : Fin 256) (hR : t.val * 1024 + r.val < 65536) :
    (show FVec Ideal S1024x256 .bf16 from iblk m c 1 t) (ix2 r j) = h m c (ix2 ⟨t.val * 1024 + r.val, hR⟩ ⟨1024 + j.val, by omega⟩) := by
  blk_ext [iblk, V, idx t]

theorem whole2 (c : Dev nD) (t : Fin cfg0.N) : iblk m c 2 t = m (c.tc.loc main_arg1) := by
  funext y
  blk_ext [iblk, V, idx t]
theorem whole3 (c : Dev nD) (t : Fin cfg0.N) : iblk m c 3 t = m (c.tc.loc main_arg2) := by
  funext y
  blk_ext [iblk, V, idx t]
theorem whole4 (c : Dev nD) (t : Fin cfg0.N) : iblk m c 4 t = m (c.tc.loc main_arg3) := by
  funext y
  blk_ext [iblk, V, idx t]

/-- The bias laid over the lanes. -/
def spread (b : FVec Ideal S4x128 .f32) : FVec Ideal S128x256 .f32 :=
  shapeCast S128x256 (broadcastInDim S128x4x64 ![0, 1] bcast_S128x4_S128x4x64_0_1 (transpose S128x4 [1, 0] b transposes_S4x128_S128x4_1_0)) shapeCasts_S128x4x64_S128x256

theorem spread_at (b : FVec Ideal S4x128 .f32) (t : Fin 128) (d : Fin 256) : spread b (ix2 t d) = b (ix2 ⟨d.val / 64, by omega⟩ t) := by
  pointwise [spread]

theorem handed (c : Dev nD) : V m c main_v2 = spread (bias m c) := by
  show StableHlo.after hostOps0 (fun b => m (c, b)) main_v2 = _
  after_results
  rfl

theorem whole5 (c : Dev nD) (t : Fin cfg0.N) : iblk m c 5 t = spread (bias m c) := by
  rw [← handed m c]
  funext y
  blk_ext [iblk, idx t]

/-- The reference's result of the launched arrays. -/
abbrev want (c : Dev nD) : FVec Ideal S65536x256 .bf16 :=
  Cert.GatingReferenceIdeal.Rows.result (h m c) (m (c.tc.loc main_arg1)) (m (c.tc.loc main_arg2)) (m (c.tc.loc main_arg3)) (bias m c)

/-- One grid point stores the reference's rows. -/
theorem point (c : Dev nD) (t : Fin cfg0.N) (r : Fin 1024) (l : Fin 256) (hR : t.val * 1024 + r.val < 65536) :
    out0_6 (F := Ideal) (iblk m c 0 t) (iblk m c 1 t) (iblk m c 2 t) (iblk m c 3 t) (iblk m c 4 t) (iblk m c 5 t) (ix2 r l)
      = want m c (ix2 ⟨t.val * 1024 + r.val, hR⟩ l) := by
  refine (out_at _ _ _ _ _ _ r l).trans (Eq.trans ?_ (Cert.GatingReferenceIdeal.Rows.result_at _ _ _ _ _ _ l).symm)
  have hr := r.isLt
  have e1 : ∀ u : Fin 128, (fun j : Fin 256 => gelu ((show FVec Ideal S1024x256 .bf16 from iblk m c 1 t) (ix2 ⟨r.val / 128 * 128 + u.val, by omega⟩ j)))
      = fun j : Fin 256 => gelu (h m c (ix2 ⟨(t.val * 1024 + r.val) / 128 * 128 + u.val, by omega⟩ ⟨1024 + j.val, by omega⟩)) := by
    intro u
    funext j
    refine congrArg gelu ((right_at m c t _ j (by show t.val * 1024 + (r.val / 128 * 128 + u.val) < 65536; omega)).trans ?_)
    refine congrArg (fun i => h m c (ix2 i ⟨1024 + j.val, by omega⟩)) (Fin.ext ?_)
    show t.val * 1024 + (r.val / 128 * 128 + u.val) = (t.val * 1024 + r.val) / 128 * 128 + u.val
    omega
  have e2 : (⟨r.val % 128, by omega⟩ : Fin 128) = ⟨(t.val * 1024 + r.val) % 128, by omega⟩ := Fin.ext (by show r.val % 128 = (t.val * 1024 + r.val) % 128; omega)
  have e0 : gelu ((show FVec Ideal S1024x256 .bf16 from iblk m c 0 t) (ix2 r l)) = gelu (h m c (ix2 ⟨t.val * 1024 + r.val, hR⟩ ⟨768 + l.val, by omega⟩)) :=
    congrArg gelu (left_at m c t r l hR)
  unfold spec
  refine congrArg₂ (· * ·) e0 (congrArg₂ (· + ·) ?_ ?_)
  · rw [whole2, whole3, whole4, e2]
    exact congrArg (fun f => mixSum f _ _ _) (funext fun u => congrArg (fun z => shortNorm z _ _ l) (e1 u))
  · rw [whole5, e2]
    exact spread_at _ _ l

/-- What the kernel leaves in its result. -/
theorem final (c : Dev nD) : (dats m 0 c).arrAt 6 cfg0.N = want m c := by
  refine (dats m 0 c).arrAt_eq_of_covers 6 (want m c) (by decide +kernel) fun t _ y => ?_
  blk_simp
  rw [after0_6]
  obtain ⟨r, l, rfl⟩ : ∃ (r : Fin 1024) (l : Fin 256), y = ix2 r l := ⟨y 0, y 1, (ix2_eta y).symm⟩
  refine (point m c t r l (by have := t.isLt; have : cfg0.grid.N = 64 := rfl; omega)).trans ?_
  blk_ext [idx t]

end Cert.GatingIdeal.Rows

end
-- ==== Proof.RouterSpec.lean ====
/- The routing of one row: the two greatest of its eight logits, equal logits in lane order. -/
module

public import Idealize.ShloMosaic.Lib.SortFacts
public import Idealize.ShloMosaic.Lib.PlanTiles.Rows
public import Idealize.ShloMosaic.Lib.Pointwise
public import proofs.«01_k».proof.Proof.Softmax

@[expose] public section

noncomputable section

namespace Cert.Proof.Routing

open Idealize.ShloMosaic

/-- The earlier of two lanes in the order of the greatest logits. -/
def ahead (L : Fin 8 → EReal) (a b : Fin 8) : Bool := decide (L b < L a)

/-- In that order, equal logits by lane. -/
def Ahead (L : Fin 8 → EReal) (a b : Fin 8) : Prop := L b < L a ∨ (L b = L a ∧ a < b)

theorem ahead_trans (L : Fin 8 → EReal) {a b c : Fin 8} (h : Ahead L a b) (h' : Ahead L b c) : Ahead L a c := by
  rcases h with h | ⟨h, i⟩ <;> rcases h' with h' | ⟨h', i'⟩
  · exact .inl (h'.trans h)
  · exact .inl (h' ▸ h)
  · exact .inl (h ▸ h')
  · exact .inr ⟨h'.trans h, i.trans i'⟩

theorem insert_ahead (L : Fin 8 → EReal) (a : Fin 8) (l : List (Fin 8)) (hl : l.Pairwise (Ahead L)) (ha : ∀ b ∈ l, a < b) :
    (insertBefore (ahead L) a l).Pairwise (Ahead L) := by
  induction l with
  | nil => exact List.pairwise_singleton _ _
  | cons b l ih =>
    rw [List.pairwise_cons] at hl
    unfold insertBefore
    split
    · rename_i h
      refine List.pairwise_cons.mpr ⟨fun c hc => ?_, ih hl.2 fun c hc => ha c (List.mem_cons_of_mem _ hc)⟩
      rcases List.mem_cons.mp ((perm_insertBefore (ahead L) a l).mem_iff.mp hc) with rfl | hc'
      · exact .inl (of_decide_eq_true h)
      · exact hl.1 c hc'
    · rename_i h
      have hab : Ahead L a b := by
        have h1 : ¬ L a < L b := fun h' => h (decide_eq_true h')
        rcases lt_or_eq_of_le (not_lt.1 h1) with h2 | h2
        · exact .inl h2
        · exact .inr ⟨h2, ha b List.mem_cons_self⟩
      refine List.pairwise_cons.mpr ⟨fun c hc => ?_, List.pairwise_cons.mpr hl⟩
      rcases List.mem_cons.mp hc with rfl | hc'
      · exact hab
      · exact ahead_trans L hab (hl.1 c hc')

theorem sort_ahead (L : Fin 8 → EReal) (l : List (Fin 8)) (hl : l.Pairwise (· < ·)) : (stableSort (ahead L) l).Pairwise (Ahead L) := by
  induction l with
  | nil => exact List.Pairwise.nil
  | cons a l ih =>
    rw [List.pairwise_cons] at hl
    unfold stableSort
    exact insert_ahead L a _ (ih hl.2) fun b hb => hl.1 b ((perm_stableSort (ahead L) l).mem_iff.mp hb)

theorem sorted (L : Fin 8 → EReal) (i j : Fin 8) (h : i < j) : Ahead L (sortedFrom (ahead L) i) (sortedFrom (ahead L) j) := by
  have hp := List.pairwise_iff_get.mp (sort_ahead L (List.finRange 8) (List.pairwise_lt_finRange 8))
  unfold sortedFrom
  exact hp _ _ h

/-- The lane a row chooses first, and the one it chooses second. -/
def pick (L : Fin 8 → EReal) (k : Fin 2) : Fin 8 := sortedFrom (ahead L) ⟨k.val, by omega⟩

/-- The first greatest of the lanes that satisfy a predicate. -/
def Greatest {J : Type} [LT J] (f : J → EReal) (p : J → Prop) (a : J) : Prop := p a ∧ ∀ j, p j → f j ≤ f a ∧ (j < a → f j < f a)

theorem pick_ne (L : Fin 8 → EReal) : pick L 1 ≠ pick L 0 := fun h => by
  have := sortedFrom_injective (ahead L) h
  exact absurd (congrArg Fin.val this) (by decide)

theorem of_ahead (L : Fin 8 → EReal) {a j : Fin 8} (h : j ≠ a → Ahead L a j) : L j ≤ L a ∧ (j < a → L j < L a) := by
  by_cases e : j = a
  · subst e; exact ⟨le_refl _, fun h => absurd h (lt_irrefl _)⟩
  · rcases h e with h | ⟨h, i⟩
    · exact ⟨h.le, fun _ => h⟩
    · exact ⟨h.le, fun h' => absurd h' (not_lt.2 i.le)⟩

theorem pick0 (L : Fin 8 → EReal) : Greatest L (fun _ => True) (pick L 0) := by
  refine ⟨trivial, fun j _ => of_ahead L fun hj => ?_⟩
  obtain ⟨k, rfl⟩ := sortedFrom_surjective (ahead L) j
  refine sorted L _ k ?_
  show 0 < k.val
  rcases Nat.eq_zero_or_pos k.val with h | h
  · exact absurd (congrArg (sortedFrom (ahead L)) (Fin.ext h : k = ⟨(0 : Fin 2).val, by decide⟩)) hj
  · exact h

theorem pick1 (L : Fin 8 → EReal) : Greatest L (fun j => j ≠ pick L 0) (pick L 1) := by
  refine ⟨pick_ne L, fun j h0 => of_ahead L fun hj => ?_⟩
  obtain ⟨k, rfl⟩ := sortedFrom_surjective (ahead L) j
  refine sorted L _ k ?_
  show 1 < k.val
  have h1 : k.val ≠ 0 := fun h => h0 (congrArg (sortedFrom (ahead L)) (Fin.ext h : k = ⟨(0 : Fin 2).val, by decide⟩))
  have h2 : k.val ≠ 1 := fun h => hj (congrArg (sortedFrom (ahead L)) (Fin.ext h : k = ⟨(1 : Fin 2).val, by decide⟩))
  omega

/-- The signed least of words that hold naturals. -/
theorem fold_minsi {J : Type} [Fintype J] [DecidableEq J] (g : J → BitVec 32) (h : J → ℕ) (hg : ∀ j, g j = BitVec.ofNat 32 (h j)) (hb : ∀ j, h j < 2 ^ 31)
    (a : J) (ha : ∀ j, h a ≤ h j) : Finset.univ.fold IntOp.minsi 2147483647#32 g = BitVec.ofNat 32 (h a) := by
  have key : ∀ S : Finset J, ∃ n, n < 2 ^ 31 ∧ S.fold IntOp.minsi 2147483647#32 g = BitVec.ofNat 32 n ∧ (∀ i ∈ S, n ≤ h i)
      ∧ (n = 2147483647 ∨ ∃ i ∈ S, n = h i) := by
    intro S
    refine Finset.induction_on S ⟨2147483647, by decide, by rw [Finset.fold_empty], by simp, .inl rfl⟩ ?_
    rintro i S hi ⟨n, h1, h2, h3, h4⟩
    refine ⟨min n (h i), by have := hb i; omega, ?_, ?_, ?_⟩
    · rw [Finset.fold_insert hi, h2, hg i, PlanTiles.minsi_word (hb i) h1]
    · intro k hk
      rcases Finset.mem_insert.1 hk with rfl | hk
      · exact Nat.min_le_right _ _
      · exact (Nat.min_le_left _ _).trans (h3 k hk)
    · rcases Nat.le_total n (h i) with e | e
      · rw [Nat.min_eq_left e]
        exact h4.imp_right fun ⟨k, hk, e⟩ => ⟨k, Finset.mem_insert_of_mem hk, e⟩
      · rw [Nat.min_eq_right e]
        exact .inr ⟨i, Finset.mem_insert_self _ _, rfl⟩
  obtain ⟨n, h1, h2, h3, h4⟩ := key Finset.univ
  rw [h2]
  refine congrArg (BitVec.ofNat 32) (le_antisymm (h3 a (Finset.mem_univ a)) ?_)
  rcases h4 with rfl | ⟨i, _, rfl⟩
  · have := hb a; omega
  · exact ha i

/-- Eight logits on 128 lanes, the others at minus infinity. -/
def spread (L : Fin 8 → EReal) (l : Fin 128) : EReal := if h : l.val < 8 then L ⟨l.val, h⟩ else ⊥

/-- The lane of an expert. -/
def lane (e : Fin 8) : Fin 128 := ⟨e.val, by omega⟩

theorem spread_lane (L : Fin 8 → EReal) (e : Fin 8) : spread L (lane e) = L e := dif_pos e.isLt

theorem sup_greatest (f : Fin 128 → EReal) (a : Fin 128) (h : Greatest f (fun _ => True) a) : Finset.univ.sup f = f a :=
  le_antisymm (Finset.sup_le fun j _ => (h.2 j trivial).1) (Finset.le_sup (Finset.mem_univ a))

theorem first_greatest (f : Fin 128 → EReal) (a : Fin 128) (h : Greatest f (fun _ => True) a) (g : Fin 128 → BitVec 32)
    (hg : ∀ j, g j = if f j = f a then BitVec.ofNat 32 j.val else 128#32) :
    Finset.univ.fold IntOp.minsi 2147483647#32 g = BitVec.ofNat 32 a.val := by
  refine (fold_minsi g (fun j => if f j = f a then j.val else 128) (fun j => ?_) (fun j => ?_) a fun j => ?_).trans ?_
  · rw [hg]; split <;> rfl
  · have := j.isLt; split <;> omega
  · have := a.isLt
    rw [if_pos rfl]
    split
    · rename_i e
      exact not_lt.1 fun hlt => absurd e ((h.2 j trivial).2 hlt).ne
    · omega
  · rw [if_pos rfl]

theorem spread_first (L : Fin 8 → EReal) (hL : ∀ e, ∃ r : ℝ, L e = r) : Greatest (spread L) (fun _ => True) (lane (pick L 0)) := by
  refine ⟨trivial, fun j _ => ?_⟩
  rw [spread_lane]
  unfold spread
  split
  · rename_i h
    exact (pick0 L).2 ⟨j.val, h⟩ trivial
  · rename_i h
    exact ⟨bot_le, fun h' => absurd (show j.val < (pick L 0).val from h') (by omega)⟩

/-- The logits with the first choice at minus infinity. -/
def rest (L : Fin 8 → EReal) (l : Fin 128) : EReal := if l = lane (pick L 0) then ⊥ else spread L l

theorem lane_inj {a b : Fin 8} : lane a = lane b ↔ a = b := ⟨fun h => Fin.ext (show (lane a).val = (lane b).val from congrArg Fin.val h), fun h => h ▸ rfl⟩

theorem rest_lane (L : Fin 8 → EReal) : rest L (lane (pick L 1)) = L (pick L 1) := by
  unfold rest
  rw [if_neg fun h => pick_ne L (lane_inj.1 h), spread_lane]

theorem rest_second (L : Fin 8 → EReal) (hL : ∀ e, ∃ r : ℝ, L e = r) : Greatest (rest L) (fun _ => True) (lane (pick L 1)) := by
  have hb : ⊥ < L (pick L 1) := by obtain ⟨r, hr⟩ := hL (pick L 1); rw [hr]; exact EReal.bot_lt_coe r
  refine ⟨trivial, fun j _ => ?_⟩
  rw [rest_lane]
  unfold rest spread
  split
  · exact ⟨bot_le, fun _ => hb⟩
  · split
    · rename_i h0 h
      exact (pick1 L).2 ⟨j.val, h⟩ fun e => h0 (by rw [← e]; rfl)
    · exact ⟨bot_le, fun _ => hb⟩

/-- Whether a row chooses a lane's expert, as a number. -/
def used (L : Fin 8 → EReal) (l : Fin 128) : EReal := if l = lane (pick L 0) ∨ l = lane (pick L 1) then 1 else 0

theorem used_real (L : Fin 8 → EReal) (l : Fin 128) : ∃ r : ℝ, used L l = r := by
  unfold used
  split
  · exact ⟨1, rfl⟩
  · exact ⟨0, rfl⟩

/-- The larger gate's partner before dividing. -/
def ratio (L : Fin 8 → EReal) : EReal := Ideal.exp (L (pick L 1) - L (pick L 0))

/-- An expert's number. -/
def num (a : Fin 8) : EReal := (((BitVec.ofNat 32 a.val).toInt : ℝ) : EReal)

/-- A row of the routing table. -/
def entry (L : Fin 8 → EReal) (b : Fin 128 → EReal) (l : Fin 128) : EReal :=
  if l.val = 0 then num (pick L 0) else if l.val = 1 then num (pick L 1)
  else if l.val = 2 then b (lane (pick L 0)) else if l.val = 3 then b (lane (pick L 1))
  else if l.val = 4 then Ideal.div 1 (1 + ratio L) else if l.val = 5 then Ideal.div (ratio L) (1 + ratio L) else 0

/-- Whether a row of the whole array chooses a lane's expert; no row past the end does. -/
def usedAt (L : Fin 65536 → Fin 8 → EReal) (j : ℕ) (l : Fin 128) : EReal := if h : j < 65536 then used (L ⟨j, h⟩) l else 0

/-- How many of the earlier rows choose a lane's expert. -/
def earlier (L : Fin 65536 → Fin 8 → EReal) (n : ℕ) (l : Fin 128) : EReal := ∑ j ∈ Finset.range n, usedAt L j l

theorem earlier_add (L : Fin 65536 → Fin 8 → EReal) (n k : ℕ) (l : Fin 128) :
    earlier L (n + k) l = earlier L n l + ∑ j ∈ Finset.range k, usedAt L (n + j) l := Finset.sum_range_add _ _ _

/-- A sum over the rows before one. -/
theorem sum_before (n r : ℕ) (h : r ≤ n) (f : ℕ → EReal) : ∑ j : Fin n, (if j.val < r then f j.val else 0) = ∑ j ∈ Finset.range r, f j := by
  rw [Fin.sum_univ_eq_sum_range (fun j => if j < r then f j else 0) n, ← Finset.sum_filter]
  congr 1
  ext j
  simp only [Finset.mem_filter, Finset.mem_range]
  omega

/-- The logits of a row. -/
def logits (x : FVec Ideal (⟨2, ![65536, 1024]⟩ : Shape) .f32) (w : FVec Ideal (⟨2, ![1024, 8]⟩ : Shape) .f32) (R : Fin 65536) (e : Fin 8) : EReal :=
  ∑ k : Fin 1024, (show EReal from x (ix2 R k)) * (show EReal from w (ix2 k e))

theorem sum_real {J : Type} (S : Finset J) (f : J → EReal) (h : ∀ j, ∃ r : ℝ, f j = r) : ∃ r : ℝ, ∑ j ∈ S, f j = r := by
  classical
  refine Finset.induction_on S ⟨0, Finset.sum_empty⟩ ?_
  rintro a S ha ⟨r, hr⟩
  obtain ⟨s, hs⟩ := h a
  exact ⟨s + r, by rw [Finset.sum_insert ha, hr, hs]; rfl⟩

/-- The arguments are real numbers. -/
structure Finite (x : FVec Ideal (⟨2, ![65536, 1024]⟩ : Shape) .f32) (w : FVec Ideal (⟨2, ![1024, 8]⟩ : Shape) .f32) : Prop where
  rows : ∀ R k, ∃ r : ℝ, x (ix2 R k) = (r : EReal)
  weights : ∀ k e, ∃ r : ℝ, w (ix2 k e) = (r : EReal)

theorem logits_real {x : FVec Ideal (⟨2, ![65536, 1024]⟩ : Shape) .f32} {w : FVec Ideal (⟨2, ![1024, 8]⟩ : Shape) .f32} (h : Finite x w) (R : Fin 65536) (e : Fin 8) :
    ∃ r : ℝ, logits x w R e = r := by
  refine sum_real _ _ fun k => ?_
  obtain ⟨a, ha⟩ := h.rows R k
  obtain ⟨b, hb⟩ := h.weights k e
  exact ⟨a * b, by rw [ha, hb]; rfl⟩

/-- The routing table. -/
def table (x : FVec Ideal (⟨2, ![65536, 1024]⟩ : Shape) .f32) (w : FVec Ideal (⟨2, ![1024, 8]⟩ : Shape) .f32) (R : Fin 65536) (l : Fin 128) : EReal :=
  entry (logits x w R) (earlier (logits x w) R.val) l

/-- How many rows choose each lane's expert. -/
def count (x : FVec Ideal (⟨2, ![65536, 1024]⟩ : Shape) .f32) (w : FVec Ideal (⟨2, ![1024, 8]⟩ : Shape) .f32) (l : Fin 128) : EReal :=
  earlier (logits x w) 65536 l

end Cert.Proof.Routing

end
-- ==== Proof.RouterRows.lean ====
/- The router's kernel: what one block of rows stores. -/
module

public import proofs.«01_k».proof.Proof.Gen.RouterIdeal.Value
public import proofs.«01_k».proof.Proof.RouterSpec
public import Idealize.ShloMosaic.Lib.Pipeline.ValueKit
public import Idealize.ShloMosaic.Lib.WordCmp

@[expose] public section

set_option maxRecDepth 16384

noncomputable section

namespace Cert.RouterIdeal.Rows

open Cert.RouterIdeal Cert.RouterIdeal.Gen Idealize.ShloMosaic Idealize.ShloMosaic.TcCoe Idealize.SL.Sem Idealize.ShloMosaic.Tactic
open Cert.Proof.Routing

theorem neg_inf : Ideal.ofBits FTy.f32 0xFF800000#32 = ⊥ := by simp [Ideal.ofBits, Ideal.ieee]
theorem oeq_iff (a b : EReal) : Ideal.cmp .oeq a b = if a = b then 1#1 else 0#1 := by
  unfold Ideal.cmp
  by_cases h : a = b <;> simp [h]

theorem lane_word (l a : Fin 128) : IntOp.cmpi .eq (BitVec.ofNat 32 l.val) (BitVec.ofNat 32 a.val) = if l = a then 1#1 else 0#1 := by
  revert l a
  decide +kernel

variable (x : FVec Ideal S512x1024 .f32) (w : FVec Ideal S1024x128 .f32) (L : Fin 512 → Fin 8 → EReal)

/-- The block's rows have these logits. -/
def HasLogits : Prop := ∀ (r : Fin 512) (l : Fin 128) (h : l.val < 8), ∑ k : Fin 1024, (show EReal from x (ix2 r k)) * (show EReal from w (ix2 k l)) = L r ⟨l.val, h⟩

variable (h : HasLogits x w L) (hL : ∀ r e, ∃ a : ℝ, L r e = a)
include h

theorem pay4_at (r : Fin 512) (l : Fin 128) : k0_pay4 (F := Ideal) x w (ix2 r l) = spread (L r) l := by
  have hl := l.isLt
  have hc : IntOp.cmpi .slt (BitVec.ofNat 32 l.val) 8#32 = if l.val < 8 then 1#1 else 0#1 := by
    revert l; decide +kernel
  pointwise [k0_pay4]
  rw [hc]
  unfold spread
  by_cases p : l.val < 8
  · simp only [p, if_true, dif_pos]
    exact h r l p
  · simp only [p, if_false, dif_neg, not_false_eq_true]
    exact neg_inf

include hL

theorem pay5_at (r : Fin 512) : k0_pay5 (F := Ideal) x w (ix2 r 0) = L r (pick (L r) 0) := by
  refine Eq.trans ?_ ((sup_greatest _ _ (spread_first (L r) (hL r))).trans (spread_lane _ _))
  have e : spread (L r) = fun l => k0_pay4 (F := Ideal) x w (ix2 r l) := funext fun l => (pay4_at x w L h r l).symm
  rw [e]
  pointwise [k0_pay5]
  rfl

theorem pay6_at (r : Fin 512) : k0_pay6 (F := Ideal) x w (ix2 r 0) = BitVec.ofNat 32 (pick (L r) 0).val := by
  refine Eq.trans ?_ (first_greatest (spread (L r)) _ (spread_first (L r) (hL r))
    (fun l => Scalar.select (Ideal.cmp .oeq (k0_pay4 (F := Ideal) x w (ix2 r l)) (k0_pay5 (F := Ideal) x w (ix2 r 0))) (BitVec.ofNat 32 l.val) 128#32) fun l => ?_)
  · pointwise [k0_pay6]
  · rw [pay4_at x w L h, pay5_at x w L h hL, oeq_iff, spread_lane]
    by_cases p : spread (L r) l = L r (pick (L r) 0) <;> simp [p, Scalar.select]

theorem pay7_at (r : Fin 512) (l : Fin 128) : k0_pay7 (F := Ideal) x w (ix2 r l) = if l = lane (pick (L r) 0) then 1#1 else 0#1 := by
  rw [← lane_word]
  have e := pay6_at x w L h hL r
  pointwise [k0_pay7]
  rw [e]
  rfl

theorem pay8_at (r : Fin 512) (l : Fin 128) : k0_pay8 (F := Ideal) x w (ix2 r l) = rest (L r) l := by
  have e := pay7_at x w L h hL r l
  have e' := pay4_at x w L h r l
  pointwise [k0_pay8]
  rw [e, e']
  unfold rest
  by_cases p : l = lane (pick (L r) 0)
  · simp only [p, if_true]; exact neg_inf
  · simp only [p, if_false]; rfl

theorem pay9_at (r : Fin 512) : k0_pay9 (F := Ideal) x w (ix2 r 0) = L r (pick (L r) 1) := by
  refine Eq.trans ?_ ((sup_greatest _ _ (rest_second (L r) (hL r))).trans (rest_lane _))
  have e : rest (L r) = fun l => k0_pay8 (F := Ideal) x w (ix2 r l) := funext fun l => (pay8_at x w L h hL r l).symm
  rw [e]
  pointwise [k0_pay9]
  rfl

theorem pay10_at (r : Fin 512) : k0_pay10 (F := Ideal) x w (ix2 r 0) = BitVec.ofNat 32 (pick (L r) 1).val := by
  refine Eq.trans ?_ (first_greatest (rest (L r)) _ (rest_second (L r) (hL r))
    (fun l => Scalar.select (Ideal.cmp .oeq (k0_pay8 (F := Ideal) x w (ix2 r l)) (k0_pay9 (F := Ideal) x w (ix2 r 0))) (BitVec.ofNat 32 l.val) 128#32) fun l => ?_)
  · pointwise [k0_pay10]
  · rw [pay8_at x w L h hL, pay9_at x w L h hL, oeq_iff, rest_lane]
    by_cases p : rest (L r) l = L r (pick (L r) 1) <;> simp [p, Scalar.select]

theorem pay11_at (r : Fin 512) (l : Fin 128) : k0_pay11 (F := Ideal) x w (ix2 r l) = if l = lane (pick (L r) 1) then 1#1 else 0#1 := by
  rw [← lane_word]
  have e := pay10_at x w L h hL r
  pointwise [k0_pay11]
  rw [e]
  rfl

theorem pay12_at (r : Fin 512) : k0_pay12 (F := Ideal) x w (ix2 r 0) = ratio (L r) := by
  unfold ratio
  rw [← pay9_at x w L h hL, ← pay5_at x w L h hL]
  pointwise [k0_pay12]

theorem pay13_at (r : Fin 512) : k0_pay13 (F := Ideal) (k0_pay12 (F := Ideal) x w) (ix2 r 0) = 1 + ratio (L r) := by
  rw [← pay12_at x w L h hL]
  have e : Ideal.ofBits FTy.f32 0x3F800000#32 = 1 := Ideal.ofBits_one_f32
  rw [← e]
  pointwise [k0_pay13]

/-- The block's marks. -/
abbrev marks : FVec Ideal S512x128 .f32 := k0_pay14 (F := Ideal) (k0_pay7 (F := Ideal) x w) (k0_pay11 (F := Ideal) x w)

theorem marks_at (r : Fin 512) (l : Fin 128) : marks x w (ix2 r l) = used (L r) l := by
  have e := pay7_at x w L h hL r l
  have e' := pay11_at x w L h hL r l
  pointwise [marks, k0_pay14]
  rw [e, e']
  unfold used
  by_cases p : l = lane (pick (L r) 0) <;> by_cases q : l = lane (pick (L r) 1)
  · rw [if_pos p, if_pos q, if_pos (.inl p)]; rfl
  · rw [if_pos p, if_neg q, if_pos (.inl p)]; rfl
  · rw [if_neg p, if_pos q, if_pos (.inr q)]; rfl
  · rw [if_neg p, if_neg q, if_neg (not_or.2 ⟨p, q⟩)]; rfl

/-- The earlier rows of the block. -/
def below : FVec Ideal S512x512 .bf16 :=
  truncf .bf16 (select (cmpi .slt (iota .tc S512x512 32 [1] iota_S512x512_d1_w32) (iota .tc S512x512 32 [0] iota_S512x512_d0_w32))
    (broadcast S512x512 (Scalar.ofBits .f32 0x3F800000#32)) (broadcast S512x512 (Scalar.ofBits .f32 0x00000000#32))) bitsLt_bf16_f32

omit h hL in
theorem below_at (r j : Fin 512) : below (ix2 r j) = if j.val < r.val then 1 else 0 := by
  have hr := r.isLt
  have hj := j.isLt
  pointwise [below]
  rw [WordCmp.cmpi_slt_ofNat (by omega) (by omega)]
  by_cases p : j.val < r.val <;> simp [p, Scalar.select]

variable (b : FVec Ideal S1x128 .f32)

/-- The count before a row of the block. -/
def pos (r : Fin 512) (l : Fin 128) : EReal := (show EReal from b (ix2 0 l)) + ∑ j : Fin 512, (if j.val < r.val then used (L j) l else 0)

theorem pay15_at (r : Fin 512) (l : Fin 128) : k0_pay15 (F := Ideal) (k0_pay7 (F := Ideal) x w) (k0_pay11 (F := Ideal) x w) b (ix2 r l) = pos L b r l := by
  have e : k0_pay15 (F := Ideal) (k0_pay7 (F := Ideal) x w) (k0_pay11 (F := Ideal) x w) b (ix2 r l)
      = (show EReal from b (ix2 0 l)) + ∑ j : Fin 512, (show EReal from below (ix2 r j)) * (show EReal from marks x w (ix2 j l)) := by
    show addf (broadcastTo S512x128 b broadcasts_S1x128_S512x128)
      (matmul dot_S512x512_S512x128_S512x128_1_0_0_1_n_n none below (truncf .bf16 (marks x w) bitsLt_bf16_f32) (constant S512x128 .f32 0x00000000#32)) (ix2 r l) = _
    pointwise
  rw [e]
  unfold pos
  refine congrArg _ (Finset.sum_congr rfl fun j _ => ?_)
  rw [below_at, marks_at x w L h hL]
  split
  · exact one_mul _
  · exact zero_mul _

theorem pay16_at (r : Fin 512) : k0_pay16 (F := Ideal) (k0_pay7 (F := Ideal) x w) (k0_pay11 (F := Ideal) x w) b (ix2 r 0) = pos L b r (lane (pick (L r) 0)) := by
  have e : k0_pay16 (F := Ideal) (k0_pay7 (F := Ideal) x w) (k0_pay11 (F := Ideal) x w) b (ix2 r 0)
      = ∑ l : Fin 128, Scalar.select (k0_pay7 (F := Ideal) x w (ix2 r l))
          (show EReal from k0_pay15 (F := Ideal) (k0_pay7 (F := Ideal) x w) (k0_pay11 (F := Ideal) x w) b (ix2 r l)) (0 : EReal) := by
    pointwise [k0_pay16]
  rw [e, Finset.sum_eq_single (lane (pick (L r) 0))]
  · rw [pay7_at x w L h hL, if_pos rfl, pay15_at x w L h hL]; rfl
  · intro l _ hl
    rw [pay7_at x w L h hL, if_neg hl]; rfl
  · intro hn; exact absurd (Finset.mem_univ _) hn

theorem pay17_at (r : Fin 512) : k0_pay17 (F := Ideal) (k0_pay7 (F := Ideal) x w) (k0_pay11 (F := Ideal) x w) b (ix2 r 0) = pos L b r (lane (pick (L r) 1)) := by
  have e : k0_pay17 (F := Ideal) (k0_pay7 (F := Ideal) x w) (k0_pay11 (F := Ideal) x w) b (ix2 r 0)
      = ∑ l : Fin 128, Scalar.select (k0_pay11 (F := Ideal) x w (ix2 r l))
          (show EReal from k0_pay15 (F := Ideal) (k0_pay7 (F := Ideal) x w) (k0_pay11 (F := Ideal) x w) b (ix2 r l)) (0 : EReal) := by
    pointwise [k0_pay17]
  rw [e, Finset.sum_eq_single (lane (pick (L r) 1))]
  · rw [pay11_at x w L h hL, if_pos rfl, pay15_at x w L h hL]; rfl
  · intro l _ hl
    rw [pay11_at x w L h hL, if_neg hl]; rfl
  · intro hn; exact absurd (Finset.mem_univ _) hn

theorem pay18_at (l : Fin 128) : k0_pay18 (F := Ideal) (k0_pay7 (F := Ideal) x w) (k0_pay11 (F := Ideal) x w) b (ix2 0 l)
    = (show EReal from b (ix2 0 l)) + ∑ j : Fin 512, used (L j) l := by
  have e : k0_pay18 (F := Ideal) (k0_pay7 (F := Ideal) x w) (k0_pay11 (F := Ideal) x w) b (ix2 0 l)
      = (show EReal from b (ix2 0 l)) + ∑ j : Fin 512, (show EReal from marks x w (ix2 j l)) := by
    pointwise [k0_pay18]
  rw [e]
  exact congrArg _ (Finset.sum_congr rfl fun j _ => marks_at x w L h hL j l)

omit h hL in
theorem pay19_at (q : Fin 8) (l : Fin 128) : k0_pay19 (F := Ideal) b (ix2 q l) = b (ix2 0 l) := by
  pointwise [k0_pay19]

omit h hL in
/-- A row of the table from the columns. -/
theorem columns (i0 i1 : IVec S512x1 32) (e d p0 p1 : FVec Ideal S512x1 .f32) (r : Fin 512) (l : Fin 128) :
    k0_pay1 (F := Ideal) (iota .tc S512x128 32 [1] iota_S512x128_d1_w32) i0 i1 e d p0 p1 (ix2 r l)
      = if l.val = 0 then (((i0 (ix2 r 0)).toInt : ℝ) : EReal) else if l.val = 1 then (((i1 (ix2 r 0)).toInt : ℝ) : EReal)
        else if l.val = 2 then (show EReal from p0 (ix2 r 0)) else if l.val = 3 then (show EReal from p1 (ix2 r 0))
        else if l.val = 4 then Ideal.div 1 (show EReal from d (ix2 r 0)) else if l.val = 5 then Ideal.div (show EReal from e (ix2 r 0)) (show EReal from d (ix2 r 0)) else 0 := by
  have hw : ∀ k : Fin 6, IntOp.cmpi .eq (BitVec.ofNat 32 l.val) (BitVec.ofNat 32 k.val) = if l.val = k.val then 1#1 else 0#1 := by
    revert l; decide +kernel
  have h0 := hw 0
  have h1 := hw 1
  have h2 := hw 2
  have h3 := hw 3
  have h4 := hw 4
  have h5 := hw 5
  pointwise [k0_pay1]
  have f0 : IntOp.cmpi .eq (BitVec.ofNat 32 l.val) 0#32 = if l.val = 0 then 1#1 else 0#1 := h0
  have f1 : IntOp.cmpi .eq (BitVec.ofNat 32 l.val) 1#32 = if l.val = 1 then 1#1 else 0#1 := h1
  have f2 : IntOp.cmpi .eq (BitVec.ofNat 32 l.val) 2#32 = if l.val = 2 then 1#1 else 0#1 := h2
  have f3 : IntOp.cmpi .eq (BitVec.ofNat 32 l.val) 3#32 = if l.val = 3 then 1#1 else 0#1 := h3
  have f4 : IntOp.cmpi .eq (BitVec.ofNat 32 l.val) 4#32 = if l.val = 4 then 1#1 else 0#1 := h4
  have f5 : IntOp.cmpi .eq (BitVec.ofNat 32 l.val) 5#32 = if l.val = 5 then 1#1 else 0#1 := h5
  rw [f0, f1, f2, f3, f4, f5]
  by_cases g0 : l.val = 0
  · simp [g0, Scalar.select]; rfl
  by_cases g1 : l.val = 1
  · simp [g1, Scalar.select]; rfl
  by_cases g2 : l.val = 2
  · simp [g2, Scalar.select]
  by_cases g3 : l.val = 3
  · simp [g3, Scalar.select]
  by_cases g4 : l.val = 4
  · simp [g4, Scalar.select]
  by_cases g5 : l.val = 5
  · simp [g5, Scalar.select]
  simp [g0, g1, g2, g3, g4, g5, Scalar.select]

/-- The block of the table. -/
def rows : FVec Ideal S512x128 .f32 :=
  k0_pay1 (F := Ideal) (iota .tc S512x128 32 [1] iota_S512x128_d1_w32) (k0_pay6 (F := Ideal) x w) (k0_pay10 (F := Ideal) x w) (k0_pay12 (F := Ideal) x w)
    (k0_pay13 (F := Ideal) (k0_pay12 (F := Ideal) x w)) (k0_pay16 (F := Ideal) (k0_pay7 (F := Ideal) x w) (k0_pay11 (F := Ideal) x w) b)
    (k0_pay17 (F := Ideal) (k0_pay7 (F := Ideal) x w) (k0_pay11 (F := Ideal) x w) b)

theorem rows_at (r : Fin 512) (l : Fin 128) : rows x w b (ix2 r l) = entry (L r) (pos L b r) l := by
  unfold rows entry num
  rw [columns, pay6_at x w L h hL, pay10_at x w L h hL, pay12_at x w L h hL, pay13_at x w L h hL, pay16_at x w L h hL, pay17_at x w L h hL]

end Cert.RouterIdeal.Rows

end
-- ==== Proof.RouterFinal.lean ====
/- The router's kernel: the counts carried from block to block, and the arrays it leaves. -/
module

public import proofs.«01_k».proof.Proof.RouterRows

@[expose] public section

set_option maxRecDepth 16384

noncomputable section

namespace Cert.RouterIdeal.Rows

open Cert.RouterIdeal Cert.RouterIdeal.Gen Idealize.ShloMosaic Idealize.ShloMosaic.TcCoe Idealize.SL.Sem Idealize.ShloMosaic.Tactic
open Cert.Proof.Routing

variable (m : (ℓ : Loc nD τ sig) → Buf (Elt Ideal) ℓ)

theorem idx : ∀ t : Fin cfg0.N, win0_0.index t = ![t.val, 0] ∧ win0_1.index t = ![0, 0] ∧ win0_2.index t = ![t.val, 0] ∧ win0_3.index t = ![0, 0]
    ∧ win0_4.index t = ![t.val, 0, 0] :=
  (by decide +kernel : ∀ t : Fin grid0.N, _)

theorem lt128 (t : Fin cfg0.N) : t.val < 128 := t.isLt

/-- The launched rows and router weights. -/
abbrev X (c : Dev nD) : FVec Ideal S65536x1024 .f32 := m (c.tc.loc main_arg0)
abbrev W (c : Dev nD) : FVec Ideal S1024x8 .f32 := m (c.tc.loc main_arg1)

theorem slabCast : S65536x1024.ShapeCasts S65536x8x128 := by decide

/-- The weights padded with zero columns. -/
def padded (w : FVec Ideal S1024x8 .f32) : FVec Ideal S1024x128 .f32 :=
  pad S1024x128 ![0, 0] ![0, 120] ![0, 0] w (sitofp .f32 (constantI S_ 32 0#32)) pads_S1024x8_S1024x128_000_01200 h_S_

theorem padded_at (w : FVec Ideal S1024x8 .f32) (k : Fin 1024) (l : Fin 128) (h : l.val < 8) : padded w (ix2 k l) = w (ix2 k ⟨l.val, h⟩) := by
  pointwise [padded]
  simp [h]

theorem handed (c : Dev nD) : V m c main_v0 = padded (W m c) := by
  unfold V
  simp only [hostOps0, hostOps0_1, List.flatten_cons, List.flatten_nil, List.cons_append, List.nil_append, List.append_nil]
  entry_read
  simp -implicitDefEqProofs only [StableHlo.TRef.toBuf, StableHlo.TRef.ofBuf, cast_cast, cast_eq, id_eq]
  unfold padded
  rfl

theorem block0 (c : Dev nD) (t : Fin cfg0.N) (r : Fin 512) (k : Fin 1024) (hR : t.val * 512 + r.val < 65536) :
    (show FVec Ideal S512x1024 .f32 from iblk m c 0 t) (ix2 r k) = X m c (ix2 ⟨t.val * 512 + r.val, hR⟩ k) := by
  blk_ext [iblk, V, idx t]

theorem whole1 (c : Dev nD) (t : Fin cfg0.N) : iblk m c 1 t = padded (W m c) := by
  rw [← handed m c]
  funext y
  blk_ext [iblk, idx t]

/-- The logits of a block's rows. -/
def rowLogits (c : Dev nD) (t : Fin cfg0.N) (r : Fin 512) : Fin 8 → EReal :=
  logits (X m c) (W m c) ⟨t.val * 512 + r.val, by have := lt128 t; omega⟩

theorem hasLogits (c : Dev nD) (t : Fin cfg0.N) : HasLogits (iblk m c 0 t) (iblk m c 1 t) (rowLogits m c t) := by
  intro r l h
  unfold rowLogits logits
  refine Finset.sum_congr rfl fun k _ => congrArg₂ (· * ·) (block0 m c t r k _) ?_
  rw [whole1]
  exact padded_at _ k l h

theorem used_block (c : Dev nD) (t : Fin cfg0.N) (j : Fin 512) (l : Fin 128) :
    used (rowLogits m c t j) l = usedAt (logits (X m c) (W m c)) (t.val * 512 + j.val) l := by
  have h : t.val * 512 + j.val < 65536 := by have := lt128 t; omega
  unfold usedAt
  rw [dif_pos h]
  rfl

/-- Counts that hold the rows before a block, carried through it. -/
theorem pos_eq (c : Dev nD) (t : Fin cfg0.N) (b : FVec Ideal S1x128 .f32)
    (hb : ∀ l, b (ix2 0 l) = earlier (logits (X m c) (W m c)) (t.val * 512) l) (r : Fin 512) :
    pos (rowLogits m c t) b r = earlier (logits (X m c) (W m c)) (t.val * 512 + r.val) := by
  funext l
  unfold pos
  rw [hb, earlier_add]
  refine congrArg _ ?_
  simp only [used_block]
  exact sum_before 512 r.val r.isLt.le fun j => usedAt (logits (X m c) (W m c)) (t.val * 512 + j) l

theorem next_eq (c : Dev nD) (t : Fin cfg0.N) (b : FVec Ideal S1x128 .f32)
    (hb : ∀ l, b (ix2 0 l) = earlier (logits (X m c) (W m c)) (t.val * 512) l) (l : Fin 128) :
    (show EReal from b (ix2 0 l)) + ∑ j : Fin 512, used (rowLogits m c t j) l = earlier (logits (X m c) (W m c)) ((t.val + 1) * 512) l := by
  rw [hb, Nat.add_mul, Nat.one_mul, earlier_add]
  refine congrArg _ ?_
  simp only [used_block]
  exact Fin.sum_univ_eq_sum_range (fun j => usedAt (logits (X m c) (W m c)) (t.val * 512 + j) l) 512

/-- The counts carried out of a block. -/
abbrev carry (c : Dev nD) (t : Fin cfg0.N) (b : FVec Ideal S1x128 .f32) : FVec Ideal S1x128 .f32 :=
  k0_pay18 (F := Ideal) (k0_pay7 (F := Ideal) (iblk m c 0 t) (iblk m c 1 t)) (k0_pay11 (F := Ideal) (iblk m c 0 t) (iblk m c 1 t)) b

/-- What a point leaves, from the counts it starts with. -/
def Leaves (c : Dev nD) (t : Fin cfg0.N) (b : FVec Ideal S1x128 .f32) : Prop :=
  (outsAt0 m c t.val t.isLt).1 = rows (iblk m c 0 t) (iblk m c 1 t) b ∧ (outsAt0 m c t.val t.isLt).2.1 = k0_pay19 (F := Ideal) (carry m c t b)
    ∧ (outsAt0 m c t.val t.isLt).2.2.1 = k0_pay3 (F := Ideal) (iblk m c 0 t) ∧ (outsAt0 m c t.val t.isLt).2.2.2 = carry m c t b

theorem leavesA (c : Dev nD) (t : Fin cfg0.N) (h0 : t.val % 128 = 0) : Leaves m c t (k0_pay2 (F := Ideal)) := by
  unfold Leaves
  rw [outsAt0_A m c t h0]
  refine ⟨?_, ?_, ?_, ?_⟩
  · frame_out
    rfl
  · frame_out
  · frame_out
  · frame_out

theorem leavesB (c : Dev nD) (t : Fin cfg0.N) (h0 : ¬t.val % 128 = 0) :
    Leaves m c t (outsAt0 m c (t.val - 1) (Nat.lt_of_le_of_lt (Nat.sub_le _ _) t.isLt)).2.2.2 := by
  unfold Leaves
  rw [outsAt0_B m c t h0]
  refine ⟨?_, ?_, ?_, ?_⟩
  · frame_out
    exact congrArg (rows (iblk m c 0 t) (iblk m c 1 t)) (Memref.IsWhole.read_unread _ _)
  · frame_out
    exact congrArg (fun b => k0_pay19 (F := Ideal) (carry m c t b)) (Memref.IsWhole.read_unread _ _)
  · frame_out
  · frame_out
    exact congrArg (carry m c t) (Memref.IsWhole.read_unread _ _)

variable (hf : ∀ c, Finite (X m c) (W m c))
include hf

theorem real (c : Dev nD) (t : Fin cfg0.N) : ∀ r e, ∃ a : ℝ, rowLogits m c t r e = a := fun _ e => logits_real (hf c) _ e

theorem carry_at (c : Dev nD) (t : Fin cfg0.N) (b : FVec Ideal S1x128 .f32)
    (hb : ∀ l, b (ix2 0 l) = earlier (logits (X m c) (W m c)) (t.val * 512) l) (l : Fin 128) :
    carry m c t b (ix2 0 l) = earlier (logits (X m c) (W m c)) ((t.val + 1) * 512) l :=
  (pay18_at _ _ (rowLogits m c t) (hasLogits m c t) (real m hf c t) b l).trans (next_eq m c t b hb l)

/-- Every point starts with the counts of the rows before its block. -/
theorem starts (c : Dev nD) : ∀ (n : ℕ) (hn : n < cfg0.N), ∃ b : FVec Ideal S1x128 .f32,
    (∀ l, b (ix2 0 l) = earlier (logits (X m c) (W m c)) (n * 512) l) ∧ Leaves m c ⟨n, hn⟩ b := by
  intro n
  induction n with
  | zero =>
    intro hn
    refine ⟨k0_pay2 (F := Ideal), fun l => ?_, leavesA m c ⟨0, hn⟩ rfl⟩
    have e : earlier (logits (X m c) (W m c)) (0 * 512) l = 0 := by
      rw [Nat.zero_mul]
      exact Finset.sum_empty
    rw [e]
    pointwise [k0_pay2]
  | succ n ih =>
    intro hn
    have hN := lt128 ⟨n + 1, hn⟩
    obtain ⟨b, hb, h⟩ := ih (Nat.lt_of_succ_lt hn)
    refine ⟨_, fun l => ?_, leavesB m c ⟨n + 1, hn⟩ (show ¬(n + 1) % 128 = 0 by have : n + 1 < 128 := hN; omega)⟩
    exact (congrFun h.2.2.2 (ix2 0 l)).trans (carry_at m hf c ⟨n, Nat.lt_of_succ_lt hn⟩ b hb l)

omit hf

/-- The routing table. -/
def wantTable (c : Dev nD) : FVec Ideal S65536x128 .f32 := fun i => table (X m c) (W m c) (i 0) (i 1)
/-- The counts. -/
def wantCount (c : Dev nD) : FVec Ideal S8x128 .f32 := fun i => count (X m c) (W m c) (i 1)
/-- The rows as slabs. -/
def wantSlabs (c : Dev nD) : FVec Ideal S65536x8x128 .f32 := shapeCast _ (X m c) slabCast

include hf in
theorem finalTable (c : Dev nD) : (dats m 0 c).arrAt 2 cfg0.N = wantTable m c := by
  refine (dats m 0 c).arrAt_eq_of_covers 2 (wantTable m c) (by decide +kernel) fun t _ y => ?_
  blk_simp
  rw [after0_2]
  obtain ⟨r, l, rfl⟩ : ∃ (r : Fin 512) (l : Fin 128), y = ix2 r l := ⟨y 0, y 1, (ix2_eta y).symm⟩
  have hR : t.val * 512 + r.val < 65536 := by have := lt128 t; omega
  obtain ⟨b, hb, h⟩ := starts m hf c t.val t.isLt
  have e : (outsAt0 m c t.val t.isLt).1 (ix2 r l) = wantTable m c (ix2 ⟨t.val * 512 + r.val, hR⟩ l) := by
    refine (congrFun h.1 (ix2 r l)).trans ((rows_at _ _ (rowLogits m c t) (hasLogits m c t) (real m hf c t) b r l).trans ?_)
    rw [pos_eq m c t b hb]
    rfl
  refine e.trans ?_
  blk_ext [idx t]

include hf in
theorem finalCount (c : Dev nD) : (dats m 0 c).arrAt 3 cfg0.N = wantCount m c := by
  refine (dats m 0 c).arrAt_eq_of_covers 3 (wantCount m c) (by decide +kernel) fun t hfl y => ?_
  blk_simp
  rw [after0_3]
  have ht : t.val = 127 := by
    revert hfl
    exact fun hfl => by have := (flush0_3 t).1 hfl; have := lt128 t; omega
  obtain ⟨q, l, rfl⟩ : ∃ (q : Fin 8) (l : Fin 128), y = ix2 q l := ⟨y 0, y 1, (ix2_eta y).symm⟩
  obtain ⟨b, hb, h⟩ := starts m hf c t.val t.isLt
  have e : (outsAt0 m c t.val t.isLt).2.1 (ix2 q l) = wantCount m c (ix2 q l) := by
    refine (congrFun h.2.1 (ix2 q l)).trans ((pay19_at _ q l).trans ((carry_at m hf c t b hb l).trans ?_))
    rw [ht]
    rfl
  refine e.trans ?_
  generalize wantCount m c = f
  blk_ext [idx t]

include hf in
theorem finalSlabs (c : Dev nD) : (dats m 0 c).arrAt 4 cfg0.N = wantSlabs m c := by
  refine (dats m 0 c).arrAt_eq_of_covers 4 (wantSlabs m c) (by decide +kernel) fun t _ y => ?_
  blk_simp
  rw [after0_4]
  obtain ⟨r, s, l, rfl⟩ : ∃ (r : Fin 512) (s : Fin 8) (l : Fin 128), y = ix3 r s l := ⟨y 0, y 1, y 2, (ix3_eta y).symm⟩
  have hR : t.val * 512 + r.val < 65536 := by have := lt128 t; omega
  obtain ⟨b, hb, h⟩ := starts m hf c t.val t.isLt
  have e : (outsAt0 m c t.val t.isLt).2.2.1 (ix3 r s l) = wantSlabs m c (ix3 ⟨t.val * 512 + r.val, hR⟩ s l) := by
    have e1 : k0_pay3 (F := Ideal) (iblk m c 0 t) (ix3 r s l) = (show FVec Ideal S512x1024 .f32 from iblk m c 0 t) (ix2 r ⟨s.val * 128 + l.val, by omega⟩) := by
      pointwise [k0_pay3]
    have e2 : wantSlabs m c (ix3 ⟨t.val * 512 + r.val, hR⟩ s l) = X m c (ix2 ⟨t.val * 512 + r.val, hR⟩ ⟨s.val * 128 + l.val, by omega⟩) := by
      pointwise [wantSlabs]
    rw [e2, h.2.2.1, e1]
    exact block0 m c t r _ hR
  refine e.trans ?_
  blk_ext [idx t]

end Cert.RouterIdeal.Rows

end
-- ==== Proof.RouterRef.lean ====
/- The router's reference read row by row. -/
module

public import proofs.«01_k».proof.Proof.Gen.RouterReferenceIdeal.Run
public import proofs.«01_k».proof.Proof.RouterSpec
public import Idealize.ShloMosaic.Lib.WordCmp

@[expose] public section

set_option maxRecDepth 16384

noncomputable section

namespace Cert.Proof.Routing

open Idealize.ShloMosaic

theorem foldl_add {J : Type} (l : List J) (g f : J → EReal) (h : ∀ a ∈ l, g a = f a) (v : EReal) :
    l.foldl (fun r a => r + g a) v = v + (l.map f).sum := by
  induction l generalizing v with
  | nil => simp
  | cons a l ih =>
    rw [List.foldl_cons, ih fun b hb => h b (List.mem_cons_of_mem _ hb), h a List.mem_cons_self, List.map_cons, List.sum_cons, add_assoc]

theorem list_sum (f : ℕ → EReal) (n : ℕ) : ((List.range n).map f).sum = ∑ i ∈ Finset.range n, f i := by
  induction n with
  | zero => simp
  | succ n ih => rw [List.range_succ, List.map_append, List.sum_append, ih, Finset.sum_range_succ]; simp

theorem window_sum (f : ℕ → EReal) (m j : ℕ) (hj : j ≤ m) :
    ∑ w ∈ Finset.range (m + 1), (if m ≤ j + w then f (j + w - m) else 0) = ∑ i ∈ Finset.range (j + 1), f i := by
  obtain ⟨d, rfl⟩ : ∃ d, m = j + d := ⟨m - j, by omega⟩
  rw [show j + d + 1 = d + (j + 1) by omega, Finset.sum_range_add]
  have h1 : ∑ w ∈ Finset.range d, (if j + d ≤ j + w then f (j + w - (j + d)) else 0) = 0 :=
    Finset.sum_eq_zero fun w hw => if_neg (by have := Finset.mem_range.1 hw; omega)
  rw [h1, zero_add]
  refine Finset.sum_congr rfl fun i _ => ?_
  rw [if_pos (by omega), show j + (d + i) - (j + d) = i by omega]

theorem column_numel (n : ℕ) : (⟨2, ![n, 1]⟩ : Shape).numel = n := by
  show ∏ a : Fin 2, (![n, 1] : Fin 2 → ℕ) a = n
  rw [Fin.prod_univ_two]
  exact Nat.mul_one n

theorem column_symm {n : ℕ} (i : Fin (⟨2, ![n, 1]⟩ : Shape).numel) :
    (⟨2, ![n, 1]⟩ : Shape).rowMajor.symm i = ix2 (i.cast (column_numel n)) (0 : Fin 1) :=
  ((⟨2, ![n, 1]⟩ : Shape).rowMajor.symm_apply_eq).2 (Fin.ext (by
    rw [Shape.rowMajor_val_two]
    show i.val = i.val * 1 + 0
    omega))

/-- A running sum down the rows. -/
theorem running {n m K : ℕ} (hn : m + 1 = n) (x : (⟨2, ![n, K]⟩ : Shape).Idx → EReal) (f : ℕ → EReal) (k : Fin K) (hx : ∀ i : Fin n, x (ix2 i k) = f i.val)
    (h : (⟨2, ![n, K]⟩ : Shape).ReduceWindows (![n, 1] : Fin 2 → ℕ) ![1, 1] ![m, 0] ![0, 0] ⟨2, ![n, K]⟩) (j : Fin n) :
    Ideal.hostReduceWindowAdd (![n, 1] : Fin 2 → ℕ) ![1, 1] ![m, 0] ![0, 0] h x 0 (ix2 j k) = ∑ i ∈ Finset.range (j.val + 1), f i := by
  subst hn
  have hj := j.isLt
  have hk := k.isLt
  unfold Ideal.hostReduceWindowAdd Host.reduceWindow
  refine (foldl_add _ _ (fun w => if m ≤ j.val + w.val then f (j.val + w.val - m) else 0) (fun w _ => ?_) 0).trans ?_
  · have hw : ((⟨2, ![m + 1, 1]⟩ : Shape).rowMajor.symm w 0).val = w.val := by rw [column_symm]; rfl
    have hw1 : ((⟨2, ![m + 1, 1]⟩ : Shape).rowMajor.symm w 1).val = 0 := by rw [column_symm]; rfl
    have hlt : w.val < m + 1 := (w.cast (column_numel _)).isLt
    dsimp only
    split
    · next hin =>
      have h0 := hin 0
      change m ≤ j.val * 1 + ((⟨2, ![m + 1, 1]⟩ : Shape).rowMajor.symm w 0).val
        ∧ j.val * 1 + ((⟨2, ![m + 1, 1]⟩ : Shape).rowMajor.symm w 0).val - m < m + 1 at h0
      rw [hw] at h0
      rw [if_pos (by omega)]
      refine (congrArg x (funext fun a => Fin.ext ?_)).trans (hx ⟨j.val + w.val - m, by omega⟩)
      match a with
      | ⟨0, _⟩ =>
        show j.val * 1 + ((⟨2, ![m + 1, 1]⟩ : Shape).rowMajor.symm w 0).val - m = j.val + w.val - m
        rw [hw, Nat.mul_one]
      | ⟨1, _⟩ =>
        show k.val * 1 + ((⟨2, ![m + 1, 1]⟩ : Shape).rowMajor.symm w 1).val - 0 = k.val
        rw [hw1]
        omega
    · next hin =>
      rw [if_neg fun hle => hin fun a => by
        match a with
        | ⟨0, _⟩ =>
          show m ≤ j.val * 1 + ((⟨2, ![m + 1, 1]⟩ : Shape).rowMajor.symm w 0).val
            ∧ j.val * 1 + ((⟨2, ![m + 1, 1]⟩ : Shape).rowMajor.symm w 0).val - m < m + 1
          rw [hw]
          omega
        | ⟨1, _⟩ =>
          show 0 ≤ k.val * 1 + ((⟨2, ![m + 1, 1]⟩ : Shape).rowMajor.symm w 1).val
            ∧ k.val * 1 + ((⟨2, ![m + 1, 1]⟩ : Shape).rowMajor.symm w 1).val - 0 < K
          rw [hw1]
          omega]
  · rw [zero_add]
    have e : ∀ M, ((List.finRange M).map fun w : Fin M => if m ≤ j.val + w.val then f (j.val + w.val - m) else 0)
        = (List.range M).map fun w => if m ≤ j.val + w then f (j.val + w - m) else 0 := fun M => by
      rw [← List.map_coe_finRange_eq_range, List.map_map]
      rfl
    rw [e, list_sum]
    exact (congrArg (fun M => ∑ w ∈ Finset.range M, (if m ≤ j.val + w then f (j.val + w - m) else 0)) (column_numel (m + 1))).trans (window_sum f m j.val (by omega))

end Cert.Proof.Routing

namespace Cert.RouterReferenceIdeal.Rows

open Cert.RouterReferenceIdeal Cert.RouterReferenceIdeal.Gen Idealize.ShloMosaic Idealize.ShloMosaic.TcCoe Idealize.SL.Sem Idealize.ShloMosaic.Tactic
open Cert.Proof.Routing

/-- The order the reference ranks a row by. -/
theorem order (L : Fin 8 → EReal) : (fun a b : Fin 8 => FloatOps.cmpfTotal (F := Ideal) (φ := .f32) .gt (L a) (L b) == 1#1) = ahead L := by
  funext a b
  show (Ideal.cmp .ogt (L a) (L b) == 1#1) = decide (L b < L a)
  unfold Ideal.cmp
  by_cases h : L b < L a <;> simp [h]

theorem along_at (R : Fin 65536) (a : Fin 8) (b : Fin 8) :
    Shape.Idx.along (s := S65536x8) (ix2 R a) (1 : Fin 2) b = ix2 R b := by
  funext q
  match q with
  | ⟨0, _⟩ => rfl
  | ⟨1, _⟩ => rfl

theorem top_at (s : FVec Ideal S65536x8 .f32) (R : Fin 65536) (k : Fin 2) :
    (Host.topK S65536x2 1 (FloatOps.cmpfTotal (F := Ideal) (φ := .f32) .gt) s sliceFits_S65536x8_S65536x2).1 (ix2 R k) = s (ix2 R (pick (fun e => s (ix2 R e)) k))
    ∧ (Host.topK S65536x2 1 (FloatOps.cmpfTotal (F := Ideal) (φ := .f32) .gt) s sliceFits_S65536x8_S65536x2).2 (ix2 R k)
      = BitVec.ofNat 32 (pick (fun e => s (ix2 R e)) k).val := by
  have hs : ∀ (y : IVec S65536x8 32), (Host.sort2 S65536x8 1 (fun l r => FloatOps.cmpfTotal (F := Ideal) (φ := .f32) .gt l.1 r.1) s y).1 (ix2 R ⟨k.val, by omega⟩)
        = s (ix2 R (pick (fun e => s (ix2 R e)) k))
      ∧ (Host.sort2 S65536x8 1 (fun l r => FloatOps.cmpfTotal (F := Ideal) (φ := .f32) .gt l.1 r.1) s y).2 (ix2 R ⟨k.val, by omega⟩)
        = y (ix2 R (pick (fun e => s (ix2 R e)) k)) := by
    intro y
    have hp : (fun a b : Fin 8 => FloatOps.cmpfTotal (F := Ideal) (φ := .f32) .gt (s (Shape.Idx.along (s := S65536x8) (ix2 R (⟨k.val, by omega⟩ : Fin 8)) (1 : Fin 2) a))
        (s (Shape.Idx.along (s := S65536x8) (ix2 R (⟨k.val, by omega⟩ : Fin 8)) (1 : Fin 2) b)) == 1#1) = ahead (fun e => s (ix2 R e)) := by
      rw [← order]
      funext a b
      rw [along_at, along_at]
    have hq := congrArg (fun f => sortedFrom f (⟨k.val, by omega⟩ : Fin 8)) hp
    unfold Host.sort2
    rw [dif_pos (show 1 < S65536x8.rank by decide)]
    exact ⟨(congrArg s (along_at R _ _)).trans (congrArg (fun e : Fin 8 => s (ix2 R e)) hq), (congrArg y (along_at R _ _)).trans (congrArg (fun e : Fin 8 => y (ix2 R e)) hq)⟩
  unfold Host.topK
  refine ⟨?_, ?_⟩
  · refine Eq.trans ?_ (hs fun i => if hd : 1 < S65536x8.rank then iotaInDim S65536x8 32 ⟨1, hd⟩ i else 0#32).1
    pointwise []
  · refine Eq.trans ?_ ((hs fun i => if hd : 1 < S65536x8.rank then iotaInDim S65536x8 32 ⟨1, hd⟩ i else 0#32).2.trans ?_)
    · pointwise []
    · rfl

variable (x : FVec Ideal S65536x1024 .f32) (w : FVec Ideal S1024x8 .f32)

def scores : FVec Ideal S65536x8 .f32 := Host.dotGeneral dot_S65536x1024_S1024x8_S65536x8_1_0_0_1_n_n none x w

theorem scores_at (R : Fin 65536) (e : Fin 8) : scores x w (ix2 R e) = logits x w R e := by
  pointwise [scores, logits]

def vals : FVec Ideal S65536x2 .f32 := (Host.topK S65536x2 1 (FloatOps.cmpfTotal .gt) (scores x w) sliceFits_S65536x8_S65536x2).1
def picks : IVec S65536x2 32 := (Host.topK S65536x2 1 (FloatOps.cmpfTotal .gt) (scores x w) sliceFits_S65536x8_S65536x2).2

theorem rows_eq (R : Fin 65536) : (fun e => scores x w (ix2 R e)) = logits x w R := funext (scores_at x w R)

theorem vals_at (R : Fin 65536) (k : Fin 2) : vals x w (ix2 R k) = logits x w R (pick (logits x w R) k) := by
  refine (top_at (scores x w) R k).1.trans ?_
  rw [rows_eq, scores_at]

theorem picks_at (R : Fin 65536) (k : Fin 2) : picks x w (ix2 R k) = BitVec.ofNat 32 (pick (logits x w R) k).val := by
  refine (top_at (scores x w) R k).2.trans ?_
  rw [rows_eq]

theorem word_eq (a b : Fin 8) : IntOp.cmpi .eq (BitVec.ofNat 32 a.val) (BitVec.ofNat 32 b.val) = if b = a then 1#1 else 0#1 := by
  revert a b
  decide +kernel

/-- The experts chosen, one-hot. -/
def chosen : FVec Ideal S65536x2x8 .f32 :=
  uitofp .f32 (cmpi .eq (broadcastInDim S65536x2x8 ![0, 1, 2] bcast_S65536x2x1_S65536x2x8_0_1_2 (broadcastInDim S65536x2x1 ![0, 1] bcast_S65536x2_S65536x2x1_0_1 (picks x w)))
    (broadcastInDim S65536x2x8 ![0, 1, 2] bcast_S1x1x8_S65536x2x8_0_1_2 (iotaInDim S1x1x8 32 2)))

theorem chosen_at (R : Fin 65536) (k : Fin 2) (e : Fin 8) : chosen x w (ix3 R k e) = if e = pick (logits x w R) k then 1 else 0 := by
  pointwise [chosen]
  rw [picks_at, word_eq]
  split
  · show (((1#1 : BitVec 1).toNat : ℝ) : EReal) = 1
    simp
  · show (((0#1 : BitVec 1).toNat : ℝ) : EReal) = 0
    simp

def usedRows : FVec Ideal S65536x8 .f32 := Host.reduceAdd (chosen x w) (constant S_ .f32 0x00000000#32) reducesTo_S65536x2x8_S65536x8_d1 h_S_

theorem usedRows_at (R : Fin 65536) (e : Fin 8) : usedRows x w (ix2 R e) = used (logits x w R) (lane e) := by
  have h : usedRows x w (ix2 R e) = ∑ k : Fin 2, chosen x w (ix3 R k e) := by pointwise [usedRows]
  rw [h, Fin.sum_univ_two, chosen_at, chosen_at]
  unfold used
  simp only [lane_inj]
  by_cases h0 : e = pick (logits x w R) 0
  · have h1 : ¬ e = pick (logits x w R) 1 := fun h => pick_ne _ (h.symm.trans h0)
    rw [if_pos h0, if_neg h1, if_pos (.inl h0), add_zero]
  · rw [if_neg h0, zero_add]
    simp only [h0, false_or]

/-- The count of the earlier rows. -/
def before : FVec Ideal S65536x8 .f32 :=
  subf (Host.reduceWindowAdd ![65536, 1] ![1, 1] ![65535, 0] ![0, 0] (usedRows x w) (broadcastInDim S_ ![] bcast_S_S_ (constant S_ .f32 0x00000000#32))
    reduceWindows_S65536x8_S65536x8_w65536s1p65535_0_w1s1p0_0 h_S_) (usedRows x w)

theorem usedAt_row (R : Fin 65536) (l : Fin 128) : usedAt (logits x w) R.val l = used (logits x w R) l := by
  unfold usedAt
  rw [dif_pos R.isLt]

theorem before_at (R : Fin 65536) (e : Fin 8) : before x w (ix2 R e) = earlier (logits x w) R.val (lane e) := by
  have hv : (broadcastInDim S_ ![] bcast_S_S_ (constant (F := Ideal) S_ .f32 0x00000000#32)) (Shape.Idx.first h_S_) = (0 : EReal) := by
    pointwise []
  have hw : Host.reduceWindowAdd ![65536, 1] ![1, 1] ![65535, 0] ![0, 0] (usedRows x w) (broadcastInDim S_ ![] bcast_S_S_ (constant S_ .f32 0x00000000#32))
      reduceWindows_S65536x8_S65536x8_w65536s1p65535_0_w1s1p0_0 h_S_ (ix2 R e) = earlier (logits x w) (R.val + 1) (lane e) := by
    unfold Host.reduceWindowAdd
    rw [hv]
    exact running rfl (usedRows x w) (fun j => usedAt (logits x w) j (lane e)) e (fun i => (usedRows_at x w i e).trans (usedAt_row x w i _).symm) _ R
  show (show EReal from Host.reduceWindowAdd ![65536, 1] ![1, 1] ![65535, 0] ![0, 0] (usedRows x w) (broadcastInDim S_ ![] bcast_S_S_ (constant S_ .f32 0x00000000#32))
      reduceWindows_S65536x8_S65536x8_w65536s1p65535_0_w1s1p0_0 h_S_ (ix2 R e)) - (show EReal from usedRows x w (ix2 R e)) = _
  rw [hw, usedRows_at, earlier, Finset.sum_range_succ, usedAt_row]
  obtain ⟨r, hr⟩ := used_real (logits x w R) (lane e)
  rw [hr]
  exact EReal.add_sub_cancel_right

/-- A row's rank among those that chose its expert. -/
def rank : FVec Ideal S65536x2 .f32 :=
  Host.reduceAdd (mulf (chosen x w) (broadcastInDim S65536x2x8 ![0, 1, 2] bcast_S65536x1x8_S65536x2x8_0_1_2 (broadcastInDim S65536x1x8 ![0, 2] bcast_S65536x8_S65536x1x8_0_2 (before x w))))
    (constant S_ .f32 0x00000000#32) reducesTo_S65536x2x8_S65536x2_d2 h_S_

theorem rank_at (R : Fin 65536) (k : Fin 2) : rank x w (ix2 R k) = earlier (logits x w) R.val (lane (pick (logits x w R) k)) := by
  have h : rank x w (ix2 R k) = ∑ e : Fin 8, (show EReal from chosen x w (ix3 R k e)) * (show EReal from before x w (ix2 R e)) := by pointwise [rank]
  rw [h]
  refine (Finset.sum_eq_single (pick (logits x w R) k) (fun e _ he => ?_) fun h => absurd (Finset.mem_univ _) h).trans ?_
  · rw [chosen_at, if_neg he]
    exact zero_mul _
  · rw [chosen_at, if_pos rfl, before_at]
    exact one_mul _

theorem neg_inf : Ideal.ofBits FTy.f32 0xFF800000#32 = ⊥ := by simp [Ideal.ofBits, Ideal.ieee]

/-- Each row's greater value. -/
def top (v : FVec Ideal S65536x2 .f32) : FVec Ideal S65536 .f32 :=
  maximumf (broadcastInDim S65536 ![] bcast_S_S65536 (constant S_ .f32 0xFF800000#32))
    (Host.reduce FloatOps.maximumf v (constant S_ .f32 0xFF800000#32) reducesTo_S65536x2_S65536_d1 h_S_)

def expo (v : FVec Ideal S65536x2 .f32) : FVec Ideal S65536x2 .f32 :=
  Host.exp (subf v (broadcastInDim S65536x2 ![0, 1] bcast_S65536x1_S65536x2_0_1 (broadcastInDim S65536x1 ![0] bcast_S65536_S65536x1_0 (top v))))

/-- The gates of two values. -/
def gates (v : FVec Ideal S65536x2 .f32) : FVec Ideal S65536x2 .f32 :=
  Host.divf (expo v) (broadcastInDim S65536x2 ![0, 1] bcast_S65536x1_S65536x2_0_1 (broadcastInDim S65536x1 ![0] bcast_S65536_S65536x1_0
    (Host.reduceAdd (expo v) (constant S_ .f32 0x00000000#32) reducesTo_S65536x2_S65536_d1 h_S_)))

theorem max_bot (y : FVec Ideal S65536 .f32) (j : S65536.Idx) :
    maximumf (broadcastInDim S65536 ![] bcast_S_S65536 (constant S_ .f32 0xFF800000#32)) y j = (y j : EReal) := by
  show max (Ideal.ofBits FTy.f32 0xFF800000#32) (y j : EReal) = y j
  rw [neg_inf, max_eq_right bot_le]

theorem maxTwo_at (v : FVec Ideal S65536x2 .f32) (R : Fin 65536) (h : (show EReal from v (ix2 R 1)) ≤ (show EReal from v (ix2 R 0))) :
    top v (ix1 R) = v (ix2 R 0) := by
  have e : Host.reduce FloatOps.maximumf v (constant S_ .f32 0xFF800000#32) reducesTo_S65536x2_S65536_d1 h_S_ (ix1 R)
      = Finset.univ.fold max (Ideal.ofBits FTy.f32 0xFF800000#32) fun j : Fin 2 => v (ix2 R j) := by
    pointwise []
  unfold top
  rw [max_bot, e, neg_inf]
  refine le_antisymm (Finset.sup_le (s := Finset.univ) (f := fun j : Fin 2 => (show EReal from v (ix2 R j))) fun j _ => ?_)
    (Finset.le_sup (s := Finset.univ) (f := fun j : Fin 2 => (show EReal from v (ix2 R j))) (Finset.mem_univ 0))
  match j with
  | 0 => exact le_refl _
  | 1 => exact h

theorem expo_at (v : FVec Ideal S65536x2 .f32) (R : Fin 65536) (k : Fin 2) :
    expo v (ix2 R k) = Ideal.exp ((show EReal from v (ix2 R k)) - (show EReal from top v (ix1 R))) := by
  unfold expo
  generalize top v = t
  pointwise []

theorem gates_at (v : FVec Ideal S65536x2 .f32) (R : Fin 65536) (k : Fin 2) :
    gates v (ix2 R k) = Ideal.div (show EReal from expo v (ix2 R k)) (∑ j : Fin 2, (show EReal from expo v (ix2 R j))) := by
  unfold gates
  generalize expo v = t
  pointwise []

theorem expo_vals (R : Fin 65536) (k : Fin 2) :
    expo (vals x w) (ix2 R k) = Ideal.exp (logits x w R (pick (logits x w R) k) - logits x w R (pick (logits x w R) 0)) := by
  rw [expo_at, maxTwo_at _ R (by rw [vals_at, vals_at]; exact ((pick0 (logits x w R)).2 _ trivial).1), vals_at, vals_at]

theorem exp_self {a : EReal} (h : ∃ r : ℝ, a = r) : Ideal.exp (a - a) = 1 := by
  obtain ⟨r, rfl⟩ := h
  rw [← EReal.coe_sub, sub_self]
  show ((Real.exp 0 : ℝ) : EReal) = 1
  rw [Real.exp_zero]
  rfl

theorem gate_total (hF : Finite x w) (R : Fin 65536) : ∑ j : Fin 2, (show EReal from expo (vals x w) (ix2 R j)) = 1 + ratio (logits x w R) := by
  rw [Fin.sum_univ_two, expo_vals, expo_vals, exp_self (logits_real hF R _)]
  rfl

/-- The columns beside each other. -/
def six (a b c : FVec Ideal S65536x2 .f32) : FVec Ideal S65536x6 .f32 :=
  concatenate S65536x6 1 [⟨S65536x2, a⟩, ⟨S65536x2, b⟩, ⟨S65536x2, c⟩] concatenates_S65536x2_S65536x2_S65536x2_S65536x6_d1

theorem six_at (a b c : FVec Ideal S65536x2 .f32) (R : Fin 65536) (n : Fin 3) (k : Fin 2) :
    six a b c (ix2 R ⟨n.val * 2 + k.val, by omega⟩) = (![a, b, c] n) (ix2 R k) := by
  refine concatenate_ofFn_apply (t := S65536x6) (s₁ := S65536x2) 1 (![a, b, c]) concatenates_S65536x2_S65536x2_S65536x2_S65536x6_d1 rfl 2 rfl (ix2 R ⟨n.val * 2 + k.val, by omega⟩) n
    (show (n.val * 2 + k.val) / 2 = n.val by omega) (ix2 R k) (show k.val = (n.val * 2 + k.val) % 2 by omega) fun q hq => ?_
  match q with
  | ⟨0, _⟩ => rfl
  | ⟨1, _⟩ => exact absurd rfl hq

def tableOf : FVec Ideal S65536x128 .f32 :=
  pad S65536x128 ![0, 0] ![0, 122] ![0, 0] (six (sitofp .f32 (picks x w)) (rank x w) (gates (vals x w))) (sitofp .f32 (constantI S_ 32 0#32)) pads_S65536x6_S65536x128_000_01220 h_S_

theorem six_entry (hF : Finite x w) (R : Fin 65536) (q : Fin 6) :
    six (sitofp .f32 (picks x w)) (rank x w) (gates (vals x w)) (ix2 R q) = table x w R ⟨q.val, by omega⟩ := by
  have hn : ∀ k, sitofp (F := Ideal) .f32 (picks x w) (ix2 R k) = num (pick (logits x w R) k) := fun k => by
    show (((picks x w (ix2 R k)).toInt : ℝ) : EReal) = _
    rw [picks_at]
    rfl
  match q with
  | ⟨0, _⟩ => exact (six_at _ _ _ R 0 0).trans (hn 0)
  | ⟨1, _⟩ => exact (six_at _ _ _ R 0 1).trans (hn 1)
  | ⟨2, _⟩ => exact (six_at _ _ _ R 1 0).trans (rank_at x w R 0)
  | ⟨3, _⟩ => exact (six_at _ _ _ R 1 1).trans (rank_at x w R 1)
  | ⟨4, _⟩ =>
    refine (six_at _ _ _ R 2 0).trans ((gates_at (vals x w) R 0).trans ?_)
    rw [gate_total x w hF, expo_vals, exp_self (logits_real hF R _)]
    rfl
  | ⟨5, _⟩ =>
    refine (six_at _ _ _ R 2 1).trans ((gates_at (vals x w) R 1).trans ?_)
    rw [gate_total x w hF, expo_vals]
    rfl

theorem word_zero : FloatOps.sitofp (F := Ideal) .f32 0#32 = (0 : EReal) := by
  show (((0#32 : BitVec 32).toInt : ℝ) : EReal) = 0
  simp

theorem wide_at (s : FVec Ideal S65536x6 .f32) (R : Fin 65536) (l : Fin 128) :
    pad S65536x128 ![0, 0] ![0, 122] ![0, 0] s (sitofp .f32 (constantI S_ 32 0#32)) pads_S65536x6_S65536x128_000_01220 h_S_ (ix2 R l)
      = if h : l.val < 6 then (show EReal from s (ix2 R ⟨l.val, h⟩)) else 0 := by
  by_cases h : l.val < 6
  · pointwise []
    simp [h]
  · pointwise []
    simp only [h, dif_neg, not_false_eq_true]
    exact word_zero

theorem tableOf_at (hF : Finite x w) (R : Fin 65536) (l : Fin 128) : tableOf x w (ix2 R l) = table x w R l := by
  unfold tableOf
  rw [wide_at]
  split
  · exact six_entry x w hF R ⟨l.val, by assumption⟩
  · rename_i h
    unfold table entry
    rw [if_neg (by omega), if_neg (by omega), if_neg (by omega), if_neg (by omega), if_neg (by omega), if_neg (by omega)]

def totals : FVec Ideal S8 .f32 := Host.reduceAdd (usedRows x w) (constant S_ .f32 0x00000000#32) reducesTo_S65536x8_S8_d0 h_S_

theorem totals_at (e : Fin 8) : totals x w (ix1 e) = count x w (lane e) := by
  have h : totals x w (ix1 e) = ∑ R : Fin 65536, (show EReal from usedRows x w (ix2 R e)) := by pointwise [totals]
  rw [h]
  refine (Finset.sum_congr rfl fun R _ => (usedRows_at x w R e).trans (usedAt_row x w R _).symm).trans ?_
  exact Fin.sum_univ_eq_sum_range (fun j => usedAt (logits x w) j (lane e)) 65536

def countOf : FVec Ideal S8x128 .f32 :=
  broadcastInDim S8x128 ![1] bcast_S128_S8x128_1 (pad S128 ![0] ![120] ![0] (totals x w) (sitofp .f32 (constantI S_ 32 0#32)) pads_S8_S128_01200 h_S_)

theorem countPad_at (s : FVec Ideal S8 .f32) (q : Fin 8) (l : Fin 128) :
    broadcastInDim S8x128 ![1] bcast_S128_S8x128_1 (pad S128 ![0] ![120] ![0] s (sitofp .f32 (constantI S_ 32 0#32)) pads_S8_S128_01200 h_S_) (ix2 q l)
      = if h : l.val < 8 then (show EReal from s (ix1 ⟨l.val, h⟩)) else 0 := by
  by_cases h : l.val < 8
  · pointwise []
    simp [h]
  · pointwise []
    simp only [h, dif_neg, not_false_eq_true]
    exact word_zero

theorem countOf_at (q : Fin 8) (l : Fin 128) : countOf x w (ix2 q l) = count x w l := by
  unfold countOf
  rw [countPad_at]
  split
  · exact totals_at x w ⟨l.val, by assumption⟩
  · rename_i h
    refine Eq.symm (show earlier (logits x w) 65536 l = 0 from ?_)
    unfold earlier
    refine Finset.sum_eq_zero fun j _ => ?_
    unfold usedAt
    split
    · have hne : ∀ e, ¬ l = lane e := fun e he => h (by rw [he]; exact e.isLt)
      exact if_neg fun h => h.elim (hne _) (hne _)
    · rfl

variable (m : (ℓ : Loc nD τ sig) → Buf (Elt Ideal) ℓ)

theorem tableOf_eq (hF : Finite x w) : tableOf x w = fun i => table x w (i 0) (i 1) := by
  funext i
  obtain ⟨R, l, rfl⟩ : ∃ (R : Fin 65536) (l : Fin 128), i = ix2 R l := ⟨i 0, i 1, (ix2_eta i).symm⟩
  exact tableOf_at x w hF R l

theorem countOf_eq : countOf x w = fun i => count x w (i 1) := by
  funext i
  obtain ⟨q, l, rfl⟩ : ∃ (q : Fin 8) (l : Fin 128), i = ix2 q l := ⟨i 0, i 1, (ix2_eta i).symm⟩
  exact countOf_at x w q l

theorem result_table (c : Dev nD) : Value.res_main_v25 m c = tableOf (m (c.tc.loc main_arg0)) (m (c.tc.loc main_arg1)) := rfl

end Cert.RouterReferenceIdeal.Rows

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Experts
public import proofs.«01_k».proof.Proof.Gen.Experts.Skeleton
public import proofs.«01_k».proof.Proof.Gen.Experts.Launch
public import proofs.«01_k».proof.Proof.Gen.Experts.Points
public import proofs.«01_k».proof.Proof.Gen.Experts.Frame
public import proofs.«01_k».proof.Proof.Gen.ExpertsIdeal
public import proofs.«01_k».proof.Proof.Gen.ExpertsIdeal.Skeleton
public import proofs.«01_k».proof.Proof.Gen.ExpertsIdeal.Launch
public import proofs.«01_k».proof.Proof.Gen.ExpertsIdeal.Points
public import proofs.«01_k».proof.Proof.Gen.ExpertsIdeal.Frame
public import proofs.«01_k».proof.Proof.Gen.ExpertsReferenceIdeal
public import proofs.«01_k».proof.Proof.Gen.ExpertsReferenceIdeal.Run
public import proofs.«01_k».proof.Proof.Gen.Pre_experts_in_range
public import proofs.«01_k».proof.Proof.Gen.Pre_finite_args
public import proofs.«01_k».proof.Proof.Gen.Merge
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.Dense
public import proofs.«01_k».proof.Proof.Gen.Dense.Skeleton
public import proofs.«01_k».proof.Proof.Gen.Dense.Launch
public import proofs.«01_k».proof.Proof.Gen.Dense.Points
public import proofs.«01_k».proof.Proof.Gen.Dense.Frame
public import proofs.«01_k».proof.Proof.Gen.Project
public import proofs.«01_k».proof.Proof.Gen.Project.Skeleton
public import proofs.«01_k».proof.Proof.Gen.Project.Launch
public import proofs.«01_k».proof.Proof.Gen.Project.Points
public import proofs.«01_k».proof.Proof.Gen.Project.Frame
public import proofs.«01_k».proof.Proof.Gen.MergeIdeal
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.DenseIdeal
public import proofs.«01_k».proof.Proof.Gen.DenseIdeal.Skeleton
public import proofs.«01_k».proof.Proof.Gen.DenseIdeal.Launch
public import proofs.«01_k».proof.Proof.Gen.DenseIdeal.Points
public import proofs.«01_k».proof.Proof.Gen.DenseIdeal.Frame
public import proofs.«01_k».proof.Proof.Gen.ProjectIdeal
public import proofs.«01_k».proof.Proof.Gen.ProjectIdeal.Skeleton
public import proofs.«01_k».proof.Proof.Gen.ProjectIdeal.Launch
public import proofs.«01_k».proof.Proof.Gen.ProjectIdeal.Points
public import proofs.«01_k».proof.Proof.Gen.ProjectIdeal.Frame
public import proofs.«01_k».proof.Proof.Gen.MergeReferenceIdeal
public import proofs.«01_k».proof.Proof.Gen.DenseReferenceIdeal
public import proofs.«01_k».proof.Proof.Gen.ProjectReferenceIdeal
public import proofs.«01_k».proof.Proof.Gen.MergeIdeal.Value
public import proofs.«01_k».proof.Proof.Gen.MergeReferenceIdeal.Run
public import proofs.«01_k».proof.Proof.Gen.DenseIdeal.Value
public import proofs.«01_k».proof.Proof.Gen.DenseReferenceIdeal.Run
public import proofs.«01_k».proof.Proof.Gen.ProjectIdeal.Value
public import proofs.«01_k».proof.Proof.Gen.ProjectReferenceIdeal.Run
public import proofs.«01_k».proof.Proof.Gen.Combine
public import proofs.«01_k».proof.Proof.Gen.CombineIdeal
public import proofs.«01_k».proof.Proof.Gen.Combine.Skeleton
public import proofs.«01_k».proof.Proof.Gen.CombineIdeal.Skeleton
public import proofs.«01_k».proof.Proof.Gen.Combine.Launch
public import proofs.«01_k».proof.Proof.Gen.CombineIdeal.Launch
public import proofs.«01_k».proof.Proof.Gen.Combine.Points
public import proofs.«01_k».proof.Proof.Gen.CombineIdeal.Points
public import proofs.«01_k».proof.Proof.Gen.Combine.Frame
public import proofs.«01_k».proof.Proof.Gen.CombineIdeal.Frame
public import proofs.«01_k».proof.Proof.Gen.CombineReferenceIdeal
public import proofs.«01_k».proof.Proof.Gen.CombineReferenceIdeal.Run
public import proofs.«01_k».proof.Proof.Gen.Gating
public import proofs.«01_k».proof.Proof.Gen.GatingIdeal
public import proofs.«01_k».proof.Proof.Gen.Gating.Skeleton
public import proofs.«01_k».proof.Proof.Gen.GatingIdeal.Skeleton
public import proofs.«01_k».proof.Proof.Gen.Gating.Launch
public import proofs.«01_k».proof.Proof.Gen.GatingIdeal.Launch
public import proofs.«01_k».proof.Proof.Gen.Gating.Points
public import proofs.«01_k».proof.Proof.Gen.GatingIdeal.Points
public import proofs.«01_k».proof.Proof.Gen.Gating.Frame
public import proofs.«01_k».proof.Proof.Gen.GatingIdeal.Frame
public import proofs.«01_k».proof.Proof.Gen.GatingIdeal.Value
public import proofs.«01_k».proof.Proof.Gen.GatingReferenceIdeal
public import proofs.«01_k».proof.Proof.Gen.GatingReferenceIdeal.Run
public import proofs.«01_k».proof.Proof.Gen.Router
public import proofs.«01_k».proof.Proof.Gen.RouterIdeal
public import proofs.«01_k».proof.Proof.Gen.Router.Skeleton
public import proofs.«01_k».proof.Proof.Gen.RouterIdeal.Skeleton
public import proofs.«01_k».proof.Proof.Gen.Router.Launch
public import proofs.«01_k».proof.Proof.Gen.RouterIdeal.Launch
public import proofs.«01_k».proof.Proof.Gen.Router.Points
public import proofs.«01_k».proof.Proof.Gen.RouterIdeal.Points
public import proofs.«01_k».proof.Proof.Gen.Router.Frame
public import proofs.«01_k».proof.Proof.Gen.RouterIdeal.Frame
public import proofs.«01_k».proof.Proof.Gen.RouterIdeal.Value
public import proofs.«01_k».proof.Proof.Gen.RouterReferenceIdeal
public import proofs.«01_k».proof.Proof.Gen.RouterReferenceIdeal.Run
public import proofs.«01_k».proof.Proof.Gen.Pre_finite_rows
public import proofs.«01_k».proof.Proof.Final
public import proofs.«01_k».proof.Proof.Pre
public import proofs.«01_k».proof.Proof.ExpertsOk
public import proofs.«01_k».proof.Proof.ExpertsFinal
public import proofs.«01_k».proof.Proof.ExpertsRef
public import proofs.«01_k».proof.Proof.MergeFinal
public import proofs.«01_k».proof.Proof.DenseFinal
public import proofs.«01_k».proof.Proof.ProjectFinal
public import proofs.«01_k».proof.Proof.CombineFinal
public import proofs.«01_k».proof.Proof.GatingFinal
public import proofs.«01_k».proof.Proof.RouterFinal
public import proofs.«01_k».proof.Proof.RouterRef
public import Idealize.ShloMosaic.Lib.Claim
public import Idealize.ShloMosaic.Adequacy
public import Idealize.ShloMosaic.Init

@[expose] public section

noncomputable section

namespace Cert.Proof

open Idealize.ShloMosaic Idealize.SL.Sem

/-- The reference runs, keeps its arguments and leaves every counter at zero. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run _ _ _).mono (fun r h => ⟨fun c => (h c).2, funext fun s => by
    haveI : IsEmpty (SemLoc Cert.ReferenceIdeal.sig) := Fintype.card_eq_zero_iff.1 (by decide)
    exact isEmptyElim s.2⟩) (Cert.ReferenceIdeal.Value.run m g)

/-- From equal arguments, with real queries, keys and bias, the kernel and the reference leave the same result. -/
theorem algebraic : Cert.algebraic_KernelIdeal_ReferenceIdeal_pre_finite_args (hPre_finite_args := Cert.Pre_finite_args.Band.facts) := by
  intro m g m' g' hpre hagree
  refine ⟨fun c => Cert.ReferenceIdeal.Band.result (m (c.tc.loc Cert.KernelIdeal.main_arg0)) (m (c.tc.loc Cert.KernelIdeal.main_arg1)), ?_, ?_⟩
  · exact (θ_run _ _ _).mono (fun r h c => ⟨(h c).1.trans (Cert.KernelIdeal.Band.final m c (Cert.Pre_finite_args.Band.finite _ _ (hpre c))), (h c).2⟩)
      (Cert.KernelIdeal.Value.run_blocks m g)
  · exact (θ_run _ _ _).mono (fun r h c => ⟨(h c).1.trans ((Cert.ReferenceIdeal.Band.res_eq m' c).trans
        (congrArg₂ Cert.ReferenceIdeal.Band.result (hagree c).1 (hagree c).2)), (h c).2⟩)
      (Cert.ReferenceIdeal.Value.run m' g')

/-- The experts' reference runs, keeps its arguments and leaves every counter at zero. -/
theorem frame_experts_reference (m : (ℓ : Loc Cert.ExpertsReferenceIdeal.nD Cert.ExpertsReferenceIdeal.τ Cert.ExpertsReferenceIdeal.sig) → Buf (Elt Ideal) ℓ) (g : Dev Cert.ExpertsReferenceIdeal.nD → PrngReg) :
    θ_run (Cert.ExpertsReferenceIdeal.defs (F := Ideal)) (onTc (τ := Cert.ExpertsReferenceIdeal.τ) (Cert.ExpertsReferenceIdeal.main (F := Ideal))) ⟨m, fun _ => 0, g⟩ (fun r => (∀ c : Dev Cert.ExpertsReferenceIdeal.nD,
      r.2.mem ((c.tc : Thread Cert.ExpertsReferenceIdeal.nD Cert.ExpertsReferenceIdeal.τ).loc Cert.ExpertsReferenceIdeal.main_arg0) = m ((c.tc : Thread Cert.ExpertsReferenceIdeal.nD Cert.ExpertsReferenceIdeal.τ).loc Cert.ExpertsReferenceIdeal.main_arg0)
      ∧ r.2.mem ((c.tc : Thread Cert.ExpertsReferenceIdeal.nD Cert.ExpertsReferenceIdeal.τ).loc Cert.ExpertsReferenceIdeal.main_arg1) = m ((c.tc : Thread Cert.ExpertsReferenceIdeal.nD Cert.ExpertsReferenceIdeal.τ).loc Cert.ExpertsReferenceIdeal.main_arg1)
      ∧ r.2.mem ((c.tc : Thread Cert.ExpertsReferenceIdeal.nD Cert.ExpertsReferenceIdeal.τ).loc Cert.ExpertsReferenceIdeal.main_arg2) = m ((c.tc : Thread Cert.ExpertsReferenceIdeal.nD Cert.ExpertsReferenceIdeal.τ).loc Cert.ExpertsReferenceIdeal.main_arg2)
      ∧ r.2.mem ((c.tc : Thread Cert.ExpertsReferenceIdeal.nD Cert.ExpertsReferenceIdeal.τ).loc Cert.ExpertsReferenceIdeal.main_arg3) = m ((c.tc : Thread Cert.ExpertsReferenceIdeal.nD Cert.ExpertsReferenceIdeal.τ).loc Cert.ExpertsReferenceIdeal.main_arg3)
      ∧ r.2.mem ((c.tc : Thread Cert.ExpertsReferenceIdeal.nD Cert.ExpertsReferenceIdeal.τ).loc Cert.ExpertsReferenceIdeal.main_arg4) = m ((c.tc : Thread Cert.ExpertsReferenceIdeal.nD Cert.ExpertsReferenceIdeal.τ).loc Cert.ExpertsReferenceIdeal.main_arg4))
      ∧ r.2.sem = fun _ => 0) :=
  (θ_run _ _ _).mono (fun r h => ⟨fun c => (h c).2, funext fun s => by
    haveI : IsEmpty (SemLoc Cert.ExpertsReferenceIdeal.sig) := Fintype.card_eq_zero_iff.1 (by decide)
    exact isEmptyElim s.2⟩) (Cert.ExpertsReferenceIdeal.Value.run m g)

open Cert.ExpertsIdeal Cert.ExpertsIdeal.Gen in
/-- What the experts' kernel leaves in its result, its arguments as they were. -/
theorem run_experts (m : (ℓ : Loc Cert.ExpertsIdeal.nD Cert.ExpertsIdeal.τ Cert.ExpertsIdeal.sig) → Buf (Elt Ideal) ℓ)
    (g : Dev Cert.ExpertsIdeal.nD → PrngReg) (h : Cert.Pre_ExpertsIdeal m) :
    θ_run (Cert.ExpertsIdeal.defs (F := Ideal)) (onTc (τ := Cert.ExpertsIdeal.τ) (Cert.ExpertsIdeal.main (F := Ideal))) ⟨m, fun _ => 0, g⟩ (fun r => ∀ c : Dev Cert.ExpertsIdeal.nD,
      r.2.mem ((c.tc : Thread Cert.ExpertsIdeal.nD Cert.ExpertsIdeal.τ).loc Cert.ExpertsIdeal.main_v0)
          = ExpertsSpec.layer (Tile.tab m c) (Tile.rows m c) (Tile.gates m c) (Tile.ups m c) (Tile.downs m c)
      ∧ r.2.mem ((c.tc : Thread Cert.ExpertsIdeal.nD Cert.ExpertsIdeal.τ).loc Cert.ExpertsIdeal.main_arg0) = m ((c.tc : Thread Cert.ExpertsIdeal.nD Cert.ExpertsIdeal.τ).loc Cert.ExpertsIdeal.main_arg0)
      ∧ r.2.mem ((c.tc : Thread Cert.ExpertsIdeal.nD Cert.ExpertsIdeal.τ).loc Cert.ExpertsIdeal.main_arg1) = m ((c.tc : Thread Cert.ExpertsIdeal.nD Cert.ExpertsIdeal.τ).loc Cert.ExpertsIdeal.main_arg1)
      ∧ r.2.mem ((c.tc : Thread Cert.ExpertsIdeal.nD Cert.ExpertsIdeal.τ).loc Cert.ExpertsIdeal.main_arg2) = m ((c.tc : Thread Cert.ExpertsIdeal.nD Cert.ExpertsIdeal.τ).loc Cert.ExpertsIdeal.main_arg2)
      ∧ r.2.mem ((c.tc : Thread Cert.ExpertsIdeal.nD Cert.ExpertsIdeal.τ).loc Cert.ExpertsIdeal.main_arg3) = m ((c.tc : Thread Cert.ExpertsIdeal.nD Cert.ExpertsIdeal.τ).loc Cert.ExpertsIdeal.main_arg3)
      ∧ r.2.mem ((c.tc : Thread Cert.ExpertsIdeal.nD Cert.ExpertsIdeal.τ).loc Cert.ExpertsIdeal.main_arg4) = m ((c.tc : Thread Cert.ExpertsIdeal.nD Cert.ExpertsIdeal.τ).loc Cert.ExpertsIdeal.main_arg4)) :=
  have hO := ExpertsOk.Exact.ok_of_pre m h
  (θ_run _ _ _).mono (fun _ hr c => ⟨((hr.1 c).1 4).trans (Tile.final m hO (fun i hi => ExpertsOk.Exact.tbl_lt m h i hi) c), hr.2 c⟩)
    (θ_run_and (run_main m g hO) (unchanged m g hO))

/-- From equal arguments the experts' kernel and their reference leave the same result. -/
theorem algebraic_experts : Cert.algebraic_ExpertsIdeal_ExpertsReferenceIdeal (hPre_experts_in_range := Cert.Pre_experts_in_range.Gen.facts) := by
  intro m g m' g' hpre hagree
  refine ⟨fun c => ExpertsSpec.layer (m (c.tc.loc Cert.ExpertsIdeal.main_arg0)) (m (c.tc.loc Cert.ExpertsIdeal.main_arg1))
    (m (c.tc.loc Cert.ExpertsIdeal.main_arg2)) (m (c.tc.loc Cert.ExpertsIdeal.main_arg3)) (m (c.tc.loc Cert.ExpertsIdeal.main_arg4)),
    run_experts m g hpre, (θ_run _ _ _).mono (fun r h c => ⟨(h c).1.trans ?_, (h c).2⟩) (Cert.ExpertsReferenceIdeal.Layer.res_eq m' g')⟩
  obtain ⟨h0, h1, h2, h3, h4⟩ := hagree c
  rw [h0, h1, h2, h3, h4]
  refine Cert.ExpertsReferenceIdeal.Layer.result_eq _ _ _ _ _ fun R => ?_
  obtain rfl : c = 0 := Subsingleton.elim _ _
  exact ExpertsOk.Exact.tbl_lt m hpre _ (show 0 + R.val / 1024 < 136 by omega)

/-- The merge's reference runs, keeps its arguments and leaves every counter at zero. -/
theorem frame_merge_reference : Cert.quiescent_MergeReferenceIdeal := fun m g _ =>
  (θ_run _ _ _).mono (fun r h => ⟨fun c => (h c).2, funext fun s => by
    haveI : IsEmpty (SemLoc Cert.MergeReferenceIdeal.sig) := Fintype.card_eq_zero_iff.1 (by decide)
    exact isEmptyElim s.2⟩) (Cert.MergeReferenceIdeal.Value.run m g)

/-- From equal arguments the merge's kernel and its reference leave the same result. -/
theorem algebraic_merge : Cert.algebraic_MergeIdeal_MergeReferenceIdeal := by
  intro m g m' g' _ hagree
  refine ⟨fun c => Cert.MergeReferenceIdeal.Rows.result (m (c.tc.loc Cert.MergeIdeal.main_arg0)) (m (c.tc.loc Cert.MergeIdeal.main_arg1)) (m (c.tc.loc Cert.MergeIdeal.main_arg2)) (m (c.tc.loc Cert.MergeIdeal.main_arg3)) (m (c.tc.loc Cert.MergeIdeal.main_arg4)) (m (c.tc.loc Cert.MergeIdeal.main_arg5)) (m (c.tc.loc Cert.MergeIdeal.main_arg6)) (m (c.tc.loc Cert.MergeIdeal.main_arg7)) (m (c.tc.loc Cert.MergeIdeal.main_arg8)) (m (c.tc.loc Cert.MergeIdeal.main_arg9)) (m (c.tc.loc Cert.MergeIdeal.main_arg10)) (m (c.tc.loc Cert.MergeIdeal.main_arg11)) (m (c.tc.loc Cert.MergeIdeal.main_arg12)),
    (θ_run _ _ _).mono (fun r h c => ⟨(h c).1.trans (Cert.MergeIdeal.Rows.final m c), (h c).2⟩) (Cert.MergeIdeal.Value.run_blocks m g),
    (θ_run _ _ _).mono (fun r h c => ⟨(h c).1.trans ?_, (h c).2⟩) (Cert.MergeReferenceIdeal.Value.run m' g')⟩
  obtain ⟨h0, h1, h2, h3, h4, h5, h6, h7, h8, h9, h10, h11, h12⟩ := hagree c
  beta_reduce
  rw [← h0, ← h1, ← h2, ← h3, ← h4, ← h5, ← h6, ← h7, ← h8, ← h9, ← h10, ← h11, ← h12]
  exact (Cert.MergeReferenceIdeal.Rows.res_eq m' c)

/-- The feed-forward's reference runs, keeps its arguments and leaves every counter at zero. -/
theorem frame_dense_reference : Cert.quiescent_DenseReferenceIdeal := fun m g _ =>
  (θ_run _ _ _).mono (fun r h => ⟨fun c => (h c).2, funext fun s => by
    haveI : IsEmpty (SemLoc Cert.DenseReferenceIdeal.sig) := Fintype.card_eq_zero_iff.1 (by decide)
    exact isEmptyElim s.2⟩) (Cert.DenseReferenceIdeal.Value.run m g)

/-- From equal arguments the feed-forward's kernel and its reference leave the same result. -/
theorem algebraic_dense : Cert.algebraic_DenseIdeal_DenseReferenceIdeal := by
  intro m g m' g' _ hagree
  refine ⟨fun c => Cert.DenseReferenceIdeal.Rows.result (m (c.tc.loc Cert.DenseIdeal.main_arg0)) (m (c.tc.loc Cert.DenseIdeal.main_arg1)) (m (c.tc.loc Cert.DenseIdeal.main_arg2)) (m (c.tc.loc Cert.DenseIdeal.main_arg3)) (m (c.tc.loc Cert.DenseIdeal.main_arg4)) (m (c.tc.loc Cert.DenseIdeal.main_arg5)) (m (c.tc.loc Cert.DenseIdeal.main_arg6)) (m (c.tc.loc Cert.DenseIdeal.main_arg7)) (m (c.tc.loc Cert.DenseIdeal.main_arg8)),
    (θ_run _ _ _).mono (fun r h c => ⟨(h c).1.trans (Cert.DenseIdeal.Rows.final m c), (h c).2⟩) (Cert.DenseIdeal.Value.run_blocks m g),
    (θ_run _ _ _).mono (fun r h c => ⟨(h c).1.trans ?_, (h c).2⟩) (Cert.DenseReferenceIdeal.Value.run m' g')⟩
  obtain ⟨h0, h1, h2, h3, h4, h5, h6, h7, h8⟩ := hagree c
  beta_reduce
  rw [← h0, ← h1, ← h2, ← h3, ← h4, ← h5, ← h6, ← h7, ← h8]
  exact (Cert.DenseReferenceIdeal.Rows.res_eq m' c)

/-- The projection's reference runs, keeps its arguments and leaves every counter at zero. -/
theorem frame_project_reference : Cert.quiescent_ProjectReferenceIdeal := fun m g _ =>
  (θ_run _ _ _).mono (fun r h => ⟨fun c => (h c).2, funext fun s => by
    haveI : IsEmpty (SemLoc Cert.ProjectReferenceIdeal.sig) := Fintype.card_eq_zero_iff.1 (by decide)
    exact isEmptyElim s.2⟩) (Cert.ProjectReferenceIdeal.Value.run m g)

/-- From equal arguments the projection's kernel and its reference leave the same result. -/
theorem algebraic_project : Cert.algebraic_ProjectIdeal_ProjectReferenceIdeal := by
  intro m g m' g' _ hagree
  refine ⟨fun c => Cert.ProjectReferenceIdeal.Rows.result (m (c.tc.loc Cert.ProjectIdeal.main_arg0)) (m (c.tc.loc Cert.ProjectIdeal.main_arg1)),
    (θ_run _ _ _).mono (fun r h c => ⟨(h c).1.trans (Cert.ProjectIdeal.Rows.final m c), (h c).2⟩) (Cert.ProjectIdeal.Value.run_blocks m g),
    (θ_run _ _ _).mono (fun r h c => ⟨(h c).1.trans ?_, (h c).2⟩) (Cert.ProjectReferenceIdeal.Value.run m' g')⟩
  obtain ⟨h0, h1⟩ := hagree c
  beta_reduce
  rw [← h0, ← h1]
  exact rfl

/-- The combination's reference runs, keeps its arguments and leaves every counter at zero. -/
theorem frame_combine_reference : Cert.quiescent_CombineReferenceIdeal := fun m g _ =>
  (θ_run _ _ _).mono (fun r h => ⟨fun c => (h c).2, funext fun s => by
    haveI : IsEmpty (SemLoc Cert.CombineReferenceIdeal.sig) := Fintype.card_eq_zero_iff.1 (by decide)
    exact isEmptyElim s.2⟩) (Cert.CombineReferenceIdeal.Value.run m g)

/-- From equal arguments the combination's kernel and its reference leave the same result. -/
theorem algebraic_combine : Cert.algebraic_CombineIdeal_CombineReferenceIdeal := by
  intro m g m' g' _ hagree
  refine ⟨fun c => Cert.CombineReferenceIdeal.Rows.result (m (c.tc.loc Cert.CombineIdeal.main_arg0)) (m (c.tc.loc Cert.CombineIdeal.main_arg1)) (m (c.tc.loc Cert.CombineIdeal.main_arg2))
      (m (c.tc.loc Cert.CombineIdeal.main_arg3)) (m (c.tc.loc Cert.CombineIdeal.main_arg4)) (m (c.tc.loc Cert.CombineIdeal.main_arg5))
      (m (c.tc.loc Cert.CombineIdeal.main_arg6)) (m (c.tc.loc Cert.CombineIdeal.main_arg7)) (m (c.tc.loc Cert.CombineIdeal.main_arg8)),
    (θ_run _ _ _).mono (fun r h c => ⟨(h c).1.trans (Cert.CombineIdeal.Rows.final m g c), (h c).2⟩) (Cert.CombineIdeal.Gen.run_value m g),
    (θ_run _ _ _).mono (fun r h c => ⟨(h c).1.trans ?_, (h c).2⟩) (Cert.CombineReferenceIdeal.Value.run m' g')⟩
  obtain ⟨h0, h1, h2, h3, h4, h5, h6, h7, h8⟩ := hagree c
  refine (Cert.CombineReferenceIdeal.Rows.res_eq m' c).trans ?_
  beta_reduce
  rw [← h0, ← h1, ← h2, ← h3, ← h4, ← h5, ← h6, ← h7, ← h8]

/-- The gating's reference runs, keeps its arguments and leaves every counter at zero. -/
theorem frame_gating_reference : Cert.quiescent_GatingReferenceIdeal := fun m g _ =>
  (θ_run _ _ _).mono (fun r h => ⟨fun c => (h c).2, funext fun s => by
    haveI : IsEmpty (SemLoc Cert.GatingReferenceIdeal.sig) := Fintype.card_eq_zero_iff.1 (by decide)
    exact isEmptyElim s.2⟩) (Cert.GatingReferenceIdeal.Value.run m g)

/-- From equal arguments the gating's kernel and its reference leave the same result. -/
theorem algebraic_gating : Cert.algebraic_GatingIdeal_GatingReferenceIdeal := by
  intro m g m' g' _ hagree
  refine ⟨fun c => Cert.GatingReferenceIdeal.Rows.result (m (c.tc.loc Cert.GatingIdeal.main_arg0)) (m (c.tc.loc Cert.GatingIdeal.main_arg1)) (m (c.tc.loc Cert.GatingIdeal.main_arg2)) (m (c.tc.loc Cert.GatingIdeal.main_arg3)) (m (c.tc.loc Cert.GatingIdeal.main_arg4)),
    (θ_run _ _ _).mono (fun r h c => ⟨(h c).1.trans (Cert.GatingIdeal.Rows.final m c), (h c).2⟩) (Cert.GatingIdeal.Value.run_blocks m g),
    (θ_run _ _ _).mono (fun r h c => ⟨(h c).1.trans ?_, (h c).2⟩) (Cert.GatingReferenceIdeal.Value.run m' g')⟩
  obtain ⟨h0, h1, h2, h3, h4⟩ := hagree c
  beta_reduce
  rw [← h0, ← h1, ← h2, ← h3, ← h4]
  exact (Cert.GatingReferenceIdeal.Rows.res_eq m' c)

/-- The routing's reference runs, keeps its arguments and leaves every counter at zero. -/
theorem frame_router_reference (m : (ℓ : Loc Cert.RouterReferenceIdeal.nD Cert.RouterReferenceIdeal.τ Cert.RouterReferenceIdeal.sig) → Buf (Elt Ideal) ℓ)
    (g : Dev Cert.RouterReferenceIdeal.nD → PrngReg) :
    θ_run (Cert.RouterReferenceIdeal.defs (F := Ideal)) (onTc (τ := Cert.RouterReferenceIdeal.τ) (Cert.RouterReferenceIdeal.main (F := Ideal))) ⟨m, fun _ => 0, g⟩ (fun r => (∀ c : Dev Cert.RouterReferenceIdeal.nD,
      r.2.mem ((c.tc : Thread Cert.RouterReferenceIdeal.nD Cert.RouterReferenceIdeal.τ).loc Cert.RouterReferenceIdeal.main_arg0) = m ((c.tc : Thread Cert.RouterReferenceIdeal.nD Cert.RouterReferenceIdeal.τ).loc Cert.RouterReferenceIdeal.main_arg0)
      ∧ r.2.mem ((c.tc : Thread Cert.RouterReferenceIdeal.nD Cert.RouterReferenceIdeal.τ).loc Cert.RouterReferenceIdeal.main_arg1) = m ((c.tc : Thread Cert.RouterReferenceIdeal.nD Cert.RouterReferenceIdeal.τ).loc Cert.RouterReferenceIdeal.main_arg1))
      ∧ r.2.sem = fun _ => 0) :=
  (θ_run _ _ _).mono (fun r h => ⟨fun c => (h c).2.2.2, funext fun s => by
    haveI : IsEmpty (SemLoc Cert.RouterReferenceIdeal.sig) := Fintype.card_eq_zero_iff.1 (by decide)
    exact isEmptyElim s.2⟩) (Cert.RouterReferenceIdeal.Value.run m g)

/-- The precondition, read: the rows and the router's weights are real. -/
theorem finite_rows (x : FVec Ideal (⟨2, ![65536, 1024]⟩ : Shape) .f32) (w : FVec Ideal (⟨2, ![1024, 8]⟩ : Shape) .f32)
    (h : (@Cert.Pre_finite_rows.fn Cert.Pre_finite_rows.Gen.facts Ideal _ x w).1 = (fun _ => 1#1) ∧ (@Cert.Pre_finite_rows.fn Cert.Pre_finite_rows.Gen.facts Ideal _ x w).2 = (fun _ => 1#1)) :
    Cert.Proof.Routing.Finite x w where
  rows R k := Cert.Pre_finite_args.Band.real_of_olt _ (congrFun h.1 (ix2 R k))
  weights k e := Cert.Pre_finite_args.Band.real_of_olt _ (congrFun h.2 (ix2 k e))

/-- From equal arguments the routing's kernel and its reference leave the same table, counts and slabs. -/
theorem algebraic_router : Cert.algebraic_RouterIdeal_RouterReferenceIdeal_pre_finite_rows (hPre_finite_rows := Cert.Pre_finite_rows.Gen.facts) := by
  intro m g m' g' hpre hagree
  have hF : ∀ c, Cert.Proof.Routing.Finite (Cert.RouterIdeal.Rows.X m c) (Cert.RouterIdeal.Rows.W m c) := fun c => finite_rows _ _ (hpre c)
  refine ⟨Cert.RouterIdeal.Rows.wantTable m, Cert.RouterIdeal.Rows.wantCount m, Cert.RouterIdeal.Rows.wantSlabs m,
    (θ_run _ _ _).mono (fun r h c => ⟨(h c).1.trans (Cert.RouterIdeal.Rows.finalTable m hF c), (h c).2.1.trans (Cert.RouterIdeal.Rows.finalCount m hF c),
      (h c).2.2.1.trans (Cert.RouterIdeal.Rows.finalSlabs m hF c), (h c).2.2.2⟩) (Cert.RouterIdeal.Value.run_blocks m g),
    (θ_run _ _ _).mono (fun r h c => ⟨(h c).1.trans ?_, (h c).2.1.trans ?_, (h c).2.2.1.trans ?_, (h c).2.2.2⟩) (Cert.RouterReferenceIdeal.Value.run m' g')⟩
  · refine (Cert.RouterReferenceIdeal.Rows.result_table m' c).trans ?_
    rw [(hagree c).1, (hagree c).2]
    exact Cert.RouterReferenceIdeal.Rows.tableOf_eq _ _ (hF c)
  · have e : Cert.RouterReferenceIdeal.Rows.countOf (m' (c.tc.loc Cert.RouterReferenceIdeal.main_arg0)) (m' (c.tc.loc Cert.RouterReferenceIdeal.main_arg1)) = Cert.RouterIdeal.Rows.wantCount m c := by
      rw [(hagree c).1, (hagree c).2]
      exact Cert.RouterReferenceIdeal.Rows.countOf_eq _ _
    exact e
  · rw [(hagree c).1]
    rfl

theorem claim : Cert.Claim :=
  ⟨Cert.Kernel.Gen.facts, Cert.KernelIdeal.Gen.facts, Cert.ReferenceIdeal.Gen.facts, Cert.Experts.Gen.facts, Cert.ExpertsIdeal.Gen.facts,
    Cert.ExpertsReferenceIdeal.Gen.facts,
    Cert.Merge.Gen.facts, Cert.MergeIdeal.Gen.facts, Cert.MergeReferenceIdeal.Gen.facts, Cert.Dense.Gen.facts, Cert.DenseIdeal.Gen.facts, Cert.DenseReferenceIdeal.Gen.facts, Cert.Project.Gen.facts, Cert.ProjectIdeal.Gen.facts, Cert.ProjectReferenceIdeal.Gen.facts,
    Cert.Combine.Gen.facts, Cert.CombineIdeal.Gen.facts, Cert.CombineReferenceIdeal.Gen.facts,
    Cert.Gating.Gen.facts, Cert.GatingIdeal.Gen.facts, Cert.GatingReferenceIdeal.Gen.facts,
    Cert.Router.Gen.facts, Cert.RouterIdeal.Gen.facts, Cert.RouterReferenceIdeal.Gen.facts,
    Cert.Pre_finite_args.Band.facts, Cert.Pre_experts_in_range.Gen.facts, Cert.Pre_finite_rows.Gen.facts,
    fun m g _ => Cert.Kernel.Gen.frame m g, fun m g _ => Cert.KernelIdeal.Gen.frame m g, fun m g _ => Cert.KernelIdeal.Gen.frame m g,
    fun m g _ => frame_reference m g, fun m g _ => frame_reference m g,
    fun m g h => Cert.Experts.Gen.frame m g (ExpertsOk.Bitwise.ok_of_pre m h), fun m g h => Cert.ExpertsIdeal.Gen.frame m g (ExpertsOk.Exact.ok_of_pre m h),
    fun m g _ => frame_experts_reference m g, fun m g _ => frame_experts_reference m g,
    fun m g _ => Cert.Merge.Gen.frame m g, fun m g _ => Cert.MergeIdeal.Gen.frame m g, frame_merge_reference,
    fun m g _ => Cert.Dense.Gen.frame m g, fun m g _ => Cert.DenseIdeal.Gen.frame m g, frame_dense_reference,
    fun m g _ => Cert.Project.Gen.frame m g, fun m g _ => Cert.ProjectIdeal.Gen.frame m g, frame_project_reference,
    fun m g _ => Cert.Combine.Gen.frame m g, fun m g _ => Cert.CombineIdeal.Gen.frame m g, frame_combine_reference,
    fun m g _ => Cert.Gating.Gen.frame m g, fun m g _ => Cert.GatingIdeal.Gen.frame m g, frame_gating_reference,
    fun m g _ => Cert.Router.Gen.frame m g, fun m g _ => Cert.RouterIdeal.Gen.frame m g, fun m g _ => Cert.RouterIdeal.Gen.frame m g,
    fun m g _ => frame_router_reference m g, fun m g _ => frame_router_reference m g,
    IdealRules.named_const.statement Cert.KernelIdeal.κ "mask" .f32 0xF149F2CA#32 ⊥ rfl, algebraic, trivial, algebraic_experts,
    trivial, algebraic_merge, trivial, algebraic_dense, trivial, algebraic_project, trivial, algebraic_combine, trivial, algebraic_gating, trivial, algebraic_router⟩

end Cert.Proof

end
